-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_UpConv (m : (ℓ : Loc Cert.UpConv.nD Cert.UpConv.τ Cert.UpConv.sig) → Buf (Elt Bits) ℓ) : Prop :=
  True

def Pre_UpConvIdeal (m : (ℓ : Loc Cert.UpConvIdeal.nD Cert.UpConvIdeal.τ Cert.UpConvIdeal.sig) → Buf (Elt Ideal) ℓ) : Prop :=
  True

def Pre_UpConvReferenceIdeal (m : (ℓ : Loc Cert.UpConvReferenceIdeal.nD Cert.UpConvReferenceIdeal.τ Cert.UpConvReferenceIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjReferenceIdeal (m : (ℓ : Loc Cert.DownProjReferenceIdeal.nD Cert.DownProjReferenceIdeal.τ Cert.DownProjReferenceIdeal.sig) → Buf (Elt Ideal) ℓ) : Prop :=
  True

def Pre_QkvProj (m : (ℓ : Loc Cert.QkvProj.nD Cert.QkvProj.τ Cert.QkvProj.sig) → Buf (Elt Bits) ℓ) : Prop :=
  True

def Pre_QkvProjIdeal (m : (ℓ : Loc Cert.QkvProjIdeal.nD Cert.QkvProjIdeal.τ Cert.QkvProjIdeal.sig) → Buf (Elt Ideal) ℓ) : Prop :=
  True

def Pre_QkvProjReferenceIdeal (m : (ℓ : Loc Cert.QkvProjReferenceIdeal.nD Cert.QkvProjReferenceIdeal.τ Cert.QkvProjReferenceIdeal.sig) → Buf (Elt Ideal) ℓ) : Prop :=
  True

def Pre_HgProj (m : (ℓ : Loc Cert.HgProj.nD Cert.HgProj.τ Cert.HgProj.sig) → Buf (Elt Bits) ℓ) : Prop :=
  True

def Pre_HgProjIdeal (m : (ℓ : Loc Cert.HgProjIdeal.nD Cert.HgProjIdeal.τ Cert.HgProjIdeal.sig) → Buf (Elt Ideal) ℓ) : Prop :=
  True

def Pre_HgProjReferenceIdeal (m : (ℓ : Loc Cert.HgProjReferenceIdeal.nD Cert.HgProjReferenceIdeal.τ Cert.HgProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormReferenceIdeal (m : (ℓ : Loc Cert.FinalNormReferenceIdeal.nD Cert.FinalNormReferenceIdeal.τ Cert.FinalNormReferenceIdeal.sig) → Buf (Elt Ideal) ℓ) : Prop :=
  True

def Pre_LayerNorm (m : (ℓ : Loc Cert.LayerNorm.nD Cert.LayerNorm.τ Cert.LayerNorm.sig) → Buf (Elt Bits) ℓ) : Prop :=
  True

def Pre_LayerNormIdeal (m : (ℓ : Loc Cert.LayerNormIdeal.nD Cert.LayerNormIdeal.τ Cert.LayerNormIdeal.sig) → Buf (Elt Ideal) ℓ) : Prop :=
  True

def Pre_LayerNormReferenceIdeal (m : (ℓ : Loc Cert.LayerNormReferenceIdeal.nD Cert.LayerNormReferenceIdeal.τ Cert.LayerNormReferenceIdeal.sig) → Buf (Elt Ideal) ℓ) : Prop :=
  True

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickIdeal_finite_heads [hPre_finite_heads : Cert.Pre_finite_heads.Facts] (m : (ℓ : Loc Cert.StickIdeal.nD Cert.StickIdeal.τ Cert.StickIdeal.sig) → Buf (Elt Ideal) ℓ) : Prop :=
  ∀ c : Dev Cert.StickIdeal.nD,
    (Cert.Pre_finite_heads.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1))) = (fun _ => 1#1)

def Pre_StickReferenceIdeal (m : (ℓ : Loc Cert.StickReferenceIdeal.nD Cert.StickReferenceIdeal.τ Cert.StickReferenceIdeal.sig) → Buf (Elt Ideal) ℓ) : Prop :=
  True

def Pre_StickReferenceIdeal_finite_heads [hPre_finite_heads : Cert.Pre_finite_heads.Facts] (m : (ℓ : Loc Cert.StickReferenceIdeal.nD Cert.StickReferenceIdeal.τ Cert.StickReferenceIdeal.sig) → Buf (Elt Ideal) ℓ) : Prop :=
  ∀ c : Dev Cert.StickReferenceIdeal.nD,
    (Cert.Pre_finite_heads.fn (F := Ideal) (m ((c.tc : Thread Cert.StickReferenceIdeal.nD Cert.StickReferenceIdeal.τ).loc Cert.StickReferenceIdeal.main_arg0)) (m ((c.tc : Thread Cert.StickReferenceIdeal.nD Cert.StickReferenceIdeal.τ).loc Cert.StickReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UpConv [hUpConv : Cert.UpConv.Facts] : Prop :=
  ∀ (m : (ℓ : Loc Cert.UpConv.nD Cert.UpConv.τ Cert.UpConv.sig) → Buf (Elt Bits) ℓ) (g : Dev Cert.UpConv.nD → PrngReg), Pre_UpConv m →
    θ_run (Cert.UpConv.defs (F := Bits)) (onTc (τ := Cert.UpConv.τ) (Cert.UpConv.main (F := Bits))) ⟨m, fun _ => 0, g⟩ (fun r => (∀ c : Dev Cert.UpConv.nD,
      r.2.mem ((c.tc : Thread Cert.UpConv.nD Cert.UpConv.τ).loc Cert.UpConv.main_arg0) = m ((c.tc : Thread Cert.UpConv.nD Cert.UpConv.τ).loc Cert.UpConv.main_arg0)
      ∧ r.2.mem ((c.tc : Thread Cert.UpConv.nD Cert.UpConv.τ).loc Cert.UpConv.main_arg1) = m ((c.tc : Thread Cert.UpConv.nD Cert.UpConv.τ).loc Cert.UpConv.main_arg1)
      ∧ r.2.mem ((c.tc : Thread Cert.UpConv.nD Cert.UpConv.τ).loc Cert.UpConv.main_arg2) = m ((c.tc : Thread Cert.UpConv.nD Cert.UpConv.τ).loc Cert.UpConv.main_arg2)
      ∧ r.2.mem ((c.tc : Thread Cert.UpConv.nD Cert.UpConv.τ).loc Cert.UpConv.main_arg3) = m ((c.tc : Thread Cert.UpConv.nD Cert.UpConv.τ).loc Cert.UpConv.main_arg3))
      ∧ r.2.sem = fun _ => 0)

def quiescent_UpConvIdeal [hUpConvIdeal : Cert.UpConvIdeal.Facts] : Prop :=
  ∀ (m : (ℓ : Loc Cert.UpConvIdeal.nD Cert.UpConvIdeal.τ Cert.UpConvIdeal.sig) → Buf (Elt Ideal) ℓ) (g : Dev Cert.UpConvIdeal.nD → PrngReg), Pre_UpConvIdeal m →
    θ_run (Cert.UpConvIdeal.defs (F := Ideal)) (onTc (τ := Cert.UpConvIdeal.τ) (Cert.UpConvIdeal.main (F := Ideal))) ⟨m, fun _ => 0, g⟩ (fun r => (∀ c : Dev Cert.UpConvIdeal.nD,
      r.2.mem ((c.tc : Thread Cert.UpConvIdeal.nD Cert.UpConvIdeal.τ).loc Cert.UpConvIdeal.main_arg0) = m ((c.tc : Thread Cert.UpConvIdeal.nD Cert.UpConvIdeal.τ).loc Cert.UpConvIdeal.main_arg0)
      ∧ r.2.mem ((c.tc : Thread Cert.UpConvIdeal.nD Cert.UpConvIdeal.τ).loc Cert.UpConvIdeal.main_arg1) = m ((c.tc : Thread Cert.UpConvIdeal.nD Cert.UpConvIdeal.τ).loc Cert.UpConvIdeal.main_arg1)
      ∧ r.2.mem ((c.tc : Thread Cert.UpConvIdeal.nD Cert.UpConvIdeal.τ).loc Cert.UpConvIdeal.main_arg2) = m ((c.tc : Thread Cert.UpConvIdeal.nD Cert.UpConvIdeal.τ).loc Cert.UpConvIdeal.main_arg2)
      ∧ r.2.mem ((c.tc : Thread Cert.UpConvIdeal.nD Cert.UpConvIdeal.τ).loc Cert.UpConvIdeal.main_arg3) = m ((c.tc : Thread Cert.UpConvIdeal.nD Cert.UpConvIdeal.τ).loc Cert.UpConvIdeal.main_arg3))
      ∧ r.2.sem = fun _ => 0)

def quiescent_UpConvReferenceIdeal [hUpConvReferenceIdeal : Cert.UpConvReferenceIdeal.Facts] : Prop :=
  ∀ (m : (ℓ : Loc Cert.UpConvReferenceIdeal.nD Cert.UpConvReferenceIdeal.τ Cert.UpConvReferenceIdeal.sig) → Buf (Elt Ideal) ℓ) (g : Dev Cert.UpConvReferenceIdeal.nD → PrngReg), Pre_UpConvReferenceIdeal m →
    θ_run (Cert.UpConvReferenceIdeal.defs (F := Ideal)) (onTc (τ := Cert.UpConvReferenceIdeal.τ) (Cert.UpConvReferenceIdeal.main (F := Ideal))) ⟨m, fun _ => 0, g⟩ (fun r => (∀ c : Dev Cert.UpConvReferenceIdeal.nD,
      r.2.mem ((c.tc : Thread Cert.UpConvReferenceIdeal.nD Cert.UpConvReferenceIdeal.τ).loc Cert.UpConvReferenceIdeal.main_arg0) = m ((c.tc : Thread Cert.UpConvReferenceIdeal.nD Cert.UpConvReferenceIdeal.τ).loc Cert.UpConvReferenceIdeal.main_arg0)
      ∧ r.2.mem ((c.tc : Thread Cert.UpConvReferenceIdeal.nD Cert.UpConvReferenceIdeal.τ).loc Cert.UpConvReferenceIdeal.main_arg1) = m ((c.tc : Thread Cert.UpConvReferenceIdeal.nD Cert.UpConvReferenceIdeal.τ).loc Cert.UpConvReferenceIdeal.main_arg1)
      ∧ r.2.mem ((c.tc : Thread Cert.UpConvReferenceIdeal.nD Cert.UpConvReferenceIdeal.τ).loc Cert.UpConvReferenceIdeal.main_arg2) = m ((c.tc : Thread Cert.UpConvReferenceIdeal.nD Cert.UpConvReferenceIdeal.τ).loc Cert.UpConvReferenceIdeal.main_arg2)
      ∧ r.2.mem ((c.tc : Thread Cert.UpConvReferenceIdeal.nD Cert.UpConvReferenceIdeal.τ).loc Cert.UpConvReferenceIdeal.main_arg3) = m ((c.tc : Thread Cert.UpConvReferenceIdeal.nD Cert.UpConvReferenceIdeal.τ).loc Cert.UpConvReferenceIdeal.main_arg3))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ r.2.sem = fun _ => 0)

def quiescent_DownProjReferenceIdeal [hDownProjReferenceIdeal : Cert.DownProjReferenceIdeal.Facts] : Prop :=
  ∀ (m : (ℓ : Loc Cert.DownProjReferenceIdeal.nD Cert.DownProjReferenceIdeal.τ Cert.DownProjReferenceIdeal.sig) → Buf (Elt Ideal) ℓ) (g : Dev Cert.DownProjReferenceIdeal.nD → PrngReg), Pre_DownProjReferenceIdeal m →
    θ_run (Cert.DownProjReferenceIdeal.defs (F := Ideal)) (onTc (τ := Cert.DownProjReferenceIdeal.τ) (Cert.DownProjReferenceIdeal.main (F := Ideal))) ⟨m, fun _ => 0, g⟩ (fun r => (∀ c : Dev Cert.DownProjReferenceIdeal.nD,
      r.2.mem ((c.tc : Thread Cert.DownProjReferenceIdeal.nD Cert.DownProjReferenceIdeal.τ).loc Cert.DownProjReferenceIdeal.main_arg0) = m ((c.tc : Thread Cert.DownProjReferenceIdeal.nD Cert.DownProjReferenceIdeal.τ).loc Cert.DownProjReferenceIdeal.main_arg0)
      ∧ r.2.mem ((c.tc : Thread Cert.DownProjReferenceIdeal.nD Cert.DownProjReferenceIdeal.τ).loc Cert.DownProjReferenceIdeal.main_arg1) = m ((c.tc : Thread Cert.DownProjReferenceIdeal.nD Cert.DownProjReferenceIdeal.τ).loc Cert.DownProjReferenceIdeal.main_arg1)
      ∧ r.2.mem ((c.tc : Thread Cert.DownProjReferenceIdeal.nD Cert.DownProjReferenceIdeal.τ).loc Cert.DownProjReferenceIdeal.main_arg2) = m ((c.tc : Thread Cert.DownProjReferenceIdeal.nD Cert.DownProjReferenceIdeal.τ).loc Cert.DownProjReferenceIdeal.main_arg2))
      ∧ r.2.sem = fun _ => 0)

def quiescent_QkvProj [hQkvProj : Cert.QkvProj.Facts] : Prop :=
  ∀ (m : (ℓ : Loc Cert.QkvProj.nD Cert.QkvProj.τ Cert.QkvProj.sig) → Buf (Elt Bits) ℓ) (g : Dev Cert.QkvProj.nD → PrngReg), Pre_QkvProj m →
    θ_run (Cert.QkvProj.defs (F := Bits)) (onTc (τ := Cert.QkvProj.τ) (Cert.QkvProj.main (F := Bits))) ⟨m, fun _ => 0, g⟩ (fun r => (∀ c : Dev Cert.QkvProj.nD,
      r.2.mem ((c.tc : Thread Cert.QkvProj.nD Cert.QkvProj.τ).loc Cert.QkvProj.main_arg0) = m ((c.tc : Thread Cert.QkvProj.nD Cert.QkvProj.τ).loc Cert.QkvProj.main_arg0)
      ∧ r.2.mem ((c.tc : Thread Cert.QkvProj.nD Cert.QkvProj.τ).loc Cert.QkvProj.main_arg1) = m ((c.tc : Thread Cert.QkvProj.nD Cert.QkvProj.τ).loc Cert.QkvProj.main_arg1))
      ∧ r.2.sem = fun _ => 0)

def quiescent_QkvProjIdeal [hQkvProjIdeal : Cert.QkvProjIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg), Pre_QkvProjIdeal m →
    θ_run (Cert.QkvProjIdeal.defs (F := Ideal)) (onTc (τ := Cert.QkvProjIdeal.τ) (Cert.QkvProjIdeal.main (F := Ideal))) ⟨m, fun _ => 0, g⟩ (fun r => (∀ c : Dev Cert.QkvProjIdeal.nD,
      r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
      ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1))
      ∧ r.2.sem = fun _ => 0)

def quiescent_QkvProjReferenceIdeal [hQkvProjReferenceIdeal : Cert.QkvProjReferenceIdeal.Facts] : Prop :=
  ∀ (m : (ℓ : Loc Cert.QkvProjReferenceIdeal.nD Cert.QkvProjReferenceIdeal.τ Cert.QkvProjReferenceIdeal.sig) → Buf (Elt Ideal) ℓ) (g : Dev Cert.QkvProjReferenceIdeal.nD → PrngReg), Pre_QkvProjReferenceIdeal m →
    θ_run (Cert.QkvProjReferenceIdeal.defs (F := Ideal)) (onTc (τ := Cert.QkvProjReferenceIdeal.τ) (Cert.QkvProjReferenceIdeal.main (F := Ideal))) ⟨m, fun _ => 0, g⟩ (fun r => (∀ c : Dev Cert.QkvProjReferenceIdeal.nD,
      r.2.mem ((c.tc : Thread Cert.QkvProjReferenceIdeal.nD Cert.QkvProjReferenceIdeal.τ).loc Cert.QkvProjReferenceIdeal.main_arg0) = m ((c.tc : Thread Cert.QkvProjReferenceIdeal.nD Cert.QkvProjReferenceIdeal.τ).loc Cert.QkvProjReferenceIdeal.main_arg0)
      ∧ r.2.mem ((c.tc : Thread Cert.QkvProjReferenceIdeal.nD Cert.QkvProjReferenceIdeal.τ).loc Cert.QkvProjReferenceIdeal.main_arg1) = m ((c.tc : Thread Cert.QkvProjReferenceIdeal.nD Cert.QkvProjReferenceIdeal.τ).loc Cert.QkvProjReferenceIdeal.main_arg1))
      ∧ r.2.sem = fun _ => 0)

def quiescent_HgProj [hHgProj : Cert.HgProj.Facts] : Prop :=
  ∀ (m : (ℓ : Loc Cert.HgProj.nD Cert.HgProj.τ Cert.HgProj.sig) → Buf (Elt Bits) ℓ) (g : Dev Cert.HgProj.nD → PrngReg), Pre_HgProj m →
    θ_run (Cert.HgProj.defs (F := Bits)) (onTc (τ := Cert.HgProj.τ) (Cert.HgProj.main (F := Bits))) ⟨m, fun _ => 0, g⟩ (fun r => (∀ c : Dev Cert.HgProj.nD,
      r.2.mem ((c.tc : Thread Cert.HgProj.nD Cert.HgProj.τ).loc Cert.HgProj.main_arg0) = m ((c.tc : Thread Cert.HgProj.nD Cert.HgProj.τ).loc Cert.HgProj.main_arg0)
      ∧ r.2.mem ((c.tc : Thread Cert.HgProj.nD Cert.HgProj.τ).loc Cert.HgProj.main_arg1) = m ((c.tc : Thread Cert.HgProj.nD Cert.HgProj.τ).loc Cert.HgProj.main_arg1))
      ∧ r.2.sem = fun _ => 0)

def quiescent_HgProjIdeal [hHgProjIdeal : Cert.HgProjIdeal.Facts] : Prop :=
  ∀ (m : (ℓ : Loc Cert.HgProjIdeal.nD Cert.HgProjIdeal.τ Cert.HgProjIdeal.sig) → Buf (Elt Ideal) ℓ) (g : Dev Cert.HgProjIdeal.nD → PrngReg), Pre_HgProjIdeal m →
    θ_run (Cert.HgProjIdeal.defs (F := Ideal)) (onTc (τ := Cert.HgProjIdeal.τ) (Cert.HgProjIdeal.main (F := Ideal))) ⟨m, fun _ => 0, g⟩ (fun r => (∀ c : Dev Cert.HgProjIdeal.nD,
      r.2.mem ((c.tc : Thread Cert.HgProjIdeal.nD Cert.HgProjIdeal.τ).loc Cert.HgProjIdeal.main_arg0) = m ((c.tc : Thread Cert.HgProjIdeal.nD Cert.HgProjIdeal.τ).loc Cert.HgProjIdeal.main_arg0)
      ∧ r.2.mem ((c.tc : Thread Cert.HgProjIdeal.nD Cert.HgProjIdeal.τ).loc Cert.HgProjIdeal.main_arg1) = m ((c.tc : Thread Cert.HgProjIdeal.nD Cert.HgProjIdeal.τ).loc Cert.HgProjIdeal.main_arg1))
      ∧ r.2.sem = fun _ => 0)

def quiescent_HgProjReferenceIdeal [hHgProjReferenceIdeal : Cert.HgProjReferenceIdeal.Facts] : Prop :=
  ∀ (m : (ℓ : Loc Cert.HgProjReferenceIdeal.nD Cert.HgProjReferenceIdeal.τ Cert.HgProjReferenceIdeal.sig) → Buf (Elt Ideal) ℓ) (g : Dev Cert.HgProjReferenceIdeal.nD → PrngReg), Pre_HgProjReferenceIdeal m →
    θ_run (Cert.HgProjReferenceIdeal.defs (F := Ideal)) (onTc (τ := Cert.HgProjReferenceIdeal.τ) (Cert.HgProjReferenceIdeal.main (F := Ideal))) ⟨m, fun _ => 0, g⟩ (fun r => (∀ c : Dev Cert.HgProjReferenceIdeal.nD,
      r.2.mem ((c.tc : Thread Cert.HgProjReferenceIdeal.nD Cert.HgProjReferenceIdeal.τ).loc Cert.HgProjReferenceIdeal.main_arg0) = m ((c.tc : Thread Cert.HgProjReferenceIdeal.nD Cert.HgProjReferenceIdeal.τ).loc Cert.HgProjReferenceIdeal.main_arg0)
      ∧ r.2.mem ((c.tc : Thread Cert.HgProjReferenceIdeal.nD Cert.HgProjReferenceIdeal.τ).loc Cert.HgProjReferenceIdeal.main_arg1) = m ((c.tc : Thread Cert.HgProjReferenceIdeal.nD Cert.HgProjReferenceIdeal.τ).loc Cert.HgProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormReferenceIdeal [hFinalNormReferenceIdeal : Cert.FinalNormReferenceIdeal.Facts] : Prop :=
  ∀ (m : (ℓ : Loc Cert.FinalNormReferenceIdeal.nD Cert.FinalNormReferenceIdeal.τ Cert.FinalNormReferenceIdeal.sig) → Buf (Elt Ideal) ℓ) (g : Dev Cert.FinalNormReferenceIdeal.nD → PrngReg), Pre_FinalNormReferenceIdeal m →
    θ_run (Cert.FinalNormReferenceIdeal.defs (F := Ideal)) (onTc (τ := Cert.FinalNormReferenceIdeal.τ) (Cert.FinalNormReferenceIdeal.main (F := Ideal))) ⟨m, fun _ => 0, g⟩ (fun r => (∀ c : Dev Cert.FinalNormReferenceIdeal.nD,
      r.2.mem ((c.tc : Thread Cert.FinalNormReferenceIdeal.nD Cert.FinalNormReferenceIdeal.τ).loc Cert.FinalNormReferenceIdeal.main_arg0) = m ((c.tc : Thread Cert.FinalNormReferenceIdeal.nD Cert.FinalNormReferenceIdeal.τ).loc Cert.FinalNormReferenceIdeal.main_arg0)
      ∧ r.2.mem ((c.tc : Thread Cert.FinalNormReferenceIdeal.nD Cert.FinalNormReferenceIdeal.τ).loc Cert.FinalNormReferenceIdeal.main_arg1) = m ((c.tc : Thread Cert.FinalNormReferenceIdeal.nD Cert.FinalNormReferenceIdeal.τ).loc Cert.FinalNormReferenceIdeal.main_arg1))
      ∧ r.2.sem = fun _ => 0)

def quiescent_LayerNorm [hLayerNorm : Cert.LayerNorm.Facts] : Prop :=
  ∀ (m : (ℓ : Loc Cert.LayerNorm.nD Cert.LayerNorm.τ Cert.LayerNorm.sig) → Buf (Elt Bits) ℓ) (g : Dev Cert.LayerNorm.nD → PrngReg), Pre_LayerNorm m →
    θ_run (Cert.LayerNorm.defs (F := Bits)) (onTc (τ := Cert.LayerNorm.τ) (Cert.LayerNorm.main (F := Bits))) ⟨m, fun _ => 0, g⟩ (fun r => (∀ c : Dev Cert.LayerNorm.nD,
      r.2.mem ((c.tc : Thread Cert.LayerNorm.nD Cert.LayerNorm.τ).loc Cert.LayerNorm.main_arg0) = m ((c.tc : Thread Cert.LayerNorm.nD Cert.LayerNorm.τ).loc Cert.LayerNorm.main_arg0)
      ∧ r.2.mem ((c.tc : Thread Cert.LayerNorm.nD Cert.LayerNorm.τ).loc Cert.LayerNorm.main_arg1) = m ((c.tc : Thread Cert.LayerNorm.nD Cert.LayerNorm.τ).loc Cert.LayerNorm.main_arg1))
      ∧ r.2.sem = fun _ => 0)

def quiescent_LayerNormIdeal [hLayerNormIdeal : Cert.LayerNormIdeal.Facts] : Prop :=
  ∀ (m : (ℓ : Loc Cert.LayerNormIdeal.nD Cert.LayerNormIdeal.τ Cert.LayerNormIdeal.sig) → Buf (Elt Ideal) ℓ) (g : Dev Cert.LayerNormIdeal.nD → PrngReg), Pre_LayerNormIdeal m →
    θ_run (Cert.LayerNormIdeal.defs (F := Ideal)) (onTc (τ := Cert.LayerNormIdeal.τ) (Cert.LayerNormIdeal.main (F := Ideal))) ⟨m, fun _ => 0, g⟩ (fun r => (∀ c : Dev Cert.LayerNormIdeal.nD,
      r.2.mem ((c.tc : Thread Cert.LayerNormIdeal.nD Cert.LayerNormIdeal.τ).loc Cert.LayerNormIdeal.main_arg0) = m ((c.tc : Thread Cert.LayerNormIdeal.nD Cert.LayerNormIdeal.τ).loc Cert.LayerNormIdeal.main_arg0)
      ∧ r.2.mem ((c.tc : Thread Cert.LayerNormIdeal.nD Cert.LayerNormIdeal.τ).loc Cert.LayerNormIdeal.main_arg1) = m ((c.tc : Thread Cert.LayerNormIdeal.nD Cert.LayerNormIdeal.τ).loc Cert.LayerNormIdeal.main_arg1))
      ∧ r.2.sem = fun _ => 0)

def quiescent_LayerNormReferenceIdeal [hLayerNormReferenceIdeal : Cert.LayerNormReferenceIdeal.Facts] : Prop :=
  ∀ (m : (ℓ : Loc Cert.LayerNormReferenceIdeal.nD Cert.LayerNormReferenceIdeal.τ Cert.LayerNormReferenceIdeal.sig) → Buf (Elt Ideal) ℓ) (g : Dev Cert.LayerNormReferenceIdeal.nD → PrngReg), Pre_LayerNormReferenceIdeal m →
    θ_run (Cert.LayerNormReferenceIdeal.defs (F := Ideal)) (onTc (τ := Cert.LayerNormReferenceIdeal.τ) (Cert.LayerNormReferenceIdeal.main (F := Ideal))) ⟨m, fun _ => 0, g⟩ (fun r => (∀ c : Dev Cert.LayerNormReferenceIdeal.nD,
      r.2.mem ((c.tc : Thread Cert.LayerNormReferenceIdeal.nD Cert.LayerNormReferenceIdeal.τ).loc Cert.LayerNormReferenceIdeal.main_arg0) = m ((c.tc : Thread Cert.LayerNormReferenceIdeal.nD Cert.LayerNormReferenceIdeal.τ).loc Cert.LayerNormReferenceIdeal.main_arg0)
      ∧ r.2.mem ((c.tc : Thread Cert.LayerNormReferenceIdeal.nD Cert.LayerNormReferenceIdeal.τ).loc Cert.LayerNormReferenceIdeal.main_arg1) = m ((c.tc : Thread Cert.LayerNormReferenceIdeal.nD Cert.LayerNormReferenceIdeal.τ).loc Cert.LayerNormReferenceIdeal.main_arg1))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ r.2.sem = fun _ => 0)

def quiescent_StickIdeal_pre_finite_heads [hStickIdeal : Cert.StickIdeal.Facts] [hPre_finite_heads : Cert.Pre_finite_heads.Facts] : Prop :=
  ∀ (m : (ℓ : Loc Cert.StickIdeal.nD Cert.StickIdeal.τ Cert.StickIdeal.sig) → Buf (Elt Ideal) ℓ) (g : Dev Cert.StickIdeal.nD → PrngReg), Pre_StickIdeal_finite_heads m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ r.2.sem = fun _ => 0)

def quiescent_StickReferenceIdeal [hStickReferenceIdeal : Cert.StickReferenceIdeal.Facts] : Prop :=
  ∀ (m : (ℓ : Loc Cert.StickReferenceIdeal.nD Cert.StickReferenceIdeal.τ Cert.StickReferenceIdeal.sig) → Buf (Elt Ideal) ℓ) (g : Dev Cert.StickReferenceIdeal.nD → PrngReg), Pre_StickReferenceIdeal m →
    θ_run (Cert.StickReferenceIdeal.defs (F := Ideal)) (onTc (τ := Cert.StickReferenceIdeal.τ) (Cert.StickReferenceIdeal.main (F := Ideal))) ⟨m, fun _ => 0, g⟩ (fun r => (∀ c : Dev Cert.StickReferenceIdeal.nD,
      r.2.mem ((c.tc : Thread Cert.StickReferenceIdeal.nD Cert.StickReferenceIdeal.τ).loc Cert.StickReferenceIdeal.main_arg0) = m ((c.tc : Thread Cert.StickReferenceIdeal.nD Cert.StickReferenceIdeal.τ).loc Cert.StickReferenceIdeal.main_arg0)
      ∧ r.2.mem ((c.tc : Thread Cert.StickReferenceIdeal.nD Cert.StickReferenceIdeal.τ).loc Cert.StickReferenceIdeal.main_arg1) = m ((c.tc : Thread Cert.StickReferenceIdeal.nD Cert.StickReferenceIdeal.τ).loc Cert.StickReferenceIdeal.main_arg1))
      ∧ r.2.sem = fun _ => 0)

def quiescent_StickReferenceIdeal_pre_finite_heads [hStickReferenceIdeal : Cert.StickReferenceIdeal.Facts] [hPre_finite_heads : Cert.Pre_finite_heads.Facts] : Prop :=
  ∀ (m : (ℓ : Loc Cert.StickReferenceIdeal.nD Cert.StickReferenceIdeal.τ Cert.StickReferenceIdeal.sig) → Buf (Elt Ideal) ℓ) (g : Dev Cert.StickReferenceIdeal.nD → PrngReg), Pre_StickReferenceIdeal_finite_heads m →
    θ_run (Cert.StickReferenceIdeal.defs (F := Ideal)) (onTc (τ := Cert.StickReferenceIdeal.τ) (Cert.StickReferenceIdeal.main (F := Ideal))) ⟨m, fun _ => 0, g⟩ (fun r => (∀ c : Dev Cert.StickReferenceIdeal.nD,
      r.2.mem ((c.tc : Thread Cert.StickReferenceIdeal.nD Cert.StickReferenceIdeal.τ).loc Cert.StickReferenceIdeal.main_arg0) = m ((c.tc : Thread Cert.StickReferenceIdeal.nD Cert.StickReferenceIdeal.τ).loc Cert.StickReferenceIdeal.main_arg0)
      ∧ r.2.mem ((c.tc : Thread Cert.StickReferenceIdeal.nD Cert.StickReferenceIdeal.τ).loc Cert.StickReferenceIdeal.main_arg1) = m ((c.tc : Thread Cert.StickReferenceIdeal.nD Cert.StickReferenceIdeal.τ).loc Cert.StickReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v345)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v345) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_UpConv_UpConvIdeal : Prop :=
  True

def algebraic_UpConvIdeal_UpConvReferenceIdeal [hUpConvIdeal : Cert.UpConvIdeal.Facts] [hUpConvReferenceIdeal : Cert.UpConvReferenceIdeal.Facts] : Prop :=
  ∀ (m : (ℓ : Loc Cert.UpConvIdeal.nD Cert.UpConvIdeal.τ Cert.UpConvIdeal.sig) → Buf (Elt Ideal) ℓ) (g : Dev Cert.UpConvIdeal.nD → PrngReg)
    (m' : (ℓ : Loc Cert.UpConvReferenceIdeal.nD Cert.UpConvReferenceIdeal.τ Cert.UpConvReferenceIdeal.sig) → Buf (Elt Ideal) ℓ) (g' : Dev Cert.UpConvReferenceIdeal.nD → PrngReg), Pre_UpConvIdeal m →
    (∀ c : Dev Cert.UpConvIdeal.nD,
      m' ((c.tc : Thread Cert.UpConvReferenceIdeal.nD Cert.UpConvReferenceIdeal.τ).loc Cert.UpConvReferenceIdeal.main_arg0) = m ((c.tc : Thread Cert.UpConvIdeal.nD Cert.UpConvIdeal.τ).loc Cert.UpConvIdeal.main_arg0)
      ∧ m' ((c.tc : Thread Cert.UpConvReferenceIdeal.nD Cert.UpConvReferenceIdeal.τ).loc Cert.UpConvReferenceIdeal.main_arg1) = m ((c.tc : Thread Cert.UpConvIdeal.nD Cert.UpConvIdeal.τ).loc Cert.UpConvIdeal.main_arg1)
      ∧ m' ((c.tc : Thread Cert.UpConvReferenceIdeal.nD Cert.UpConvReferenceIdeal.τ).loc Cert.UpConvReferenceIdeal.main_arg2) = m ((c.tc : Thread Cert.UpConvIdeal.nD Cert.UpConvIdeal.τ).loc Cert.UpConvIdeal.main_arg2)
      ∧ m' ((c.tc : Thread Cert.UpConvReferenceIdeal.nD Cert.UpConvReferenceIdeal.τ).loc Cert.UpConvReferenceIdeal.main_arg3) = m ((c.tc : Thread Cert.UpConvIdeal.nD Cert.UpConvIdeal.τ).loc Cert.UpConvIdeal.main_arg3)) →
    ∃ (v0 : (c : Dev Cert.UpConvIdeal.nD) → Buf (Elt Ideal) ((c.tc : Thread Cert.UpConvIdeal.nD Cert.UpConvIdeal.τ).loc Cert.UpConvIdeal.main_v1)),
      θ_run (Cert.UpConvIdeal.defs (F := Ideal)) (onTc (τ := Cert.UpConvIdeal.τ) (Cert.UpConvIdeal.main (F := Ideal))) ⟨m, fun _ => 0, g⟩ (fun r => ∀ c : Dev Cert.UpConvIdeal.nD,
          r.2.mem ((c.tc : Thread Cert.UpConvIdeal.nD Cert.UpConvIdeal.τ).loc Cert.UpConvIdeal.main_v1) = v0 c
          ∧ r.2.mem ((c.tc : Thread Cert.UpConvIdeal.nD Cert.UpConvIdeal.τ).loc Cert.UpConvIdeal.main_arg0) = m ((c.tc : Thread Cert.UpConvIdeal.nD Cert.UpConvIdeal.τ).loc Cert.UpConvIdeal.main_arg0)
          ∧ r.2.mem ((c.tc : Thread Cert.UpConvIdeal.nD Cert.UpConvIdeal.τ).loc Cert.UpConvIdeal.main_arg1) = m ((c.tc : Thread Cert.UpConvIdeal.nD Cert.UpConvIdeal.τ).loc Cert.UpConvIdeal.main_arg1)
          ∧ r.2.mem ((c.tc : Thread Cert.UpConvIdeal.nD Cert.UpConvIdeal.τ).loc Cert.UpConvIdeal.main_arg2) = m ((c.tc : Thread Cert.UpConvIdeal.nD Cert.UpConvIdeal.τ).loc Cert.UpConvIdeal.main_arg2)
          ∧ r.2.mem ((c.tc : Thread Cert.UpConvIdeal.nD Cert.UpConvIdeal.τ).loc Cert.UpConvIdeal.main_arg3) = m ((c.tc : Thread Cert.UpConvIdeal.nD Cert.UpConvIdeal.τ).loc Cert.UpConvIdeal.main_arg3))
      ∧ θ_run (Cert.UpConvReferenceIdeal.defs (F := Ideal)) (onTc (τ := Cert.UpConvReferenceIdeal.τ) (Cert.UpConvReferenceIdeal.main (F := Ideal))) ⟨m', fun _ => 0, g'⟩ (fun r => ∀ c : Dev Cert.UpConvReferenceIdeal.nD,
          r.2.mem ((c.tc : Thread Cert.UpConvReferenceIdeal.nD Cert.UpConvReferenceIdeal.τ).loc Cert.UpConvReferenceIdeal.main_v34) = v0 c
          ∧ r.2.mem ((c.tc : Thread Cert.UpConvReferenceIdeal.nD Cert.UpConvReferenceIdeal.τ).loc Cert.UpConvReferenceIdeal.main_arg0) = m' ((c.tc : Thread Cert.UpConvReferenceIdeal.nD Cert.UpConvReferenceIdeal.τ).loc Cert.UpConvReferenceIdeal.main_arg0)
          ∧ r.2.mem ((c.tc : Thread Cert.UpConvReferenceIdeal.nD Cert.UpConvReferenceIdeal.τ).loc Cert.UpConvReferenceIdeal.main_arg1) = m' ((c.tc : Thread Cert.UpConvReferenceIdeal.nD Cert.UpConvReferenceIdeal.τ).loc Cert.UpConvReferenceIdeal.main_arg1)
          ∧ r.2.mem ((c.tc : Thread Cert.UpConvReferenceIdeal.nD Cert.UpConvReferenceIdeal.τ).loc Cert.UpConvReferenceIdeal.main_arg2) = m' ((c.tc : Thread Cert.UpConvReferenceIdeal.nD Cert.UpConvReferenceIdeal.τ).loc Cert.UpConvReferenceIdeal.main_arg2)
          ∧ r.2.mem ((c.tc : Thread Cert.UpConvReferenceIdeal.nD Cert.UpConvReferenceIdeal.τ).loc Cert.UpConvReferenceIdeal.main_arg3) = m' ((c.tc : Thread Cert.UpConvReferenceIdeal.nD Cert.UpConvReferenceIdeal.τ).loc Cert.UpConvReferenceIdeal.main_arg3))

def preserves_DownProj_DownProjIdeal : Prop :=
  True

def algebraic_DownProjIdeal_DownProjReferenceIdeal [hDownProjIdeal : Cert.DownProjIdeal.Facts] [hDownProjReferenceIdeal : Cert.DownProjReferenceIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjReferenceIdeal.nD Cert.DownProjReferenceIdeal.τ Cert.DownProjReferenceIdeal.sig) → Buf (Elt Ideal) ℓ) (g' : Dev Cert.DownProjReferenceIdeal.nD → PrngReg), Pre_DownProjIdeal m →
    (∀ c : Dev Cert.DownProjIdeal.nD,
      m' ((c.tc : Thread Cert.DownProjReferenceIdeal.nD Cert.DownProjReferenceIdeal.τ).loc Cert.DownProjReferenceIdeal.main_arg0) = m ((c.tc : Thread Cert.DownProjIdeal.nD Cert.DownProjIdeal.τ).loc Cert.DownProjIdeal.main_arg0)
      ∧ m' ((c.tc : Thread Cert.DownProjReferenceIdeal.nD Cert.DownProjReferenceIdeal.τ).loc Cert.DownProjReferenceIdeal.main_arg1) = m ((c.tc : Thread Cert.DownProjIdeal.nD Cert.DownProjIdeal.τ).loc Cert.DownProjIdeal.main_arg1)
      ∧ m' ((c.tc : Thread Cert.DownProjReferenceIdeal.nD Cert.DownProjReferenceIdeal.τ).loc Cert.DownProjReferenceIdeal.main_arg2) = m ((c.tc : Thread Cert.DownProjIdeal.nD Cert.DownProjIdeal.τ).loc Cert.DownProjIdeal.main_arg2)) →
    ∃ (v0 : (c : Dev Cert.DownProjIdeal.nD) → Buf (Elt Ideal) ((c.tc : Thread Cert.DownProjIdeal.nD Cert.DownProjIdeal.τ).loc Cert.DownProjIdeal.main_v3)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v3) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ θ_run (Cert.DownProjReferenceIdeal.defs (F := Ideal)) (onTc (τ := Cert.DownProjReferenceIdeal.τ) (Cert.DownProjReferenceIdeal.main (F := Ideal))) ⟨m', fun _ => 0, g'⟩ (fun r => ∀ c : Dev Cert.DownProjReferenceIdeal.nD,
          r.2.mem ((c.tc : Thread Cert.DownProjReferenceIdeal.nD Cert.DownProjReferenceIdeal.τ).loc Cert.DownProjReferenceIdeal.main_v4) = v0 c
          ∧ r.2.mem ((c.tc : Thread Cert.DownProjReferenceIdeal.nD Cert.DownProjReferenceIdeal.τ).loc Cert.DownProjReferenceIdeal.main_arg0) = m' ((c.tc : Thread Cert.DownProjReferenceIdeal.nD Cert.DownProjReferenceIdeal.τ).loc Cert.DownProjReferenceIdeal.main_arg0)
          ∧ r.2.mem ((c.tc : Thread Cert.DownProjReferenceIdeal.nD Cert.DownProjReferenceIdeal.τ).loc Cert.DownProjReferenceIdeal.main_arg1) = m' ((c.tc : Thread Cert.DownProjReferenceIdeal.nD Cert.DownProjReferenceIdeal.τ).loc Cert.DownProjReferenceIdeal.main_arg1)
          ∧ r.2.mem ((c.tc : Thread Cert.DownProjReferenceIdeal.nD Cert.DownProjReferenceIdeal.τ).loc Cert.DownProjReferenceIdeal.main_arg2) = m' ((c.tc : Thread Cert.DownProjReferenceIdeal.nD Cert.DownProjReferenceIdeal.τ).loc Cert.DownProjReferenceIdeal.main_arg2))

def preserves_QkvProj_QkvProjIdeal : Prop :=
  True

def algebraic_QkvProjIdeal_QkvProjReferenceIdeal [hQkvProjIdeal : Cert.QkvProjIdeal.Facts] [hQkvProjReferenceIdeal : Cert.QkvProjReferenceIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg)
    (m' : (ℓ : Loc Cert.QkvProjReferenceIdeal.nD Cert.QkvProjReferenceIdeal.τ Cert.QkvProjReferenceIdeal.sig) → Buf (Elt Ideal) ℓ) (g' : Dev Cert.QkvProjReferenceIdeal.nD → PrngReg), Pre_QkvProjIdeal m →
    (∀ c : Dev Cert.QkvProjIdeal.nD,
      m' ((c.tc : Thread Cert.QkvProjReferenceIdeal.nD Cert.QkvProjReferenceIdeal.τ).loc Cert.QkvProjReferenceIdeal.main_arg0) = m ((c.tc : Thread Cert.QkvProjIdeal.nD Cert.QkvProjIdeal.τ).loc Cert.QkvProjIdeal.main_arg0)
      ∧ m' ((c.tc : Thread Cert.QkvProjReferenceIdeal.nD Cert.QkvProjReferenceIdeal.τ).loc Cert.QkvProjReferenceIdeal.main_arg1) = m ((c.tc : Thread Cert.QkvProjIdeal.nD Cert.QkvProjIdeal.τ).loc Cert.QkvProjIdeal.main_arg1)) →
    ∃ (v0 : (c : Dev Cert.QkvProjIdeal.nD) → Buf (Elt Ideal) ((c.tc : Thread Cert.QkvProjIdeal.nD Cert.QkvProjIdeal.τ).loc Cert.QkvProjIdeal.main_v0)),
      θ_run (Cert.QkvProjIdeal.defs (F := Ideal)) (onTc (τ := Cert.QkvProjIdeal.τ) (Cert.QkvProjIdeal.main (F := Ideal))) ⟨m, fun _ => 0, g⟩ (fun r => ∀ c : Dev Cert.QkvProjIdeal.nD,
          r.2.mem ((c.tc : Thread Cert.QkvProjIdeal.nD Cert.QkvProjIdeal.τ).loc Cert.QkvProjIdeal.main_v0) = v0 c
          ∧ r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
          ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1))
      ∧ θ_run (Cert.QkvProjReferenceIdeal.defs (F := Ideal)) (onTc (τ := Cert.QkvProjReferenceIdeal.τ) (Cert.QkvProjReferenceIdeal.main (F := Ideal))) ⟨m', fun _ => 0, g'⟩ (fun r => ∀ c : Dev Cert.QkvProjReferenceIdeal.nD,
          r.2.mem ((c.tc : Thread Cert.QkvProjReferenceIdeal.nD Cert.QkvProjReferenceIdeal.τ).loc Cert.QkvProjReferenceIdeal.main_v5) = v0 c
          ∧ r.2.mem ((c.tc : Thread Cert.QkvProjReferenceIdeal.nD Cert.QkvProjReferenceIdeal.τ).loc Cert.QkvProjReferenceIdeal.main_arg0) = m' ((c.tc : Thread Cert.QkvProjReferenceIdeal.nD Cert.QkvProjReferenceIdeal.τ).loc Cert.QkvProjReferenceIdeal.main_arg0)
          ∧ r.2.mem ((c.tc : Thread Cert.QkvProjReferenceIdeal.nD Cert.QkvProjReferenceIdeal.τ).loc Cert.QkvProjReferenceIdeal.main_arg1) = m' ((c.tc : Thread Cert.QkvProjReferenceIdeal.nD Cert.QkvProjReferenceIdeal.τ).loc Cert.QkvProjReferenceIdeal.main_arg1))

def preserves_HgProj_HgProjIdeal : Prop :=
  True

def algebraic_HgProjIdeal_HgProjReferenceIdeal [hHgProjIdeal : Cert.HgProjIdeal.Facts] [hHgProjReferenceIdeal : Cert.HgProjReferenceIdeal.Facts] : Prop :=
  ∀ (m : (ℓ : Loc Cert.HgProjIdeal.nD Cert.HgProjIdeal.τ Cert.HgProjIdeal.sig) → Buf (Elt Ideal) ℓ) (g : Dev Cert.HgProjIdeal.nD → PrngReg)
    (m' : (ℓ : Loc Cert.HgProjReferenceIdeal.nD Cert.HgProjReferenceIdeal.τ Cert.HgProjReferenceIdeal.sig) → Buf (Elt Ideal) ℓ) (g' : Dev Cert.HgProjReferenceIdeal.nD → PrngReg), Pre_HgProjIdeal m →
    (∀ c : Dev Cert.HgProjIdeal.nD,
      m' ((c.tc : Thread Cert.HgProjReferenceIdeal.nD Cert.HgProjReferenceIdeal.τ).loc Cert.HgProjReferenceIdeal.main_arg0) = m ((c.tc : Thread Cert.HgProjIdeal.nD Cert.HgProjIdeal.τ).loc Cert.HgProjIdeal.main_arg0)
      ∧ m' ((c.tc : Thread Cert.HgProjReferenceIdeal.nD Cert.HgProjReferenceIdeal.τ).loc Cert.HgProjReferenceIdeal.main_arg1) = m ((c.tc : Thread Cert.HgProjIdeal.nD Cert.HgProjIdeal.τ).loc Cert.HgProjIdeal.main_arg1)) →
    ∃ (v0 : (c : Dev Cert.HgProjIdeal.nD) → Buf (Elt Ideal) ((c.tc : Thread Cert.HgProjIdeal.nD Cert.HgProjIdeal.τ).loc Cert.HgProjIdeal.main_v0)),
      θ_run (Cert.HgProjIdeal.defs (F := Ideal)) (onTc (τ := Cert.HgProjIdeal.τ) (Cert.HgProjIdeal.main (F := Ideal))) ⟨m, fun _ => 0, g⟩ (fun r => ∀ c : Dev Cert.HgProjIdeal.nD,
          r.2.mem ((c.tc : Thread Cert.HgProjIdeal.nD Cert.HgProjIdeal.τ).loc Cert.HgProjIdeal.main_v0) = v0 c
          ∧ r.2.mem ((c.tc : Thread Cert.HgProjIdeal.nD Cert.HgProjIdeal.τ).loc Cert.HgProjIdeal.main_arg0) = m ((c.tc : Thread Cert.HgProjIdeal.nD Cert.HgProjIdeal.τ).loc Cert.HgProjIdeal.main_arg0)
          ∧ r.2.mem ((c.tc : Thread Cert.HgProjIdeal.nD Cert.HgProjIdeal.τ).loc Cert.HgProjIdeal.main_arg1) = m ((c.tc : Thread Cert.HgProjIdeal.nD Cert.HgProjIdeal.τ).loc Cert.HgProjIdeal.main_arg1))
      ∧ θ_run (Cert.HgProjReferenceIdeal.defs (F := Ideal)) (onTc (τ := Cert.HgProjReferenceIdeal.τ) (Cert.HgProjReferenceIdeal.main (F := Ideal))) ⟨m', fun _ => 0, g'⟩ (fun r => ∀ c : Dev Cert.HgProjReferenceIdeal.nD,
          r.2.mem ((c.tc : Thread Cert.HgProjReferenceIdeal.nD Cert.HgProjReferenceIdeal.τ).loc Cert.HgProjReferenceIdeal.main_v4) = v0 c
          ∧ r.2.mem ((c.tc : Thread Cert.HgProjReferenceIdeal.nD Cert.HgProjReferenceIdeal.τ).loc Cert.HgProjReferenceIdeal.main_arg0) = m' ((c.tc : Thread Cert.HgProjReferenceIdeal.nD Cert.HgProjReferenceIdeal.τ).loc Cert.HgProjReferenceIdeal.main_arg0)
          ∧ r.2.mem ((c.tc : Thread Cert.HgProjReferenceIdeal.nD Cert.HgProjReferenceIdeal.τ).loc Cert.HgProjReferenceIdeal.main_arg1) = m' ((c.tc : Thread Cert.HgProjReferenceIdeal.nD Cert.HgProjReferenceIdeal.τ).loc Cert.HgProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v6) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_FinalNorm_FinalNormIdeal : Prop :=
  True

def algebraic_FinalNormIdeal_FinalNormReferenceIdeal [hFinalNormIdeal : Cert.FinalNormIdeal.Facts] [hFinalNormReferenceIdeal : Cert.FinalNormReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormReferenceIdeal.nD Cert.FinalNormReferenceIdeal.τ Cert.FinalNormReferenceIdeal.sig) → Buf (Elt Ideal) ℓ) (g' : Dev Cert.FinalNormReferenceIdeal.nD → PrngReg), Pre_FinalNormIdeal m →
    (∀ c : Dev Cert.FinalNormIdeal.nD,
      m' ((c.tc : Thread Cert.FinalNormReferenceIdeal.nD Cert.FinalNormReferenceIdeal.τ).loc Cert.FinalNormReferenceIdeal.main_arg0) = m ((c.tc : Thread Cert.FinalNormIdeal.nD Cert.FinalNormIdeal.τ).loc Cert.FinalNormIdeal.main_arg0)
      ∧ m' ((c.tc : Thread Cert.FinalNormReferenceIdeal.nD Cert.FinalNormReferenceIdeal.τ).loc Cert.FinalNormReferenceIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v2)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v2) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormReferenceIdeal.defs (F := Ideal)) (onTc (τ := Cert.FinalNormReferenceIdeal.τ) (Cert.FinalNormReferenceIdeal.main (F := Ideal))) ⟨m', fun _ => 0, g'⟩ (fun r => ∀ c : Dev Cert.FinalNormReferenceIdeal.nD,
          r.2.mem ((c.tc : Thread Cert.FinalNormReferenceIdeal.nD Cert.FinalNormReferenceIdeal.τ).loc Cert.FinalNormReferenceIdeal.main_v13) = v0 c
          ∧ r.2.mem ((c.tc : Thread Cert.FinalNormReferenceIdeal.nD Cert.FinalNormReferenceIdeal.τ).loc Cert.FinalNormReferenceIdeal.main_arg0) = m' ((c.tc : Thread Cert.FinalNormReferenceIdeal.nD Cert.FinalNormReferenceIdeal.τ).loc Cert.FinalNormReferenceIdeal.main_arg0)
          ∧ r.2.mem ((c.tc : Thread Cert.FinalNormReferenceIdeal.nD Cert.FinalNormReferenceIdeal.τ).loc Cert.FinalNormReferenceIdeal.main_arg1) = m' ((c.tc : Thread Cert.FinalNormReferenceIdeal.nD Cert.FinalNormReferenceIdeal.τ).loc Cert.FinalNormReferenceIdeal.main_arg1))

def preserves_LayerNorm_LayerNormIdeal : Prop :=
  True

def algebraic_LayerNormIdeal_LayerNormReferenceIdeal [hLayerNormIdeal : Cert.LayerNormIdeal.Facts] [hLayerNormReferenceIdeal : Cert.LayerNormReferenceIdeal.Facts] : Prop :=
  ∀ (m : (ℓ : Loc Cert.LayerNormIdeal.nD Cert.LayerNormIdeal.τ Cert.LayerNormIdeal.sig) → Buf (Elt Ideal) ℓ) (g : Dev Cert.LayerNormIdeal.nD → PrngReg)
    (m' : (ℓ : Loc Cert.LayerNormReferenceIdeal.nD Cert.LayerNormReferenceIdeal.τ Cert.LayerNormReferenceIdeal.sig) → Buf (Elt Ideal) ℓ) (g' : Dev Cert.LayerNormReferenceIdeal.nD → PrngReg), Pre_LayerNormIdeal m →
    (∀ c : Dev Cert.LayerNormIdeal.nD,
      m' ((c.tc : Thread Cert.LayerNormReferenceIdeal.nD Cert.LayerNormReferenceIdeal.τ).loc Cert.LayerNormReferenceIdeal.main_arg0) = m ((c.tc : Thread Cert.LayerNormIdeal.nD Cert.LayerNormIdeal.τ).loc Cert.LayerNormIdeal.main_arg0)
      ∧ m' ((c.tc : Thread Cert.LayerNormReferenceIdeal.nD Cert.LayerNormReferenceIdeal.τ).loc Cert.LayerNormReferenceIdeal.main_arg1) = m ((c.tc : Thread Cert.LayerNormIdeal.nD Cert.LayerNormIdeal.τ).loc Cert.LayerNormIdeal.main_arg1)) →
    ∃ (v0 : (c : Dev Cert.LayerNormIdeal.nD) → Buf (Elt Ideal) ((c.tc : Thread Cert.LayerNormIdeal.nD Cert.LayerNormIdeal.τ).loc Cert.LayerNormIdeal.main_v3)),
      θ_run (Cert.LayerNormIdeal.defs (F := Ideal)) (onTc (τ := Cert.LayerNormIdeal.τ) (Cert.LayerNormIdeal.main (F := Ideal))) ⟨m, fun _ => 0, g⟩ (fun r => ∀ c : Dev Cert.LayerNormIdeal.nD,
          r.2.mem ((c.tc : Thread Cert.LayerNormIdeal.nD Cert.LayerNormIdeal.τ).loc Cert.LayerNormIdeal.main_v3) = v0 c
          ∧ r.2.mem ((c.tc : Thread Cert.LayerNormIdeal.nD Cert.LayerNormIdeal.τ).loc Cert.LayerNormIdeal.main_arg0) = m ((c.tc : Thread Cert.LayerNormIdeal.nD Cert.LayerNormIdeal.τ).loc Cert.LayerNormIdeal.main_arg0)
          ∧ r.2.mem ((c.tc : Thread Cert.LayerNormIdeal.nD Cert.LayerNormIdeal.τ).loc Cert.LayerNormIdeal.main_arg1) = m ((c.tc : Thread Cert.LayerNormIdeal.nD Cert.LayerNormIdeal.τ).loc Cert.LayerNormIdeal.main_arg1))
      ∧ θ_run (Cert.LayerNormReferenceIdeal.defs (F := Ideal)) (onTc (τ := Cert.LayerNormReferenceIdeal.τ) (Cert.LayerNormReferenceIdeal.main (F := Ideal))) ⟨m', fun _ => 0, g'⟩ (fun r => ∀ c : Dev Cert.LayerNormReferenceIdeal.nD,
          r.2.mem ((c.tc : Thread Cert.LayerNormReferenceIdeal.nD Cert.LayerNormReferenceIdeal.τ).loc Cert.LayerNormReferenceIdeal.main_v15) = v0 c
          ∧ r.2.mem ((c.tc : Thread Cert.LayerNormReferenceIdeal.nD Cert.LayerNormReferenceIdeal.τ).loc Cert.LayerNormReferenceIdeal.main_arg0) = m' ((c.tc : Thread Cert.LayerNormReferenceIdeal.nD Cert.LayerNormReferenceIdeal.τ).loc Cert.LayerNormReferenceIdeal.main_arg0)
          ∧ r.2.mem ((c.tc : Thread Cert.LayerNormReferenceIdeal.nD Cert.LayerNormReferenceIdeal.τ).loc Cert.LayerNormReferenceIdeal.main_arg1) = m' ((c.tc : Thread Cert.LayerNormReferenceIdeal.nD Cert.LayerNormReferenceIdeal.τ).loc Cert.LayerNormReferenceIdeal.main_arg1))

def preserves_Stick_StickIdeal : Prop :=
  IdealRules.named_const.Statement Cert.StickIdeal.κ "exit" .f32 0xC2D00000#32 ⊥

def algebraic_StickIdeal_StickReferenceIdeal_pre_finite_heads [hStickIdeal : Cert.StickIdeal.Facts] [hStickReferenceIdeal : Cert.StickReferenceIdeal.Facts] [hPre_finite_heads : Cert.Pre_finite_heads.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickReferenceIdeal.nD Cert.StickReferenceIdeal.τ Cert.StickReferenceIdeal.sig) → Buf (Elt Ideal) ℓ) (g' : Dev Cert.StickReferenceIdeal.nD → PrngReg), Pre_StickIdeal_finite_heads m →
    (∀ c : Dev Cert.StickIdeal.nD,
      m' ((c.tc : Thread Cert.StickReferenceIdeal.nD Cert.StickReferenceIdeal.τ).loc Cert.StickReferenceIdeal.main_arg0) = m ((c.tc : Thread Cert.StickIdeal.nD Cert.StickIdeal.τ).loc Cert.StickIdeal.main_arg0)
      ∧ m' ((c.tc : Thread Cert.StickReferenceIdeal.nD Cert.StickReferenceIdeal.τ).loc Cert.StickReferenceIdeal.main_arg1) = m ((c.tc : Thread Cert.StickIdeal.nD Cert.StickIdeal.τ).loc Cert.StickIdeal.main_arg1)) →
    ∃ (v0 : (c : Dev Cert.StickIdeal.nD) → Buf (Elt Ideal) ((c.tc : Thread Cert.StickIdeal.nD Cert.StickIdeal.τ).loc Cert.StickIdeal.main_v12)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v12) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ θ_run (Cert.StickReferenceIdeal.defs (F := Ideal)) (onTc (τ := Cert.StickReferenceIdeal.τ) (Cert.StickReferenceIdeal.main (F := Ideal))) ⟨m', fun _ => 0, g'⟩ (fun r => ∀ c : Dev Cert.StickReferenceIdeal.nD,
          r.2.mem ((c.tc : Thread Cert.StickReferenceIdeal.nD Cert.StickReferenceIdeal.τ).loc Cert.StickReferenceIdeal.main_v45) = v0 c
          ∧ r.2.mem ((c.tc : Thread Cert.StickReferenceIdeal.nD Cert.StickReferenceIdeal.τ).loc Cert.StickReferenceIdeal.main_arg0) = m' ((c.tc : Thread Cert.StickReferenceIdeal.nD Cert.StickReferenceIdeal.τ).loc Cert.StickReferenceIdeal.main_arg0)
          ∧ r.2.mem ((c.tc : Thread Cert.StickReferenceIdeal.nD Cert.StickReferenceIdeal.τ).loc Cert.StickReferenceIdeal.main_arg1) = m' ((c.tc : Thread Cert.StickReferenceIdeal.nD Cert.StickReferenceIdeal.τ).loc Cert.StickReferenceIdeal.main_arg1))

def Claim : Prop :=
  ∃ (hKernel : Cert.Kernel.Facts) (hKernelIdeal : Cert.KernelIdeal.Facts) (hReferenceIdeal : Cert.ReferenceIdeal.Facts) (hUpConv : Cert.UpConv.Facts) (hUpConvIdeal : Cert.UpConvIdeal.Facts) (hUpConvReferenceIdeal : Cert.UpConvReferenceIdeal.Facts) (hDownProj : Cert.DownProj.Facts) (hDownProjIdeal : Cert.DownProjIdeal.Facts) (hDownProjReferenceIdeal : Cert.DownProjReferenceIdeal.Facts) (hQkvProj : Cert.QkvProj.Facts) (hQkvProjIdeal : Cert.QkvProjIdeal.Facts) (hQkvProjReferenceIdeal : Cert.QkvProjReferenceIdeal.Facts) (hHgProj : Cert.HgProj.Facts) (hHgProjIdeal : Cert.HgProjIdeal.Facts) (hHgProjReferenceIdeal : Cert.HgProjReferenceIdeal.Facts) (hOutProj : Cert.OutProj.Facts) (hOutProjIdeal : Cert.OutProjIdeal.Facts) (hOutProjReferenceIdeal : Cert.OutProjReferenceIdeal.Facts) (hFinalNorm : Cert.FinalNorm.Facts) (hFinalNormIdeal : Cert.FinalNormIdeal.Facts) (hFinalNormReferenceIdeal : Cert.FinalNormReferenceIdeal.Facts) (hLayerNorm : Cert.LayerNorm.Facts) (hLayerNormIdeal : Cert.LayerNormIdeal.Facts) (hLayerNormReferenceIdeal : Cert.LayerNormReferenceIdeal.Facts) (hStick : Cert.Stick.Facts) (hStickIdeal : Cert.StickIdeal.Facts) (hStickReferenceIdeal : Cert.StickReferenceIdeal.Facts) (hPre_finite_inputs : Cert.Pre_finite_inputs.Facts) (hPre_finite_heads : Cert.Pre_finite_heads.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_UpConv (hUpConv := hUpConv)
    ∧ quiescent_UpConvIdeal (hUpConvIdeal := hUpConvIdeal)
    ∧ quiescent_UpConvReferenceIdeal (hUpConvReferenceIdeal := hUpConvReferenceIdeal)
    ∧ quiescent_DownProj (hDownProj := hDownProj)
    ∧ quiescent_DownProjIdeal (hDownProjIdeal := hDownProjIdeal)
    ∧ quiescent_DownProjReferenceIdeal (hDownProjReferenceIdeal := hDownProjReferenceIdeal)
    ∧ quiescent_QkvProj (hQkvProj := hQkvProj)
    ∧ quiescent_QkvProjIdeal (hQkvProjIdeal := hQkvProjIdeal)
    ∧ quiescent_QkvProjReferenceIdeal (hQkvProjReferenceIdeal := hQkvProjReferenceIdeal)
    ∧ quiescent_HgProj (hHgProj := hHgProj)
    ∧ quiescent_HgProjIdeal (hHgProjIdeal := hHgProjIdeal)
    ∧ quiescent_HgProjReferenceIdeal (hHgProjReferenceIdeal := hHgProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_FinalNorm (hFinalNorm := hFinalNorm)
    ∧ quiescent_FinalNormIdeal (hFinalNormIdeal := hFinalNormIdeal)
    ∧ quiescent_FinalNormReferenceIdeal (hFinalNormReferenceIdeal := hFinalNormReferenceIdeal)
    ∧ quiescent_LayerNorm (hLayerNorm := hLayerNorm)
    ∧ quiescent_LayerNormIdeal (hLayerNormIdeal := hLayerNormIdeal)
    ∧ quiescent_LayerNormReferenceIdeal (hLayerNormReferenceIdeal := hLayerNormReferenceIdeal)
    ∧ quiescent_Stick (hStick := hStick)
    ∧ quiescent_StickIdeal (hStickIdeal := hStickIdeal)
    ∧ quiescent_StickIdeal_pre_finite_heads (hStickIdeal := hStickIdeal) (hPre_finite_heads := hPre_finite_heads)
    ∧ quiescent_StickReferenceIdeal (hStickReferenceIdeal := hStickReferenceIdeal)
    ∧ quiescent_StickReferenceIdeal_pre_finite_heads (hStickReferenceIdeal := hStickReferenceIdeal) (hPre_finite_heads := hPre_finite_heads)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_UpConv_UpConvIdeal
    ∧ algebraic_UpConvIdeal_UpConvReferenceIdeal (hUpConvIdeal := hUpConvIdeal) (hUpConvReferenceIdeal := hUpConvReferenceIdeal)
    ∧ preserves_DownProj_DownProjIdeal
    ∧ algebraic_DownProjIdeal_DownProjReferenceIdeal (hDownProjIdeal := hDownProjIdeal) (hDownProjReferenceIdeal := hDownProjReferenceIdeal)
    ∧ preserves_QkvProj_QkvProjIdeal
    ∧ algebraic_QkvProjIdeal_QkvProjReferenceIdeal (hQkvProjIdeal := hQkvProjIdeal) (hQkvProjReferenceIdeal := hQkvProjReferenceIdeal)
    ∧ preserves_HgProj_HgProjIdeal
    ∧ algebraic_HgProjIdeal_HgProjReferenceIdeal (hHgProjIdeal := hHgProjIdeal) (hHgProjReferenceIdeal := hHgProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_FinalNorm_FinalNormIdeal
    ∧ algebraic_FinalNormIdeal_FinalNormReferenceIdeal (hFinalNormIdeal := hFinalNormIdeal) (hFinalNormReferenceIdeal := hFinalNormReferenceIdeal)
    ∧ preserves_LayerNorm_LayerNormIdeal
    ∧ algebraic_LayerNormIdeal_LayerNormReferenceIdeal (hLayerNormIdeal := hLayerNormIdeal) (hLayerNormReferenceIdeal := hLayerNormReferenceIdeal)
    ∧ preserves_Stick_StickIdeal
    ∧ algebraic_StickIdeal_StickReferenceIdeal_pre_finite_heads (hStickIdeal := hStickIdeal) (hStickReferenceIdeal := hStickReferenceIdeal) (hPre_finite_heads := hPre_finite_heads)
-- ==== Pre_finite_heads.lean ====
abbrev S8192x6144 : Shape := ⟨2, ![8192, 6144]⟩
abbrev S2048 : Shape := ⟨1, ![2048]⟩
abbrev S_ : Shape := ⟨0, ![]⟩

class Facts : Prop where
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_
  h_S_ : 0 < S_.numel

variable [Facts]

def fn {F : FTy → Type} [FloatOps F] (main_arg0 : FVec F S8192x6144 .bf16) (main_arg1 : FVec F S2048 .f32) : IVec S_ 1 :=
  let main_v0 : FVec F S8192x6144 .f32 := (extf .f32 · bitsLt_bf16_f32) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  main_v4
-- ==== Pre_finite_inputs.lean ====
abbrev S8192x8192 : Shape := ⟨2, ![8192, 8192]⟩
abbrev S2048 : Shape := ⟨1, ![2048]⟩
abbrev S8192x2048 : Shape := ⟨2, ![8192, 2048]⟩
abbrev S_ : Shape := ⟨0, ![]⟩

class Facts : Prop where
  slices_S8192x8192_S8192x2048_0_0 : S8192x8192.Slices ![0, 0] S8192x2048
  bcast_S_S8192x2048 : S_.BroadcastsInDim S8192x2048 (![] : Fin 0 → Fin S8192x2048.rank)
  reducesTo_S8192x2048_S_d0_1 : S8192x2048.ReducesTo [0, 1] S_
  h_S_ : 0 < S_.numel
  slices_S8192x8192_S8192x2048_0_4096 : S8192x8192.Slices ![0, 4096] S8192x2048
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x8192 .f32) (main_arg1 : FVec F S2048 .f32) (main_arg2 : FVec F S2048 .f32) : IVec S_ 1 :=
  let main_v0 : FVec F S8192x2048 .f32 := (extractStridedSlice S8192x2048 ![0, 0] · slices_S8192x8192_S8192x2048_0_0) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .f32 := (extractStridedSlice S8192x2048 ![0, 4096] · slices_S8192x8192_S8192x2048_0_4096) main_arg0
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  let main_v11 : FVec F S2048 .f32 := Host.absf main_arg1
  let main_cst_2 : FVec F S_ .f32 := constant S_ .f32 0x7F800000#32
  let main_v12 : FVec F S2048 .f32 := broadcastInDim S2048 ![] bcast_S_S2048 main_cst_2
  let main_v13 : IVec S2048 1 := cmpf .olt main_v11 main_v12
  let main_c_3 : IVec S_ 1 := constantI S_ 1 1#1
  let main_v14 : IVec S_ 1 := (fun x v => Host.reduce IntOp.andi x v reducesTo_S2048_S_d0 h_S_) main_v13 main_c_3
  let main_v15 : IVec S_ 1 := andi main_v10 main_v14
  main_v15
-- ==== Kernel.lean ====
abbrev S8192x8192 : Shape := ⟨2, ![8192, 8192]⟩
abbrev S2048 : Shape := ⟨1, ![2048]⟩
abbrev S_ : Shape := ⟨0, ![]⟩
abbrev S1x2048 : Shape := ⟨2, ![1, 2048]⟩
abbrev S3x2048 : Shape := ⟨2, ![3, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1152x128 : Shape := ⟨2, ![1152, 128]⟩
abbrev S1152x256 : Shape := ⟨2, ![1152, 256]⟩
abbrev S1x128x128 : Shape := ⟨3, ![1, 128, 128]⟩
abbrev S8x128x128 : Shape := ⟨3, ![8, 128, 128]⟩
abbrev S8192x2048 : Shape := ⟨2, ![8192, 2048]⟩
abbrev S512x128 : Shape := ⟨2, ![512, 128]⟩
abbrev S3x128 : Shape := ⟨2, ![3, 128]⟩
abbrev S256x128 : Shape := ⟨2, ![256, 128]⟩

abbrev nBuf : Space → Nat
  | .hbm => 427
  | .vmem => 17
  | .smem => 0
  | _ => 0

abbrev hbmTy0_0 (i : Nat) : BufTy := match i % 128 with
  | 0 => ⟨S8192x8192, .f32⟩
  | 1 => ⟨S2048, .f32⟩
  | 2 => ⟨S2048, .f32⟩
  | 3 => ⟨S2048, .f32⟩
  | 4 => ⟨S2048, .f32⟩
  | 5 => ⟨S2048, .f32⟩
  | 6 => ⟨S_, .f32⟩
  | 7 => ⟨S2048, .f32⟩
  | 8 => ⟨S2048, .f32⟩
  | 9 => ⟨S1x2048, .f32⟩
  | 10 => ⟨S1x2048, .f32⟩
  | 11 => ⟨S1x2048, .f32⟩
  | 12 => ⟨S3x2048, .f32⟩
  | 13 => ⟨S128, .i32⟩
  | 14 => ⟨S128x1, .i32⟩
  | 15 => ⟨S128, .i32⟩
  | 16 => ⟨S1x128, .i32⟩
  | 17 => ⟨S128x128, .i32⟩
  | 18 => ⟨S128x128, .i32⟩
  | 19 => ⟨S128x128, .i1⟩
  | 20 => ⟨S128x128, .i32⟩
  | 21 => ⟨S128x128, .i32⟩
  | 22 => ⟨S128x128, .i1⟩
  | 23 => ⟨S_, .i32⟩
  | 24 => ⟨S128x1, .i32⟩
  | 25 => ⟨S128x1, .i32⟩
  | 26 => ⟨S_, .i32⟩
  | 27 => ⟨S128x1, .i32⟩
  | 28 => ⟨S128x1, .i32⟩
  | 29 => ⟨S_, .i32⟩
  | 30 => ⟨S128x1, .i32⟩
  | 31 => ⟨S128x1, .i32⟩
  | 32 => ⟨S_, .i32⟩
  | 33 => ⟨S128x1, .i32⟩
  | 34 => ⟨S128x1, .i32⟩
  | 35 => ⟨S128x1, .i1⟩
  | 36 => ⟨S128x128, .i32⟩
  | 37 => ⟨S128x128, .i32⟩
  | 38 => ⟨S128x128, .i1⟩
  | 39 => ⟨S128x128, .i32⟩
  | 40 => ⟨S128x128, .i32⟩
  | 41 => ⟨S128x128, .i1⟩
  | 42 => ⟨S128x128, .i1⟩
  | 43 => ⟨S128x128, .i32⟩
  | 44 => ⟨S128x128, .i32⟩
  | 45 => ⟨S128x128, .i1⟩
  | 46 => ⟨S128x128, .i32⟩
  | 47 => ⟨S128x128, .i32⟩
  | 48 => ⟨S128x128, .i1⟩
  | 49 => ⟨S128x128, .i1⟩
  | 50 => ⟨S128x128, .i1⟩
  | 51 => ⟨S128x128, .i1⟩
  | 52 => ⟨S_, .i32⟩
  | 53 => ⟨S1x128, .i32⟩
  | 54 => ⟨S1x128, .i32⟩
  | 55 => ⟨S_, .i32⟩
  | 56 => ⟨S1x128, .i32⟩
  | 57 => ⟨S1x128, .i32⟩
  | 58 => ⟨S_, .i32⟩
  | 59 => ⟨S1x128, .i32⟩
  | 60 => ⟨S1x128, .i32⟩
  | 61 => ⟨S_, .i32⟩
  | 62 => ⟨S1x128, .i32⟩
  | 63 => ⟨S1x128, .i32⟩
  | 64 => ⟨S_, .i32⟩
  | 65 => ⟨S128x1, .i32⟩
  | 66 => ⟨S128x1, .i32⟩
  | 67 => ⟨S_, .i32⟩
  | 68 => ⟨S1x128, .i32⟩
  | 69 => ⟨S1x128, .i32⟩
  | 70 => ⟨S128x128, .i32⟩
  | 71 => ⟨S128x128, .i32⟩
  | 72 => ⟨S128x128, .i1⟩
  | 73 => ⟨S128x128, .i1⟩
  | 74 => ⟨S128x128, .i1⟩
  | 75 => ⟨S1x128, .i1⟩
  | 76 => ⟨S128x128, .i1⟩
  | 77 => ⟨S128x128, .i1⟩
  | 78 => ⟨S_, .i32⟩
  | 79 => ⟨S128x1, .i32⟩
  | 80 => ⟨S128x1, .i32⟩
  | 81 => ⟨S_, .i32⟩
  | 82 => ⟨S128x1, .i32⟩
  | 83 => ⟨S128x1, .i32⟩
  | 84 => ⟨S_, .i32⟩
  | 85 => ⟨S128x1, .i32⟩
  | 86 => ⟨S128x1, .i32⟩
  | 87 => ⟨S_, .i32⟩
  | 88 => ⟨S128x1, .i32⟩
  | 89 => ⟨S128x1, .i32⟩
  | 90 => ⟨S128x1, .i1⟩
  | 91 => ⟨S128x128, .i32⟩
  | 92 => ⟨S128x128, .i32⟩
  | 93 => ⟨S128x128, .i1⟩
  | 94 => ⟨S128x128, .i32⟩
  | 95 => ⟨S128x128, .i32⟩
  | 96 => ⟨S128x128, .i1⟩
  | 97 => ⟨S128x128, .i1⟩
  | 98 => ⟨S128x128, .i32⟩
  | 99 => ⟨S128x128, .i32⟩
  | 100 => ⟨S128x128, .i1⟩
  | 101 => ⟨S128x128, .i32⟩
  | 102 => ⟨S128x128, .i32⟩
  | 103 => ⟨S128x128, .i1⟩
  | 104 => ⟨S128x128, .i1⟩
  | 105 => ⟨S128x128, .i1⟩
  | 106 => ⟨S128x128, .i1⟩
  | 107 => ⟨S_, .i32⟩
  | 108 => ⟨S1x128, .i32⟩
  | 109 => ⟨S1x128, .i32⟩
  | 110 => ⟨S_, .i32⟩
  | 111 => ⟨S1x128, .i32⟩
  | 112 => ⟨S1x128, .i32⟩
  | 113 => ⟨S_, .i32⟩
  | 114 => ⟨S1x128, .i32⟩
  | 115 => ⟨S1x128, .i32⟩
  | 116 => ⟨S_, .i32⟩
  | 117 => ⟨S1x128, .i32⟩
  | 118 => ⟨S1x128, .i32⟩
  | 119 => ⟨S_, .i32⟩
  | 120 => ⟨S128x1, .i32⟩
  | 121 => ⟨S128x1, .i32⟩
  | 122 => ⟨S_, .i32⟩
  | 123 => ⟨S1x128, .i32⟩
  | 124 => ⟨S1x128, .i32⟩
  | 125 => ⟨S128x128, .i32⟩
  | 126 => ⟨S128x128, .i32⟩
  | 127 => ⟨S128x128, .i1⟩
  | _ => ⟨S8192x8192, .f32⟩

abbrev hbmTy0_1 (i : Nat) : BufTy := match i % 128 with
  | 0 => ⟨S128x128, .i1⟩
  | 1 => ⟨S128x128, .i1⟩
  | 2 => ⟨S1x128, .i1⟩
  | 3 => ⟨S128x128, .i1⟩
  | 4 => ⟨S128x128, .i1⟩
  | 5 => ⟨S_, .i32⟩
  | 6 => ⟨S128x1, .i32⟩
  | 7 => ⟨S128x1, .i32⟩
  | 8 => ⟨S_, .i32⟩
  | 9 => ⟨S128x1, .i32⟩
  | 10 => ⟨S128x1, .i32⟩
  | 11 => ⟨S_, .i32⟩
  | 12 => ⟨S128x1, .i32⟩
  | 13 => ⟨S128x1, .i32⟩
  | 14 => ⟨S_, .i32⟩
  | 15 => ⟨S128x1, .i32⟩
  | 16 => ⟨S128x1, .i32⟩
  | 17 => ⟨S128x1, .i1⟩
  | 18 => ⟨S128x128, .i32⟩
  | 19 => ⟨S128x128, .i32⟩
  | 20 => ⟨S128x128, .i1⟩
  | 21 => ⟨S128x128, .i32⟩
  | 22 => ⟨S128x128, .i32⟩
  | 23 => ⟨S128x128, .i1⟩
  | 24 => ⟨S128x128, .i1⟩
  | 25 => ⟨S128x128, .i32⟩
  | 26 => ⟨S128x128, .i32⟩
  | 27 => ⟨S128x128, .i1⟩
  | 28 => ⟨S128x128, .i32⟩
  | 29 => ⟨S128x128, .i32⟩
  | 30 => ⟨S128x128, .i1⟩
  | 31 => ⟨S128x128, .i1⟩
  | 32 => ⟨S128x128, .i1⟩
  | 33 => ⟨S128x128, .i1⟩
  | 34 => ⟨S_, .i32⟩
  | 35 => ⟨S1x128, .i32⟩
  | 36 => ⟨S1x128, .i32⟩
  | 37 => ⟨S_, .i32⟩
  | 38 => ⟨S1x128, .i32⟩
  | 39 => ⟨S1x128, .i32⟩
  | 40 => ⟨S_, .i32⟩
  | 41 => ⟨S1x128, .i32⟩
  | 42 => ⟨S1x128, .i32⟩
  | 43 => ⟨S_, .i32⟩
  | 44 => ⟨S1x128, .i32⟩
  | 45 => ⟨S1x128, .i32⟩
  | 46 => ⟨S_, .i32⟩
  | 47 => ⟨S128x1, .i32⟩
  | 48 => ⟨S128x1, .i32⟩
  | 49 => ⟨S_, .i32⟩
  | 50 => ⟨S1x128, .i32⟩
  | 51 => ⟨S1x128, .i32⟩
  | 52 => ⟨S128x128, .i32⟩
  | 53 => ⟨S128x128, .i32⟩
  | 54 => ⟨S128x128, .i1⟩
  | 55 => ⟨S128x128, .i1⟩
  | 56 => ⟨S128x128, .i1⟩
  | 57 => ⟨S1x128, .i1⟩
  | 58 => ⟨S128x128, .i1⟩
  | 59 => ⟨S128x128, .i1⟩
  | 60 => ⟨S_, .i32⟩
  | 61 => ⟨S128x1, .i32⟩
  | 62 => ⟨S128x1, .i32⟩
  | 63 => ⟨S_, .i32⟩
  | 64 => ⟨S128x1, .i32⟩
  | 65 => ⟨S128x1, .i32⟩
  | 66 => ⟨S_, .i32⟩
  | 67 => ⟨S128x1, .i32⟩
  | 68 => ⟨S128x1, .i32⟩
  | 69 => ⟨S_, .i32⟩
  | 70 => ⟨S128x1, .i32⟩
  | 71 => ⟨S128x1, .i32⟩
  | 72 => ⟨S128x1, .i1⟩
  | 73 => ⟨S128x128, .i32⟩
  | 74 => ⟨S128x128, .i32⟩
  | 75 => ⟨S128x128, .i1⟩
  | 76 => ⟨S128x128, .i32⟩
  | 77 => ⟨S128x128, .i32⟩
  | 78 => ⟨S128x128, .i1⟩
  | 79 => ⟨S128x128, .i1⟩
  | 80 => ⟨S128x128, .i32⟩
  | 81 => ⟨S128x128, .i32⟩
  | 82 => ⟨S128x128, .i1⟩
  | 83 => ⟨S128x128, .i32⟩
  | 84 => ⟨S128x128, .i32⟩
  | 85 => ⟨S128x128, .i1⟩
  | 86 => ⟨S128x128, .i1⟩
  | 87 => ⟨S128x128, .i1⟩
  | 88 => ⟨S128x128, .i1⟩
  | 89 => ⟨S_, .i32⟩
  | 90 => ⟨S1x128, .i32⟩
  | 91 => ⟨S1x128, .i32⟩
  | 92 => ⟨S_, .i32⟩
  | 93 => ⟨S1x128, .i32⟩
  | 94 => ⟨S1x128, .i32⟩
  | 95 => ⟨S_, .i32⟩
  | 96 => ⟨S1x128, .i32⟩
  | 97 => ⟨S1x128, .i32⟩
  | 98 => ⟨S_, .i32⟩
  | 99 => ⟨S1x128, .i32⟩
  | 100 => ⟨S1x128, .i32⟩
  | 101 => ⟨S_, .i32⟩
  | 102 => ⟨S128x1, .i32⟩
  | 103 => ⟨S128x1, .i32⟩
  | 104 => ⟨S_, .i32⟩
  | 105 => ⟨S1x128, .i32⟩
  | 106 => ⟨S1x128, .i32⟩
  | 107 => ⟨S128x128, .i32⟩
  | 108 => ⟨S128x128, .i32⟩
  | 109 => ⟨S128x128, .i1⟩
  | 110 => ⟨S128x128, .i1⟩
  | 111 => ⟨S128x128, .i1⟩
  | 112 => ⟨S1x128, .i1⟩
  | 113 => ⟨S128x128, .i1⟩
  | 114 => ⟨S128x128, .i1⟩
  | 115 => ⟨S_, .i32⟩
  | 116 => ⟨S128x1, .i32⟩
  | 117 => ⟨S128x1, .i32⟩
  | 118 => ⟨S_, .i32⟩
  | 119 => ⟨S128x1, .i32⟩
  | 120 => ⟨S128x1, .i32⟩
  | 121 => ⟨S_, .i32⟩
  | 122 => ⟨S128x1, .i32⟩
  | 123 => ⟨S128x1, .i32⟩
  | 124 => ⟨S_, .i32⟩
  | 125 => ⟨S128x1, .i32⟩
  | 126 => ⟨S128x1, .i32⟩
  | 127 => ⟨S128x1, .i1⟩
  | _ => ⟨S8192x8192, .f32⟩

abbrev hbmTy0_2 (i : Nat) : BufTy := match i % 128 with
  | 0 => ⟨S128x128, .i32⟩
  | 1 => ⟨S128x128, .i32⟩
  | 2 => ⟨S128x128, .i1⟩
  | 3 => ⟨S128x128, .i32⟩
  | 4 => ⟨S128x128, .i32⟩
  | 5 => ⟨S128x128, .i1⟩
  | 6 => ⟨S128x128, .i1⟩
  | 7 => ⟨S128x128, .i32⟩
  | 8 => ⟨S128x128, .i32⟩
  | 9 => ⟨S128x128, .i1⟩
  | 10 => ⟨S128x128, .i32⟩
  | 11 => ⟨S128x128, .i32⟩
  | 12 => ⟨S128x128, .i1⟩
  | 13 => ⟨S128x128, .i1⟩
  | 14 => ⟨S128x128, .i1⟩
  | 15 => ⟨S128x128, .i1⟩
  | 16 => ⟨S_, .i32⟩
  | 17 => ⟨S1x128, .i32⟩
  | 18 => ⟨S1x128, .i32⟩
  | 19 => ⟨S_, .i32⟩
  | 20 => ⟨S1x128, .i32⟩
  | 21 => ⟨S1x128, .i32⟩
  | 22 => ⟨S_, .i32⟩
  | 23 => ⟨S1x128, .i32⟩
  | 24 => ⟨S1x128, .i32⟩
  | 25 => ⟨S_, .i32⟩
  | 26 => ⟨S1x128, .i32⟩
  | 27 => ⟨S1x128, .i32⟩
  | 28 => ⟨S_, .i32⟩
  | 29 => ⟨S128x1, .i32⟩
  | 30 => ⟨S128x1, .i32⟩
  | 31 => ⟨S_, .i32⟩
  | 32 => ⟨S1x128, .i32⟩
  | 33 => ⟨S1x128, .i32⟩
  | 34 => ⟨S128x128, .i32⟩
  | 35 => ⟨S128x128, .i32⟩
  | 36 => ⟨S128x128, .i1⟩
  | 37 => ⟨S128x128, .i1⟩
  | 38 => ⟨S128x128, .i1⟩
  | 39 => ⟨S1x128, .i1⟩
  | 40 => ⟨S128x128, .i1⟩
  | 41 => ⟨S128x128, .i1⟩
  | 42 => ⟨S_, .i32⟩
  | 43 => ⟨S128x1, .i32⟩
  | 44 => ⟨S128x1, .i32⟩
  | 45 => ⟨S_, .i32⟩
  | 46 => ⟨S128x1, .i32⟩
  | 47 => ⟨S128x1, .i32⟩
  | 48 => ⟨S_, .i32⟩
  | 49 => ⟨S128x1, .i32⟩
  | 50 => ⟨S128x1, .i32⟩
  | 51 => ⟨S_, .i32⟩
  | 52 => ⟨S128x1, .i32⟩
  | 53 => ⟨S128x1, .i32⟩
  | 54 => ⟨S128x1, .i1⟩
  | 55 => ⟨S128x128, .i32⟩
  | 56 => ⟨S128x128, .i32⟩
  | 57 => ⟨S128x128, .i1⟩
  | 58 => ⟨S128x128, .i32⟩
  | 59 => ⟨S128x128, .i32⟩
  | 60 => ⟨S128x128, .i1⟩
  | 61 => ⟨S128x128, .i1⟩
  | 62 => ⟨S128x128, .i32⟩
  | 63 => ⟨S128x128, .i32⟩
  | 64 => ⟨S128x128, .i1⟩
  | 65 => ⟨S128x128, .i32⟩
  | 66 => ⟨S128x128, .i32⟩
  | 67 => ⟨S128x128, .i1⟩
  | 68 => ⟨S128x128, .i1⟩
  | 69 => ⟨S128x128, .i1⟩
  | 70 => ⟨S128x128, .i1⟩
  | 71 => ⟨S_, .i32⟩
  | 72 => ⟨S1x128, .i32⟩
  | 73 => ⟨S1x128, .i32⟩
  | 74 => ⟨S_, .i32⟩
  | 75 => ⟨S1x128, .i32⟩
  | 76 => ⟨S1x128, .i32⟩
  | 77 => ⟨S_, .i32⟩
  | 78 => ⟨S1x128, .i32⟩
  | 79 => ⟨S1x128, .i32⟩
  | 80 => ⟨S_, .i32⟩
  | 81 => ⟨S1x128, .i32⟩
  | 82 => ⟨S1x128, .i32⟩
  | 83 => ⟨S_, .i32⟩
  | 84 => ⟨S128x1, .i32⟩
  | 85 => ⟨S128x1, .i32⟩
  | 86 => ⟨S_, .i32⟩
  | 87 => ⟨S1x128, .i32⟩
  | 88 => ⟨S1x128, .i32⟩
  | 89 => ⟨S128x128, .i32⟩
  | 90 => ⟨S128x128, .i32⟩
  | 91 => ⟨S128x128, .i1⟩
  | 92 => ⟨S128x128, .i1⟩
  | 93 => ⟨S128x128, .i1⟩
  | 94 => ⟨S1x128, .i1⟩
  | 95 => ⟨S128x128, .i1⟩
  | 96 => ⟨S128x128, .i1⟩
  | 97 => ⟨S_, .i32⟩
  | 98 => ⟨S128x1, .i32⟩
  | 99 => ⟨S128x1, .i32⟩
  | 100 => ⟨S_, .i32⟩
  | 101 => ⟨S128x1, .i32⟩
  | 102 => ⟨S128x1, .i32⟩
  | 103 => ⟨S_, .i32⟩
  | 104 => ⟨S128x1, .i32⟩
  | 105 => ⟨S128x1, .i32⟩
  | 106 => ⟨S_, .i32⟩
  | 107 => ⟨S128x1, .i32⟩
  | 108 => ⟨S128x1, .i32⟩
  | 109 => ⟨S128x1, .i1⟩
  | 110 => ⟨S128x128, .i32⟩
  | 111 => ⟨S128x128, .i32⟩
  | 112 => ⟨S128x128, .i1⟩
  | 113 => ⟨S128x128, .i32⟩
  | 114 => ⟨S128x128, .i32⟩
  | 115 => ⟨S128x128, .i1⟩
  | 116 => ⟨S128x128, .i1⟩
  | 117 => ⟨S128x128, .i32⟩
  | 118 => ⟨S128x128, .i32⟩
  | 119 => ⟨S128x128, .i1⟩
  | 120 => ⟨S128x128, .i32⟩
  | 121 => ⟨S128x128, .i32⟩
  | 122 => ⟨S128x128, .i1⟩
  | 123 => ⟨S128x128, .i1⟩
  | 124 => ⟨S128x128, .i1⟩
  | 125 => ⟨S128x128, .i1⟩
  | 126 => ⟨S_, .i32⟩
  | 127 => ⟨S1x128, .i32⟩
  | _ => ⟨S8192x8192, .f32⟩

abbrev hbmTy0_3 (i : Nat) : BufTy := match i % 128 with
  | 0 => ⟨S1x128, .i32⟩
  | 1 => ⟨S_, .i32⟩
  | 2 => ⟨S1x128, .i32⟩
  | 3 => ⟨S1x128, .i32⟩
  | 4 => ⟨S_, .i32⟩
  | 5 => ⟨S1x128, .i32⟩
  | 6 => ⟨S1x128, .i32⟩
  | 7 => ⟨S_, .i32⟩
  | 8 => ⟨S1x128, .i32⟩
  | 9 => ⟨S1x128, .i32⟩
  | 10 => ⟨S_, .i32⟩
  | 11 => ⟨S128x1, .i32⟩
  | 12 => ⟨S128x1, .i32⟩
  | 13 => ⟨S_, .i32⟩
  | 14 => ⟨S1x128, .i32⟩
  | 15 => ⟨S1x128, .i32⟩
  | 16 => ⟨S128x128, .i32⟩
  | 17 => ⟨S128x128, .i32⟩
  | 18 => ⟨S128x128, .i1⟩
  | 19 => ⟨S128x128, .i1⟩
  | 20 => ⟨S128x128, .i1⟩
  | 21 => ⟨S1x128, .i1⟩
  | 22 => ⟨S128x128, .i1⟩
  | 23 => ⟨S128x128, .i1⟩
  | 24 => ⟨S128x128, .i32⟩
  | 25 => ⟨S128x128, .i32⟩
  | 26 => ⟨S128x128, .i1⟩
  | 27 => ⟨S1152x128, .i1⟩
  | 28 => ⟨S1152x128, .f32⟩
  | 29 => ⟨S1152x256, .f32⟩
  | 30 => ⟨S1152x256, .bf16⟩
  | 31 => ⟨S1x128x128, .i1⟩
  | 32 => ⟨S1x128x128, .i1⟩
  | 33 => ⟨S1x128x128, .i1⟩
  | 34 => ⟨S1x128x128, .i1⟩
  | 35 => ⟨S1x128x128, .i1⟩
  | 36 => ⟨S1x128x128, .i1⟩
  | 37 => ⟨S1x128x128, .i1⟩
  | 38 => ⟨S1x128x128, .i1⟩
  | 39 => ⟨S8x128x128, .i1⟩
  | 40 => ⟨S8x128x128, .f32⟩
  | 41 => ⟨S1x2048, .f32⟩
  | 42 => ⟨S8192x2048, .bf16⟩
  | _ => ⟨S8192x8192, .f32⟩

abbrev hbmTy (i : Nat) : BufTy := match i / 128 with
  | 0 => hbmTy0_0 i
  | 1 => hbmTy0_1 i
  | 2 => hbmTy0_2 i
  | 3 => hbmTy0_3 i
  | _ => ⟨S8192x8192, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S1152x256, .bf16⟩
  | .local _ .vmem, ⟨13, _⟩ => ⟨S8x128x128, .f32⟩
  | .local _ .vmem, ⟨14, _⟩ => ⟨S512x128, .bf16⟩
  | .local _ .vmem, ⟨15, _⟩ => ⟨S512x128, .bf16⟩
  | .local _ .vmem, ⟨16, _⟩ => ⟨S128x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_call0_v0 : Ref sig .tc := ⟨.hbm, 50, rfl⟩
abbrev main_v42 : Ref sig .tc := ⟨.hbm, 51, rfl⟩
abbrev main_c_3 : Ref sig .tc := ⟨.hbm, 52, rfl⟩
abbrev main_v43 : Ref sig .tc := ⟨.hbm, 53, rfl⟩
abbrev main_v44 : Ref sig .tc := ⟨.hbm, 54, rfl⟩
abbrev main_c_4 : Ref sig .tc := ⟨.hbm, 55, rfl⟩
abbrev main_v45 : Ref sig .tc := ⟨.hbm, 56, rfl⟩
abbrev main_v46 : Ref sig .tc := ⟨.hbm, 57, rfl⟩
abbrev main_c_5 : Ref sig .tc := ⟨.hbm, 58, rfl⟩
abbrev main_v47 : Ref sig .tc := ⟨.hbm, 59, rfl⟩
abbrev main_v48 : Ref sig .tc := ⟨.hbm, 60, rfl⟩
abbrev main_c_6 : Ref sig .tc := ⟨.hbm, 61, rfl⟩
abbrev main_v49 : Ref sig .tc := ⟨.hbm, 62, rfl⟩
abbrev main_v50 : Ref sig .tc := ⟨.hbm, 63, rfl⟩
abbrev main_c_7 : Ref sig .tc := ⟨.hbm, 64, rfl⟩
abbrev main_v51 : Ref sig .tc := ⟨.hbm, 65, rfl⟩
abbrev main_v52 : Ref sig .tc := ⟨.hbm, 66, rfl⟩
abbrev main_c_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_c_9 : Ref sig .tc := ⟨.hbm, 78, rfl⟩
abbrev main_v63 : Ref sig .tc := ⟨.hbm, 79, rfl⟩
abbrev main_v64 : Ref sig .tc := ⟨.hbm, 80, rfl⟩
abbrev main_c_10 : Ref sig .tc := ⟨.hbm, 81, rfl⟩
abbrev main_v65 : Ref sig .tc := ⟨.hbm, 82, rfl⟩
abbrev main_v66 : Ref sig .tc := ⟨.hbm, 83, rfl⟩
abbrev main_c_11 : Ref sig .tc := ⟨.hbm, 84, rfl⟩
abbrev main_v67 : Ref sig .tc := ⟨.hbm, 85, rfl⟩
abbrev main_v68 : Ref sig .tc := ⟨.hbm, 86, rfl⟩
abbrev main_c_12 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_call1_v0 : Ref sig .tc := ⟨.hbm, 105, rfl⟩
abbrev main_v86 : Ref sig .tc := ⟨.hbm, 106, rfl⟩
abbrev main_c_13 : Ref sig .tc := ⟨.hbm, 107, rfl⟩
abbrev main_v87 : Ref sig .tc := ⟨.hbm, 108, rfl⟩
abbrev main_v88 : Ref sig .tc := ⟨.hbm, 109, rfl⟩
abbrev main_c_14 : Ref sig .tc := ⟨.hbm, 110, rfl⟩
abbrev main_v89 : Ref sig .tc := ⟨.hbm, 111, rfl⟩
abbrev main_v90 : Ref sig .tc := ⟨.hbm, 112, rfl⟩
abbrev main_c_15 : Ref sig .tc := ⟨.hbm, 113, rfl⟩
abbrev main_v91 : Ref sig .tc := ⟨.hbm, 114, rfl⟩
abbrev main_v92 : Ref sig .tc := ⟨.hbm, 115, rfl⟩
abbrev main_c_16 : Ref sig .tc := ⟨.hbm, 116, rfl⟩
abbrev main_v93 : Ref sig .tc := ⟨.hbm, 117, rfl⟩
abbrev main_v94 : Ref sig .tc := ⟨.hbm, 118, rfl⟩
abbrev main_c_17 : Ref sig .tc := ⟨.hbm, 119, rfl⟩
abbrev main_v95 : Ref sig .tc := ⟨.hbm, 120, rfl⟩
abbrev main_v96 : Ref sig .tc := ⟨.hbm, 121, rfl⟩
abbrev main_c_18 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_c_19 : Ref sig .tc := ⟨.hbm, 133, rfl⟩
abbrev main_v107 : Ref sig .tc := ⟨.hbm, 134, rfl⟩
abbrev main_v108 : Ref sig .tc := ⟨.hbm, 135, rfl⟩
abbrev main_c_20 : Ref sig .tc := ⟨.hbm, 136, rfl⟩
abbrev main_v109 : Ref sig .tc := ⟨.hbm, 137, rfl⟩
abbrev main_v110 : Ref sig .tc := ⟨.hbm, 138, rfl⟩
abbrev main_c_21 : Ref sig .tc := ⟨.hbm, 139, rfl⟩
abbrev main_v111 : Ref sig .tc := ⟨.hbm, 140, rfl⟩
abbrev main_v112 : Ref sig .tc := ⟨.hbm, 141, rfl⟩
abbrev main_c_22 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_call2_v0 : Ref sig .tc := ⟨.hbm, 160, rfl⟩
abbrev main_v130 : Ref sig .tc := ⟨.hbm, 161, rfl⟩
abbrev main_c_23 : Ref sig .tc := ⟨.hbm, 162, rfl⟩
abbrev main_v131 : Ref sig .tc := ⟨.hbm, 163, rfl⟩
abbrev main_v132 : Ref sig .tc := ⟨.hbm, 164, rfl⟩
abbrev main_c_24 : Ref sig .tc := ⟨.hbm, 165, rfl⟩
abbrev main_v133 : Ref sig .tc := ⟨.hbm, 166, rfl⟩
abbrev main_v134 : Ref sig .tc := ⟨.hbm, 167, rfl⟩
abbrev main_c_25 : Ref sig .tc := ⟨.hbm, 168, rfl⟩
abbrev main_v135 : Ref sig .tc := ⟨.hbm, 169, rfl⟩
abbrev main_v136 : Ref sig .tc := ⟨.hbm, 170, rfl⟩
abbrev main_c_26 : Ref sig .tc := ⟨.hbm, 171, rfl⟩
abbrev main_v137 : Ref sig .tc := ⟨.hbm, 172, rfl⟩
abbrev main_v138 : Ref sig .tc := ⟨.hbm, 173, rfl⟩
abbrev main_c_27 : Ref sig .tc := ⟨.hbm, 174, rfl⟩
abbrev main_v139 : Ref sig .tc := ⟨.hbm, 175, rfl⟩
abbrev main_v140 : Ref sig .tc := ⟨.hbm, 176, rfl⟩
abbrev main_c_28 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_c_29 : Ref sig .tc := ⟨.hbm, 188, rfl⟩
abbrev main_v151 : Ref sig .tc := ⟨.hbm, 189, rfl⟩
abbrev main_v152 : Ref sig .tc := ⟨.hbm, 190, rfl⟩
abbrev main_c_30 : Ref sig .tc := ⟨.hbm, 191, rfl⟩
abbrev main_v153 : Ref sig .tc := ⟨.hbm, 192, rfl⟩
abbrev main_v154 : Ref sig .tc := ⟨.hbm, 193, rfl⟩
abbrev main_c_31 : Ref sig .tc := ⟨.hbm, 194, rfl⟩
abbrev main_v155 : Ref sig .tc := ⟨.hbm, 195, rfl⟩
abbrev main_v156 : Ref sig .tc := ⟨.hbm, 196, rfl⟩
abbrev main_c_32 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_call3_v0 : Ref sig .tc := ⟨.hbm, 215, rfl⟩
abbrev main_v174 : Ref sig .tc := ⟨.hbm, 216, rfl⟩
abbrev main_c_33 : Ref sig .tc := ⟨.hbm, 217, rfl⟩
abbrev main_v175 : Ref sig .tc := ⟨.hbm, 218, rfl⟩
abbrev main_v176 : Ref sig .tc := ⟨.hbm, 219, rfl⟩
abbrev main_c_34 : Ref sig .tc := ⟨.hbm, 220, rfl⟩
abbrev main_v177 : Ref sig .tc := ⟨.hbm, 221, rfl⟩
abbrev main_v178 : Ref sig .tc := ⟨.hbm, 222, rfl⟩
abbrev main_c_35 : Ref sig .tc := ⟨.hbm, 223, rfl⟩
abbrev main_v179 : Ref sig .tc := ⟨.hbm, 224, rfl⟩
abbrev main_v180 : Ref sig .tc := ⟨.hbm, 225, rfl⟩
abbrev main_c_36 : Ref sig .tc := ⟨.hbm, 226, rfl⟩
abbrev main_v181 : Ref sig .tc := ⟨.hbm, 227, rfl⟩
abbrev main_v182 : Ref sig .tc := ⟨.hbm, 228, rfl⟩
abbrev main_c_37 : Ref sig .tc := ⟨.hbm, 229, rfl⟩
abbrev main_v183 : Ref sig .tc := ⟨.hbm, 230, rfl⟩
abbrev main_v184 : Ref sig .tc := ⟨.hbm, 231, rfl⟩
abbrev main_c_38 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_c_39 : Ref sig .tc := ⟨.hbm, 243, rfl⟩
abbrev main_v195 : Ref sig .tc := ⟨.hbm, 244, rfl⟩
abbrev main_v196 : Ref sig .tc := ⟨.hbm, 245, rfl⟩
abbrev main_c_40 : Ref sig .tc := ⟨.hbm, 246, rfl⟩
abbrev main_v197 : Ref sig .tc := ⟨.hbm, 247, rfl⟩
abbrev main_v198 : Ref sig .tc := ⟨.hbm, 248, rfl⟩
abbrev main_c_41 : Ref sig .tc := ⟨.hbm, 249, rfl⟩
abbrev main_v199 : Ref sig .tc := ⟨.hbm, 250, rfl⟩
abbrev main_v200 : Ref sig .tc := ⟨.hbm, 251, rfl⟩
abbrev main_c_42 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_call4_v0 : Ref sig .tc := ⟨.hbm, 270, rfl⟩
abbrev main_v218 : Ref sig .tc := ⟨.hbm, 271, rfl⟩
abbrev main_c_43 : Ref sig .tc := ⟨.hbm, 272, rfl⟩
abbrev main_v219 : Ref sig .tc := ⟨.hbm, 273, rfl⟩
abbrev main_v220 : Ref sig .tc := ⟨.hbm, 274, rfl⟩
abbrev main_c_44 : Ref sig .tc := ⟨.hbm, 275, rfl⟩
abbrev main_v221 : Ref sig .tc := ⟨.hbm, 276, rfl⟩
abbrev main_v222 : Ref sig .tc := ⟨.hbm, 277, rfl⟩
abbrev main_c_45 : Ref sig .tc := ⟨.hbm, 278, rfl⟩
abbrev main_v223 : Ref sig .tc := ⟨.hbm, 279, rfl⟩
abbrev main_v224 : Ref sig .tc := ⟨.hbm, 280, rfl⟩
abbrev main_c_46 : Ref sig .tc := ⟨.hbm, 281, rfl⟩
abbrev main_v225 : Ref sig .tc := ⟨.hbm, 282, rfl⟩
abbrev main_v226 : Ref sig .tc := ⟨.hbm, 283, rfl⟩
abbrev main_c_47 : Ref sig .tc := ⟨.hbm, 284, rfl⟩
abbrev main_v227 : Ref sig .tc := ⟨.hbm, 285, rfl⟩
abbrev main_v228 : Ref sig .tc := ⟨.hbm, 286, rfl⟩
abbrev main_c_48 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_c_49 : Ref sig .tc := ⟨.hbm, 298, rfl⟩
abbrev main_v239 : Ref sig .tc := ⟨.hbm, 299, rfl⟩
abbrev main_v240 : Ref sig .tc := ⟨.hbm, 300, rfl⟩
abbrev main_c_50 : Ref sig .tc := ⟨.hbm, 301, rfl⟩
abbrev main_v241 : Ref sig .tc := ⟨.hbm, 302, rfl⟩
abbrev main_v242 : Ref sig .tc := ⟨.hbm, 303, rfl⟩
abbrev main_c_51 : Ref sig .tc := ⟨.hbm, 304, rfl⟩
abbrev main_v243 : Ref sig .tc := ⟨.hbm, 305, rfl⟩
abbrev main_v244 : Ref sig .tc := ⟨.hbm, 306, rfl⟩
abbrev main_c_52 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_call5_v0 : Ref sig .tc := ⟨.hbm, 325, rfl⟩
abbrev main_v262 : Ref sig .tc := ⟨.hbm, 326, rfl⟩
abbrev main_c_53 : Ref sig .tc := ⟨.hbm, 327, rfl⟩
abbrev main_v263 : Ref sig .tc := ⟨.hbm, 328, rfl⟩
abbrev main_v264 : Ref sig .tc := ⟨.hbm, 329, rfl⟩
abbrev main_c_54 : Ref sig .tc := ⟨.hbm, 330, rfl⟩
abbrev main_v265 : Ref sig .tc := ⟨.hbm, 331, rfl⟩
abbrev main_v266 : Ref sig .tc := ⟨.hbm, 332, rfl⟩
abbrev main_c_55 : Ref sig .tc := ⟨.hbm, 333, rfl⟩
abbrev main_v267 : Ref sig .tc := ⟨.hbm, 334, rfl⟩
abbrev main_v268 : Ref sig .tc := ⟨.hbm, 335, rfl⟩
abbrev main_c_56 : Ref sig .tc := ⟨.hbm, 336, rfl⟩
abbrev main_v269 : Ref sig .tc := ⟨.hbm, 337, rfl⟩
abbrev main_v270 : Ref sig .tc := ⟨.hbm, 338, rfl⟩
abbrev main_c_57 : Ref sig .tc := ⟨.hbm, 339, rfl⟩
abbrev main_v271 : Ref sig .tc := ⟨.hbm, 340, rfl⟩
abbrev main_v272 : Ref sig .tc := ⟨.hbm, 341, rfl⟩
abbrev main_c_58 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_v278 : Ref sig .tc := ⟨.hbm, 348, rfl⟩
abbrev main_v279 : Ref sig .tc := ⟨.hbm, 349, rfl⟩
abbrev main_v280 : Ref sig .tc := ⟨.hbm, 350, rfl⟩
abbrev main_v281 : Ref sig .tc := ⟨.hbm, 351, rfl⟩
abbrev main_v282 : Ref sig .tc := ⟨.hbm, 352, rfl⟩
abbrev main_c_59 : Ref sig .tc := ⟨.hbm, 353, rfl⟩
abbrev main_v283 : Ref sig .tc := ⟨.hbm, 354, rfl⟩
abbrev main_v284 : Ref sig .tc := ⟨.hbm, 355, rfl⟩
abbrev main_c_60 : Ref sig .tc := ⟨.hbm, 356, rfl⟩
abbrev main_v285 : Ref sig .tc := ⟨.hbm, 357, rfl⟩
abbrev main_v286 : Ref sig .tc := ⟨.hbm, 358, rfl⟩
abbrev main_c_61 : Ref sig .tc := ⟨.hbm, 359, rfl⟩
abbrev main_v287 : Ref sig .tc := ⟨.hbm, 360, rfl⟩
abbrev main_v288 : Ref sig .tc := ⟨.hbm, 361, rfl⟩
abbrev main_c_62 : Ref sig .tc := ⟨.hbm, 362, rfl⟩
abbrev main_v289 : Ref sig .tc := ⟨.hbm, 363, rfl⟩
abbrev main_v290 : Ref sig .tc := ⟨.hbm, 364, rfl⟩
abbrev main_v291 : Ref sig .tc := ⟨.hbm, 365, rfl⟩
abbrev main_v292 : Ref sig .tc := ⟨.hbm, 366, rfl⟩
abbrev main_v293 : Ref sig .tc := ⟨.hbm, 367, rfl⟩
abbrev main_v294 : Ref sig .tc := ⟨.hbm, 368, rfl⟩
abbrev main_v295 : Ref sig .tc := ⟨.hbm, 369, rfl⟩
abbrev main_v296 : Ref sig .tc := ⟨.hbm, 370, rfl⟩
abbrev main_v297 : Ref sig .tc := ⟨.hbm, 371, rfl⟩
abbrev main_v298 : Ref sig .tc := ⟨.hbm, 372, rfl⟩
abbrev main_v299 : Ref sig .tc := ⟨.hbm, 373, rfl⟩
abbrev main_v300 : Ref sig .tc := ⟨.hbm, 374, rfl⟩
abbrev main_v301 : Ref sig .tc := ⟨.hbm, 375, rfl⟩
abbrev main_v302 : Ref sig .tc := ⟨.hbm, 376, rfl⟩
abbrev main_v303 : Ref sig .tc := ⟨.hbm, 377, rfl⟩
abbrev main_v304 : Ref sig .tc := ⟨.hbm, 378, rfl⟩
abbrev main_v305 : Ref sig .tc := ⟨.hbm, 379, rfl⟩
abbrev main_call6_v0 : Ref sig .tc := ⟨.hbm, 380, rfl⟩
abbrev main_v306 : Ref sig .tc := ⟨.hbm, 381, rfl⟩
abbrev main_c_63 : Ref sig .tc := ⟨.hbm, 382, rfl⟩
abbrev main_v307 : Ref sig .tc := ⟨.hbm, 383, rfl⟩
abbrev main_v308 : Ref sig .tc := ⟨.hbm, 384, rfl⟩
abbrev main_c_64 : Ref sig .tc := ⟨.hbm, 385, rfl⟩
abbrev main_v309 : Ref sig .tc := ⟨.hbm, 386, rfl⟩
abbrev main_v310 : Ref sig .tc := ⟨.hbm, 387, rfl⟩
abbrev main_c_65 : Ref sig .tc := ⟨.hbm, 388, rfl⟩
abbrev main_v311 : Ref sig .tc := ⟨.hbm, 389, rfl⟩
abbrev main_v312 : Ref sig .tc := ⟨.hbm, 390, rfl⟩
abbrev main_c_66 : Ref sig .tc := ⟨.hbm, 391, rfl⟩
abbrev main_v313 : Ref sig .tc := ⟨.hbm, 392, rfl⟩
abbrev main_v314 : Ref sig .tc := ⟨.hbm, 393, rfl⟩
abbrev main_c_67 : Ref sig .tc := ⟨.hbm, 394, rfl⟩
abbrev main_v315 : Ref sig .tc := ⟨.hbm, 395, rfl⟩
abbrev main_v316 : Ref sig .tc := ⟨.hbm, 396, rfl⟩
abbrev main_c_68 : Ref sig .tc := ⟨.hbm, 397, rfl⟩
abbrev main_v317 : Ref sig .tc := ⟨.hbm, 398, rfl⟩
abbrev main_v318 : Ref sig .tc := ⟨.hbm, 399, rfl⟩
abbrev main_v319 : Ref sig .tc := ⟨.hbm, 400, rfl⟩
abbrev main_v320 : Ref sig .tc := ⟨.hbm, 401, rfl⟩
abbrev main_v321 : Ref sig .tc := ⟨.hbm, 402, rfl⟩
abbrev main_v322 : Ref sig .tc := ⟨.hbm, 403, rfl⟩
abbrev main_v323 : Ref sig .tc := ⟨.hbm, 404, rfl⟩
abbrev main_v324 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_v339 : Ref sig .tc := ⟨.hbm, 420, rfl⟩
abbrev main_v340 : Ref sig .tc := ⟨.hbm, 421, rfl⟩
abbrev main_v341 : Ref sig .tc := ⟨.hbm, 422, rfl⟩
abbrev main_v342 : Ref sig .tc := ⟨.hbm, 423, rfl⟩
abbrev main_v343 : Ref sig .tc := ⟨.hbm, 424, rfl⟩
abbrev main_v344 : Ref sig .tc := ⟨.hbm, 425, rfl⟩
abbrev main_v345 : Ref sig .tc := ⟨.hbm, 426, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1152x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8192x8192 : Shape := ⟨2, ![8192, 8192]⟩
abbrev S2048 : Shape := ⟨1, ![2048]⟩
abbrev S8192x2048 : Shape := ⟨2, ![8192, 2048]⟩
abbrev S_ : Shape := ⟨0, ![]⟩
abbrev S1x2048 : Shape := ⟨2, ![1, 2048]⟩
abbrev S16x128x128 : Shape := ⟨3, ![16, 128, 128]⟩
abbrev S8192x16x128 : Shape := ⟨3, ![8192, 16, 128]⟩
abbrev S1x16x128 : Shape := ⟨3, ![1, 16, 128]⟩
abbrev S16x128 : Shape := ⟨2, ![16, 128]⟩
abbrev S16x128x1 : Shape := ⟨3, ![16, 128, 1]⟩
abbrev S16x1x128 : Shape := ⟨3, ![16, 1, 128]⟩
abbrev S8192x16 : Shape := ⟨2, ![8192, 16]⟩
abbrev S8192x16x1 : Shape := ⟨3, ![8192, 16, 1]⟩

abbrev nBuf : Space → Nat
  | .hbm => 151
  | .vmem => 0
  | .smem => 0
  | _ => 0

abbrev hbmTy0_0 (i : Nat) : BufTy := match i % 128 with
  | 0 => ⟨S8192x8192, .f32⟩
  | 1 => ⟨S2048, .f32⟩
  | 2 => ⟨S2048, .f32⟩
  | 3 => ⟨S8192x2048, .f32⟩
  | 4 => ⟨S8192x2048, .f32⟩
  | 5 => ⟨S8192x2048, .f32⟩
  | 6 => ⟨S2048, .f32⟩
  | 7 => ⟨S2048, .f32⟩
  | 8 => ⟨S2048, .f32⟩
  | 9 => ⟨S8192x2048, .f32⟩
  | 10 => ⟨S_, .f32⟩
  | 11 => ⟨S8192x2048, .f32⟩
  | 12 => ⟨S8192x2048, .f32⟩
  | 13 => ⟨S8192x2048, .f32⟩
  | 14 => ⟨S8192x2048, .f32⟩
  | 15 => ⟨S8192x2048, .i1⟩
  | 16 => ⟨S8192x2048, .f32⟩
  | 17 => ⟨S8192x2048, .f32⟩
  | 18 => ⟨S8192x2048, .f32⟩
  | 19 => ⟨S8192x2048, .f32⟩
  | 20 => ⟨S8192x2048, .f32⟩
  | 21 => ⟨S8192x2048, .f32⟩
  | 22 => ⟨S8192x2048, .f32⟩
  | 23 => ⟨S8192x2048, .f32⟩
  | 24 => ⟨S8192x2048, .f32⟩
  | 25 => ⟨S1x2048, .f32⟩
  | 26 => ⟨S8192x2048, .f32⟩
  | 27 => ⟨S8192x2048, .f32⟩
  | 28 => ⟨S1x2048, .f32⟩
  | 29 => ⟨S8192x2048, .f32⟩
  | 30 => ⟨S8192x2048, .f32⟩
  | 31 => ⟨S8192x2048, .f32⟩
  | 32 => ⟨S8192x2048, .f32⟩
  | 33 => ⟨S8192x2048, .i1⟩
  | 34 => ⟨S8192x2048, .f32⟩
  | 35 => ⟨S8192x2048, .f32⟩
  | 36 => ⟨S8192x2048, .f32⟩
  | 37 => ⟨S8192x2048, .f32⟩
  | 38 => ⟨S8192x2048, .f32⟩
  | 39 => ⟨S8192x2048, .f32⟩
  | 40 => ⟨S8192x2048, .f32⟩
  | 41 => ⟨S8192x2048, .f32⟩
  | 42 => ⟨S_, .f32⟩
  | 43 => ⟨S2048, .f32⟩
  | 44 => ⟨S2048, .f32⟩
  | 45 => ⟨S8192x2048, .f32⟩
  | 46 => ⟨S8192x2048, .f32⟩
  | 47 => ⟨S8192x2048, .f32⟩
  | 48 => ⟨S_, .f32⟩
  | 49 => ⟨S8192x2048, .f32⟩
  | 50 => ⟨S8192x2048, .f32⟩
  | 51 => ⟨S_, .f32⟩
  | 52 => ⟨S8192x2048, .f32⟩
  | 53 => ⟨S8192x2048, .f32⟩
  | 54 => ⟨S1x2048, .f32⟩
  | 55 => ⟨S8192x2048, .f32⟩
  | 56 => ⟨S8192x2048, .f32⟩
  | 57 => ⟨S_, .f32⟩
  | 58 => ⟨S16x128x128, .f32⟩
  | 59 => ⟨S8192x2048, .f32⟩
  | 60 => ⟨S8192x2048, .f32⟩
  | 61 => ⟨S_, .f32⟩
  | 62 => ⟨S8192x2048, .f32⟩
  | 63 => ⟨S8192x2048, .f32⟩
  | 64 => ⟨S_, .f32⟩
  | 65 => ⟨S8192x2048, .f32⟩
  | 66 => ⟨S8192x2048, .f32⟩
  | 67 => ⟨S8192x2048, .f32⟩
  | 68 => ⟨S8192x16x128, .f32⟩
  | 69 => ⟨S8192x16x128, .f32⟩
  | 70 => ⟨S8192x16x128, .f32⟩
  | 71 => ⟨S8192x16x128, .f32⟩
  | 72 => ⟨S_, .f32⟩
  | 73 => ⟨S8192x16x128, .f32⟩
  | 74 => ⟨S_, .i32⟩
  | 75 => ⟨S8192x16x128, .f32⟩
  | 76 => ⟨S8192x16x128, .f32⟩
  | 77 => ⟨S8192x16x128, .f32⟩
  | 78 => ⟨S8192x16x128, .f32⟩
  | 79 => ⟨S_, .i32⟩
  | 80 => ⟨S16x128x128, .f32⟩
  | 81 => ⟨S8192x16x128, .f32⟩
  | 82 => ⟨S_, .i32⟩
  | 83 => ⟨S_, .i1⟩
  | 84 => ⟨S_, .i32⟩
  | 85 => ⟨S_, .i32⟩
  | 86 => ⟨S1x16x128, .f32⟩
  | 87 => ⟨S16x128, .f32⟩
  | 88 => ⟨S_, .i32⟩
  | 89 => ⟨S_, .i32⟩
  | 90 => ⟨S1x16x128, .f32⟩
  | 91 => ⟨S16x128, .f32⟩
  | 92 => ⟨S_, .i32⟩
  | 93 => ⟨S_, .i32⟩
  | 94 => ⟨S1x16x128, .f32⟩
  | 95 => ⟨S16x128, .f32⟩
  | 96 => ⟨S_, .i32⟩
  | 97 => ⟨S_, .i32⟩
  | 98 => ⟨S1x16x128, .f32⟩
  | 99 => ⟨S16x128, .f32⟩
  | 100 => ⟨S16x128, .f32⟩
  | 101 => ⟨S16x128x1, .f32⟩
  | 102 => ⟨S16x128x128, .f32⟩
  | 103 => ⟨S16x128x128, .f32⟩
  | 104 => ⟨S16x128x1, .f32⟩
  | 105 => ⟨S16x1x128, .f32⟩
  | 106 => ⟨S16x128x128, .f32⟩
  | 107 => ⟨S16x128x128, .f32⟩
  | 108 => ⟨S16x128x128, .f32⟩
  | 109 => ⟨S16x128x128, .f32⟩
  | 110 => ⟨S16x128x1, .f32⟩
  | 111 => ⟨S16x128x128, .f32⟩
  | 112 => ⟨S16x128x128, .f32⟩
  | 113 => ⟨S_, .f32⟩
  | 114 => ⟨S16x128, .f32⟩
  | 115 => ⟨S1x16x128, .f32⟩
  | 116 => ⟨S_, .i32⟩
  | 117 => ⟨S_, .i32⟩
  | 118 => ⟨S8192x16x128, .f32⟩
  | 119 => ⟨S_, .i32⟩
  | 120 => ⟨S_, .i32⟩
  | 121 => ⟨S8192x16x128, .f32⟩
  | 122 => ⟨S_, .f32⟩
  | 123 => ⟨S8192x16, .f32⟩
  | 124 => ⟨S8192x16x1, .f32⟩
  | 125 => ⟨S_, .f32⟩
  | 126 => ⟨S8192x16x1, .f32⟩
  | 127 => ⟨S8192x16x1, .f32⟩
  | _ => ⟨S8192x8192, .f32⟩

abbrev hbmTy0_1 (i : Nat) : BufTy := match i % 128 with
  | 0 => ⟨S_, .f32⟩
  | 1 => ⟨S8192x16x1, .f32⟩
  | 2 => ⟨S8192x16x1, .f32⟩
  | 3 => ⟨S8192x16x1, .f32⟩
  | 4 => ⟨S8192x16x128, .f32⟩
  | 5 => ⟨S8192x16x128, .f32⟩
  | 6 => ⟨S16x128, .f32⟩
  | 7 => ⟨S1x16x128, .f32⟩
  | 8 => ⟨S8192x16x128, .f32⟩
  | 9 => ⟨S8192x16x128, .f32⟩
  | 10 => ⟨S8192x2048, .f32⟩
  | 11 => ⟨S8192x2048, .f32⟩
  | 12 => ⟨S8192x2048, .f32⟩
  | 13 => ⟨S8192x2048, .f32⟩
  | 14 => ⟨S_, .f32⟩
  | 15 => ⟨S8192x2048, .f32⟩
  | 16 => ⟨S8192x2048, .f32⟩
  | 17 => ⟨S_, .f32⟩
  | 18 => ⟨S8192x2048, .f32⟩
  | 19 => ⟨S8192x2048, .f32⟩
  | 20 => ⟨S8192x2048, .f32⟩
  | 21 => ⟨S8192x2048, .f32⟩
  | 22 => ⟨S8192x2048, .bf16⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_0 : Ref sig .tc := ⟨.hbm, 48, rfl⟩
abbrev main_v29 : Ref sig .tc := ⟨.hbm, 49, rfl⟩
abbrev main_v30 : Ref sig .tc := ⟨.hbm, 50, rfl⟩
abbrev main_cst_1 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_3 : Ref sig .tc := ⟨.hbm, 72, rfl⟩
abbrev main_v42 : Ref sig .tc := ⟨.hbm, 73, rfl⟩
abbrev main_c : Ref sig .tc := ⟨.hbm, 74, rfl⟩
abbrev main_v43_0 : Ref sig .tc := ⟨.hbm, 75, rfl⟩
abbrev main_v43_1 : Ref sig .tc := ⟨.hbm, 76, rfl⟩
abbrev main_v43_2 : Ref sig .tc := ⟨.hbm, 77, rfl⟩
abbrev main_v43_3 : Ref sig .tc := ⟨.hbm, 78, rfl⟩
abbrev main_v43_4 : Ref sig .tc := ⟨.hbm, 79, rfl⟩
abbrev main_v43_5 : Ref sig .tc := ⟨.hbm, 80, rfl⟩
abbrev main_v43_6 : Ref sig .tc := ⟨.hbm, 81, rfl⟩
abbrev main_while0c_c_13 : Ref sig .tc := ⟨.hbm, 82, rfl⟩
abbrev main_while0c_v63 : Ref sig .tc := ⟨.hbm, 83, rfl⟩
abbrev main_while0b_call2_c : Ref sig .tc := ⟨.hbm, 84, rfl⟩
abbrev main_while0b_call2_c_0 : Ref sig .tc := ⟨.hbm, 85, rfl⟩
abbrev main_while0b_call2_v0 : Ref sig .tc := ⟨.hbm, 86, rfl⟩
abbrev main_while0b_v63 : Ref sig .tc := ⟨.hbm, 87, rfl⟩
abbrev main_while0b_call3_c : Ref sig .tc := ⟨.hbm, 88, rfl⟩
abbrev main_while0b_call3_c_0 : Ref sig .tc := ⟨.hbm, 89, rfl⟩
abbrev main_while0b_call3_v0 : Ref sig .tc := ⟨.hbm, 90, rfl⟩
abbrev main_while0b_v64 : Ref sig .tc := ⟨.hbm, 91, rfl⟩
abbrev main_while0b_call4_c : Ref sig .tc := ⟨.hbm, 92, rfl⟩
abbrev main_while0b_call4_c_0 : Ref sig .tc := ⟨.hbm, 93, rfl⟩
abbrev main_while0b_call4_v0 : Ref sig .tc := ⟨.hbm, 94, rfl⟩
abbrev main_while0b_v65 : Ref sig .tc := ⟨.hbm, 95, rfl⟩
abbrev main_while0b_call5_c : Ref sig .tc := ⟨.hbm, 96, rfl⟩
abbrev main_while0b_call5_c_0 : Ref sig .tc := ⟨.hbm, 97, rfl⟩
abbrev main_while0b_call5_v0 : Ref sig .tc := ⟨.hbm, 98, rfl⟩
abbrev main_while0b_v66 : Ref sig .tc := ⟨.hbm, 99, rfl⟩
abbrev main_while0b_v67 : Ref sig .tc := ⟨.hbm, 100, rfl⟩
abbrev main_while0b_v68 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_v76 : Ref sig .tc := ⟨.hbm, 109, rfl⟩
abbrev main_while0b_v77 : Ref sig .tc := ⟨.hbm, 110, rfl⟩
abbrev main_while0b_v78 : Ref sig .tc := ⟨.hbm, 111, rfl⟩
abbrev main_while0b_v79 : Ref sig .tc := ⟨.hbm, 112, rfl⟩
abbrev main_while0b_cst_13 : Ref sig .tc := ⟨.hbm, 113, rfl⟩
abbrev main_while0b_v80 : Ref sig .tc := ⟨.hbm, 114, rfl⟩
abbrev main_while0b_call6_v0 : Ref sig .tc := ⟨.hbm, 115, rfl⟩
abbrev main_while0b_call6_c : Ref sig .tc := ⟨.hbm, 116, rfl⟩
abbrev main_while0b_call6_c_0 : Ref sig .tc := ⟨.hbm, 117, rfl⟩
abbrev main_while0b_v81 : Ref sig .tc := ⟨.hbm, 118, rfl⟩
abbrev main_while0b_c_14 : Ref sig .tc := ⟨.hbm, 119, rfl⟩
abbrev main_while0b_v82 : Ref sig .tc := ⟨.hbm, 120, rfl⟩
abbrev main_v44 : Ref sig .tc := ⟨.hbm, 121, rfl⟩
abbrev main_cst_4 : Ref sig .tc := ⟨.hbm, 122, rfl⟩
abbrev main_v45 : Ref sig .tc := ⟨.hbm, 123, rfl⟩
abbrev main_v46 : Ref sig .tc := ⟨.hbm, 124, rfl⟩
abbrev main_cst_5 : Ref sig .tc := ⟨.hbm, 125, rfl⟩
abbrev main_v47 : Ref sig .tc := ⟨.hbm, 126, rfl⟩
abbrev main_v48 : Ref sig .tc := ⟨.hbm, 127, rfl⟩
abbrev main_cst_6 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_call7_v0 : Ref sig .tc := ⟨.hbm, 140, rfl⟩
abbrev main_call7_v1 : Ref sig .tc := ⟨.hbm, 141, rfl⟩
abbrev main_call7_cst : Ref sig .tc := ⟨.hbm, 142, rfl⟩
abbrev main_call7_v2 : Ref sig .tc := ⟨.hbm, 143, rfl⟩
abbrev main_call7_v3 : Ref sig .tc := ⟨.hbm, 144, rfl⟩
abbrev main_call7_cst_0 : Ref sig .tc := ⟨.hbm, 145, rfl⟩
abbrev main_call7_v4 : Ref sig .tc := ⟨.hbm, 146, rfl⟩
abbrev main_call7_v5 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩

abbrev nD : Nat := 1
abbrev τ : Topo := Topo.v7x

variable {F : FTy → Type} [FloatOps F]

abbrev main_while0_count : Scf.Loop 32 := ⟨0#32, 8192#32, 1#32⟩
-- ==== UpConv.lean ====
abbrev S8192x4096 : Shape := ⟨2, ![8192, 4096]⟩
abbrev S4x4096x22016 : Shape := ⟨3, ![4, 4096, 22016]⟩
abbrev S4x3x22016 : Shape := ⟨3, ![4, 3, 22016]⟩
abbrev S4x22016 : Shape := ⟨2, ![4, 22016]⟩
abbrev S4x1x22016 : Shape := ⟨3, ![4, 1, 22016]⟩
abbrev S8192x11008 : Shape := ⟨2, ![8192, 11008]⟩
abbrev S1024x4096 : Shape := ⟨2, ![1024, 4096]⟩
abbrev S1x4096x256 : Shape := ⟨3, ![1, 4096, 256]⟩
abbrev S1x3x256 : Shape := ⟨3, ![1, 3, 256]⟩
abbrev S1x1x256 : Shape := ⟨3, ![1, 1, 256]⟩
abbrev S1024x256 : Shape := ⟨2, ![1024, 256]⟩
abbrev S4096x256 : Shape := ⟨2, ![4096, 256]⟩
abbrev S8x256 : Shape := ⟨2, ![8, 256]⟩
abbrev S1024x1 : Shape := ⟨2, ![1024, 1]⟩
abbrev S1x256 : Shape := ⟨2, ![1, 256]⟩

abbrev nBuf : Space → Nat
  | .hbm => 6
  | .vmem => 18
  | .smem => 0
  | _ => 0

abbrev bufTy : (tb : Table) → Fin (tcTables nBuf tb) → BufTy
  | .hbm, ⟨0, _⟩ => ⟨S8192x4096, .bf16⟩
  | .hbm, ⟨1, _⟩ => ⟨S4x4096x22016, .f32⟩
  | .hbm, ⟨2, _⟩ => ⟨S4x3x22016, .f32⟩
  | .hbm, ⟨3, _⟩ => ⟨S4x22016, .f32⟩
  | .hbm, ⟨4, _⟩ => ⟨S4x1x22016, .f32⟩
  | .hbm, ⟨5, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x3x256, .f32⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1024x256, .bf16⟩
  | .local _ .vmem, ⟨13, _⟩ => ⟨S1024x256, .bf16⟩
  | .local _ .vmem, ⟨14, _⟩ => ⟨S4096x256, .bf16⟩
  | .local _ .vmem, ⟨15, _⟩ => ⟨S4096x256, .bf16⟩
  | .local _ .vmem, ⟨16, _⟩ => ⟨S8x256, .f32⟩
  | .local _ .vmem, ⟨17, _⟩ => ⟨S8x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_4 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpConvReferenceIdeal.lean ====
abbrev S8192x4096 : Shape := ⟨2, ![8192, 4096]⟩
abbrev S4x4096x22016 : Shape := ⟨3, ![4, 4096, 22016]⟩
abbrev S4x3x22016 : Shape := ⟨3, ![4, 3, 22016]⟩
abbrev S4x22016 : Shape := ⟨2, ![4, 22016]⟩
abbrev S1x4096x22016 : Shape := ⟨3, ![1, 4096, 22016]⟩
abbrev S4096x22016 : Shape := ⟨2, ![4096, 22016]⟩
abbrev S8192x22016 : Shape := ⟨2, ![8192, 22016]⟩
abbrev S_ : Shape := ⟨0, ![]⟩
abbrev S8194x22016 : Shape := ⟨2, ![8194, 22016]⟩
abbrev S1x22016 : Shape := ⟨2, ![1, 22016]⟩
abbrev S22016 : Shape := ⟨1, ![22016]⟩
abbrev S1x1x22016 : Shape := ⟨3, ![1, 1, 22016]⟩
abbrev S8192x11008 : Shape := ⟨2, ![8192, 11008]⟩

abbrev nBuf : Space → Nat
  | .hbm => 49
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x22016, .f32⟩
  | .hbm, ⟨2, _⟩ => ⟨S4x3x22016, .f32⟩
  | .hbm, ⟨3, _⟩ => ⟨S4x22016, .f32⟩
  | .hbm, ⟨4, _⟩ => ⟨S8192x4096, .f32⟩
  | .hbm, ⟨5, _⟩ => ⟨S1x4096x22016, .f32⟩
  | .hbm, ⟨6, _⟩ => ⟨S4096x22016, .f32⟩
  | .hbm, ⟨7, _⟩ => ⟨S8192x22016, .f32⟩
  | .hbm, ⟨8, _⟩ => ⟨S_, .i32⟩
  | .hbm, ⟨9, _⟩ => ⟨S_, .f32⟩
  | .hbm, ⟨10, _⟩ => ⟨S8194x22016, .f32⟩
  | .hbm, ⟨11, _⟩ => ⟨S1x22016, .f32⟩
  | .hbm, ⟨12, _⟩ => ⟨S22016, .f32⟩
  | .hbm, ⟨13, _⟩ => ⟨S1x1x22016, .f32⟩
  | .hbm, ⟨14, _⟩ => ⟨S22016, .f32⟩
  | .hbm, ⟨15, _⟩ => ⟨S8192x22016, .f32⟩
  | .hbm, ⟨16, _⟩ => ⟨S1x22016, .f32⟩
  | .hbm, ⟨17, _⟩ => ⟨S8192x22016, .f32⟩
  | .hbm, ⟨18, _⟩ => ⟨S8192x22016, .f32⟩
  | .hbm, ⟨19, _⟩ => ⟨S1x22016, .f32⟩
  | .hbm, ⟨20, _⟩ => ⟨S8192x22016, .f32⟩
  | .hbm, ⟨21, _⟩ => ⟨S8192x22016, .f32⟩
  | .hbm, ⟨22, _⟩ => ⟨S1x1x22016, .f32⟩
  | .hbm, ⟨23, _⟩ => ⟨S22016, .f32⟩
  | .hbm, ⟨24, _⟩ => ⟨S8192x22016, .f32⟩
  | .hbm, ⟨25, _⟩ => ⟨S1x22016, .f32⟩
  | .hbm, ⟨26, _⟩ => ⟨S8192x22016, .f32⟩
  | .hbm, ⟨27, _⟩ => ⟨S8192x22016, .f32⟩
  | .hbm, ⟨28, _⟩ => ⟨S8192x22016, .f32⟩
  | .hbm, ⟨29, _⟩ => ⟨S1x1x22016, .f32⟩
  | .hbm, ⟨30, _⟩ => ⟨S22016, .f32⟩
  | .hbm, ⟨31, _⟩ => ⟨S8192x22016, .f32⟩
  | .hbm, ⟨32, _⟩ => ⟨S1x22016, .f32⟩
  | .hbm, ⟨33, _⟩ => ⟨S8192x22016, .f32⟩
  | .hbm, ⟨34, _⟩ => ⟨S8192x22016, .f32⟩
  | .hbm, ⟨35, _⟩ => ⟨S8192x22016, .f32⟩
  | .hbm, ⟨36, _⟩ => ⟨S8192x11008, .f32⟩
  | .hbm, ⟨37, _⟩ => ⟨S8192x11008, .f32⟩
  | .hbm, ⟨38, _⟩ => ⟨S8192x11008, .f32⟩
  | .hbm, ⟨39, _⟩ => ⟨S8192x11008, .f32⟩
  | .hbm, ⟨40, _⟩ => ⟨S_, .f32⟩
  | .hbm, ⟨41, _⟩ => ⟨S8192x11008, .f32⟩
  | .hbm, ⟨42, _⟩ => ⟨S8192x11008, .f32⟩
  | .hbm, ⟨43, _⟩ => ⟨S_, .f32⟩
  | .hbm, ⟨44, _⟩ => ⟨S8192x11008, .f32⟩
  | .hbm, ⟨45, _⟩ => ⟨S8192x11008, .f32⟩
  | .hbm, ⟨46, _⟩ => ⟨S8192x11008, .f32⟩
  | .hbm, ⟨47, _⟩ => ⟨S8192x11008, .f32⟩
  | .hbm, ⟨48, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== DownProj.lean ====
abbrev S8192x11008 : Shape := ⟨2, ![8192, 11008]⟩
abbrev S4x11008x4096 : Shape := ⟨3, ![4, 11008, 4096]⟩
abbrev S8192x4096 : Shape := ⟨2, ![8192, 4096]⟩
abbrev S1x11008x4096 : Shape := ⟨3, ![1, 11008, 4096]⟩
abbrev S11008x4096 : Shape := ⟨2, ![11008, 4096]⟩
abbrev S512x11008 : Shape := ⟨2, ![512, 11008]⟩
abbrev S11008x256 : Shape := ⟨2, ![11008, 256]⟩
abbrev S512x256 : Shape := ⟨2, ![512, 256]⟩

abbrev nBuf : Space → Nat
  | .hbm => 7
  | .vmem => 8
  | .smem => 0
  | _ => 0

abbrev bufTy : (tb : Table) → Fin (tcTables nBuf tb) → BufTy
  | .hbm, ⟨0, _⟩ => ⟨S8192x11008, .bf16⟩
  | .hbm, ⟨1, _⟩ => ⟨S4x11008x4096, .f32⟩
  | .hbm, ⟨2, _⟩ => ⟨S8192x4096, .f32⟩
  | .hbm, ⟨3, _⟩ => ⟨S1x11008x4096, .f32⟩
  | .hbm, ⟨4, _⟩ => ⟨S11008x4096, .f32⟩
  | .hbm, ⟨5, _⟩ => ⟨S11008x4096, .bf16⟩
  | .hbm, ⟨6, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownProjReferenceIdeal.lean ====
abbrev S8192x11008 : Shape := ⟨2, ![8192, 11008]⟩
abbrev S4x11008x4096 : Shape := ⟨3, ![4, 11008, 4096]⟩
abbrev S8192x4096 : Shape := ⟨2, ![8192, 4096]⟩
abbrev S1x11008x4096 : Shape := ⟨3, ![1, 11008, 4096]⟩
abbrev S11008x4096 : Shape := ⟨2, ![11008, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S4x11008x4096, .f32⟩
  | .hbm, ⟨2, _⟩ => ⟨S8192x4096, .f32⟩
  | .hbm, ⟨3, _⟩ => ⟨S8192x11008, .f32⟩
  | .hbm, ⟨4, _⟩ => ⟨S1x11008x4096, .f32⟩
  | .hbm, ⟨5, _⟩ => ⟨S11008x4096, .f32⟩
  | .hbm, ⟨6, _⟩ => ⟨S8192x4096, .f32⟩
  | .hbm, ⟨7, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QkvProj.lean ====
abbrev S8192x4096 : Shape := ⟨2, ![8192, 4096]⟩
abbrev S4x4096x14336 : Shape := ⟨3, ![4, 4096, 14336]⟩
abbrev S8192x6144 : Shape := ⟨2, ![8192, 6144]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x14336, .f32⟩
  | .hbm, ⟨2, _⟩ => ⟨S8192x6144, .bf16⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S512x1024, .bf16⟩
  | .local _ .vmem, ⟨4, _⟩ => ⟨S512x1024, .bf16⟩
  | .local _ .vmem, ⟨5, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvProjReferenceIdeal.lean ====
abbrev S8192x4096 : Shape := ⟨2, ![8192, 4096]⟩
abbrev S4x4096x14336 : Shape := ⟨3, ![4, 4096, 14336]⟩
abbrev S1x4096x14336 : Shape := ⟨3, ![1, 4096, 14336]⟩
abbrev S4096x14336 : Shape := ⟨2, ![4096, 14336]⟩
abbrev S8192x14336 : Shape := ⟨2, ![8192, 14336]⟩
abbrev S8192x6144 : Shape := ⟨2, ![8192, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x14336, .f32⟩
  | .hbm, ⟨2, _⟩ => ⟨S8192x4096, .f32⟩
  | .hbm, ⟨3, _⟩ => ⟨S1x4096x14336, .f32⟩
  | .hbm, ⟨4, _⟩ => ⟨S4096x14336, .f32⟩
  | .hbm, ⟨5, _⟩ => ⟨S8192x14336, .f32⟩
  | .hbm, ⟨6, _⟩ => ⟨S8192x6144, .f32⟩
  | .hbm, ⟨7, _⟩ => ⟨S8192x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== HgProj.lean ====
abbrev S8192x4096 : Shape := ⟨2, ![8192, 4096]⟩
abbrev S4x4096x14336 : Shape := ⟨3, ![4, 4096, 14336]⟩
abbrev S8192x8192 : Shape := ⟨2, ![8192, 8192]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x14336, .f32⟩
  | .hbm, ⟨2, _⟩ => ⟨S8192x8192, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .f32⟩
  | .local _ .vmem, ⟨3, _⟩ => ⟨S512x1024, .f32⟩
  | .local _ .vmem, ⟨4, _⟩ => ⟨S512x1024, .f32⟩
  | .local _ .vmem, ⟨5, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgProjReferenceIdeal.lean ====
abbrev S8192x4096 : Shape := ⟨2, ![8192, 4096]⟩
abbrev S4x4096x14336 : Shape := ⟨3, ![4, 4096, 14336]⟩
abbrev S1x4096x14336 : Shape := ⟨3, ![1, 4096, 14336]⟩
abbrev S4096x14336 : Shape := ⟨2, ![4096, 14336]⟩
abbrev S8192x14336 : Shape := ⟨2, ![8192, 14336]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x14336, .f32⟩
  | .hbm, ⟨2, _⟩ => ⟨S8192x4096, .f32⟩
  | .hbm, ⟨3, _⟩ => ⟨S1x4096x14336, .f32⟩
  | .hbm, ⟨4, _⟩ => ⟨S4096x14336, .f32⟩
  | .hbm, ⟨5, _⟩ => ⟨S8192x14336, .f32⟩
  | .hbm, ⟨6, _⟩ => ⟨S8192x8192, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S8192x2048 : Shape := ⟨2, ![8192, 2048]⟩
abbrev S4x4096x4096 : Shape := ⟨3, ![4, 4096, 4096]⟩
abbrev S8192x4096 : Shape := ⟨2, ![8192, 4096]⟩
abbrev S1x4096x1024 : Shape := ⟨3, ![1, 4096, 1024]⟩
abbrev S512x2048 : Shape := ⟨2, ![512, 2048]⟩
abbrev S512x1024 : Shape := ⟨2, ![512, 1024]⟩
abbrev S4096x1024 : Shape := ⟨2, ![4096, 1024]⟩
abbrev S2048x1024 : Shape := ⟨2, ![2048, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x4096x4096, .f32⟩
  | .hbm, ⟨3, _⟩ => ⟨S8192x4096, .f32⟩
  | .hbm, ⟨4, _⟩ => ⟨S8192x4096, .f32⟩
  | .local _ .vmem, ⟨0, _⟩ => ⟨S1x4096x1024, .f32⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S4096x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjReferenceIdeal.lean ====
abbrev S8192x2048 : Shape := ⟨2, ![8192, 2048]⟩
abbrev S4x4096x4096 : Shape := ⟨3, ![4, 4096, 4096]⟩
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x4096x4096, .f32⟩
  | .hbm, ⟨3, _⟩ => ⟨S8192x4096, .f32⟩
  | .hbm, ⟨4, _⟩ => ⟨S8192x2048, .f32⟩
  | .hbm, ⟨5, _⟩ => ⟨S8192x2048, .f32⟩
  | .hbm, ⟨6, _⟩ => ⟨S8192x4096, .f32⟩
  | .hbm, ⟨7, _⟩ => ⟨S1x4096x4096, .f32⟩
  | .hbm, ⟨8, _⟩ => ⟨S4096x4096, .f32⟩
  | .hbm, ⟨9, _⟩ => ⟨S8192x4096, .f32⟩
  | .hbm, ⟨10, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FinalNorm.lean ====
abbrev S1x8192x4096 : Shape := ⟨3, ![1, 8192, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormReferenceIdeal.lean ====
abbrev S1x8192x4096 : Shape := ⟨3, ![1, 8192, 4096]⟩
abbrev S4096 : Shape := ⟨1, ![4096]⟩
abbrev S_ : Shape := ⟨0, ![]⟩
abbrev S1x8192 : Shape := ⟨2, ![1, 8192]⟩
abbrev S1x8192x1 : Shape := ⟨3, ![1, 8192, 1]⟩
abbrev S1x1x4096 : Shape := ⟨3, ![1, 1, 4096]⟩
abbrev S8192x4096 : Shape := ⟨2, ![8192, 4096]⟩

abbrev nBuf : Space → Nat
  | .hbm => 19
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S1x8192x4096, .f32⟩
  | .hbm, ⟨3, _⟩ => ⟨S_, .f32⟩
  | .hbm, ⟨4, _⟩ => ⟨S1x8192, .f32⟩
  | .hbm, ⟨5, _⟩ => ⟨S1x8192x1, .f32⟩
  | .hbm, ⟨6, _⟩ => ⟨S_, .f32⟩
  | .hbm, ⟨7, _⟩ => ⟨S1x8192x1, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S1x8192x1, .f32⟩
  | .hbm, ⟨13, _⟩ => ⟨S1x8192x4096, .f32⟩
  | .hbm, ⟨14, _⟩ => ⟨S1x8192x4096, .f32⟩
  | .hbm, ⟨15, _⟩ => ⟨S1x1x4096, .f32⟩
  | .hbm, ⟨16, _⟩ => ⟨S1x8192x4096, .f32⟩
  | .hbm, ⟨17, _⟩ => ⟨S1x8192x4096, .f32⟩
  | .hbm, ⟨18, _⟩ => ⟨S8192x4096, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LayerNorm.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LayerNormReferenceIdeal.lean ====
abbrev S8192x4096 : Shape := ⟨2, ![8192, 4096]⟩
abbrev S4x4096 : Shape := ⟨2, ![4, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S4096 : Shape := ⟨1, ![4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Stick.lean ====
abbrev S8192x6144 : Shape := ⟨2, ![8192, 6144]⟩
abbrev S2048 : Shape := ⟨1, ![2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x256 : Shape := ⟨2, ![128, 256]⟩
abbrev S256x256 : Shape := ⟨2, ![256, 256]⟩
abbrev S1x2048 : Shape := ⟨2, ![1, 2048]⟩
abbrev S8192x2048 : Shape := ⟨2, ![8192, 2048]⟩
abbrev S512x128 : Shape := ⟨2, ![512, 128]⟩
abbrev S8192x128 : Shape := ⟨2, ![8192, 128]⟩
abbrev S256x128 : Shape := ⟨2, ![256, 128]⟩
abbrev S384x128 : Shape := ⟨2, ![384, 128]⟩
abbrev S384x256 : Shape := ⟨2, ![384, 256]⟩
abbrev S512x256 : Shape := ⟨2, ![512, 256]⟩
abbrev S1x512x128 : Shape := ⟨3, ![1, 512, 128]⟩
abbrev S1 : Shape := ⟨1, ![1]⟩
abbrev S1x1x1 : Shape := ⟨3, ![1, 1, 1]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S8192x6144, .bf16⟩
  | .hbm, ⟨1, _⟩ => ⟨S2048, .f32⟩
  | .hbm, ⟨2, _⟩ => ⟨S128, .i32⟩
  | .hbm, ⟨3, _⟩ => ⟨S128x1, .i32⟩
  | .hbm, ⟨4, _⟩ => ⟨S128, .i32⟩
  | .hbm, ⟨5, _⟩ => ⟨S1x128, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .bf16⟩
  | .hbm, ⟨10, _⟩ => ⟨S_, .bf16⟩
  | .hbm, ⟨11, _⟩ => ⟨S128x128, .bf16⟩
  | .hbm, ⟨12, _⟩ => ⟨S128x256, .bf16⟩
  | .hbm, ⟨13, _⟩ => ⟨S256x256, .bf16⟩
  | .hbm, ⟨14, _⟩ => ⟨S1x2048, .f32⟩
  | .hbm, ⟨15, _⟩ => ⟨S8192x2048, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x256, .bf16⟩
  | .local _ .vmem, ⟨7, _⟩ => ⟨S1x128, .f32⟩
  | .local _ .vmem, ⟨8, _⟩ => ⟨S1x128, .f32⟩
  | .local _ .vmem, ⟨9, _⟩ => ⟨S512x128, .bf16⟩
  | .local _ .vmem, ⟨10, _⟩ => ⟨S512x128, .bf16⟩
  | .local _ .vmem, ⟨11, _⟩ => ⟨S512x128, .f32⟩
  | .local _ .vmem, ⟨12, _⟩ => ⟨S512x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c4_i32 : BitVec 32 := 4#32
  let v10 : BitVec 32 := Scalar.muli arg1 c4_i32
  let c3_i32 : BitVec 32 := 3#32
  let v11 : BitVec 32 := Scalar.addi v10 c3_i32
  let c128_i32 : BitVec 32 := 128#32
  let v13 : BitVec 32 := Scalar.muli v11 c128_i32
  v13
def k0_off1 (i : grid0.Coords) (c3_i32 : BitVec 32) : Fin 2 → Nat :=
  let arg1 : BitVec 32 := BitVec.ofNat 32 (i 1).val
  let c4_i32 : BitVec 32 := 4#32
  let v10 : BitVec 32 := Scalar.muli arg1 c4_i32
  let v11 : BitVec 32 := Scalar.addi v10 c3_i32
  let c128_i32 : BitVec 32 := 128#32
  let v13 : BitVec 32 := Scalar.muli v11 c128_i32
  let v14 : BitVec 32 := v13
  let v15 : Index := Scalar.indexCast v14
  let c0_4 : Index := 0#32
  ![v15.toNat, 0]
def k0_mult2 (i : grid0.Coords) : BitVec 32 :=
  let arg1 : BitVec 32 := BitVec.ofNat 32 (i 1).val
  let c4_i32_29 : BitVec 32 := 4#32
  let v68 : BitVec 32 := Scalar.muli arg1 c4_i32_29
  let c2_i32 : BitVec 32 := 2#32
  let v69 : BitVec 32 := Scalar.addi v68 c2_i32
  let c128_i32_30 : BitVec 32 := 128#32
  let v71 : BitVec 32 := Scalar.muli v69 c128_i32_30
  v71
def k0_mult3 (i : grid0.Coords) : BitVec 32 :=
  let arg1 : BitVec 32 := BitVec.ofNat 32 (i 1).val
  let c4_i32_56 : BitVec 32 := 4#32
  let v126 : BitVec 32 := Scalar.muli arg1 c4_i32_56
  let c1_i32 : BitVec 32 := 1#32
  let v127 : BitVec 32 := Scalar.addi v126 c1_i32
  let c128_i32_57 : BitVec 32 := 128#32
  let v129 : BitVec 32 := Scalar.muli v127 c128_i32_57
  v129
def k0_mult4 (i : grid0.Coords) : BitVec 32 :=
  let arg1 : BitVec 32 := BitVec.ofNat 32 (i 1).val
  let c4_i32_83 : BitVec 32 := 4#32
  let v184 : BitVec 32 := Scalar.muli arg1 c4_i32_83
  let c0_i32 : BitVec 32 := 0#32
  let v185 : BitVec 32 := Scalar.addi v184 c0_i32
  let c128_i32_84 : BitVec 32 := 128#32
  let v187 : BitVec 32 := Scalar.muli v185 c128_i32_84
  v187
def k0_mult5 (arg10 : BitVec 32) : BitVec 32 :=
  let c128_i32_125 : BitVec 32 := 128#32
  let v265 : BitVec 32 := Scalar.muli arg10 c128_i32_125
  v265

def k0_off2 (arg10 : BitVec 32) : Fin 2 → Nat :=
  let c128_i32_125 : BitVec 32 := 128#32
  let v265 : BitVec 32 := Scalar.muli arg10 c128_i32_125
  let v266 : BitVec 32 := v265
  let v267 : Index := Scalar.indexCast v266
  let c0_126 : Index := 0#32
  ![v267.toNat, 0]

def k0_chk1 (arg10 : BitVec 32) : Prop :=
  (128 ∣ (k0_mult5 arg10).toNat) ∧
  (∀ a, (k0_off2 arg10) a + S128x128.size a ≤ S8192x128.size a)
theorem k0_mult5_dvd : ∀ (arg10 : BitVec 32) (k0_hw1 : k0_chk1 arg10), 128 ∣ (k0_mult5 arg10).toNat := fun arg10 k0_hw1 => k0_hw1.1
theorem k0_off2_inb : ∀ (arg10 : BitVec 32) (k0_hw1 : k0_chk1 arg10), ∀ a, (k0_off2 arg10) a + S128x128.size a ≤ S8192x128.size a := fun arg10 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== StickIdeal.lean ====
variable {F : FTy → Type} [FloatOps F] [Named F]
def κ : String → Option EReal := fun
  | "exit" => some ⊥
  | _ => none
-- ==== StickReferenceIdeal.lean ====
abbrev S8192x6144 : Shape := ⟨2, ![8192, 6144]⟩
abbrev S2048 : Shape := ⟨1, ![2048]⟩
abbrev S8192x2048 : Shape := ⟨2, ![8192, 2048]⟩
abbrev S8192x16x128 : Shape := ⟨3, ![8192, 16, 128]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x128x8192 : Shape := ⟨3, ![16, 128, 8192]⟩
abbrev S8192x16 : Shape := ⟨2, ![8192, 16]⟩
abbrev S8192x16x1 : Shape := ⟨3, ![8192, 16, 1]⟩
abbrev S16x128 : Shape := ⟨2, ![16, 128]⟩
abbrev S1x16x128 : Shape := ⟨3, ![1, 16, 128]⟩

abbrev nBuf : Space → Nat
  | .hbm => 92
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2048, .f32⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x16x128, .bf16⟩
  | .hbm, ⟨6, _⟩ => ⟨S8192x16x128, .f32⟩
  | .hbm, ⟨7, _⟩ => ⟨S8192x16x128, .bf16⟩
  | .hbm, ⟨8, _⟩ => ⟨S8192x16x128, .f32⟩
  | .hbm, ⟨9, _⟩ => ⟨S8192x16x128, .bf16⟩
  | .hbm, ⟨10, _⟩ => ⟨S8192x16x128, .f32⟩
  | .hbm, ⟨11, _⟩ => ⟨S16x8192x8192, .f32⟩
  | .hbm, ⟨12, _⟩ => ⟨S_, .f32⟩
  | .hbm, ⟨13, _⟩ => ⟨S16x8192x8192, .f32⟩
  | .hbm, ⟨14, _⟩ => ⟨S16x8192x8192, .f32⟩
  | .hbm, ⟨15, _⟩ => ⟨S8192, .i32⟩
  | .hbm, ⟨16, _⟩ => ⟨S1x8192, .i32⟩
  | .hbm, ⟨17, _⟩ => ⟨S8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S16x8192x8192, .f32⟩
  | .hbm, ⟨23, _⟩ => ⟨S16x8192x8192, .f32⟩
  | .hbm, ⟨24, _⟩ => ⟨S_, .f32⟩
  | .hbm, ⟨25, _⟩ => ⟨S16x8192x8192, .f32⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S16x8192x8192, .i1⟩
  | .hbm, ⟨30, _⟩ => ⟨S16x8192x8192, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S16x8192x8192, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S16x8192x8192, .f32⟩
  | .hbm, ⟨39, _⟩ => ⟨S_, .f32⟩
  | .hbm, ⟨40, _⟩ => ⟨S_, .f32⟩
  | .hbm, ⟨41, _⟩ => ⟨S16x8192x8192, .i1⟩
  | .hbm, ⟨42, _⟩ => ⟨S16x8192x8192, .f32⟩
  | .hbm, ⟨43, _⟩ => ⟨S16x8192x8192, .f32⟩
  | .hbm, ⟨44, _⟩ => ⟨S_, .f32⟩
  | .hbm, ⟨45, _⟩ => ⟨S_, .f32⟩
  | .hbm, ⟨46, _⟩ => ⟨S16x8192x8192, .f32⟩
  | .hbm, ⟨47, _⟩ => ⟨S16x8192x8192, .f32⟩
  | .hbm, ⟨48, _⟩ => ⟨S16x8192x8192, .f32⟩
  | .hbm, ⟨49, _⟩ => ⟨S_, .f32⟩
  | .hbm, ⟨50, _⟩ => ⟨S16x8192x8192, .f32⟩
  | .hbm, ⟨51, _⟩ => ⟨S16x8192x8192, .f32⟩
  | .hbm, ⟨52, _⟩ => ⟨S16x8192x8192, .f32⟩
  | .hbm, ⟨53, _⟩ => ⟨S16x8192x8192, .f32⟩
  | .hbm, ⟨54, _⟩ => ⟨S16x8192x8192, .i1⟩
  | .hbm, ⟨55, _⟩ => ⟨S16x8192x8192, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S16x8192x8192, .f32⟩
  | .hbm, ⟨65, _⟩ => ⟨S_, .f32⟩
  | .hbm, ⟨66, _⟩ => ⟨S_, .f32⟩
  | .hbm, ⟨67, _⟩ => ⟨S16x8192x8192, .i1⟩
  | .hbm, ⟨68, _⟩ => ⟨S16x8192x8192, .f32⟩
  | .hbm, ⟨69, _⟩ => ⟨S16x8192x8192, .f32⟩
  | .hbm, ⟨70, _⟩ => ⟨S16x8192x8192, .f32⟩
  | .hbm, ⟨71, _⟩ => ⟨S16x128x8192, .f32⟩
  | .hbm, ⟨72, _⟩ => ⟨S8192x16x128, .f32⟩
  | .hbm, ⟨73, _⟩ => ⟨S8192x16x128, .f32⟩
  | .hbm, ⟨74, _⟩ => ⟨S_, .f32⟩
  | .hbm, ⟨75, _⟩ => ⟨S8192x16, .f32⟩
  | .hbm, ⟨76, _⟩ => ⟨S8192x16x1, .f32⟩
  | .hbm, ⟨77, _⟩ => ⟨S_, .f32⟩
  | .hbm, ⟨78, _⟩ => ⟨S8192x16x1, .f32⟩
  | .hbm, ⟨79, _⟩ => ⟨S8192x16x1, .f32⟩
  | .hbm, ⟨80, _⟩ => ⟨S_, .f32⟩
  | .hbm, ⟨81, _⟩ => ⟨S8192x16x1, .f32⟩
  | .hbm, ⟨82, _⟩ => ⟨S8192x16x1, .f32⟩
  | .hbm, ⟨83, _⟩ => ⟨S8192x16x1, .f32⟩
  | .hbm, ⟨84, _⟩ => ⟨S8192x16x128, .f32⟩
  | .hbm, ⟨85, _⟩ => ⟨S8192x16x128, .f32⟩
  | .hbm, ⟨86, _⟩ => ⟨S16x128, .f32⟩
  | .hbm, ⟨87, _⟩ => ⟨S1x16x128, .f32⟩
  | .hbm, ⟨88, _⟩ => ⟨S8192x16x128, .f32⟩
  | .hbm, ⟨89, _⟩ => ⟨S8192x16x128, .f32⟩
  | .hbm, ⟨90, _⟩ => ⟨S8192x2048, .f32⟩
  | .hbm, ⟨91, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v20 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_call2_cst : Ref sig .tc := ⟨.hbm, 44, rfl⟩
abbrev main_call2_v0 : Ref sig .tc := ⟨.hbm, 45, rfl⟩
abbrev main_v22 : Ref sig .tc := ⟨.hbm, 46, rfl⟩
abbrev main_v23 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v24 : Ref sig .tc := ⟨.hbm, 63, rfl⟩
abbrev main_v25 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_2 : Ref sig .tc := ⟨.hbm, 74, rfl⟩
abbrev main_v31 : Ref sig .tc := ⟨.hbm, 75, rfl⟩
abbrev main_v32 : Ref sig .tc := ⟨.hbm, 76, rfl⟩
abbrev main_cst_3 : Ref sig .tc := ⟨.hbm, 77, rfl⟩
abbrev main_v33 : Ref sig .tc := ⟨.hbm, 78, rfl⟩
abbrev main_v34 : Ref sig .tc := ⟨.hbm, 79, rfl⟩
abbrev main_cst_4 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩

abbrev nD : Nat := 1
abbrev τ : Topo := Topo.v7x

variable {F : FTy → Type} [FloatOps F]
-- ==== Proof.StickIdealWindows.lean ====
/-
  `StickIdeal`: the arrays the region finds, the windows' blocks, and the frame claim's post read off a run of the pipeline.
-/
module

public import proofs.«01_k».proof.Proof.Gen.StickIdeal.Launch
public import proofs.«01_k».proof.Proof.Gen.StickIdeal.Skeleton
public import proofs.«01_k».proof.Proof.Gen.StickIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.StickIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Stick`, Defs.lean, at any `F`). -/
theorem frame_of (rdat : (c : Dev nD) → Pipeline.RDat τ (Elt F) Unit ℕ (UR sig nD τ) ℕ ((cfgs (F := F)) 0) c)
    (hA : ∀ c w, (rdat c).A w = V m c (Pipeline.arrRef spec0 w))
    (h : θ_run defs (onTc (τ := τ) (main (F := F))) (s₀ m ρ) (Pipeline.RDat.FramePost ((cfgs (F := F)) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 2 rfl).trans ((hA c 2).trans (V_main_arg0 m c)),
      ((h c).2 main_arg1 (Pipeline.mem_restRefs_of main_arg1 (by decide) (by intro w; revert w; exact (by decide : ∀ w : Fin 6, (spec0 w).arr.view.ref ≠ main_arg1)))).trans (V_main_arg1 m c)⟩) h

/-! ## The kernel body on any staging memrefs: a subtype the run finds -/

/-- Each window's current staging memref at point `t`, spelled as the pipeline passes it (`bodyAt0`), and its wholeness. -/
abbrev ms0_0 (t : Fin (cfg0 (F := F)).N) : Memref sig .tc .vmem S512x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S8192x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S8192x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x256 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x128 .f32 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S512x128 .bf16 := win0_5.stage ((cfg0 (F := F)).slots t 5)
abbrev hs0_5 (t : Fin (cfg0 (F := F)).N) : (ms0_5 t).IsWhole := hstage0_5 (((cfg0 (F := F)).slots t 5).cast nbuf0_5)
/-- The scratch operands: whole scoped buffers of the kernel's own, passed beside the windows. -/
abbrev scM0_0 : Memref sig .tc .vmem S512x128 .f32 := Memref.whole cc0_scratch0
abbrev scM0_1 : Memref sig .tc .vmem S512x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.StickIdeal.Gen

end
-- ==== Proof.StickIdealLoop.lean ====
/-
  `StickIdeal`'s loop over the key blocks below the diagonal: whatever its test reads, it ends, touching only the two scratch
  buffers, because the block counter starts below 64 and falls by one each trip.
-/
module

public import proofs.«01_k».proof.Proof.StickIdealWindows

@[expose] public section

-- membership in a rectangle of production extents (`View.cover_of_tiled`): the elaborator's structural look
-- recurses once per coordinate of the long axes
set_option maxRecDepth 16384

noncomputable section

namespace Cert.StickIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The counter `k` blocks from the end: `k − 1`, the next block's index. -/
theorem chk_of_lt : ∀ k : Fin 64, k0_chk1 (Scalar.subi (BitVec.ofNat 32 (k.val + 1)) 1#32) := by decide +kernel
theorem subi_succ : ∀ k : Fin 64, Scalar.subi (Scalar.subi (BitVec.ofNat 32 (k.val + 1)) 1#32) 1#32 = Scalar.subi (BitVec.ofNat 32 k.val) 1#32 := by
  decide +kernel
theorem start_muli : ∀ j : Fin 16, Scalar.subi (Scalar.muli (BitVec.ofNat 32 j.val) 4#32) 1#32 = Scalar.subi (BitVec.ofNat 32 (4 * j.val)) 1#32 := by
  decide +kernel
theorem start_eq (i : grid0.Coords) : Scalar.subi (Scalar.muli (BitVec.ofNat 32 (i 1).val) 4#32) 1#32 = Scalar.subi (BitVec.ofNat 32 (4 * (i 1).val)) 1#32 :=
  start_muli (i 1)
theorem start_le (i : grid0.Coords) : 4 * (i 1).val ≤ 64 := by
  have h : (i 1).val < 16 := (i 1).isLt
  omega
/-- Below zero the test fails, whatever the carry. -/
theorem test_zero : ∀ b : BitVec 1, ¬ Scalar.andi (Scalar.cmpi .sge (Scalar.subi (BitVec.ofNat 32 0) 1#32) 0#32) b = 1#1 := by decide +kernel

section Label

variable (c : Dev nD) (i : grid0.Coords) (arg3 : Memref sig .tc .vmem S8192x128 .bf16) (harg3 : arg3.IsWhole) (arg4 : Memref sig .tc .vmem S8192x128 .bf16) (harg4 : arg4.IsWhole) (arg2 : Memref sig .tc .vmem S512x128 .bf16) (harg2 : arg2.IsWhole) (arg5 : Memref sig .tc .vmem S256x256 .bf16) (harg5 : arg5.IsWhole) (arg8 : Memref sig .tc .vmem S512x128 .f32) (harg8 : arg8.IsWhole) (arg9 : Memref sig .tc .vmem S512x128 .f32) (harg9 : arg9.IsWhole)
variable (x0 : Vec F S512x128 .bf16) (x1 : Vec F S8192x128 .bf16) (x2 : Vec F S8192x128 .bf16) (x3 : Vec F S256x256 .bf16)

/-- What the loop runs over: the queries, keys, values and masks at their blocks, the two scratch buffers at anything. -/
def held : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg8 fullShare d) ∗ (∃ d, owns (c : Thread nD τ) arg9 fullShare d))

/-- The loop's specification: it takes what it runs over and gives it back, with any counter and any test value. -/
def spec : sWPT 𝕄 (BitVec 32 × F .f32) := do
  sWPT.consume (held c arg3 arg4 arg2 arg5 arg8 arg9 x0 x1 x2 x3)
  let r ← sWPT.arbitrary
  sWPT.produce (held c arg3 arg4 arg2 arg5 arg8 arg9 x0 x1 x2 x3)
  pure r

theorem spec_apply (K : BitVec 32 × F .f32 → sProp 𝕄) :
    spec c arg3 arg4 arg2 arg5 arg8 arg9 x0 x1 x2 x3 K
      = iprop(held c arg3 arg4 arg2 arg5 arg8 arg9 x0 x1 x2 x3 ∗ ∀ r : BitVec 32 × F .f32, (held c arg3 arg4 arg2 arg5 arg8 arg9 x0 x1 x2 x3 -∗ K r)) := rfl

set_option maxHeartbeats 1000000 in
/-- The loop entered `k` blocks from the end meets its specification at variant `k`. -/
theorem spec_le (E : Set ℕ) :
    ∀ k, k ≤ 64 → ∀ w, w = Scalar.subi (BitVec.ofNat 32 k) 1#32 → ∀ y : F .f32, spec c arg3 arg4 arg2 arg5 arg8 arg9 x0 x1 x2 x3
      ≤ wp frame (wpE (defs₀ (F := F)) Variants.nat (c : Thread nD τ) (some k)) E
          (defs₀ (F := F) .tc 1 ⟨i, arg3, harg3, arg4, harg4, arg2, harg2, arg5, harg5, arg8, harg8, arg9, harg9, w, y⟩) := by
  intro k
  induction k with
  | zero =>
    rintro hk w rfl y K
    rw [spec_apply]
    show _ ⊢ wp frame (wpE (defs₀ (F := F)) Variants.nat (c : Thread nD τ) (some 0)) E
      (cc0_while1 i arg3 harg3 arg4 harg4 arg2 harg2 arg5 harg5 arg8 harg8 arg9 harg9 (Scalar.subi (BitVec.ofNat 32 0) 1#32) y) K
    simp only [cc0_while1_eq_skeleton]; unfold cc0_while1_skel
    simp only [test_zero, ↓reduceIte, Prog.pure_eq_ret]
    iintro ⟨H, Hk⟩
    rw [wp_ret]; imodintro
    iapply Hk
    iexact H
  | succ k ih =>
    rintro hk w rfl y K
    rw [spec_apply]
    show _ ⊢ wp frame (wpE (defs₀ (F := F)) Variants.nat (c : Thread nD τ) (some (k + 1))) E
      (cc0_while1 i arg3 harg3 arg4 harg4 arg2 harg2 arg5 harg5 arg8 harg8 arg9 harg9 (Scalar.subi (BitVec.ofNat 32 (k + 1)) 1#32) y) K
    simp only [cc0_while1_eq_skeleton]; unfold cc0_while1_skel
    by_cases ht : Scalar.andi (Scalar.cmpi .sge (Scalar.subi (BitVec.ofNat 32 (k + 1)) 1#32) 0#32) (Scalar.cmpf .ogt y (Named.named κ "exit" 0xC2D00000#32)) = 1#1
    · simp only [ht, ↓reduceIte]
      simp only [k0_part8_eq_skeleton]; unfold k0_part8_skel
      simp only [Prog.lift, Prog.bind_op, Prog.bind_ret, Prog.pure_eq_ret]
      unfold held owns
      iintro ⟨⟨⟨%f0, %hf0, H0⟩, ⟨%f1, %hf1, H1⟩, ⟨%f2, %hf2, H2⟩, ⟨%f3, %hf3, H3⟩, ⟨%ds0, %fs0, -, HS0⟩, ⟨%ds1, %fs1, -, HS1⟩⟩, Hk⟩
      obtain rfl := harg2.eq_unread hf0; obtain rfl := harg3.eq_unread hf1; obtain rfl := harg4.eq_unread hf2; obtain rfl := harg5.eq_unread hf3
      iapply (wp_assume Variants.nat (c : Thread nD τ) (some (k + 1)) E (chk_of_lt ⟨k, by omega⟩))
      sl_exec
      iapply (wp_call_spec Variants.nat (c : Thread nD τ) (some (k + 1)) E (spec c arg3 arg4 arg2 arg5 arg8 arg9 x0 x1 x2 x3) k
        (fun u hu => by cases hu; exact Nat.lt_succ_self k) (ih (by omega) _ (subi_succ ⟨k, by omega⟩) _))
      rw [spec_apply]; unfold held owns
      isplitl [H0 H1 H2 H3 HS0 HS1]
      · isplitl [H0]
        · iexists _; isplitr; · ipureintro; exact harg2.read_unread _
          iexact H0
        isplitl [H1]
        · iexists _; isplitr; · ipureintro; exact harg3.read_unread _
          iexact H1
        isplitl [H2]
        · iexists _; isplitr; · ipureintro; exact harg4.read_unread _
          iexact H2
        isplitl [H3]
        · iexists _; isplitr; · ipureintro; exact harg5.read_unread _
          iexact H3
        isplitl [HS0]
        · iexists _, _; isplitr; swap; · iexact HS0
          ipureintro; rfl
        iexists _, _; isplitr; swap; · iexact HS1
        ipureintro; rfl
      iintro %r H
      rw [wp_ret]; imodintro
      iapply Hk
      iexact H
    · simp only [ht, ↓reduceIte, Prog.pure_eq_ret]
      iintro ⟨H, Hk⟩
      rw [wp_ret]; imodintro
      iapply Hk
      iexact H

end Label

end Cert.StickIdeal.Gen

end
-- ==== Proof.StickIdealPoint.lean ====
/-
  `StickIdeal`'s kernel body at one grid point, its loop answered by its specification.
-/
module

public import proofs.«01_k».proof.Proof.StickIdealLoop

@[expose] public section

-- membership in a rectangle of production extents (`View.cover_of_tiled`): the elaborator's structural look
-- recurses once per coordinate of the long axes
set_option maxRecDepth 16384

noncomputable section

namespace Cert.StickIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x256 .bf16) (harg5 : arg5.IsWhole) (arg6 : Memref sig .tc .vmem S1x128 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x128 .f32) (harg9 : arg9.IsWhole)
    (x0 : Vec F S512x128 .bf16) (x1 : Vec F S8192x128 .bf16) (x2 : Vec F S8192x128 .bf16) (x3 : Vec F S256x256 .bf16) (x4 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.nat c none) E (cc0_sb_attention i arg2 harg2 arg3 harg3 arg4 harg4 arg5 harg5 arg6 harg6 arg7 harg7 arg8 harg8 arg9 harg9) K := by
    intro E K
    simp only [cc0_sb_attention_eq_skeleton]; unfold cc0_sb_attention_skel
    simp only [k0_part7_eq_skeleton]; unfold k0_part7_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec
    iapply (wp_call_spec Variants.nat (c : Thread nD τ) none E (spec c arg3 arg4 arg2 arg5 arg8 arg9 x0 x1 x2 x3)
      (4 * (i 1).val) (fun u hu => nomatch hu)
      (spec_le c i arg3 harg3 arg4 harg4 arg2 harg2 arg5 harg5 arg8 harg8 arg9 harg9 x0 x1 x2 x3 E _ (start_le i) _ (start_eq i) _))
    rw [spec_apply]; unfold held owns
    isplitl [H0 H1 H2 H3 HS0 HS1]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [HS0]
      · iexists _, _; isplitr; swap; · iexact HS0
        ipureintro; rfl
      iexists _, _; isplitr; swap; · iexact HS1
      ipureintro; rfl
    iintro %r ⟨⟨%g0, %hg0, H0⟩, ⟨%g1, %hg1, H1⟩, ⟨%g2, %hg2, H2⟩, ⟨%g3, %hg3, H3⟩, ⟨%es0, %gs0, -, HS0⟩, ⟨%es1, %gs1, -, HS1⟩⟩
    obtain rfl := harg2.eq_unread hg0; obtain rfl := harg3.eq_unread hg1; obtain rfl := harg4.eq_unread hg2; obtain rfl := harg5.eq_unread hg3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.StickIdeal.Gen

end
-- ==== Proof.StickIdealFrame.lean ====
/-
  `StickIdeal`'s frame: it ends from every memory, its arguments as they were.
-/
module

public import proofs.«01_k».proof.Proof.StickIdealPoint
public import Idealize.ShloMosaic.Lib.Claim

@[expose] public section

-- membership in a rectangle of production extents (`View.cover_of_tiled`): the elaborator's structural look
-- recurses once per coordinate of the long axes
set_option maxRecDepth 16384

noncomputable section

namespace Cert.StickIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := (cfg0 (F := F))) ⟨5, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := by (dsimp only [dats]; try rfl)
theorem after0_1 (c : Dev nD) (t : Fin (cfg0 (F := F)).N) : (dats m 0 c).after 1 t = iblk m c 1 t := by (dsimp only [dats]; try rfl)
theorem after0_2 (c : Dev nD) (t : Fin (cfg0 (F := F)).N) : (dats m 0 c).after 2 t = iblk m c 2 t := by (dsimp only [dats]; try rfl)
theorem after0_3 (c : Dev nD) (t : Fin (cfg0 (F := F)).N) : (dats m 0 c).after 3 t = iblk m c 3 t := by (dsimp only [dats]; try rfl)
theorem after0_4 (c : Dev nD) (t : Fin (cfg0 (F := F)).N) : (dats m 0 c).after 4 t = iblk m c 4 t := by (dsimp only [dats]; try rfl)

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.nat () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost ((cfgs (F := F)) 0) (fun c => (dats m 0 c).toRForget forgets0) (V m)) r ∧ r.2.sem = fun _ => 0) :=
  Pipeline.θ_run_frame_forget_shared (Q' := _) (cfgs (F := F)) (dats m) (0 : Fin 1) launch₀0 defs₀ Variants.nat forgets0 m ρ main
    (hbody := fun c => (body_obligation m c).loose) (hq := fun _ _ _ => rfl)
    (howed := fun _ _ => rfl) (V := V m) (hmain := hmain m Variants.nat) (hA := A_eq m) (hΦ := fun _ _ => rfl)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost ((cfgs (F := F)) 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- THE FRAME: `Cert.quiescent_Stick`'s statement (Defs.lean) at any `F` — Proof.lean cites it at `Bits`:
    `theorem Cert.Proof.claim : Cert.Claim := ⟨Cert.StickIdeal.Gen.facts, fun m ρ _ => Cert.StickIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.StickIdeal.Gen

end
-- ==== Proof.StickModel.lean ====
/-
  Stick-breaking attention over the real numbers, and one block of 128 keys of it over the extended reals.
-/
module

public import Idealize.ShloMosaic.Lib.Pipeline.ValueKit
public import Idealize.ShloMosaic.PureOps.Ideal

@[expose] public section

set_option maxRecDepth 16384

noncomputable section

namespace Cert.Sb

open Idealize.ShloMosaic

/-- The softplus of a real number, from its positive part. -/
def sp (x : ℝ) : ℝ := max x 0 + Real.log (1 + Real.exp (-|x|))

/-- The scale of the scores. -/
def sc : ℝ := (Ideal.ofBits .f32 0x3DB504F3#32).toReal

theorem sc_eq : Ideal.ofBits .f32 0x3DB504F3#32 = ((sc : ℝ) : EReal) := by
  unfold sc
  refine (EReal.coe_toReal ?_ ?_).symm <;> simp only [Ideal.ofBits, Ideal.ieee] <;> simp <;> rw [← EReal.coe_mul]
  · exact EReal.coe_ne_top _
  · exact EReal.coe_ne_bot _

theorem abs_coe (r : ℝ) : max (r : EReal) (-(r : EReal)) = ((|r| : ℝ) : EReal) := by
  rw [← EReal.coe_neg, ← EReal.coe_strictMono.monotone.map_max]
  rfl

theorem log_one_exp (r : ℝ) : Ideal.log (1 + Ideal.exp (r : EReal)) = ((Real.log (1 + Real.exp r) : ℝ) : EReal) := by
  rw [Ideal.exp_coe, ← EReal.coe_one, ← EReal.coe_add, Ideal.log_coe, if_neg]
  have := Real.exp_pos r
  linarith

theorem soft (r : ℝ) : max (r : EReal) 0 + Ideal.log (1 + Ideal.exp (0 - max (r : EReal) (-(r : EReal)))) = ((sp r : ℝ) : EReal) := by
  rw [abs_coe, zero_sub, ← EReal.coe_neg, log_one_exp, ← EReal.coe_zero, ← EReal.coe_strictMono.monotone.map_max,
    ← EReal.coe_add]
  rfl

theorem sp_neg (x : ℝ) : sp (-x) = sp x - x := by
  unfold sp
  rw [abs_neg]
  rcases le_total 0 x with h | h
  · rw [max_eq_right (by linarith), max_eq_left h]; ring
  · rw [max_eq_left (by linarith), max_eq_right h]; ring

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

section
variable (X : ℕ → ℕ → ℝ) (h t : ℕ)

/-- The score of step `t` against step `s` in head `h`. -/
def zz (s : ℕ) : ℝ := (∑ e : Fin 128, X t (128 * h + e.val) * X s (2048 + 128 * h + e.val)) * sc

/-- The logarithm of what step `s` leaves. -/
def lk (s : ℕ) : ℝ := if s < t then -sp (zz X h t s) else 0

/-- The logarithm of what the steps from `n` on leave. -/
def rem (n : ℕ) : ℝ := ∑ j ∈ Finset.Ico n 8192, lk X h t j

/-- The weight of step `s`. -/
def pp (s : ℕ) : ℝ := if s < t then Real.exp (zz X h t s - sp (zz X h t s) + rem X h t (s + 1)) else 0

/-- The weighted values of the steps from `n` on. -/
def ac (n d : ℕ) : ℝ := ∑ s ∈ Finset.Ico n 8192, pp X h t s * X s (4096 + 128 * h + d)

theorem sum_block (f : ℕ → ℝ) (n : ℕ) (hn : n < 64) :
    ∑ j ∈ Finset.Ico (128 * n) 8192, f j = ∑ j ∈ Finset.Ico (128 * (n + 1)) 8192, f j + ∑ x : Fin 128, f (128 * n + x.val) := by
  rw [← Finset.sum_Ico_consecutive f (show 128 * n ≤ 128 * (n + 1) by omega) (show 128 * (n + 1) ≤ 8192 by omega), add_comm,
    Finset.sum_Ico_eq_sum_range f (128 * n) (128 * (n + 1)), show 128 * (n + 1) - 128 * n = 128 by omega,
    Finset.sum_range]

theorem rem_block (n : ℕ) (hn : n < 64) : rem X h t (128 * n) = rem X h t (128 * (n + 1)) + ∑ x : Fin 128, lk X h t (128 * n + x.val) :=
  sum_block _ n hn

theorem ac_block (n d : ℕ) (hn : n < 64) :
    ac X h t (128 * n) d = ac X h t (128 * (n + 1)) d + ∑ x : Fin 128, pp X h t (128 * n + x.val) * X (128 * n + x.val) (4096 + 128 * h + d) :=
  sum_block (fun s => pp X h t s * X s (4096 + 128 * h + d)) n hn

theorem sum_after (f : ℕ → ℝ) (x : ℕ) (hx : x < 128) :
    ∑ y ∈ Finset.Ico (x + 1) 128, f y = ∑ y : Fin 128, if x < y.val then f y.val else 0 := by
  rw [← Finset.sum_range (fun y => if x < y then f y else 0), ← Finset.sum_filter]
  refine Finset.sum_congr (Finset.ext fun y => ?_) fun _ _ => rfl
  simp only [Finset.mem_Ico, Finset.mem_filter, Finset.mem_range]
  omega

theorem rem_after (n : ℕ) (hn : n < 64) (x : Fin 128) :
    rem X h t (128 * n + x.val + 1) = (∑ y : Fin 128, if x.val < y.val then lk X h t (128 * n + y.val) else 0) + rem X h t (128 * (n + 1)) := by
  have hx := x.2
  unfold rem
  rw [← Finset.sum_Ico_consecutive _ (show 128 * n + x.val + 1 ≤ 128 * (n + 1) by omega) (show 128 * (n + 1) ≤ 8192 by omega)]
  congr 1
  rw [← sum_after (fun y => lk X h t (128 * n + y)) x.val hx, show 128 * (n + 1) = 128 * n + 128 by omega, add_assoc,
    Finset.sum_Ico_add (lk X h t) (x.val + 1) 128 (128 * n)]
  simp only [add_comm]

/-- Past the row's own step nothing is left out and nothing is taken. -/
theorem rem_zero (n : ℕ) (hn : t ≤ n) : rem X h t n = 0 :=
  Finset.sum_eq_zero fun j hj => by
    rw [Finset.mem_Ico] at hj
    exact if_neg (by omega)

theorem ac_zero (n d : ℕ) (hn : t ≤ n) : ac X h t n d = 0 :=
  Finset.sum_eq_zero fun j hj => by
    rw [Finset.mem_Ico] at hj
    unfold pp
    rw [if_neg (by omega), zero_mul]

end

/-- The high and the low parts of real numbers, summed over the rows that a table takes. -/
theorem two_parts (f : Fin 128 → EReal) (g : Fin 128 → ℝ) (w w' : Fin 128 → EReal) (p : Fin 128 → Prop) [DecidablePred p]
    (hf : ∀ y, f y = ((g y : ℝ) : EReal)) (hw : ∀ y, w y = if p y then 1 else 0) :
    ∑ y, f y * w y + ∑ y, (f y - f y) * w' y = ((∑ y, if p y then g y else 0 : ℝ) : EReal) := by
  have e2 : ∑ y, (f y - f y) * w' y = 0 := Finset.sum_eq_zero fun y _ => by
    rw [hf, ← EReal.coe_sub, sub_self, EReal.coe_zero, zero_mul]
  rw [e2, add_zero, coe_sum]
  refine Finset.sum_congr rfl fun y _ => ?_
  rw [hf, hw]
  split_ifs <;> simp

theorem select_if {α : Type} (p : Prop) [Decidable p] (a b : α) : Scalar.select (BitVec.ofBool (decide p)) a b = if p then a else b := by
  by_cases hp : p <;> simp [hp, Scalar.select]

theorem slt_word (a b : ℕ) (ha : a < 8192) (hb : b < 8192) :
    IntOp.cmpi .slt (BitVec.ofNat 32 a) (BitVec.ofNat 32 b) = BitVec.ofBool (decide (a < b)) := by
  have e : ∀ x : ℕ, x < 8192 → (BitVec.ofNat 32 x).toInt = (x : ℤ) := fun x hx => by
    rw [BitVec.toInt_eq_toNat_of_lt (by rw [BitVec.toNat_ofNat]; omega), BitVec.toNat_ofNat]
    omega
  show BitVec.ofBool (BitVec.slt _ _) = _
  rw [BitVec.slt, e a ha, e b hb]
  simp

/-- A weight, from the score, the logarithm of what its block leaves after it, and the carried one. -/
theorem weight_eq (X : ℕ → ℕ → ℝ) (h t n : ℕ) (hn : n < 64) (x : Fin 128) (hx : 128 * n + x.val < t) :
    Ideal.exp (((zz X h t (128 * n + x.val) : ℝ) : EReal) - ((sp (zz X h t (128 * n + x.val)) : ℝ) : EReal)
      + ((∑ y : Fin 128, if x.val < y.val then lk X h t (128 * n + y.val) else 0 : ℝ) : EReal)
      + ((rem X h t (128 * (n + 1)) : ℝ) : EReal)) = ((pp X h t (128 * n + x.val) : ℝ) : EReal) := by
  rw [← EReal.coe_sub, ← EReal.coe_add, ← EReal.coe_add, Ideal.exp_coe]
  unfold pp
  rw [if_pos hx, rem_after X h t n hn x, add_assoc]

end Cert.Sb

end
-- ==== Proof.StickPay.lean ====
/-
  What a block of keys leaves in the carried logarithms and in the weighted values, at every row and column.
-/
module

public import proofs.«01_k».proof.Proof.Gen.StickIdeal.Skeleton
public import proofs.«01_k».proof.Proof.StickModel
public import Idealize.ShloMosaic.Lib.Pipeline.ValueKit

@[expose] public section

set_option maxRecDepth 16384

noncomputable section

namespace Cert.StickIdeal.Gen

open Idealize.ShloMosaic Idealize.ShloMosaic.TcCoe Idealize.SL.Sem
open Cert.Sb

/-- The table of ones and zeros, as numbers. -/
def IsCum (c : Vec Ideal S256x256 .bf16) : Prop :=
  ∀ i : S256x256.Idx, c i = if 128 ≤ (i 1).val ∨ (i 1).val < (i 0).val % 128 then (1 : EReal) else 0

theorem cum_left (c : Vec Ideal S256x256 .bf16) (hc : IsCum c) (x y : Fin 128) (h1 : y.val < 256) (h2 : x.val < 256) :
    c (ix2 ⟨y.val, h1⟩ ⟨x.val, h2⟩) = if x.val < y.val then (1 : EReal) else 0 := by
  have hx := x.2
  have hy := y.2
  rw [hc]
  refine if_congr ?_ rfl rfl
  simp only [ix2_0, ix2_1]
  omega

theorem cum_right (c : Vec Ideal S256x256 .bf16) (hc : IsCum c) (x y : Fin 128) (h1 : y.val < 256) (h2 : 128 + x.val < 256) :
    c (ix2 ⟨y.val, h1⟩ ⟨128 + x.val, h2⟩) = if True then (1 : EReal) else 0 := by
  rw [hc]
  refine if_congr (iff_of_true ?_ trivial) rfl rfl
  simp only [ix2_1]
  omega

/-- The largest of the carried logarithms is above minus infinity. -/
theorem above_bot (s : Vec Ideal S512x128 .f32) (r : Fin 512) (j : Fin 128) (x : ℝ) (hs : s (ix2 r j) = ((x : ℝ) : EReal)) (b : EReal) :
    (⊥ : EReal) < Finset.fold max b (fun x : Fin 512 × Fin 128 => (s (ix2 x.1 x.2) : EReal)) Finset.univ := by
  refine lt_of_lt_of_le ?_ ((Finset.le_fold_max _).2 (.inr ⟨(r, j), Finset.mem_univ _, le_rfl⟩))
  show (⊥ : EReal) < s (ix2 r j)
  rw [hs]
  exact EReal.bot_lt_coe x

theorem test_first (s : Vec Ideal S512x128 .f32) (r : Fin 512) (j : Fin 128) (x : ℝ) (hs : s (ix2 r j) = ((x : ℝ) : EReal)) :
    (⊥ : EReal) < k0_pay36 s := by
  have e : (k0_pay36 s : EReal) = Finset.fold max (Ideal.ofBits .f32 4286578688#32) (fun x : Fin 512 × Fin 128 => (s (ix2 x.1 x.2) : EReal)) Finset.univ := by
    unfold k0_pay36
    pointwise
  rw [e]
  exact above_bot s r j x hs _

theorem test_next (s : Vec Ideal S512x128 .f32) (r : Fin 512) (j : Fin 128) (x : ℝ) (hs : s (ix2 r j) = ((x : ℝ) : EReal)) :
    (⊥ : EReal) < k0_pay3 s := by
  have e : (k0_pay3 s : EReal) = Finset.fold max (Ideal.ofBits .f32 4286578688#32) (fun x : Fin 512 × Fin 128 => (s (ix2 x.1 x.2) : EReal)) Finset.univ := by
    unfold k0_pay3
    pointwise
  rw [e]
  exact above_bot s r j x hs _

/-- A row's entry times the reciprocal root of the row's mean square, times the column's weight. -/
def normed (x : Fin 128 → EReal) (w : EReal) (j : Fin 128) : EReal :=
  x j * Ideal.rsqrt (Ideal.div (∑ k, x k * x k) (Ideal.ofBits .f32 1124073472#32) + Ideal.ofBits .f32 897988541#32) * w

theorem pay37_at (s : Vec Ideal S512x128 .f32)  (w : Vec Ideal S1x128 .f32) (r : Fin 512) (j : Fin 128) :
    k0_pay37 s w (ix2 r j) = normed (fun k => s (ix2 r k)) (w (ix2 0 j)) j := by
  unfold k0_pay37 normed
  pointwise

theorem pay4_at (r : Fin 512) (j : Fin 128) : (k0_pay4 : FVec Ideal S512x128 .f32) (ix2 r j) = (0 : EReal) := by
  unfold k0_pay4
  pointwise

theorem pay5_at (r : Fin 512) (j : Fin 128) : (k0_pay5 : FVec Ideal S512x128 .f32) (ix2 r j) = (0 : EReal) := by
  unfold k0_pay5
  pointwise

section
variable (X : ℕ → ℕ → ℝ) (h T0 n : ℕ) (hn : n < 64)
variable (k v : Vec Ideal S128x128 .bf16) (c : Vec Ideal S256x256 .bf16)
  (hk : ∀ x e : Fin 128, k (ix2 x e) = ((X (128 * n + x.val) (2048 + 128 * h + e.val) : ℝ) : EReal))
  (hv : ∀ x d : Fin 128, v (ix2 x d) = ((X (128 * n + x.val) (4096 + 128 * h + d.val) : ℝ) : EReal))
  (hc : IsCum c)
include hk

section
variable (q : Vec Ideal S128x128 .bf16) (s a : Vec Ideal S128x128 .f32)
  (hq : ∀ (r : Fin 128) (e : Fin 128), q (ix2 r e) = ((X (128 * n + r.val) (128 * h + e.val) : ℝ) : EReal))
include hq

theorem z128_at (r : Fin 128) (x : Fin 128) : k0_pay7 k q (ix2 r x) = ((zz X h (128 * n + r.val) (128 * n + x.val) : ℝ) : EReal) := by
  unfold k0_pay7 zz
  pointwise
  rw [EReal.coe_mul, coe_sum, ← sc_eq]
  refine congrArg₂ _ (Finset.sum_congr rfl fun e _ => ?_) rfl
  rw [hq, hk, EReal.coe_mul]

theorem u128_at (r : Fin 128) (x : Fin 128) : k0_pay8 k q (ix2 r x) = ((sp (zz X h (128 * n + r.val) (128 * n + x.val)) : ℝ) : EReal) := by
  unfold k0_pay8
  pointwise
  rw [z128_at X h n k hk q hq]
  exact soft _

omit hk hq in
theorem mask128_at (r : Fin 128) (x : Fin 128) : k0_pay6 (ix2 r x) = BitVec.ofBool (decide (x.val < r.val)) := by
  unfold k0_pay6
  pointwise
  exact slt_word x.val r.val (by omega) (by omega)

theorem lk128_at (r : Fin 128) (x : Fin 128) :
    Scalar.select (k0_pay6 (ix2 r x)) (0 - k0_pay8 k q (ix2 r x)) 0 = ((lk X h (128 * n + r.val) (128 * n + x.val) : ℝ) : EReal) := by
  rw [mask128_at, select_if, u128_at X h n k hk q hq]
  unfold lk
  by_cases hx : x.val < r.val
  · rw [if_pos hx, if_pos (by omega), zero_sub, EReal.coe_neg]
  · rw [if_neg hx, if_neg (by omega), EReal.coe_zero]

include hc in
theorem left128_at (r : Fin 128) (x : Fin 128) (hx : x.val < 256) :
    k0_pay11 k0_pay6 (k0_pay9 k q) k0_pay10 c (ix2 r ⟨x.val, hx⟩) = ((∑ y : Fin 128, if x.val < y.val then lk X h (128 * n + r.val) (128 * n + y.val) else 0 : ℝ) : EReal) := by
  have e := two_parts _ (fun y => lk X h (128 * n + r.val) (128 * n + y.val)) _ (fun y : Fin 128 => c (ix2 ⟨128 + y.val, by omega⟩ ⟨x.val, hx⟩)) (fun y => x.val < y.val) (fun y => lk128_at X h n k hk q hq r y) (fun y => cum_left c hc x y (by omega) hx)
  rw [← e]
  unfold k0_pay11 k0_pay9 k0_pay10
  pointwise

include hc in
theorem right128_at (r : Fin 128) (x : Fin 128) (hx : 128 + x.val < 256) :
    k0_pay11 k0_pay6 (k0_pay9 k q) k0_pay10 c (ix2 r ⟨128 + x.val, hx⟩) = ((∑ y : Fin 128, lk X h (128 * n + r.val) (128 * n + y.val) : ℝ) : EReal) := by
  have e := two_parts _ (fun y => lk X h (128 * n + r.val) (128 * n + y.val)) _ (fun y : Fin 128 => c (ix2 ⟨128 + y.val, by omega⟩ ⟨128 + x.val, hx⟩)) (fun _ => True) (fun y => lk128_at X h n k hk q hq r y) (fun y => cum_right c hc x y (by omega) hx)
  simp only [if_true] at e
  rw [← e]
  unfold k0_pay11 k0_pay9 k0_pay10
  pointwise

variable (hs : ∀ (r : Fin 128) (x : Fin 128), s (ix2 r x) = ((rem X h (128 * n + r.val) (128 * (n + 1)) : ℝ) : EReal))
  (ha : ∀ (r : Fin 128) (d : Fin 128), a (ix2 r d) = ((ac X h (128 * n + r.val) (128 * (n + 1)) d.val : ℝ) : EReal))
include hs

include hn hc in
theorem carry128_at (r : Fin 128) (x : Fin 128) :
    k0_pay13 k0_pay6 (k0_pay9 k q) k0_pay10 c s (ix2 r x) = ((rem X h (128 * n + r.val) (128 * n) : ℝ) : EReal) := by
  unfold k0_pay13
  pointwise
  rw [hs, right128_at X h n k c hk hc q hq, ← EReal.coe_add, rem_block X h _ n hn]

include ha
include hn hc hv in
theorem acc128_at (r : Fin 128) (d : Fin 128) :
    k0_pay12 k0_pay6 v (k0_pay7 k q) (k0_pay8 k q) (k0_pay9 k q) k0_pay10 c s a (ix2 r d) = ((ac X h (128 * n + r.val) (128 * n) d.val : ℝ) : EReal) := by
  unfold k0_pay12
  pointwise
  rw [ha, ac_block X h _ n d.val hn, EReal.coe_add, coe_sum]
  refine congrArg _ (Finset.sum_congr rfl fun x _ => ?_)
  rw [mask128_at, select_if]
  by_cases hx : x.val < r.val
  · rw [if_pos hx, z128_at X h n k hk q hq, u128_at X h n k hk q hq, left128_at X h n k c hk hc q hq, hs, weight_eq X h _ n hn x (by omega), hv, EReal.coe_mul]
  · rw [if_neg hx]
    unfold pp
    rw [if_neg (by omega), zero_mul, EReal.coe_zero]

end

section
variable (q : Vec Ideal S256x128 .bf16) (s a : Vec Ideal S256x128 .f32)
  (hq : ∀ (r : Fin 256) (e : Fin 128), q (ix2 r e) = ((X (128 * n + r.val) (128 * h + e.val) : ℝ) : EReal))
include hq

theorem z256_at (r : Fin 256) (x : Fin 128) : k0_pay15 k q (ix2 r x) = ((zz X h (128 * n + r.val) (128 * n + x.val) : ℝ) : EReal) := by
  unfold k0_pay15 zz
  pointwise
  rw [EReal.coe_mul, coe_sum, ← sc_eq]
  refine congrArg₂ _ (Finset.sum_congr rfl fun e _ => ?_) rfl
  rw [hq, hk, EReal.coe_mul]

theorem u256_at (r : Fin 256) (x : Fin 128) : k0_pay16 k q (ix2 r x) = ((sp (zz X h (128 * n + r.val) (128 * n + x.val)) : ℝ) : EReal) := by
  unfold k0_pay16
  pointwise
  rw [z256_at X h n k hk q hq]
  exact soft _

omit hk hq in
theorem mask256_at (r : Fin 256) (x : Fin 128) : k0_pay14 (ix2 r x) = BitVec.ofBool (decide (x.val < r.val)) := by
  unfold k0_pay14
  pointwise
  exact slt_word x.val r.val (by omega) (by omega)

theorem lk256_at (r : Fin 256) (x : Fin 128) :
    Scalar.select (k0_pay14 (ix2 r x)) (0 - k0_pay16 k q (ix2 r x)) 0 = ((lk X h (128 * n + r.val) (128 * n + x.val) : ℝ) : EReal) := by
  rw [mask256_at, select_if, u256_at X h n k hk q hq]
  unfold lk
  by_cases hx : x.val < r.val
  · rw [if_pos hx, if_pos (by omega), zero_sub, EReal.coe_neg]
  · rw [if_neg hx, if_neg (by omega), EReal.coe_zero]

include hc in
theorem left256_at (r : Fin 256) (x : Fin 128) (hx : x.val < 256) :
    k0_pay17 k0_pay14 k q c (ix2 r ⟨x.val, hx⟩) = ((∑ y : Fin 128, if x.val < y.val then lk X h (128 * n + r.val) (128 * n + y.val) else 0 : ℝ) : EReal) := by
  have e := two_parts _ (fun y => lk X h (128 * n + r.val) (128 * n + y.val)) _ (fun y : Fin 128 => c (ix2 ⟨128 + y.val, by omega⟩ ⟨x.val, hx⟩)) (fun y => x.val < y.val) (fun y => lk256_at X h n k hk q hq r y) (fun y => cum_left c hc x y (by omega) hx)
  rw [← e]
  unfold k0_pay17
  pointwise

include hc in
theorem right256_at (r : Fin 256) (x : Fin 128) (hx : 128 + x.val < 256) :
    k0_pay17 k0_pay14 k q c (ix2 r ⟨128 + x.val, hx⟩) = ((∑ y : Fin 128, lk X h (128 * n + r.val) (128 * n + y.val) : ℝ) : EReal) := by
  have e := two_parts _ (fun y => lk X h (128 * n + r.val) (128 * n + y.val)) _ (fun y : Fin 128 => c (ix2 ⟨128 + y.val, by omega⟩ ⟨128 + x.val, hx⟩)) (fun _ => True) (fun y => lk256_at X h n k hk q hq r y) (fun y => cum_right c hc x y (by omega) hx)
  simp only [if_true] at e
  rw [← e]
  unfold k0_pay17
  pointwise

variable (hs : ∀ (r : Fin 256) (x : Fin 128), s (ix2 r x) = ((rem X h (128 * n + r.val) (128 * (n + 1)) : ℝ) : EReal))
  (ha : ∀ (r : Fin 256) (d : Fin 128), a (ix2 r d) = ((ac X h (128 * n + r.val) (128 * (n + 1)) d.val : ℝ) : EReal))
include hs

include hn hc in
theorem carry256_at (r : Fin 256) (x : Fin 128) :
    k0_pay20 (k0_pay17 k0_pay14 k q c) s (ix2 r x) = ((rem X h (128 * n + r.val) (128 * n) : ℝ) : EReal) := by
  unfold k0_pay20
  pointwise
  rw [hs, right256_at X h n k c hk hc q hq, ← EReal.coe_add, rem_block X h _ n hn]

include ha
include hn hc hv in
theorem acc256_at (r : Fin 256) (d : Fin 128) :
    k0_pay19 (k0_pay18 k0_pay14 k v q c s a) (ix2 r d) = ((ac X h (128 * n + r.val) (128 * n) d.val : ℝ) : EReal) := by
  unfold k0_pay19 k0_pay18
  pointwise
  rw [ha, ac_block X h _ n d.val hn, EReal.coe_add, coe_sum]
  refine congrArg _ (Finset.sum_congr rfl fun x _ => ?_)
  rw [mask256_at, select_if]
  by_cases hx : x.val < r.val
  · rw [if_pos hx, z256_at X h n k hk q hq, u256_at X h n k hk q hq, left256_at X h n k c hk hc q hq, hs, weight_eq X h _ n hn x (by omega), hv, EReal.coe_mul]
  · rw [if_neg hx]
    unfold pp
    rw [if_neg (by omega), zero_mul, EReal.coe_zero]

end

section
variable (q : Vec Ideal S384x128 .bf16) (s a : Vec Ideal S384x128 .f32)
  (hq : ∀ (r : Fin 384) (e : Fin 128), q (ix2 r e) = ((X (128 * n + r.val) (128 * h + e.val) : ℝ) : EReal))
include hq

theorem z384_at (r : Fin 384) (x : Fin 128) : k0_pay22 k q (ix2 r x) = ((zz X h (128 * n + r.val) (128 * n + x.val) : ℝ) : EReal) := by
  unfold k0_pay22 zz
  pointwise
  rw [EReal.coe_mul, coe_sum, ← sc_eq]
  refine congrArg₂ _ (Finset.sum_congr rfl fun e _ => ?_) rfl
  rw [hq, hk, EReal.coe_mul]

theorem u384_at (r : Fin 384) (x : Fin 128) : k0_pay23 k q (ix2 r x) = ((sp (zz X h (128 * n + r.val) (128 * n + x.val)) : ℝ) : EReal) := by
  unfold k0_pay23
  pointwise
  rw [z384_at X h n k hk q hq]
  exact soft _

omit hk hq in
theorem mask384_at (r : Fin 384) (x : Fin 128) : k0_pay21 (ix2 r x) = BitVec.ofBool (decide (x.val < r.val)) := by
  unfold k0_pay21
  pointwise
  exact slt_word x.val r.val (by omega) (by omega)

theorem lk384_at (r : Fin 384) (x : Fin 128) :
    Scalar.select (k0_pay21 (ix2 r x)) (0 - k0_pay23 k q (ix2 r x)) 0 = ((lk X h (128 * n + r.val) (128 * n + x.val) : ℝ) : EReal) := by
  rw [mask384_at, select_if, u384_at X h n k hk q hq]
  unfold lk
  by_cases hx : x.val < r.val
  · rw [if_pos hx, if_pos (by omega), zero_sub, EReal.coe_neg]
  · rw [if_neg hx, if_neg (by omega), EReal.coe_zero]

include hc in
theorem left384_at (r : Fin 384) (x : Fin 128) (hx : x.val < 256) :
    k0_pay26 (k0_pay24 k q) (k0_pay25 k q) c (ix2 r ⟨x.val, hx⟩) = ((∑ y : Fin 128, if x.val < y.val then lk X h (128 * n + r.val) (128 * n + y.val) else 0 : ℝ) : EReal) := by
  have e := two_parts _ (fun y => lk X h (128 * n + r.val) (128 * n + y.val)) _ (fun y : Fin 128 => c (ix2 ⟨128 + y.val, by omega⟩ ⟨x.val, hx⟩)) (fun y => x.val < y.val) (fun y => lk384_at X h n k hk q hq r y) (fun y => cum_left c hc x y (by omega) hx)
  rw [← e]
  unfold k0_pay26 k0_pay25 k0_pay24
  pointwise

include hc in
theorem right384_at (r : Fin 384) (x : Fin 128) (hx : 128 + x.val < 256) :
    k0_pay26 (k0_pay24 k q) (k0_pay25 k q) c (ix2 r ⟨128 + x.val, hx⟩) = ((∑ y : Fin 128, lk X h (128 * n + r.val) (128 * n + y.val) : ℝ) : EReal) := by
  have e := two_parts _ (fun y => lk X h (128 * n + r.val) (128 * n + y.val)) _ (fun y : Fin 128 => c (ix2 ⟨128 + y.val, by omega⟩ ⟨128 + x.val, hx⟩)) (fun _ => True) (fun y => lk384_at X h n k hk q hq r y) (fun y => cum_right c hc x y (by omega) hx)
  simp only [if_true] at e
  rw [← e]
  unfold k0_pay26 k0_pay25 k0_pay24
  pointwise

variable (hs : ∀ (r : Fin 384) (x : Fin 128), s (ix2 r x) = ((rem X h (128 * n + r.val) (128 * (n + 1)) : ℝ) : EReal))
  (ha : ∀ (r : Fin 384) (d : Fin 128), a (ix2 r d) = ((ac X h (128 * n + r.val) (128 * (n + 1)) d.val : ℝ) : EReal))
include hs

include hn hc in
theorem carry384_at (r : Fin 384) (x : Fin 128) :
    k0_pay28 (k0_pay24 k q) (k0_pay25 k q) c s (ix2 r x) = ((rem X h (128 * n + r.val) (128 * n) : ℝ) : EReal) := by
  unfold k0_pay28
  pointwise
  rw [hs, right384_at X h n k c hk hc q hq, ← EReal.coe_add, rem_block X h _ n hn]

include ha
include hn hc hv in
theorem acc384_at (r : Fin 384) (d : Fin 128) :
    k0_pay27 k0_pay21 v (k0_pay22 k q) (k0_pay23 k q) (k0_pay24 k q) (k0_pay25 k q) c s a (ix2 r d) = ((ac X h (128 * n + r.val) (128 * n) d.val : ℝ) : EReal) := by
  unfold k0_pay27
  pointwise
  rw [ha, ac_block X h _ n d.val hn, EReal.coe_add, coe_sum]
  refine congrArg _ (Finset.sum_congr rfl fun x _ => ?_)
  rw [mask384_at, select_if]
  by_cases hx : x.val < r.val
  · rw [if_pos hx, z384_at X h n k hk q hq, u384_at X h n k hk q hq, left384_at X h n k c hk hc q hq, hs, weight_eq X h _ n hn x (by omega), hv, EReal.coe_mul]
  · rw [if_neg hx]
    unfold pp
    rw [if_neg (by omega), zero_mul, EReal.coe_zero]

end

section
variable (q : Vec Ideal S512x128 .bf16) (s a : Vec Ideal S512x128 .f32)
  (hq : ∀ (r : Fin 512) (e : Fin 128), q (ix2 r e) = ((X (128 * n + r.val) (128 * h + e.val) : ℝ) : EReal))
include hq

theorem z512_at (r : Fin 512) (x : Fin 128) : k0_pay30 k q (ix2 r x) = ((zz X h (128 * n + r.val) (128 * n + x.val) : ℝ) : EReal) := by
  unfold k0_pay30 zz
  pointwise
  rw [EReal.coe_mul, coe_sum, ← sc_eq]
  refine congrArg₂ _ (Finset.sum_congr rfl fun e _ => ?_) rfl
  rw [hq, hk, EReal.coe_mul]

theorem u512_at (r : Fin 512) (x : Fin 128) : k0_pay31 k q (ix2 r x) = ((sp (zz X h (128 * n + r.val) (128 * n + x.val)) : ℝ) : EReal) := by
  unfold k0_pay31
  pointwise
  rw [z512_at X h n k hk q hq]
  exact soft _

omit hk hq in
theorem mask512_at (r : Fin 512) (x : Fin 128) : k0_pay29 (ix2 r x) = BitVec.ofBool (decide (x.val < r.val)) := by
  unfold k0_pay29
  pointwise
  exact slt_word x.val r.val (by omega) (by omega)

theorem lk512_at (r : Fin 512) (x : Fin 128) :
    Scalar.select (k0_pay29 (ix2 r x)) (0 - k0_pay31 k q (ix2 r x)) 0 = ((lk X h (128 * n + r.val) (128 * n + x.val) : ℝ) : EReal) := by
  rw [mask512_at, select_if, u512_at X h n k hk q hq]
  unfold lk
  by_cases hx : x.val < r.val
  · rw [if_pos hx, if_pos (by omega), zero_sub, EReal.coe_neg]
  · rw [if_neg hx, if_neg (by omega), EReal.coe_zero]

include hc in
theorem left512_at (r : Fin 512) (x : Fin 128) (hx : x.val < 256) :
    k0_pay32 k0_pay29 k q c (ix2 r ⟨x.val, hx⟩) = ((∑ y : Fin 128, if x.val < y.val then lk X h (128 * n + r.val) (128 * n + y.val) else 0 : ℝ) : EReal) := by
  have e := two_parts _ (fun y => lk X h (128 * n + r.val) (128 * n + y.val)) _ (fun y : Fin 128 => c (ix2 ⟨128 + y.val, by omega⟩ ⟨x.val, hx⟩)) (fun y => x.val < y.val) (fun y => lk512_at X h n k hk q hq r y) (fun y => cum_left c hc x y (by omega) hx)
  rw [← e]
  unfold k0_pay32
  pointwise

include hc in
theorem right512_at (r : Fin 512) (x : Fin 128) (hx : 128 + x.val < 256) :
    k0_pay32 k0_pay29 k q c (ix2 r ⟨128 + x.val, hx⟩) = ((∑ y : Fin 128, lk X h (128 * n + r.val) (128 * n + y.val) : ℝ) : EReal) := by
  have e := two_parts _ (fun y => lk X h (128 * n + r.val) (128 * n + y.val)) _ (fun y : Fin 128 => c (ix2 ⟨128 + y.val, by omega⟩ ⟨128 + x.val, hx⟩)) (fun _ => True) (fun y => lk512_at X h n k hk q hq r y) (fun y => cum_right c hc x y (by omega) hx)
  simp only [if_true] at e
  rw [← e]
  unfold k0_pay32
  pointwise

variable (hs : ∀ (r : Fin 512) (x : Fin 128), s (ix2 r x) = ((rem X h (128 * n + r.val) (128 * (n + 1)) : ℝ) : EReal))
  (ha : ∀ (r : Fin 512) (d : Fin 128), a (ix2 r d) = ((ac X h (128 * n + r.val) (128 * (n + 1)) d.val : ℝ) : EReal))
include hs

include hn hc in
theorem carry512_at (r : Fin 512) (x : Fin 128) :
    k0_pay35 (k0_pay32 k0_pay29 k q c) s (ix2 r x) = ((rem X h (128 * n + r.val) (128 * n) : ℝ) : EReal) := by
  unfold k0_pay35
  pointwise
  rw [hs, right512_at X h n k c hk hc q hq, ← EReal.coe_add, rem_block X h _ n hn]

include ha
include hn hc hv in
theorem acc512_at (r : Fin 512) (d : Fin 128) :
    k0_pay34 (k0_pay33 k0_pay29 k v q c s a) (ix2 r d) = ((ac X h (128 * n + r.val) (128 * n) d.val : ℝ) : EReal) := by
  unfold k0_pay34 k0_pay33
  pointwise
  rw [ha, ac_block X h _ n d.val hn, EReal.coe_add, coe_sum]
  refine congrArg _ (Finset.sum_congr rfl fun x _ => ?_)
  rw [mask512_at, select_if]
  by_cases hx : x.val < r.val
  · rw [if_pos hx, z512_at X h n k hk q hq, u512_at X h n k hk q hq, left512_at X h n k c hk hc q hq, hs, weight_eq X h _ n hn x (by omega), hv, EReal.coe_mul]
  · rw [if_neg hx]
    unfold pp
    rw [if_neg (by omega), zero_mul, EReal.coe_zero]

end

section
variable (q : Vec Ideal S512x128 .bf16) (s a : Vec Ideal S512x128 .f32) (hT : 128 * (n + 1) ≤ T0)
  (hq : ∀ (r : Fin 512) (e : Fin 128), q (ix2 r e) = ((X (T0 + r.val) (128 * h + e.val) : ℝ) : EReal))
include hq

theorem zlow_at (r : Fin 512) (x : Fin 128) : k0_pay38 k q (ix2 r x) = ((zz X h (T0 + r.val) (128 * n + x.val) : ℝ) : EReal) := by
  unfold k0_pay38 zz
  pointwise
  rw [EReal.coe_mul, coe_sum, ← sc_eq]
  refine congrArg₂ _ (Finset.sum_congr rfl fun e _ => ?_) rfl
  rw [hq, hk, EReal.coe_mul]

theorem ulow_at (r : Fin 512) (x : Fin 128) : k0_pay39 k q (ix2 r x) = ((sp (zz X h (T0 + r.val) (128 * n + x.val)) : ℝ) : EReal) := by
  unfold k0_pay39
  pointwise
  rw [zlow_at X h T0 n k hk q hq]
  exact soft _

include hT in
theorem lklow_at (r : Fin 512) (x : Fin 128) : 0 - k0_pay39 k q (ix2 r x) = ((lk X h (T0 + r.val) (128 * n + x.val) : ℝ) : EReal) := by
  rw [ulow_at X h T0 n k hk q hq]
  unfold lk
  rw [if_pos (by omega), zero_sub, EReal.coe_neg]

include hT hc in
theorem leftlow_at (r : Fin 512) (x : Fin 128) (hx : x.val < 256) :
    k0_pay40 k q c (ix2 r ⟨x.val, hx⟩) = ((∑ y : Fin 128, if x.val < y.val then lk X h (T0 + r.val) (128 * n + y.val) else 0 : ℝ) : EReal) := by
  have e := two_parts _ (fun y => lk X h (T0 + r.val) (128 * n + y.val)) _ (fun y : Fin 128 => c (ix2 ⟨128 + y.val, by omega⟩ ⟨x.val, hx⟩)) (fun y => x.val < y.val) (fun y => lklow_at X h T0 n k hk q hT hq r y) (fun y => cum_left c hc x y (by omega) hx)
  rw [← e]
  unfold k0_pay40
  pointwise

include hT hc in
theorem rightlow_at (r : Fin 512) (x : Fin 128) (hx : 128 + x.val < 256) :
    k0_pay40 k q c (ix2 r ⟨128 + x.val, hx⟩) = ((∑ y : Fin 128, lk X h (T0 + r.val) (128 * n + y.val) : ℝ) : EReal) := by
  have e := two_parts _ (fun y => lk X h (T0 + r.val) (128 * n + y.val)) _ (fun y : Fin 128 => c (ix2 ⟨128 + y.val, by omega⟩ ⟨128 + x.val, hx⟩)) (fun _ => True) (fun y => lklow_at X h T0 n k hk q hT hq r y) (fun y => cum_right c hc x y (by omega) hx)
  simp only [if_true] at e
  rw [← e]
  unfold k0_pay40
  pointwise

variable (hs : ∀ (r : Fin 512) (x : Fin 128), s (ix2 r x) = ((rem X h (T0 + r.val) (128 * (n + 1)) : ℝ) : EReal))
  (ha : ∀ (r : Fin 512) (d : Fin 128), a (ix2 r d) = ((ac X h (T0 + r.val) (128 * (n + 1)) d.val : ℝ) : EReal))
include hs

include hT hn hc in
theorem carrylow_at (r : Fin 512) (x : Fin 128) :
    k0_pay2 (k0_pay40 k q c) s (ix2 r x) = ((rem X h (T0 + r.val) (128 * n) : ℝ) : EReal) := by
  unfold k0_pay2
  pointwise
  rw [hs, rightlow_at X h T0 n k c hk hc q hT hq, ← EReal.coe_add, rem_block X h _ n hn]

include ha
include hT hn hc hv in
theorem acclow_at (r : Fin 512) (d : Fin 128) :
    k0_pay1 (k0_pay41 k v q c s a) (ix2 r d) = ((ac X h (T0 + r.val) (128 * n) d.val : ℝ) : EReal) := by
  unfold k0_pay1 k0_pay41
  pointwise
  rw [ha, ac_block X h _ n d.val hn, EReal.coe_add, coe_sum]
  refine congrArg _ (Finset.sum_congr rfl fun x _ => ?_)
  rw [zlow_at X h T0 n k hk q hq, ulow_at X h T0 n k hk q hq, leftlow_at X h T0 n k c hk hc q hT hq, hs, weight_eq X h _ n hn x (by omega), hv, EReal.coe_mul]

end

end

end Cert.StickIdeal.Gen

end
-- ==== Proof.StickIdealSteps.lean ====
/-
  `StickIdeal`'s two scratch buffers after each block of keys, and the loads and stores that take one block.
-/
module

public import proofs.«01_k».proof.Proof.StickIdealLoop
public import proofs.«01_k».proof.Proof.StickPay
public import Idealize.ShloMosaic.Lib.VecWindow

@[expose] public section

-- membership in a rectangle of production extents (`View.cover_of_tiled`): the elaborator's structural look
-- recurses once per coordinate of the long axes
set_option maxRecDepth 16384

noncomputable section

namespace Cert.StickIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Sb Cert.StickIdeal.Gen

local notation "𝕄" => MT nD τ sig Unit (Elt Ideal) ℕ (UR sig nD τ) ℕ

/-- A load of a whole buffer's window reads the buffer's value there. -/
theorem rd_at {s : Shape} {e : EltTy} (M : Memref sig .tc .vmem s e) (hM : M.IsWhole) (x : Vec Ideal s e) {off size : Fin s.rank → ℕ}
    (inb : ∀ a, off a + size a ≤ s.size a) (y : (Rect.unit off size inb).shape.Idx) :
    M.view.readAt (Elt Ideal) (Rect.unit off size inb).toLoadRect (hM.unread x) y = x ((Rect.unit off size inb).emb y) := by
  show M.view.read (Elt Ideal) (hM.unread x) _ = _
  rw [hM.read_unread]
  rfl

/-- The counter's test passes above zero. -/
theorem sge_succ : ∀ k : Fin 64, Scalar.cmpi .sge (Scalar.subi (BitVec.ofNat 32 (k.val + 1)) 1#32) 0#32 = 1#1 := by decide +kernel

/-- Every number above minus infinity passes the loop's test. -/
theorem exit_pass (y : EReal) (hy : ⊥ < y) :
    Scalar.cmpf (F := Ideal) (φ := .f32) .ogt y (Named.named (F := Ideal) κ "exit" 0xC2D00000#32) = 1#1 := by
  have e : (Named.named (F := Ideal) κ "exit" 0xC2D00000#32 : Ideal .f32) = (⊥ : EReal) :=
    IdealRules.named_const.ideal_named_scalar _ _ _ _ rfl
  rw [e]
  show BitVec.ofBool (decide ((⊥ : EReal) < y)) = 1#1
  rw [decide_eq_true hy]
  rfl

/-- Where the loop's block starts. -/
theorem off2_at : ∀ k : Fin 64, k0_off2 (Scalar.subi (BitVec.ofNat 32 (k.val + 1)) 1#32) = ![128 * k.val, 0] := by decide +kernel

section Label

variable (X : ℕ → ℕ → ℝ) (h : ℕ)

/-- The carried logarithms of the rows from `512 I` once the blocks from `n` on are taken, -/
def stC (I n : ℕ) : Vec Ideal S512x128 .f32 := fun ix => ((rem X h (512 * I + (ix 0).val) (128 * n) : ℝ) : EReal)
/-- and the weighted values. -/
def stA (I n : ℕ) : Vec Ideal S512x128 .f32 := fun ix => ((ac X h (512 * I + (ix 0).val) (128 * n) (ix 1).val : ℝ) : EReal)

/-- The blocks that a grid point takes, as real numbers. -/
structure Blocks (I : ℕ) (x0 : Vec Ideal S512x128 .bf16) (x1 x2 : Vec Ideal S8192x128 .bf16) (x3 : Vec Ideal S256x256 .bf16) : Prop where
  q : ∀ ix, x0 ix = ((X (512 * I + (ix 0).val) (128 * h + (ix 1).val) : ℝ) : EReal)
  k : ∀ ix, x1 ix = ((X (ix 0).val (2048 + 128 * h + (ix 1).val) : ℝ) : EReal)
  v : ∀ ix, x2 ix = ((X (ix 0).val (4096 + 128 * h + (ix 1).val) : ℝ) : EReal)
  c : IsCum x3

variable {X h}

/-- The keys of block `n`, read from their buffer, -/
theorem keys_at {I : ℕ} {x0 : Vec Ideal S512x128 .bf16} {x1 x2 : Vec Ideal S8192x128 .bf16} {x3 : Vec Ideal S256x256 .bf16} (hB : Blocks X h I x0 x1 x2 x3)
    (M : Memref sig .tc .vmem S8192x128 .bf16) (hM : M.IsWhole) {off : Fin S8192x128.rank → ℕ} (n : ℕ) (hoff : off = ![128 * n, 0])
    (inb : ∀ a, off a + S128x128.size a ≤ S8192x128.size a) (x e : Fin 128) :
    M.view.readAt (Elt Ideal) (Rect.unit (s := S8192x128) off S128x128.size inb).toLoadRect (hM.unread x1) (ix2 x e)
      = ((X (128 * n + x.val) (2048 + 128 * h + e.val) : ℝ) : EReal) := by
  subst hoff
  refine (rd_at M hM x1 inb (ix2 x e)).trans ((hB.k _).trans ?_)
  rw [Rect.emb_apply, Rect.emb_apply]
  show ((X (128 * n + 1 * x.val) (2048 + 128 * h + (0 + 1 * e.val)) : ℝ) : EReal) = _
  rw [one_mul, one_mul, zero_add]

/-- and the values of it, -/
theorem vals_at {I : ℕ} {x0 : Vec Ideal S512x128 .bf16} {x1 x2 : Vec Ideal S8192x128 .bf16} {x3 : Vec Ideal S256x256 .bf16} (hB : Blocks X h I x0 x1 x2 x3)
    (M : Memref sig .tc .vmem S8192x128 .bf16) (hM : M.IsWhole) {off : Fin S8192x128.rank → ℕ} (n : ℕ) (hoff : off = ![128 * n, 0])
    (inb : ∀ a, off a + S128x128.size a ≤ S8192x128.size a) (x e : Fin 128) :
    M.view.readAt (Elt Ideal) (Rect.unit (s := S8192x128) off S128x128.size inb).toLoadRect (hM.unread x2) (ix2 x e)
      = ((X (128 * n + x.val) (4096 + 128 * h + e.val) : ℝ) : EReal) := by
  subst hoff
  refine (rd_at M hM x2 inb (ix2 x e)).trans ((hB.v _).trans ?_)
  rw [Rect.emb_apply, Rect.emb_apply]
  show ((X (128 * n + 1 * x.val) (4096 + 128 * h + (0 + 1 * e.val)) : ℝ) : EReal) = _
  rw [one_mul, one_mul, zero_add]

/-- the queries of rows `T0` on, -/
theorem queries_at {I : ℕ} {x0 : Vec Ideal S512x128 .bf16} {x1 x2 : Vec Ideal S8192x128 .bf16} {x3 : Vec Ideal S256x256 .bf16} (hB : Blocks X h I x0 x1 x2 x3)
    (M : Memref sig .tc .vmem S512x128 .bf16) (hM : M.IsWhole) (o R T0 : ℕ) (hT0 : T0 = 512 * I + o)
    (inb : ∀ a, (![o, 0] : Fin 2 → ℕ) a + (![R, 128] : Fin 2 → ℕ) a ≤ S512x128.size a) (x : Fin R) (e : Fin 128) :
    M.view.readAt (Elt Ideal) (Rect.unit (s := S512x128) ![o, 0] ![R, 128] inb).toLoadRect (hM.unread x0) (ix2 x e)
      = ((X (T0 + x.val) (128 * h + e.val) : ℝ) : EReal) := by
  refine (rd_at M hM x0 inb (ix2 x e)).trans ((hB.q _).trans ?_)
  rw [Rect.emb_apply, Rect.emb_apply]
  show ((X (512 * I + (o + 1 * x.val)) (128 * h + (0 + 1 * e.val)) : ℝ) : EReal) = _
  rw [one_mul, one_mul, zero_add, hT0, add_assoc]

/-- and the masks. -/
theorem masks_at {I : ℕ} {x0 : Vec Ideal S512x128 .bf16} {x1 x2 : Vec Ideal S8192x128 .bf16} {x3 : Vec Ideal S256x256 .bf16} (hB : Blocks X h I x0 x1 x2 x3)
    (M : Memref sig .tc .vmem S256x256 .bf16) (hM : M.IsWhole)
    (inb : ∀ a, (![0, 0] : Fin 2 → ℕ) a + S256x256.size a ≤ S256x256.size a) :
    IsCum (M.view.readAt (Elt Ideal) (Rect.unit (s := S256x256) ![0, 0] S256x256.size inb).toLoadRect (hM.unread x3)) := by
  rw [View.readAt_full, hM.read_unread]
  exact hB.c

variable (X h)

section Low
variable {I k : ℕ} (hk64 : k < 64) (hI : k + 1 ≤ 4 * I) (kk vv : Vec Ideal S128x128 .bf16) (q : Vec Ideal S512x128 .bf16) (cc : Vec Ideal S256x256 .bf16)
  (hkk : ∀ x e : Fin 128, kk (ix2 x e) = ((X (128 * k + x.val) (2048 + 128 * h + e.val) : ℝ) : EReal))
  (hvv : ∀ x e : Fin 128, vv (ix2 x e) = ((X (128 * k + x.val) (4096 + 128 * h + e.val) : ℝ) : EReal))
  (hq : ∀ (x : Fin 512) (e : Fin 128), q (ix2 x e) = ((X (512 * I + x.val) (128 * h + e.val) : ℝ) : EReal))
  (hcc : IsCum cc) (s a : Vec Ideal S512x128 .f32) (hs : s = stC X h I (k + 1)) (ha : a = stA X h I (k + 1))
include hk64 hI hkk hq hcc hs

theorem low_carry : k0_pay2 (k0_pay40 kk q cc) s = stC X h I k := by
  funext ix
  obtain ⟨r, x, rfl⟩ : ∃ (r : Fin 512) (x : Fin 128), ix = ix2 r x := ⟨ix 0, ix 1, eq_ix2 ix⟩
  exact carrylow_at (X := X) (h := h) (T0 := 512 * I) (n := k) (hn := hk64) (hT := by omega) (k := kk) (c := cc) (q := q) (s := s) (hk := hkk)
    (hc := hcc) (hq := hq) (hs := fun r x => by rw [hs]; rfl) (r := r) (x := x)

include hvv ha in
theorem low_acc : k0_pay1 (k0_pay41 kk vv q cc s a) = stA X h I k := by
  funext ix
  obtain ⟨r, x, rfl⟩ : ∃ (r : Fin 512) (x : Fin 128), ix = ix2 r x := ⟨ix 0, ix 1, eq_ix2 ix⟩
  exact acclow_at (X := X) (h := h) (T0 := 512 * I) (n := k) (hn := hk64) (hT := by omega) (k := kk) (v := vv) (c := cc) (q := q) (s := s) (a := a) (hk := hkk) (hv := hvv)
    (hc := hcc) (hq := hq) (hs := fun r x => by rw [hs]; rfl) (ha := fun r x => by rw [ha]; rfl) (r := r) (d := x)

end Low

section Step
variable (v : View sig .tc .vmem S512x128 .f32) (L : List (View.Piece (Elt Ideal) S512x128 .f32)) (I n o R b : ℕ) (hn : n = 4 * I + b) (ho : o = 128 * b) (hR : o + R = 512)
  (inb : ∀ a, (![o, 0] : Fin 2 → ℕ) a + (![R, 128] : Fin 2 → ℕ) a ≤ S512x128.size a)
include hn ho

/-- What a load of a window of the carried logarithms reads. -/
theorem load_carry (hL : ∀ f, v.read (Elt Ideal) (v.writes (Elt Ideal) f L) = stC X h I (n + 1)) (r : Fin R) (x : Fin 128) :
    v.readCov L (Rect.unit (s := S512x128) ![o, 0] ![R, 128] inb).toLoadRect (ix2 r x) = ((rem X h (128 * n + r.val) (128 * (n + 1)) : ℝ) : EReal) := by
  refine (congrFun (hL v.junk) _).trans ?_
  show ((rem X h (512 * I + (o + 1 * r.val)) (128 * (n + 1)) : ℝ) : EReal) = _
  rw [show 512 * I + (o + 1 * r.val) = 128 * n + r.val by omega]

theorem load_acc (hL : ∀ f, v.read (Elt Ideal) (v.writes (Elt Ideal) f L) = stA X h I (n + 1)) (r : Fin R) (x : Fin 128) :
    v.readCov L (Rect.unit (s := S512x128) ![o, 0] ![R, 128] inb).toLoadRect (ix2 r x) = ((ac X h (128 * n + r.val) (128 * (n + 1)) x.val : ℝ) : EReal) := by
  refine (congrFun (hL v.junk) _).trans ?_
  show ((ac X h (512 * I + (o + 1 * r.val)) (128 * (n + 1)) (0 + 1 * x.val) : ℝ) : EReal) = _
  rw [show 512 * I + (o + 1 * r.val) = 128 * n + r.val by omega, one_mul, zero_add]

include hR

/-- A block's store of the carried logarithms: the rows above its window have no key of it. -/
theorem step_carry (hL : ∀ f, v.read (Elt Ideal) (v.writes (Elt Ideal) f L) = stC X h I (n + 1)) (w : (⟨2, ![R, 128]⟩ : Shape).Idx → EReal)
    (hw : ∀ (r : Fin R) (x : Fin 128), w (ix2 r x) = ((rem X h (128 * n + r.val) (128 * n) : ℝ) : EReal)) (f : v.ty.Contents (Elt Ideal)) :
    v.read (Elt Ideal) (v.writes (Elt Ideal) f (⟨Rect.unit (s := S512x128) ![o, 0] ![R, 128] inb, w⟩ :: L)) = stC X h I n := by
  refine (View.read_writes_cons_put v f inb w L rfl).trans ?_
  rw [hL]
  funext ix
  have h0 : (ix 0).val < 512 := (ix 0).isLt
  have h1 : (ix 1).val < 128 := (ix 1).isLt
  unfold VecWindow.put
  by_cases hi : o ≤ (ix 0).val
  · rw [dif_pos (show ∀ a, (![o, 0] : Fin 2 → ℕ) a ≤ (ix a).val ∧ (ix a).val < (![o, 0] : Fin 2 → ℕ) a + (![R, 128] : Fin 2 → ℕ) a from
      Fin.forall_fin_two.mpr ⟨⟨hi, by show (ix 0).val < o + R; omega⟩, ⟨Nat.zero_le _, by show (ix 1).val < 0 + 128; omega⟩⟩)]
    refine ((congrArg w (eq_ix2 _)).trans (hw _ _)).trans ?_
    show ((rem X h (128 * n + ((ix 0).val - o)) (128 * n) : ℝ) : EReal) = ((rem X h (512 * I + (ix 0).val) (128 * n) : ℝ) : EReal)
    rw [show 128 * n + ((ix 0).val - o) = 512 * I + (ix 0).val by omega]
  · rw [dif_neg (fun hall => hi (hall 0).1)]
    unfold stC
    rw [rem_zero X h _ _ (by omega), rem_zero X h _ _ (by omega)]

theorem step_acc (hL : ∀ f, v.read (Elt Ideal) (v.writes (Elt Ideal) f L) = stA X h I (n + 1)) (w : (⟨2, ![R, 128]⟩ : Shape).Idx → EReal)
    (hw : ∀ (r : Fin R) (x : Fin 128), w (ix2 r x) = ((ac X h (128 * n + r.val) (128 * n) x.val : ℝ) : EReal)) (f : v.ty.Contents (Elt Ideal)) :
    v.read (Elt Ideal) (v.writes (Elt Ideal) f (⟨Rect.unit (s := S512x128) ![o, 0] ![R, 128] inb, w⟩ :: L)) = stA X h I n := by
  refine (View.read_writes_cons_put v f inb w L rfl).trans ?_
  rw [hL]
  funext ix
  have h0 : (ix 0).val < 512 := (ix 0).isLt
  have h1 : (ix 1).val < 128 := (ix 1).isLt
  unfold VecWindow.put
  by_cases hi : o ≤ (ix 0).val
  · rw [dif_pos (show ∀ a, (![o, 0] : Fin 2 → ℕ) a ≤ (ix a).val ∧ (ix a).val < (![o, 0] : Fin 2 → ℕ) a + (![R, 128] : Fin 2 → ℕ) a from
      Fin.forall_fin_two.mpr ⟨⟨hi, by show (ix 0).val < o + R; omega⟩, ⟨Nat.zero_le _, by show (ix 1).val < 0 + 128; omega⟩⟩)]
    refine ((congrArg w (eq_ix2 _)).trans (hw _ _)).trans ?_
    show ((ac X h (128 * n + ((ix 0).val - o)) (128 * n) ((ix 1).val - 0) : ℝ) : EReal) = ((ac X h (512 * I + (ix 0).val) (128 * n) (ix 1).val : ℝ) : EReal)
    rw [show 128 * n + ((ix 0).val - o) = 512 * I + (ix 0).val by omega, Nat.sub_zero]
  · rw [dif_neg (fun hall => hi (hall 0).1)]
    unfold stA
    rw [ac_zero X h _ _ _ (by omega), ac_zero X h _ _ _ (by omega)]

end Step

/-- Where a diagonal block starts. -/
theorem off1_word : ∀ (j : Fin 16) (b : Fin 4), (Scalar.indexCast (Scalar.muli (Scalar.addi (Scalar.muli (BitVec.ofNat 32 j.val) 4#32) (BitVec.ofNat 32 b.val)) 128#32)).toNat = 128 * (4 * j.val + b.val) := by
  decide +kernel

theorem off1_at (i : grid0.Coords) (b : Fin 4) : k0_off1 i (BitVec.ofNat 32 b.val) = ![128 * (4 * (i 1).val + b.val), 0] := by
  have e := off1_word (i 1) b
  funext a
  revert a
  exact Fin.forall_fin_two.mpr ⟨e, rfl⟩

end Label

end Cert.StickIdeal.Val

end
-- ==== Proof.StickIdealValue.lean ====
/-
  `StickIdeal`'s loop over the key blocks below the diagonal, by values: with finite carried logarithms its test always
  passes, and each trip takes one more block of keys into the two scratch buffers.
-/
module

public import proofs.«01_k».proof.Proof.StickIdealSteps

@[expose] public section

-- membership in a rectangle of production extents (`View.cover_of_tiled`): the elaborator's structural look
-- recurses once per coordinate of the long axes
set_option maxRecDepth 16384

noncomputable section

namespace Cert.StickIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Sb Cert.StickIdeal.Gen

local notation "𝕄" => MT nD τ sig Unit (Elt Ideal) ℕ (UR sig nD τ) ℕ

section Label

variable (X : ℕ → ℕ → ℝ) (h : ℕ)

variable (c : Dev nD) (i : grid0.Coords) (I : ℕ) (arg3 : Memref sig .tc .vmem S8192x128 .bf16) (harg3 : arg3.IsWhole) (arg4 : Memref sig .tc .vmem S8192x128 .bf16) (harg4 : arg4.IsWhole) (arg2 : Memref sig .tc .vmem S512x128 .bf16) (harg2 : arg2.IsWhole) (arg5 : Memref sig .tc .vmem S256x256 .bf16) (harg5 : arg5.IsWhole) (arg8 : Memref sig .tc .vmem S512x128 .f32) (harg8 : arg8.IsWhole) (arg9 : Memref sig .tc .vmem S512x128 .f32) (harg9 : arg9.IsWhole)
variable (x0 : Vec Ideal S512x128 .bf16) (x1 : Vec Ideal S8192x128 .bf16) (x2 : Vec Ideal S8192x128 .bf16) (x3 : Vec Ideal S256x256 .bf16)

/-- What the loop runs over: the queries, keys, values and masks at their blocks, the two scratch buffers at what the blocks
    from `n` on leave in them. -/
def held (n : ℕ) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare (stC X h I n) ∗ owns (c : Thread nD τ) arg9 fullShare (stA X h I n))

/-- The loop's specification: it takes the blocks from `n` on and gives back all of them, with any counter and any test value. -/
def spec (n : ℕ) : sWPT 𝕄 (BitVec 32 × Ideal .f32) := do
  sWPT.consume (held X h c I arg3 arg4 arg2 arg5 arg8 arg9 x0 x1 x2 x3 n)
  let r ← sWPT.arbitrary
  sWPT.produce (held X h c I arg3 arg4 arg2 arg5 arg8 arg9 x0 x1 x2 x3 0)
  pure r

theorem spec_apply (n : ℕ) (K : BitVec 32 × Ideal .f32 → sProp 𝕄) :
    spec X h c I arg3 arg4 arg2 arg5 arg8 arg9 x0 x1 x2 x3 n K
      = iprop(held X h c I arg3 arg4 arg2 arg5 arg8 arg9 x0 x1 x2 x3 n ∗ ∀ r : BitVec 32 × Ideal .f32, (held X h c I arg3 arg4 arg2 arg5 arg8 arg9 x0 x1 x2 x3 0 -∗ K r)) := rfl

variable (hB : Blocks X h I x0 x1 x2 x3)
include hB

set_option maxHeartbeats 1000000 in
/-- The loop entered `k` blocks from the end meets its specification at variant `k`. -/
theorem spec_le (E : Set ℕ) :
    ∀ k, k ≤ 64 → k ≤ 4 * I → ∀ w, w = Scalar.subi (BitVec.ofNat 32 k) 1#32 → ∀ y : Ideal .f32, ⊥ < (y : EReal) → spec X h c I arg3 arg4 arg2 arg5 arg8 arg9 x0 x1 x2 x3 k
      ≤ wp frame (wpE (defs₀ (F := Ideal)) Variants.nat (c : Thread nD τ) (some k)) E
          (defs₀ (F := Ideal) .tc 1 ⟨i, arg3, harg3, arg4, harg4, arg2, harg2, arg5, harg5, arg8, harg8, arg9, harg9, w, y⟩) := by
  intro k
  induction k with
  | zero =>
    rintro hk hI w rfl y hy K
    rw [spec_apply]
    show _ ⊢ wp frame (wpE (defs₀ (F := Ideal)) Variants.nat (c : Thread nD τ) (some 0)) E
      (cc0_while1 i arg3 harg3 arg4 harg4 arg2 harg2 arg5 harg5 arg8 harg8 arg9 harg9 (Scalar.subi (BitVec.ofNat 32 0) 1#32) y) K
    simp only [cc0_while1_eq_skeleton]; unfold cc0_while1_skel
    simp only [test_zero, ↓reduceIte, Prog.pure_eq_ret]
    iintro ⟨H, Hk⟩
    rw [wp_ret]; imodintro
    iapply Hk
    iexact H
  | succ k ih =>
    rintro hk hI w rfl y hy K
    rw [spec_apply]
    show _ ⊢ wp frame (wpE (defs₀ (F := Ideal)) Variants.nat (c : Thread nD τ) (some (k + 1))) E
      (cc0_while1 i arg3 harg3 arg4 harg4 arg2 harg2 arg5 harg5 arg8 harg8 arg9 harg9 (Scalar.subi (BitVec.ofNat 32 (k + 1)) 1#32) y) K
    simp only [cc0_while1_eq_skeleton]; unfold cc0_while1_skel
    have ht : Scalar.andi (Scalar.cmpi .sge (Scalar.subi (BitVec.ofNat 32 (k + 1)) 1#32) 0#32) (Scalar.cmpf .ogt y (Named.named (F := Ideal) κ "exit" 0xC2D00000#32)) = 1#1 := by
      rw [exit_pass y hy, sge_succ ⟨k, by omega⟩]
      decide
    simp only [ht, ↓reduceIte]
    simp only [k0_part8_eq_skeleton]; unfold k0_part8_skel
    simp only [Prog.lift, Prog.bind_op, Prog.bind_ret, Prog.pure_eq_ret]
    unfold held owns
    iintro ⟨⟨⟨%f0, %hf0, H0⟩, ⟨%f1, %hf1, H1⟩, ⟨%f2, %hf2, H2⟩, ⟨%f3, %hf3, H3⟩, ⟨%fs0, %hs0, HS0⟩, ⟨%fs1, %hs1, HS1⟩⟩, Hk⟩
    obtain rfl := harg2.eq_unread hf0; obtain rfl := harg3.eq_unread hf1; obtain rfl := harg4.eq_unread hf2; obtain rfl := harg5.eq_unread hf3
    obtain rfl := harg8.eq_unread hs0; obtain rfl := harg9.eq_unread hs1
    iapply (wp_assume Variants.nat (c : Thread nD τ) (some (k + 1)) E (chk_of_lt ⟨k, by omega⟩))
    sl_exec
    have hw : k0_off2 (Scalar.subi (BitVec.ofNat 32 (k + 1)) 1#32) = ![128 * k, 0] := off2_at ⟨k, by omega⟩
    have hkk : ∀ x e : Fin 128, (spec_le.sl.x c I arg3 harg3 x1 k hk : Vec Ideal S128x128 .bf16) (ix2 x e) = ((X (128 * k + x.val) (2048 + 128 * h + e.val) : ℝ) : EReal) :=
      fun x e => keys_at hB arg3 harg3 k hw _ x e
    have hvv : ∀ x e : Fin 128, (spec_le.sl.x_1 c I arg4 harg4 x2 k hk : Vec Ideal S128x128 .bf16) (ix2 x e) = ((X (128 * k + x.val) (4096 + 128 * h + e.val) : ℝ) : EReal) :=
      fun x e => vals_at hB arg4 harg4 k hw _ x e
    have hq := fun inb => queries_at hB arg2 harg2 0 512 (512 * I) rfl inb
    have hcc := fun inb => masks_at hB arg5 harg5 inb
    have h8 := fun (off : Fin 2 → ℕ) (inb : ∀ a, off a + S512x128.size a ≤ S512x128.size a) => (View.readAt_full (Val := Elt Ideal) arg8.view (harg8.unread (stC X h I (k + 1))) inb).trans (harg8.read_unread _)
    have h9 := fun (off : Fin 2 → ℕ) (inb : ∀ a, off a + S512x128.size a ≤ S512x128.size a) => (View.readAt_full (Val := Elt Ideal) arg9.view (harg9.unread (stA X h I (k + 1))) inb).trans (harg9.read_unread _)
    have hN : (⊥ : EReal) < k0_pay3 (spec_le.sl.v315 X h c I arg3 harg3 arg2 harg2 arg5 harg5 arg8 harg8 x0 x1 x3 k hk) := by
      have e : (spec_le.sl.v315 X h c I arg3 harg3 arg2 harg2 arg5 harg5 arg8 harg8 x0 x1 x3 k hk : Vec Ideal S512x128 .f32) = stC X h I k := by
        unfold spec_le.sl.v315 spec_le.sl.HS0_1
        refine (View.readCov_full _ _ _ _ _).trans ?_
        exact low_carry (X := X) (h := h) (kk := _) (q := _) (cc := _) (s := _) (hk64 := by omega) (hI := hI) (hkk := hkk) (hq := hq _) (hcc := hcc _) (hs := h8 _ _)
      rw [e]
      exact test_next _ 0 0 (rem X h (512 * I + 0) (128 * k)) rfl
    iapply (wp_call_spec Variants.nat (c : Thread nD τ) (some (k + 1)) E (spec X h c I arg3 arg4 arg2 arg5 arg8 arg9 x0 x1 x2 x3 k) k
      (fun u hu => by cases hu; exact Nat.lt_succ_self k) (ih (by omega) (by omega) _ (subi_succ ⟨k, by omega⟩) _ hN))
    rw [spec_apply]; unfold held owns
    isplitl [H0 H1 H2 H3 HS0 HS1]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [HS0]
      · iexists _; isplitr; swap; · iexact HS0
        ipureintro
        unfold spec_le.sl.HS0_1
        refine (View.read_writes_full _ _ _ _ _).trans ?_
        exact low_carry (X := X) (h := h) (kk := _) (q := _) (cc := _) (s := _) (hk64 := by omega) (hI := hI) (hkk := hkk) (hq := hq _) (hcc := hcc _) (hs := h8 _ _)
      iexists _; isplitr; swap; · iexact HS1
      ipureintro
      refine (View.read_writes_full _ _ _ _ _).trans ?_
      exact low_acc (X := X) (h := h) (kk := _) (vv := _) (q := _) (cc := _) (s := _) (a := _) (hk64 := by omega) (hI := hI) (hkk := hkk) (hvv := hvv) (hq := hq _) (hcc := hcc _) (hs := h8 _ _) (ha := h9 _ _)
    iintro %r H
    rw [wp_ret]; imodintro
    iapply Hk
    iexact H

end Label

end Cert.StickIdeal.Val

end
-- ==== Proof.StickIdealValuePoint.lean ====
/-
  `StickIdeal`'s kernel body at one grid point, by values.
-/
module

public import proofs.«01_k».proof.Proof.StickIdealValue

@[expose] public section

-- membership in a rectangle of production extents (`View.cover_of_tiled`): the elaborator's structural look
-- recurses once per coordinate of the long axes
set_option maxRecDepth 16384

noncomputable section

namespace Cert.StickIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Sb Cert.StickIdeal.Gen

local notation "𝕄" => MT nD τ sig Unit (Elt Ideal) ℕ (UR sig nD τ) ℕ

variable (X : ℕ → ℕ → ℝ) (h : ℕ)

/-- What a grid point leaves in its output block. -/
def outv (I : ℕ) (x4 : Vec Ideal S1x128 .f32) : Vec Ideal S512x128 .bf16 := k0_pay37 (stA X h I 0) x4

-- (the run's proof term is large: checking it walks past the default budget)
set_option maxHeartbeats 1000000 in
/-- The body's triple, by values: on whole staging memrefs the body runs to the continuation holding the inputs' as they were,
    the output's block written, and the scratch at some contents. -/
theorem kernelRun0_V (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x256 .bf16) (harg5 : arg5.IsWhole) (arg6 : Memref sig .tc .vmem S1x128 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S512x128 .f32) (harg9 : arg9.IsWhole)
    (x0 : Vec Ideal S512x128 .bf16) (x1 : Vec Ideal S8192x128 .bf16) (x2 : Vec Ideal S8192x128 .bf16) (x3 : Vec Ideal S256x256 .bf16) (x4 : Vec Ideal S1x128 .f32)
    (hB : Blocks X h (i 1).val x0 x1 x2 x3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outv X h (i 1).val x4) ∗ (∃ d, owns (c : Thread nD τ) arg8 fullShare d) ∗ (∃ d, owns (c : Thread nD τ) arg9 fullShare d)) -∗ K ⟨⟩))
          ⊢ wp frame (wpE (defs₀ (F := Ideal)) Variants.nat c none) E (cc0_sb_attention i arg2 harg2 arg3 harg3 arg4 harg4 arg5 harg5 arg6 harg6 arg7 harg7 arg8 harg8 arg9 harg9) K := by
    intro E K
    simp only [cc0_sb_attention_eq_skeleton]; unfold cc0_sb_attention_skel
    simp only [k0_part7_eq_skeleton]; unfold k0_part7_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec
    have hi16 : (i 1).val < 16 := (i 1).isLt
    have C1 : ∀ f, arg8.view.read (Elt Ideal) (arg8.view.writes (Elt Ideal) f kernelRun0_V.sl.HS0_1) = stC X h (i 1).val (4 * (i 1).val + 3 + 1) := by
      intro f
      unfold kernelRun0_V.sl.HS0_1
      refine (View.read_writes_full _ _ _ _ _).trans (funext fun ix => ?_)
      have h0 : (ix 0).val < 512 := (ix 0).isLt
      refine ((congrArg _ (eq_ix2 ix)).trans (pay4_at _ _)).trans ?_
      unfold stC
      rw [rem_zero X h _ _ (by omega)]
      rfl
    have A1 : ∀ f, arg9.view.read (Elt Ideal) (arg9.view.writes (Elt Ideal) f kernelRun0_V.sl.HS1_1) = stA X h (i 1).val (4 * (i 1).val + 3 + 1) := by
      intro f
      unfold kernelRun0_V.sl.HS1_1
      refine (View.read_writes_full _ _ _ _ _).trans (funext fun ix => ?_)
      have h0 : (ix 0).val < 512 := (ix 0).isLt
      refine ((congrArg _ (eq_ix2 ix)).trans (pay5_at _ _)).trans ?_
      unfold stA
      rw [ac_zero X h _ _ _ (by omega)]
      rfl
    have C2 : ∀ f, arg8.view.read (Elt Ideal) (arg8.view.writes (Elt Ideal) f (kernelRun0_V.sl.HS0_2 c i arg2 harg2 arg3 harg3 arg5 harg5 arg8 x0 x1 x3)) = stC X h (i 1).val (4 * (i 1).val + 3) := by
      intro f
      unfold kernelRun0_V.sl.HS0_2
      refine step_carry X h arg8.view _ (i 1).val (4 * (i 1).val + 3) 384 128 3 rfl rfl rfl _ C1 _ ?_ f
      exact fun r x => carry128_at (n := (4 * (i 1).val + 3)) (hn := by omega) (X := X) (h := h) (k := _) (c := _) (q := _) (s := _)
          (hk := fun x e => keys_at hB arg3 harg3 (4 * (i 1).val + 3) (off1_at i 3) _ x e) (hc := masks_at hB arg5 harg5 _)
          (hq := fun r e => queries_at hB arg2 harg2 384 128 (128 * (4 * (i 1).val + 3)) (by omega) _ r e)
          (hs := fun r x => load_carry X h arg8.view _ (i 1).val (4 * (i 1).val + 3) 384 128 3 rfl rfl _ C1 r x) (r := r) (x := x)
    have A2 : ∀ f, arg9.view.read (Elt Ideal) (arg9.view.writes (Elt Ideal) f (kernelRun0_V.sl.HS1_2 c i arg2 harg2 arg3 harg3 arg4 harg4 arg5 harg5 arg8 arg9 x0 x1 x2 x3)) = stA X h (i 1).val (4 * (i 1).val + 3) := by
      intro f
      unfold kernelRun0_V.sl.HS1_2
      refine step_acc X h arg9.view _ (i 1).val (4 * (i 1).val + 3) 384 128 3 rfl rfl rfl _ A1 _ ?_ f
      exact fun r x => acc128_at (n := (4 * (i 1).val + 3)) (hn := by omega) (X := X) (h := h) (k := _) (c := _) (q := _) (s := _)
          (hk := fun x e => keys_at hB arg3 harg3 (4 * (i 1).val + 3) (off1_at i 3) _ x e) (hc := masks_at hB arg5 harg5 _)
          (hq := fun r e => queries_at hB arg2 harg2 384 128 (128 * (4 * (i 1).val + 3)) (by omega) _ r e)
          (hs := fun r x => load_carry X h arg8.view _ (i 1).val (4 * (i 1).val + 3) 384 128 3 rfl rfl _ C1 r x) (v := _) (a := _)
          (hv := fun x e => vals_at hB arg4 harg4 (4 * (i 1).val + 3) (off1_at i 3) _ x e)
          (ha := fun r x => load_acc X h arg9.view _ (i 1).val (4 * (i 1).val + 3) 384 128 3 rfl rfl _ A1 r x) (r := r) (d := x)
    have C3 : ∀ f, arg8.view.read (Elt Ideal) (arg8.view.writes (Elt Ideal) f (kernelRun0_V.sl.HS0_3 c i arg2 harg2 arg3 harg3 arg5 harg5 arg8 x0 x1 x3)) = stC X h (i 1).val (4 * (i 1).val + 2) := by
      intro f
      unfold kernelRun0_V.sl.HS0_3
      refine step_carry X h arg8.view _ (i 1).val (4 * (i 1).val + 2) 256 256 2 rfl rfl rfl _ C2 _ ?_ f
      exact fun r x => carry256_at (n := (4 * (i 1).val + 2)) (hn := by omega) (X := X) (h := h) (k := _) (c := _) (q := _) (s := _)
          (hk := fun x e => keys_at hB arg3 harg3 (4 * (i 1).val + 2) (off1_at i 2) _ x e) (hc := masks_at hB arg5 harg5 _)
          (hq := fun r e => queries_at hB arg2 harg2 256 256 (128 * (4 * (i 1).val + 2)) (by omega) _ r e)
          (hs := fun r x => load_carry X h arg8.view _ (i 1).val (4 * (i 1).val + 2) 256 256 2 rfl rfl _ C2 r x) (r := r) (x := x)
    have A3 : ∀ f, arg9.view.read (Elt Ideal) (arg9.view.writes (Elt Ideal) f (kernelRun0_V.sl.HS1_3 c i arg2 harg2 arg3 harg3 arg4 harg4 arg5 harg5 arg8 arg9 x0 x1 x2 x3)) = stA X h (i 1).val (4 * (i 1).val + 2) := by
      intro f
      unfold kernelRun0_V.sl.HS1_3
      refine step_acc X h arg9.view _ (i 1).val (4 * (i 1).val + 2) 256 256 2 rfl rfl rfl _ A2 _ ?_ f
      exact fun r x => acc256_at (n := (4 * (i 1).val + 2)) (hn := by omega) (X := X) (h := h) (k := _) (c := _) (q := _) (s := _)
          (hk := fun x e => keys_at hB arg3 harg3 (4 * (i 1).val + 2) (off1_at i 2) _ x e) (hc := masks_at hB arg5 harg5 _)
          (hq := fun r e => queries_at hB arg2 harg2 256 256 (128 * (4 * (i 1).val + 2)) (by omega) _ r e)
          (hs := fun r x => load_carry X h arg8.view _ (i 1).val (4 * (i 1).val + 2) 256 256 2 rfl rfl _ C2 r x) (v := _) (a := _)
          (hv := fun x e => vals_at hB arg4 harg4 (4 * (i 1).val + 2) (off1_at i 2) _ x e)
          (ha := fun r x => load_acc X h arg9.view _ (i 1).val (4 * (i 1).val + 2) 256 256 2 rfl rfl _ A2 r x) (r := r) (d := x)
    have C4 : ∀ f, arg8.view.read (Elt Ideal) (arg8.view.writes (Elt Ideal) f (kernelRun0_V.sl.HS0_4 c i arg2 harg2 arg3 harg3 arg5 harg5 arg8 x0 x1 x3)) = stC X h (i 1).val (4 * (i 1).val + 1) := by
      intro f
      unfold kernelRun0_V.sl.HS0_4
      refine step_carry X h arg8.view _ (i 1).val (4 * (i 1).val + 1) 128 384 1 rfl rfl rfl _ C3 _ ?_ f
      exact fun r x => carry384_at (n := (4 * (i 1).val + 1)) (hn := by omega) (X := X) (h := h) (k := _) (c := _) (q := _) (s := _)
          (hk := fun x e => keys_at hB arg3 harg3 (4 * (i 1).val + 1) (off1_at i 1) _ x e) (hc := masks_at hB arg5 harg5 _)
          (hq := fun r e => queries_at hB arg2 harg2 128 384 (128 * (4 * (i 1).val + 1)) (by omega) _ r e)
          (hs := fun r x => load_carry X h arg8.view _ (i 1).val (4 * (i 1).val + 1) 128 384 1 rfl rfl _ C3 r x) (r := r) (x := x)
    have A4 : ∀ f, arg9.view.read (Elt Ideal) (arg9.view.writes (Elt Ideal) f (kernelRun0_V.sl.HS1_4 c i arg2 harg2 arg3 harg3 arg4 harg4 arg5 harg5 arg8 arg9 x0 x1 x2 x3)) = stA X h (i 1).val (4 * (i 1).val + 1) := by
      intro f
      unfold kernelRun0_V.sl.HS1_4
      refine step_acc X h arg9.view _ (i 1).val (4 * (i 1).val + 1) 128 384 1 rfl rfl rfl _ A3 _ ?_ f
      exact fun r x => acc384_at (n := (4 * (i 1).val + 1)) (hn := by omega) (X := X) (h := h) (k := _) (c := _) (q := _) (s := _)
          (hk := fun x e => keys_at hB arg3 harg3 (4 * (i 1).val + 1) (off1_at i 1) _ x e) (hc := masks_at hB arg5 harg5 _)
          (hq := fun r e => queries_at hB arg2 harg2 128 384 (128 * (4 * (i 1).val + 1)) (by omega) _ r e)
          (hs := fun r x => load_carry X h arg8.view _ (i 1).val (4 * (i 1).val + 1) 128 384 1 rfl rfl _ C3 r x) (v := _) (a := _)
          (hv := fun x e => vals_at hB arg4 harg4 (4 * (i 1).val + 1) (off1_at i 1) _ x e)
          (ha := fun r x => load_acc X h arg9.view _ (i 1).val (4 * (i 1).val + 1) 128 384 1 rfl rfl _ A3 r x) (r := r) (d := x)
    have C5 : ∀ f, arg8.view.read (Elt Ideal) (arg8.view.writes (Elt Ideal) f (kernelRun0_V.sl.HS0_5 c i arg2 harg2 arg3 harg3 arg5 harg5 arg8 x0 x1 x3)) = stC X h (i 1).val (4 * (i 1).val + 0) := by
      intro f
      unfold kernelRun0_V.sl.HS0_5
      refine step_carry X h arg8.view _ (i 1).val (4 * (i 1).val + 0) 0 512 0 rfl rfl rfl _ C4 _ ?_ f
      exact fun r x => carry512_at (n := (4 * (i 1).val + 0)) (hn := by omega) (X := X) (h := h) (k := _) (c := _) (q := _) (s := _)
          (hk := fun x e => keys_at hB arg3 harg3 (4 * (i 1).val + 0) (off1_at i 0) _ x e) (hc := masks_at hB arg5 harg5 _)
          (hq := fun r e => queries_at hB arg2 harg2 0 512 (128 * (4 * (i 1).val + 0)) (by omega) _ r e)
          (hs := fun r x => load_carry X h arg8.view _ (i 1).val (4 * (i 1).val + 0) 0 512 0 rfl rfl _ C4 r x) (r := r) (x := x)
    have hN : (⊥ : EReal) < k0_pay36 (kernelRun0_V.sl.v242 c i arg2 harg2 arg3 harg3 arg5 harg5 arg8 x0 x1 x3) := by
      have e : (kernelRun0_V.sl.v242 c i arg2 harg2 arg3 harg3 arg5 harg5 arg8 x0 x1 x3 : Vec Ideal S512x128 .f32) = stC X h (i 1).val (4 * (i 1).val) := by
        unfold kernelRun0_V.sl.v242
        exact (View.readAt_full _ _ _).trans (C5 _)
      rw [e]
      exact test_first _ 0 0 (rem X h (512 * (i 1).val + 0) (128 * (4 * (i 1).val))) rfl
    iapply (wp_call_spec Variants.nat (c : Thread nD τ) none E (spec X h c (i 1).val arg3 arg4 arg2 arg5 arg8 arg9 x0 x1 x2 x3 (4 * (i 1).val))
      (4 * (i 1).val) (fun u hu => nomatch hu)
      (spec_le X h c i (i 1).val arg3 harg3 arg4 harg4 arg2 harg2 arg5 harg5 arg8 harg8 arg9 harg9 x0 x1 x2 x3 hB E _ (start_le i) le_rfl _ (start_eq i) _ hN))
    rw [spec_apply]; unfold held owns
    isplitl [H0 H1 H2 H3 HS0 HS1]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [HS0]
      · iexists _; isplitr; swap; · iexact HS0
        ipureintro; exact C5 _
      iexists _; isplitr; swap; · iexact HS1
      ipureintro
      refine step_acc X h arg9.view _ (i 1).val (4 * (i 1).val + 0) 0 512 0 rfl rfl rfl _ A4 _ ?_ _
      exact fun r x => acc512_at (n := (4 * (i 1).val + 0)) (hn := by omega) (X := X) (h := h) (k := _) (c := _) (q := _) (s := _)
          (hk := fun x e => keys_at hB arg3 harg3 (4 * (i 1).val + 0) (off1_at i 0) _ x e) (hc := masks_at hB arg5 harg5 _)
          (hq := fun r e => queries_at hB arg2 harg2 0 512 (128 * (4 * (i 1).val + 0)) (by omega) _ r e)
          (hs := fun r x => load_carry X h arg8.view _ (i 1).val (4 * (i 1).val + 0) 0 512 0 rfl rfl _ C4 r x) (v := _) (a := _)
          (hv := fun x e => vals_at hB arg4 harg4 (4 * (i 1).val + 0) (off1_at i 0) _ x e)
          (ha := fun r x => load_acc X h arg9.view _ (i 1).val (4 * (i 1).val + 0) 0 512 0 rfl rfl _ A4 r x) (r := r) (d := x)
    iintro %r ⟨⟨%g0, %hg0, H0⟩, ⟨%g1, %hg1, H1⟩, ⟨%g2, %hg2, H2⟩, ⟨%g3, %hg3, H3⟩, ⟨%gs0, %hg8, HS0⟩, ⟨%gs1, %hg9, HS1⟩⟩
    obtain rfl := harg2.eq_unread hg0; obtain rfl := harg3.eq_unread hg1; obtain rfl := harg4.eq_unread hg2; obtain rfl := harg5.eq_unread hg3; obtain rfl := harg8.eq_unread hg8; obtain rfl := harg9.eq_unread hg9
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      unfold outv
      refine congrArg₂ k0_pay37 ((View.readAt_full _ _ _).trans (harg9.read_unread _)) ((View.readAt_full _ _ _).trans (harg6.read_unread _))
    isplitl [HS0]
    · iexists _, _; isplitr; swap; · iexact HS0
      ipureintro; rfl
    iexists _, _; isplitr; swap; · iexact HS1
    ipureintro; rfl

end Cert.StickIdeal.Val

end
-- ==== Proof.Recur.lean ====
/-
  The recurrence over the real numbers. `st` is the state of the layer's recurrence, a step at a time. A block of
  128 steps is taken at once: `st_block` gives the state after the block, `out_block` what the block's rows read,
  from the products of the decays over the sets of steps that the kernel's tables name. Each pair of rows `s < t`
  of the block lies in exactly one of the seven levels (`level_count`), and on it the two factors of the level
  multiply to the product of the decays over the steps `s < j ≤ t` (`level_mul`).
-/
module

public import Idealize.ShloMosaic.PureOps.Ideal
public import Idealize.ShloMosaic.Lib.Pipeline.ValueKit

@[expose] public section

noncomputable section

namespace Cert.Hg

open Idealize.ShloMosaic

/-! ## Extended reals -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_prod {ι : Type*} (s : Finset ι) (f : ι → ℝ) :
    ((∏ i ∈ s, f i : ℝ) : EReal) = ∏ i ∈ s, (f i : EReal) := by
  classical
  induction s using Finset.induction_on with
  | empty => simp
  | insert a s ha ih => rw [Finset.prod_insert ha, Finset.prod_insert ha, EReal.coe_mul, ih]

/-- The decay of a step, from its logarithm. -/
def wt (g : EReal) : ℝ := (Ideal.exp g).toReal

theorem exp_eq_wt {g : EReal} (h : g ≠ ⊤) : Ideal.exp g = (wt g : EReal) := by
  unfold wt
  induction g with
  | bot => simp
  | top => exact absurd rfl h
  | coe r => simp

theorem exp_add {x y : EReal} (hx : x ≠ ⊤) (hy : y ≠ ⊤) :
    Ideal.exp (x + y) = Ideal.exp x * Ideal.exp y := by
  induction x with
  | bot => simp
  | top => exact absurd rfl hx
  | coe a =>
    induction y with
    | bot => simp
    | top => exact absurd rfl hy
    | coe b => rw [← EReal.coe_add]; simp only [Ideal.exp_coe]; rw [Real.exp_add, EReal.coe_mul]

theorem sum_ne_top {ι : Type*} (s : Finset ι) (f : ι → EReal) (h : ∀ i, f i ≠ ⊤) :
    ∑ i ∈ s, f i ≠ ⊤ := by
  classical
  induction s using Finset.induction_on with
  | empty => simp
  | insert a s ha ih =>
    rw [Finset.sum_insert ha]
    exact (EReal.add_lt_top (h a) ih).ne

theorem exp_sum {ι : Type*} (s : Finset ι) (f : ι → EReal) (h : ∀ i, f i ≠ ⊤) :
    Ideal.exp (∑ i ∈ s, f i) = ((∏ i ∈ s, wt (f i) : ℝ) : EReal) := by
  classical
  induction s using Finset.induction_on with
  | empty =>
    rw [Finset.sum_empty, Finset.prod_empty, ← EReal.coe_zero, Ideal.exp_coe, Real.exp_zero]
  | insert a s ha ih =>
    rw [Finset.sum_insert ha, Finset.prod_insert ha, exp_add (h a) (sum_ne_top s f h), ih,
      exp_eq_wt (h a), EReal.coe_mul]

theorem wt_zero : wt 0 = 1 := by
  unfold wt; rw [← EReal.coe_zero, Ideal.exp_coe, Real.exp_zero]; rfl

/-- A table's entry times a logarithm's two parts: the logarithm where the entry is one, nothing where it is zero. -/
theorem entry_mul (p : Prop) [Decidable p] {g : EReal} (h : g ≠ ⊤) :
    (if p then (1 : EReal) else 0) * g + (if p then (1 : EReal) else 0) * (g - g) = if p then g else 0 := by
  by_cases hp : p
  · simp only [if_pos hp, one_mul]
    induction g with
    | bot => simp
    | top => exact absurd rfl h
    | coe r => rw [← EReal.coe_sub, ← EReal.coe_add]; simp
  · simp [if_neg hp]

theorem exp_table (P : Fin 128 → Prop) [DecidablePred P] (g : Fin 128 → EReal) (h : ∀ j, g j ≠ ⊤) :
    Ideal.exp (∑ j, (if P j then (1 : EReal) else 0) * g j
        + ∑ j, (if P j then (1 : EReal) else 0) * (g j - g j))
      = ((∏ j, if P j then wt (g j) else 1 : ℝ) : EReal) := by
  rw [← Finset.sum_add_distrib, Finset.sum_congr rfl fun j _ => entry_mul (P j) (h j),
    exp_sum _ _ fun j => ?_]
  · congr 1
    refine Finset.prod_congr rfl fun j _ => ?_
    by_cases hp : P j
    · simp [hp]
    · simp [hp, wt_zero]
  · by_cases hp : P j
    · simpa [hp] using h j
    · simp [hp]

/-! ## The tables -/

/-- Half the block length of level `l`. -/
def half (l : ℕ) : ℕ := 64 / 2 ^ l

/-- The last row of the first half of row `t`'s block at level `l`. -/
def mid (l t : ℕ) : ℕ := t / (2 * half l) * (2 * half l) + half l - 1

/-- The steps whose decays level `l` gives row `t`. -/
def inSet (l t j : ℕ) : Prop := if mid l t < t then mid l t < j ∧ j ≤ t else t < j ∧ j ≤ mid l t

instance (l t j : ℕ) : Decidable (inSet l t j) := by unfold inSet; infer_instance

/-- The pairs of rows that level `l` takes. -/
def inMask (l t s : ℕ) : Prop :=
  t / (2 * half l) = s / (2 * half l) ∧ mid l t < t ∧ s ≤ mid l s

instance (l t s : ℕ) : Decidable (inMask l t s) := by unfold inMask; infer_instance

theorem level_count : ∀ t s : Fin 128,
    ((if t.val = s.val then 1 else 0) + ∑ l : Fin 7, if inMask l t s then 1 else 0 : ℕ)
      = if s.val ≤ t.val then 1 else 0 := by
  decide +kernel

theorem level_mul {l t s : ℕ} (h : inMask l t s) (j : ℕ) (x : ℝ) :
    (if inSet l t j then x else 1) * (if inSet l s j then x else 1)
      = if s < j ∧ j ≤ t then x else 1 := by
  obtain ⟨hq, ht, hs⟩ := h
  have hm : mid l t = mid l s := by unfold mid; rw [hq]
  have h1 : inSet l t j ↔ mid l s < j ∧ j ≤ t := by unfold inSet; rw [if_pos ht, hm]
  have h2 : inSet l s j ↔ s < j ∧ j ≤ mid l s := by unfold inSet; rw [if_neg (by omega)]
  rw [hm] at ht
  by_cases a : inSet l t j <;> by_cases b : inSet l s j
  · rw [h1] at a; rw [h2] at b; omega
  · rw [if_pos a, if_neg b, if_pos (by rw [h1] at a; omega), mul_one]
  · rw [if_neg a, if_pos b, if_pos (by rw [h2] at b; omega), one_mul]
  · rw [if_neg a, if_neg b, if_neg (by rw [h1] at a; rw [h2] at b; omega), one_mul]

/-! ## The recurrence -/

section

variable (w k v : ℕ → Fin 128 → ℝ)

/-- The state after `t` steps: each step scales row `a` by the step's decay and adds the outer product of the key and
    the value. -/
def st : ℕ → Fin 128 → Fin 128 → ℝ
  | 0 => fun _ _ => 0
  | t + 1 => fun a d => w t a * st t a d + k t a * v t d

theorem st_add (T n : ℕ) (a d : Fin 128) :
    st w k v (T + n) a d
      = (∏ j ∈ Finset.range n, w (T + j) a) * st w k v T a d
        + ∑ s ∈ Finset.range n, k (T + s) a * (∏ j ∈ Finset.range n, if s < j then w (T + j) a else 1)
            * v (T + s) d := by
  induction n with
  | zero => simp
  | succ n ih =>
    have h1 : ∀ s ∈ Finset.range n, k (T + s) a * (∏ j ∈ Finset.range (n + 1), if s < j then w (T + j) a else 1)
            * v (T + s) d
          = w (T + n) a * (k (T + s) a * (∏ j ∈ Finset.range n, if s < j then w (T + j) a else 1)
            * v (T + s) d) := by
      intro s hs
      rw [Finset.prod_range_succ, if_pos (Finset.mem_range.mp hs)]; ring
    have h2 : (∏ j ∈ Finset.range (n + 1), if n < j then w (T + j) a else 1) = 1 :=
      Finset.prod_eq_one fun j hj => if_neg (by have := Finset.mem_range.mp hj; omega)
    rw [← add_assoc]
    simp only [st]
    rw [ih, Finset.sum_range_succ, Finset.sum_congr rfl h1, h2, Finset.prod_range_succ, ← Finset.mul_sum]
    ring

/-- The state after a block of 128 steps. -/
theorem st_block (T : ℕ) (a d : Fin 128) :
    st w k v (T + 128) a d
      = (∏ j : Fin 128, w (T + j) a) * st w k v T a d
        + ∑ s : Fin 128, (k (T + s) a * ∏ j : Fin 128, if s.val < j.val then w (T + j) a else 1) * v (T + s) d := by
  rw [st_add]
  simp only [Finset.sum_range, Finset.prod_range]

/-- A product over the first rows of a block as a product over the whole block. -/
theorem prod_first (n : ℕ) (hn : n ≤ 128) (f : ℕ → ℝ) :
    ∏ j ∈ Finset.range n, f j = ∏ j : Fin 128, if j.val < n then f j else 1 := by
  rw [← Finset.prod_range (fun j => if j < n then f j else 1), ← Finset.prod_filter]
  refine Finset.prod_congr ?_ fun _ _ => rfl
  ext j
  simp only [Finset.mem_filter, Finset.mem_range]
  omega

theorem sum_first (n : ℕ) (hn : n ≤ 128) (f : ℕ → ℝ) :
    ∑ j ∈ Finset.range n, f j = ∑ j : Fin 128, if j.val < n then f j else 0 := by
  rw [← Finset.sum_range (fun j => if j < n then f j else 0), ← Finset.sum_filter]
  refine Finset.sum_congr ?_ fun _ _ => rfl
  ext j
  simp only [Finset.mem_filter, Finset.mem_range]
  omega

/-- The state after the first rows of a block, up to row `t`. -/
theorem st_row (T : ℕ) (t a d : Fin 128) :
    st w k v (T + t + 1) a d
      = (∏ j : Fin 128, if j.val ≤ t.val then w (T + j) a else 1) * st w k v T a d
        + ∑ s : Fin 128, (if s.val ≤ t.val then (1 : ℝ) else 0)
            * (k (T + s) a * (∏ j : Fin 128, if s.val < j.val ∧ j.val ≤ t.val then w (T + j) a else 1)
              * v (T + s) d) := by
  rw [add_assoc, st_add, prod_first _ (by omega), sum_first _ (by omega)]
  congr 1
  · simp only [Nat.lt_succ_iff]
  · refine Finset.sum_congr rfl fun s _ => ?_
    by_cases h : s.val ≤ t.val
    · rw [if_pos (by omega), if_pos h, one_mul, prod_first _ (by omega)]
      congr 2
      refine Finset.prod_congr rfl fun j _ => ?_
      by_cases h1 : s.val < j.val <;> by_cases h2 : j.val ≤ t.val
      · rw [if_pos (by omega), if_pos h1, if_pos ⟨h1, h2⟩]
      · rw [if_neg (by omega), if_neg (by omega)]
      · rw [if_pos (by omega), if_neg h1, if_neg (by omega)]
      · rw [if_neg (by omega), if_neg (by omega)]
    · rw [if_neg (by omega), if_neg h, zero_mul]

variable (q : ℕ → Fin 128 → ℝ)

/-- What step `t` reads of the state it leaves. -/
def rd (t : ℕ) (d : Fin 128) : ℝ := ∑ a, q t a * st w k v (t + 1) a d

/-- The factor of level `l` at row `t` of the block that begins at step `T`. -/
def fac (T l : ℕ) (t a : Fin 128) : ℝ := ∏ j : Fin 128, if inSet l t j then w (T + j) a else 1

/-- The weight of row `s` in row `t`: the diagonal and the seven levels. -/
def score (T : ℕ) (t s : Fin 128) : ℝ :=
  (if t.val = s.val then (1 : ℝ) else 0) * (∑ a, q (T + t) a * k (T + s) a)
    + ∑ l : Fin 7, (if inMask l t s then (1 : ℝ) else 0)
        * ∑ a, (q (T + t) a * fac w T l t a) * (k (T + s) a * fac w T l s a)

theorem score_eq (T : ℕ) (t s : Fin 128) :
    score w k q T t s = (if s.val ≤ t.val then (1 : ℝ) else 0)
      * ∑ a, q (T + t) a * (k (T + s) a
          * ∏ j : Fin 128, if s.val < j.val ∧ j.val ≤ t.val then w (T + j) a else 1) := by
  have hl : ∀ l : Fin 7, (if inMask l t s then (1 : ℝ) else 0)
        * ∑ a, (q (T + t) a * fac w T l t a) * (k (T + s) a * fac w T l s a)
      = (if inMask l t s then (1 : ℝ) else 0) * ∑ a, q (T + t) a * (k (T + s) a
          * ∏ j : Fin 128, if s.val < j.val ∧ j.val ≤ t.val then w (T + j) a else 1) := by
    intro l
    by_cases h : inMask l t s
    · congr 1
      refine Finset.sum_congr rfl fun a _ => ?_
      have : ∏ j : Fin 128, (if s.val < j.val ∧ j.val ≤ t.val then w (T + j) a else 1)
          = fac w T l t a * fac w T l s a := by
        unfold fac
        rw [← Finset.prod_mul_distrib]
        exact Finset.prod_congr rfl fun j _ => (level_mul h _ _).symm
      rw [this]; ring
    · rw [if_neg h, zero_mul, zero_mul]
  have hd : (if t.val = s.val then (1 : ℝ) else 0) * (∑ a, q (T + t) a * k (T + s) a)
      = (if t.val = s.val then (1 : ℝ) else 0) * ∑ a, q (T + t) a * (k (T + s) a
          * ∏ j : Fin 128, if s.val < j.val ∧ j.val ≤ t.val then w (T + j) a else 1) := by
    by_cases h : t.val = s.val
    · congr 1
      refine Finset.sum_congr rfl fun a _ => ?_
      rw [Finset.prod_eq_one fun j _ => if_neg (by omega), mul_one]
    · rw [if_neg h, zero_mul, zero_mul]
  have hc := congrArg (Nat.cast : ℕ → ℝ) (level_count t s)
  push_cast at hc
  unfold score
  rw [Finset.sum_congr rfl fun l _ => hl l, hd, ← Finset.sum_mul, ← add_mul, hc]

/-- What the rows of a block read: the block's own rows by their weights, and the state before the block. -/
theorem out_block (T : ℕ) (t d : Fin 128) :
    ∑ s : Fin 128, score w k q T t s * v (T + s) d
      + ∑ a : Fin 128, (q (T + t) a * ∏ j : Fin 128, if j.val ≤ t.val then w (T + j) a else 1) * st w k v T a d
      = rd w k v q (T + t) d := by
  unfold rd
  simp only [st_row, score_eq, mul_add, Finset.sum_add_distrib]
  rw [add_comm]
  congr 1
  · exact Finset.sum_congr rfl fun a _ => by ring
  · simp only [Finset.mul_sum, Finset.sum_mul]
    rw [Finset.sum_comm]
    exact Finset.sum_congr rfl fun a _ => Finset.sum_congr rfl fun s _ => by ring

end

end Cert.Hg

end
-- ==== Proof.Scalars.lean ====
/-
  The gates of the recurrence as functions of one number: the log-decay, the key and the swish, and where they are
  finite.
-/
module

public import proofs.«01_k».proof.Proof.Recur

@[expose] public section

noncomputable section

namespace Cert.Hg

open Idealize.ShloMosaic

/-- `log(1 + e^(-|d|))`. -/
def corr (d : EReal) : EReal := Ideal.log (1 + Ideal.exp (-max d (-d)))

/-- The softplus of `-z`. -/
def spl (z : EReal) : EReal := max (-z) 0 + corr (-z)

/-- The log-decay of the forget value `z` under the lower bound `l`. -/
def lam (l z : EReal) : EReal :=
  max (Ideal.log l) (Ideal.log1p (-l) - spl z) + corr (Ideal.log l - (Ideal.log1p (-l) - spl z))

/-- The key of the forget value `z` under the lower bound `l`. -/
def kap (l z : EReal) : EReal := (1 - l) * Ideal.logistic (-z)

/-- The swish. -/
def sil (z : EReal) : EReal := z * Ideal.logistic z

theorem corr_real (d : EReal) : ∃ r : ℝ, 0 ≤ r ∧ corr d = (r : EReal) := by
  have h0 : (0 : EReal) ≤ max d (-d) := by
    rcases le_total 0 d with h | h
    · exact le_max_of_le_left h
    · exact le_max_of_le_right (by simpa using EReal.neg_le_neg_iff.mpr h)
  unfold corr
  generalize max d (-d) = e at h0
  induction e with
  | bot => exact absurd h0 (by simp)
  | top => exact ⟨0, le_rfl, by simp [← EReal.coe_one, Ideal.log_coe]⟩
  | coe e =>
    have h1 : (0 : ℝ) < Real.exp (-e) := Real.exp_pos _
    refine ⟨Real.log (1 + Real.exp (-e)), Real.log_nonneg (by linarith), ?_⟩
    rw [← EReal.coe_neg, Ideal.exp_coe, ← EReal.coe_one, ← EReal.coe_add, Ideal.log_coe, if_neg (by linarith)]

theorem corr_ne_top (d : EReal) : corr d ≠ ⊤ := by
  obtain ⟨r, -, h⟩ := corr_real d
  rw [h]
  exact EReal.coe_ne_top r

theorem spl_nonneg (z : EReal) : 0 ≤ spl z := by
  obtain ⟨r, hr, h⟩ := corr_real (-z)
  unfold spl
  rw [h]
  exact add_nonneg (le_max_right _ _) (by exact_mod_cast hr)

theorem log_ne_top (r : ℝ) : Ideal.log (r : EReal) ≠ ⊤ := by
  rw [Ideal.log_coe]
  split_ifs
  · exact bot_ne_top
  · exact EReal.coe_ne_top _

theorem lam_ne_top (l : ℝ) (z : EReal) : lam (l : EReal) z ≠ ⊤ := by
  have h1 : Ideal.log1p (-(l : EReal)) ≠ ⊤ := by
    unfold Ideal.log1p
    rw [← EReal.coe_neg, ← EReal.coe_one, ← EReal.coe_add]
    exact log_ne_top _
  have h2 : Ideal.log1p (-(l : EReal)) - spl z ≠ ⊤ := by
    have := spl_nonneg z
    refine ne_top_of_le_ne_top h1 ?_
    calc Ideal.log1p (-(l : EReal)) - spl z ≤ Ideal.log1p (-(l : EReal)) - 0 := EReal.sub_le_sub le_rfl this
      _ = _ := by simp
  unfold lam
  refine (EReal.add_lt_top ?_ (corr_ne_top _)).ne
  exact (max_lt (lt_top_iff_ne_top.mpr (log_ne_top l)) (lt_top_iff_ne_top.mpr h2)).ne

theorem logistic_real (z : EReal) : ∃ r : ℝ, Ideal.logistic z = (r : EReal) := by
  induction z with
  | bot => exact ⟨0, by simp⟩
  | top => exact ⟨1, by simp⟩
  | coe z => exact ⟨_, Ideal.logistic_coe z⟩

theorem kap_real (l : ℝ) (z : EReal) : kap (l : EReal) z = (((kap (l : EReal) z).toReal : ℝ) : EReal) := by
  obtain ⟨r, h⟩ := logistic_real (-z)
  unfold kap
  rw [h, ← EReal.coe_one, ← EReal.coe_sub, ← EReal.coe_mul, EReal.toReal_coe]

theorem sil_real (z : ℝ) : sil (z : EReal) = (((sil (z : EReal)).toReal : ℝ) : EReal) := by
  obtain ⟨r, h⟩ := logistic_real z
  unfold sil
  rw [h, ← EReal.coe_mul, EReal.toReal_coe]

/-- A row's result in a column: the row over the root of its mean square, the norm's weight and the gate. -/
def fin (o : Fin 128 → EReal) (d : Fin 128) (n z : EReal) : EReal :=
  o d * Ideal.rsqrt (Ideal.div (∑ x, o x * o x) (Ideal.ofBits .f32 1124073472#32) + Ideal.ofBits .f32 897988541#32)
    * n * sil z

end Cert.Hg

end
-- ==== Proof.Layer.lean ====
/-
  The recurrence's operands read off the argument arrays, and the result they make: what both programs compute.
-/
module

public import proofs.«01_k».proof.Proof.Scalars

@[expose] public section

noncomputable section

namespace Cert.Hg

variable (P : Fin 8192 → Fin 8192 → EReal) (L N : Fin 2048 → EReal)

/-- The row of a step. -/
def row (t : ℕ) : Fin 8192 := ⟨t % 8192, Nat.mod_lt _ (by decide)⟩

/-- The place of a head's lane among the 2048. -/
def lane (h : Fin 16) (a : Fin 128) : Fin 2048 := ⟨h.val * 128 + a.val, by omega⟩

/-- The column of a place in one of the four groups: queries, forget values, values, gates. -/
def col (b : Fin 4) (j : Fin 2048) : Fin 8192 := ⟨b.val * 2048 + j.val, by omega⟩

/-- The decay's weight of a head at a step. -/
def dW (h : Fin 16) (t : ℕ) (a : Fin 128) : ℝ := wt (lam (L (lane h a)) (P (row t) (col 1 (lane h a))))
/-- The key. -/
def dK (h : Fin 16) (t : ℕ) (a : Fin 128) : ℝ := (kap (L (lane h a)) (P (row t) (col 1 (lane h a)))).toReal
/-- The query. -/
def dQ (h : Fin 16) (t : ℕ) (a : Fin 128) : ℝ := (sil (P (row t) (col 0 (lane h a)))).toReal
/-- The value. -/
def dV (h : Fin 16) (t : ℕ) (a : Fin 128) : ℝ := (P (row t) (col 2 (lane h a))).toReal

/-- The head of a place. -/
def headOf (j : Fin 2048) : Fin 16 := ⟨j.val / 128, by omega⟩
/-- The lane of a place. -/
def laneOf (j : Fin 2048) : Fin 128 := ⟨j.val % 128, by omega⟩

/-- The state of a head before a step. -/
def dSt (h : Fin 16) (t : ℕ) : Fin 128 → Fin 128 → ℝ := st (dW P L h) (dK P L h) (dV P h) t
/-- The state read by a step's query. -/
def dRd (h : Fin 16) (t : ℕ) (d : Fin 128) : ℝ := rd (dW P L h) (dK P L h) (dV P h) (dQ P h) t d

/-- The result at a row and a place. -/
def res (t : Fin 8192) (j : Fin 2048) : EReal :=
  fin (fun x => ((dRd P L (headOf j) t.val x : ℝ) : EReal)) (laneOf j) (N j) (P t (col 3 j))

/-- The queries' and values' columns and the lower bounds are finite. -/
structure IsFinite : Prop where
  q : ∀ t j, P t (col 0 j) = ((P t (col 0 j)).toReal : EReal)
  v : ∀ t j, P t (col 2 j) = ((P t (col 2 j)).toReal : EReal)
  l : ∀ j, L j = ((L j).toReal : EReal)

variable {P L}

theorem IsFinite.lam_top (f : IsFinite P L) (h : Fin 16) (z : EReal) (a : Fin 128) : lam (L (lane h a)) z ≠ ⊤ := by
  rw [f.l]; exact lam_ne_top _ _

theorem IsFinite.key (f : IsFinite P L) (h : Fin 16) (t : ℕ) (a : Fin 128) :
    kap (L (lane h a)) (P (row t) (col 1 (lane h a))) = ((dK P L h t a : ℝ) : EReal) := by
  unfold dK; rw [f.l]; exact kap_real _ _

theorem IsFinite.query (f : IsFinite P L) (h : Fin 16) (t : ℕ) (a : Fin 128) :
    sil (P (row t) (col 0 (lane h a))) = ((dQ P h t a : ℝ) : EReal) := by
  unfold dQ; rw [f.q]; exact sil_real _

theorem IsFinite.value (f : IsFinite P L) (h : Fin 16) (t : ℕ) (a : Fin 128) :
    P (row t) (col 2 (lane h a)) = ((dV P h t a : ℝ) : EReal) := f.v _ _

theorem row_of (t : ℕ) (h : t < 8192) : row t = ⟨t, h⟩ := Fin.ext (Nat.mod_eq_of_lt h)

end Cert.Hg

end
-- ==== Proof.Chunk.lean ====
/-
  One block of 128 steps as the kernel's body takes it, as functions of the blocks it loads. A grid point takes four
  such blocks one after the other, the state scratch carried between them (`Blocks.lean` ties these functions to what
  the generated run leaves).
-/
module

public import proofs.«01_k».proof.Proof.Gen.KernelIdeal.Skeleton
public import Idealize.ShloMosaic.Lib.Pipeline.ValueKit

@[expose] public section

set_option maxRecDepth 16384

noncomputable section

namespace Cert.KernelIdeal.Chunk

open Idealize.ShloMosaic Idealize.ShloMosaic.TcCoe Idealize.SL.Sem
open Cert.KernelIdeal Cert.KernelIdeal.Gen

variable {F : FTy → Type} [FloatOps F]

/-- A constant over a block. -/
def const (b : BitVec 32) : FVec F S128x128 .f32 := broadcast S128x128 (Scalar.ofBits .f32 b)

/-- `log (1 + exp (-d))`. -/
def log1pexpNeg (d : FVec F S128x128 .f32) : FVec F S128x128 .f32 :=
  log (addf (const 0x3F800000#32) (exp (subf (const 0x00000000#32) d)))

/-- The second term of the logarithm of the decay: `log (1 - lb) - softplus (-f)`. -/
def logTerm (l1 : Vec F S1x128 .f32) (zf : Vec F S128x128 .f32) : FVec F S128x128 .f32 :=
  subf (broadcastTo S128x128 (shapeCast S1x128 l1 shapeCasts_S1x128_S1x128) broadcasts_S1x128_S128x128)
    (addf (maximumf (subf (const 0x00000000#32) zf) (const 0x00000000#32))
      (log1pexpNeg (absf (subf (const 0x00000000#32) zf))))

/-- The first term of the logarithm of the decay: `log lb`. -/
def logLb (l0 : Vec F S1x128 .f32) : FVec F S128x128 .f32 :=
  broadcastTo S128x128 (shapeCast S1x128 l0 shapeCasts_S1x128_S1x128) broadcasts_S1x128_S128x128

/-- The logarithm of the decay. -/
def decay (l0 l1 : Vec F S1x128 .f32) (zf : Vec F S128x128 .f32) : FVec F S128x128 .f32 :=
  addf (maximumf (logLb l0) (logTerm l1 zf)) (log1pexpNeg (absf (subf (logLb l0) (logTerm l1 zf))))

/-- The key. -/
def key (l2 : Vec F S1x128 .f32) (zf : Vec F S128x128 .f32) : FVec F S128x128 .f32 :=
  mulf (broadcastTo S128x128 (shapeCast S1x128 l2 shapeCasts_S1x128_S1x128) broadcasts_S1x128_S128x128)
    (logistic (subf (const 0x00000000#32) zf))

/-- The gate `z * sigmoid z`. -/
def gate (z : Vec F S128x128 .f32) : FVec F S128x128 .f32 := mulf z (logistic z)

/-- The logarithm of the decay in two parts, one above the other. -/
def parts (g : FVec F S128x128 .f32) : FVec F S256x128 .bf16 :=
  concatenate S256x128 0 [⟨S128x128, truncf .bf16 g bitsLt_bf16_f32⟩,
    ⟨S128x128, truncf .bf16 (subf g (extf .f32 (truncf .bf16 g bitsLt_bf16_f32) bitsLt_bf16_f32)) bitsLt_bf16_f32⟩]
    concatenates_S128x128_S128x128_S256x128_d0

/-- The table's sums of the logarithms. -/
def sums (x6 : Vec F S1152x256 .bf16) (g : FVec F S128x128 .f32) : FVec F S1152x128 .f32 :=
  matmul dot_S1152x256_S256x128_S1152x128_1_0_0_1_n_n none (shapeCast S1152x256 x6 shapeCasts_S1152x256_S1152x256)
    (parts g) (constant S1152x128 .f32 0x00000000#32)

/-- The products of the rows of two blocks. -/
def dotNT (a b : FVec F S128x128 .f32) : FVec F S128x128 .f32 :=
  matmul dot_S128x128_S128x128_S128x128_1_1_0_0_n_n none (truncf .bf16 a bitsLt_bf16_f32)
    (truncf .bf16 b bitsLt_bf16_f32) (constant S128x128 .f32 0x00000000#32)

/-- The product of two blocks. -/
def dotNN (a : FVec F S128x128 .f32) (b : FVec F S128x128 .bf16) : FVec F S128x128 .f32 :=
  matmul dot_S128x128_S128x128_S128x128_1_0_0_1_n_n none (truncf .bf16 a bitsLt_bf16_f32) b
    (constant S128x128 .f32 0x00000000#32)

/-- One level: the products of the rows scaled by the exponentials of the level's sums, under the level's mask. -/
def level (q k e : FVec F S128x128 .f32) (mk : Vec F S1x128x128 .f32) : FVec F S128x128 .f32 :=
  mulf (shapeCast S128x128 mk shapeCasts_S1x128x128_S128x128) (dotNT (mulf q (exp e)) (mulf k (exp e)))

/-- The weights of the block's rows in one another. -/
def scores (x7 : Vec F S8x128x128 .f32) (q k : FVec F S128x128 .f32) (ex : FVec F S1152x128 .f32) :
    FVec F S128x128 .f32 :=
  addf (addf (addf (addf (addf (addf (addf
    (mulf (shapeCast S128x128 (View.ld x7 (Rect.unit (s := S8x128x128) ![7, 0, 0] S1x128x128.size inb_S8x128x128_S1x128x128_7_0_0)) shapeCasts_S1x128x128_S128x128) (dotNT q k))
    (level q k (extractStridedSlice S128x128 ![256, 0] ex slices_S1152x128_o256_0_S128x128) (View.ld x7 (Rect.unit (s := S8x128x128) ![0, 0, 0] S1x128x128.size inb_S8x128x128_S1x128x128_0_0_0))))
    (level q k (extractStridedSlice S128x128 ![384, 0] ex slices_S1152x128_o384_0_S128x128) (View.ld x7 (Rect.unit (s := S8x128x128) ![1, 0, 0] S1x128x128.size inb_S8x128x128_S1x128x128_1_0_0))))
    (level q k (extractStridedSlice S128x128 ![512, 0] ex slices_S1152x128_o512_0_S128x128) (View.ld x7 (Rect.unit (s := S8x128x128) ![2, 0, 0] S1x128x128.size inb_S8x128x128_S1x128x128_2_0_0))))
    (level q k (extractStridedSlice S128x128 ![640, 0] ex slices_S1152x128_o640_0_S128x128) (View.ld x7 (Rect.unit (s := S8x128x128) ![3, 0, 0] S1x128x128.size inb_S8x128x128_S1x128x128_3_0_0))))
    (level q k (extractStridedSlice S128x128 ![768, 0] ex slices_S1152x128_o768_0_S128x128) (View.ld x7 (Rect.unit (s := S8x128x128) ![4, 0, 0] S1x128x128.size inb_S8x128x128_S1x128x128_4_0_0))))
    (level q k (extractStridedSlice S128x128 ![896, 0] ex slices_S1152x128_o896_0_S128x128) (View.ld x7 (Rect.unit (s := S8x128x128) ![5, 0, 0] S1x128x128.size inb_S8x128x128_S1x128x128_5_0_0))))
    (level q k (extractStridedSlice S128x128 ![1024, 0] ex slices_S1152x128_o1024_0_S128x128) (View.ld x7 (Rect.unit (s := S8x128x128) ![6, 0, 0] S1x128x128.size inb_S8x128x128_S1x128x128_6_0_0)))

/-- What the block's rows read of the recurrence. -/
def read (x6 : Vec F S1152x256 .bf16) (x7 : Vec F S8x128x128 .f32) (q k g : FVec F S128x128 .f32)
    (v : Vec F S128x128 .f32) (s : Vec F S128x128 .f32) : FVec F S128x128 .f32 :=
  addf (dotNN (scores x7 q k (sums x6 g)) (truncf .bf16 v bitsLt_bf16_f32))
    (dotNN (mulf q (exp (extractStridedSlice S128x128 ![0, 0] (sums x6 g) slices_S1152x128_o0_0_S128x128)))
      (truncf .bf16 s bitsLt_bf16_f32))

/-- The state after the block. -/
def next (x6 : Vec F S1152x256 .bf16) (k g : FVec F S128x128 .f32) (v : Vec F S128x128 .f32)
    (s : Vec F S128x128 .f32) : FVec F S128x128 .f32 :=
  shapeCast S128x128
    (addf
      (mulf (exp (matmul dot_S256x128_S256x128_S128x128_0_0_1_1_n_n none (parts g)
          (broadcast S256x128 (Scalar.ofBits .bf16 0x3F80#16)) (constant S128x128 .f32 0x00000000#32))) s)
      (matmul dot_S128x128_S128x128_S128x128_0_0_1_1_n_n none
        (truncf .bf16 (mulf k (exp (extractStridedSlice S128x128 ![128, 0] (sums x6 g) slices_S1152x128_o128_0_S128x128))) bitsLt_bf16_f32)
        (truncf .bf16 v bitsLt_bf16_f32) (constant S128x128 .f32 0x00000000#32)))
    shapeCasts_S128x128_S128x128

/-- The norm over a row's lanes, the norm's weights and the gate. -/
def close (o : FVec F S128x128 .f32) (nw : Vec F S1x128 .f32) (zg : Vec F S128x128 .f32) : FVec F S128x128 .bf16 :=
  truncf .bf16
    (mulf
      (mulf
        (mulf o (broadcastTo S128x128
          (rsqrt (addf
            (divf (shapeCast S128x1 (multiReduction .add [1] S128 (mulf o o) 0x00000000#32 reduces_S128x128_S128 (.inl rfl) rfl) shapeCasts_S128_S128x1)
              (broadcast S128x1 (Scalar.ofBits .f32 0x43000000#32)))
            (broadcast S128x1 (Scalar.ofBits .f32 0x358637BD#32))))
          broadcasts_S128x1_S128x128))
        (broadcastTo S128x128 (shapeCast S1x128 nw shapeCasts_S1x128_S1x128) broadcasts_S1x128_S128x128))
      (gate zg))
    bitsLt_bf16_f32

/-- Row `r` of the three rows of the lower bound. -/
def lb0 (x4 : Vec F S3x128 .f32) : Vec F S1x128 .f32 := View.ld x4 (Rect.unit (s := S3x128) ![0, 0] S1x128.size inb_S3x128_S1x128_0_0)
@[inherit_doc lb0]
def lb1 (x4 : Vec F S3x128 .f32) : Vec F S1x128 .f32 := View.ld x4 (Rect.unit (s := S3x128) ![1, 0] S1x128.size inb_S3x128_S1x128_1_0)
@[inherit_doc lb0]
def lb2 (x4 : Vec F S3x128 .f32) : Vec F S1x128 .f32 := View.ld x4 (Rect.unit (s := S3x128) ![2, 0] S1x128.size inb_S3x128_S1x128_2_0)

/-- Block `b` of a grid point's 512 rows. -/
def rows0 (x : Vec F S512x128 .f32) : Vec F S128x128 .f32 := View.ld x (Rect.unit (s := S512x128) ![0, 0] S128x128.size inb_S512x128_S128x128_0_0)
@[inherit_doc rows0]
def rows1 (x : Vec F S512x128 .f32) : Vec F S128x128 .f32 := View.ld x (Rect.unit (s := S512x128) ![128, 0] S128x128.size inb_S512x128_S128x128_128_0)
@[inherit_doc rows0]
def rows2 (x : Vec F S512x128 .f32) : Vec F S128x128 .f32 := View.ld x (Rect.unit (s := S512x128) ![256, 0] S128x128.size inb_S512x128_S128x128_256_0)
@[inherit_doc rows0]
def rows3 (x : Vec F S512x128 .f32) : Vec F S128x128 .f32 := View.ld x (Rect.unit (s := S512x128) ![384, 0] S128x128.size inb_S512x128_S128x128_384_0)

/-- The state after a block, from the loaded rows. -/
def stepSt (x4 : Vec F S3x128 .f32) (x6 : Vec F S1152x256 .bf16) (zf v s : Vec F S128x128 .f32) : Vec F S128x128 .f32 :=
  next x6 (key (lb2 x4) zf) (decay (lb0 x4) (lb1 x4) zf) v s

/-- The result's rows of a block, from the loaded rows. -/
def stepOut (x4 : Vec F S3x128 .f32) (x5 : Vec F S1x128 .f32) (x6 : Vec F S1152x256 .bf16) (x7 : Vec F S8x128x128 .f32)
    (zq zf v zg s : Vec F S128x128 .f32) : Vec F S128x128 .bf16 :=
  close (read x6 x7 (gate zq) (key (lb2 x4) zf) (decay (lb0 x4) (lb1 x4) zf) v s) x5 zg

/-- The state before block `b` of a grid point, from the state before the point. -/
def before1 (x1 x2 : Vec F S512x128 .f32) (x4 : Vec F S3x128 .f32) (x6 : Vec F S1152x256 .bf16) (s : Vec F S128x128 .f32) : Vec F S128x128 .f32 :=
  stepSt x4 x6 (rows0 x1) (rows0 x2) s
@[inherit_doc before1]
def before2 (x1 x2 : Vec F S512x128 .f32) (x4 : Vec F S3x128 .f32) (x6 : Vec F S1152x256 .bf16) (s : Vec F S128x128 .f32) : Vec F S128x128 .f32 :=
  stepSt x4 x6 (rows1 x1) (rows1 x2) (before1 x1 x2 x4 x6 s)
@[inherit_doc before1]
def before3 (x1 x2 : Vec F S512x128 .f32) (x4 : Vec F S3x128 .f32) (x6 : Vec F S1152x256 .bf16) (s : Vec F S128x128 .f32) : Vec F S128x128 .f32 :=
  stepSt x4 x6 (rows2 x1) (rows2 x2) (before2 x1 x2 x4 x6 s)
@[inherit_doc before1]
def before4 (x1 x2 : Vec F S512x128 .f32) (x4 : Vec F S3x128 .f32) (x6 : Vec F S1152x256 .bf16) (s : Vec F S128x128 .f32) : Vec F S128x128 .f32 :=
  stepSt x4 x6 (rows3 x1) (rows3 x2) (before3 x1 x2 x4 x6 s)

end Cert.KernelIdeal.Chunk

end
-- ==== Proof.Step.lean ====
/-
  One block of 128 steps over the extended reals: on real keys, queries and values and a real state, with logarithms of
  the decays that are real or `⊥`, the block leaves the recurrence's state after its 128 steps, and its rows read what
  the recurrence's rows read.
-/
module

public import proofs.«01_k».proof.Proof.Recur
public import proofs.«01_k».proof.Proof.Chunk
public import Idealize.ShloMosaic.Lib.Pipeline.ValueKit

@[expose] public section

set_option maxRecDepth 16384

noncomputable section

namespace Cert.KernelIdeal.Chunk

open Idealize.ShloMosaic Idealize.ShloMosaic.TcCoe Idealize.SL.Sem
open Cert.KernelIdeal Cert.KernelIdeal.Gen Cert.Hg

/-- The pairs of a row and a step that block `r` of the table takes. -/
def tbl (r t j : ℕ) : Prop :=
  match r with
  | 0 => j ≤ t
  | 1 => t < j
  | r + 2 => Hg.inSet r t j

instance (r t j : ℕ) : Decidable (tbl r t j) := by
  unfold tbl; split <;> infer_instance

/-- The pairs of rows that slab `l` of the masks takes. -/
def msk (l t s : ℕ) : Prop := if l < 7 then Hg.inMask l t s else t = s

instance (l t s : ℕ) : Decidable (msk l t s) := by
  unfold msk; infer_instance

/-- The table of sums, as numbers. -/
def IsStack (x6 : Vec Ideal S1152x256 .bf16) : Prop :=
  ∀ i : S1152x256.Idx, x6 i = if tbl ((i 0).val / 128) ((i 0).val % 128) ((i 1).val % 128) then (1 : EReal) else 0

/-- The masks, as numbers. -/
def IsMask (x7 : Vec Ideal S8x128x128 .f32) : Prop :=
  ∀ i : S8x128x128.Idx, x7 i = if msk (i 0).val (i 1).val (i 2).val then (1 : EReal) else 0

theorem sums_at (x6 : Vec Ideal S1152x256 .bf16) (h6 : IsStack x6) (g : FVec Ideal S128x128 .f32) (R : Fin 1152)
    (a : Fin 128) (r t : ℕ) (hR : R.val = 128 * r + t) (ht : t < 128) :
    sums x6 g (ix2 R a) = ∑ j : Fin 128, (if tbl r t j then (1 : EReal) else 0) * g (ix2 j a)
      + ∑ j : Fin 128, (if tbl r t j then (1 : EReal) else 0) * (g (ix2 j a) - g (ix2 j a)) := by
  unfold sums parts
  pointwise
  refine congrArg₂ _ (Finset.sum_congr rfl fun j _ => ?_) (Finset.sum_congr rfl fun j _ => ?_)
  all_goals
    have hj := j.2
    rw [h6]
    congr 1
    refine if_congr (Iff.of_eq ?_) rfl rfl
    simp only [ix2_0, ix2_1]
    congr 1 <;> omega

theorem exp_sums (x6 : Vec Ideal S1152x256 .bf16) (h6 : IsStack x6) (g : FVec Ideal S128x128 .f32)
    (hg : ∀ t a : Fin 128, g (ix2 t a) ≠ (⊤ : EReal)) (R : Fin 1152) (a : Fin 128) (r t : ℕ)
    (hR : R.val = 128 * r + t) (ht : t < 128) :
    Ideal.exp (sums x6 g (ix2 R a))
      = ((∏ j : Fin 128, if tbl r t j then wt (g (ix2 j a)) else 1 : ℝ) : EReal) := by
  rw [sums_at x6 h6 g R a r t hR ht]
  exact exp_table (fun j => tbl r t j) (fun j => g (ix2 j a)) fun j => hg j a

theorem exp_all (g : Fin 128 → EReal) (hg : ∀ t : Fin 128, g t ≠ (⊤ : EReal)) :
    Ideal.exp (∑ j, g j + ∑ j, (g j - g j)) = ((∏ j : Fin 128, wt (g j) : ℝ) : EReal) := by
  simpa using exp_table (fun _ => True) g hg

section
variable (w k v q : ℕ → Fin 128 → ℝ) (T : ℕ) (x6 : Vec Ideal S1152x256 .bf16) (x7 : Vec Ideal S8x128x128 .f32)
  (zq zk zg zv s : FVec Ideal S128x128 .f32)

theorem next_eq (h6 : IsStack x6) (hg : ∀ t a : Fin 128, zg (ix2 t a) ≠ (⊤ : EReal))
    (hw : ∀ t a : Fin 128, wt (zg (ix2 t a)) = w (T + t) a)
    (hk : ∀ t a : Fin 128, zk (ix2 t a) = ((k (T + t) a : ℝ) : EReal))
    (hv : ∀ t a : Fin 128, zv (ix2 t a) = ((v (T + t) a : ℝ) : EReal))
    (hs : ∀ a d : Fin 128, s (ix2 a d) = ((st w k v T a d : ℝ) : EReal)) (a d : Fin 128) :
    next x6 zk zg zv s (ix2 a d) = ((st w k v (T + 128) a d : ℝ) : EReal) := by
  unfold next parts
  pointwise
  rw [exp_all _ fun j => hg j a, st_block, EReal.coe_add, EReal.coe_mul, coe_sum, hs]
  congr 1
  · simp only [hw]
  · refine Finset.sum_congr rfl fun j _ => ?_
    rw [exp_sums x6 h6 zg hg _ a 1 j (by simp) j.2, hk, hv, EReal.coe_mul, EReal.coe_mul]
    simp only [hw]
    rfl

/-- The products of two blocks' rows, as real numbers. -/
theorem dotNT_eq (x y : FVec Ideal S128x128 .f32) (xr yr : Fin 128 → Fin 128 → ℝ)
    (hx : ∀ t a, x (ix2 t a) = ((xr t a : ℝ) : EReal)) (hy : ∀ t a, y (ix2 t a) = ((yr t a : ℝ) : EReal)) (t u : Fin 128) :
    dotNT x y (ix2 t u) = ((∑ a, xr t a * yr u a : ℝ) : EReal) := by
  unfold dotNT
  pointwise
  rw [coe_sum]
  refine Finset.sum_congr rfl fun a _ => ?_
  rw [hx, hy, EReal.coe_mul]

theorem level_eq (h6 : IsStack x6) (hg : ∀ t a : Fin 128, zg (ix2 t a) ≠ (⊤ : EReal))
    (hw : ∀ t a : Fin 128, wt (zg (ix2 t a)) = w (T + t) a)
    (hq : ∀ t a : Fin 128, zq (ix2 t a) = ((q (T + t) a : ℝ) : EReal))
    (hk : ∀ t a : Fin 128, zk (ix2 t a) = ((k (T + t) a : ℝ) : EReal))
    (l : ℕ) (hl : l < 7) (e : FVec Ideal S128x128 .f32)
    (he : ∀ t a : Fin 128, e (ix2 t a) = sums x6 zg (ix2 ⟨128 * (l + 2) + t.val, by omega⟩ a))
    (mk : Vec Ideal S1x128x128 .f32)
    (hm : ∀ t u : Fin 128, mk (ix3 0 t u) = if inMask l t u then (1 : EReal) else 0) (t u : Fin 128) :
    level zq zk e mk (ix2 t u)
      = (((if inMask l t u then 1 else 0) * ∑ a, (q (T + t) a * fac w T l t a) * (k (T + u) a * fac w T l u a) : ℝ) : EReal) := by
  have hf : ∀ t a : Fin 128, Ideal.exp (e (ix2 t a)) = ((fac w T l t a : ℝ) : EReal) := fun t a => by
    rw [he, exp_sums x6 h6 zg hg _ a (l + 2) t rfl t.2]
    simp only [hw]
    rfl
  unfold level
  pointwise
  rw [dotNT_eq _ _ (fun t a => q (T + t) a * fac w T l t a) (fun t a => k (T + t) a * fac w T l t a)
    (fun t a => by pointwise; rw [hf, hq, EReal.coe_mul]) (fun t a => by pointwise; rw [hf, hk, EReal.coe_mul]), hm,
    EReal.coe_mul]
  congr 1
  split_ifs <;> simp

theorem scores_eq (h6 : IsStack x6) (h7 : IsMask x7) (hg : ∀ t a : Fin 128, zg (ix2 t a) ≠ (⊤ : EReal))
    (hw : ∀ t a : Fin 128, wt (zg (ix2 t a)) = w (T + t) a)
    (hq : ∀ t a : Fin 128, zq (ix2 t a) = ((q (T + t) a : ℝ) : EReal))
    (hk : ∀ t a : Fin 128, zk (ix2 t a) = ((k (T + t) a : ℝ) : EReal)) (t u : Fin 128) :
    scores x7 zq zk (sums x6 zg) (ix2 t u) = ((score w k q T t u : ℝ) : EReal) := by
  have slab : ∀ (l : ℕ) (hl : l < 8) (inb) (t u : Fin 128),
      View.ld x7 (Rect.unit (s := S8x128x128) ![l, 0, 0] S1x128x128.size inb) (ix3 0 t u)
        = if msk l t u then (1 : EReal) else 0 := fun l hl inb t u => by
    rw [View.ld_unit_apply_of x7 _ _ _ _ (ix3 (⟨l, hl⟩ : Fin 8) t u) (by intro a; fin_cases a <;> simp), h7]
    rfl
  have lev := fun (l : ℕ) (hl : l < 7) => level_eq w k q T x6 zq zk zg h6 hg hw hq hk l hl
  unfold scores
  pointwise
  rw [lev 0 (by decide) _ ?_ _ ?_]
  rw [lev 1 (by decide) _ ?_ _ ?_]
  rw [lev 2 (by decide) _ ?_ _ ?_]
  rw [lev 3 (by decide) _ ?_ _ ?_]
  rw [lev 4 (by decide) _ ?_ _ ?_]
  rw [lev 5 (by decide) _ ?_ _ ?_]
  rw [lev 6 (by decide) _ ?_ _ ?_]
  · rw [dotNT_eq _ _ (fun t a => q (T + t) a) (fun t a => k (T + t) a) hq hk]
    have h : x7 (ix3 7 t u) = (((if t.val = u.val then 1 else 0 : ℝ)) : EReal) := by
      rw [h7]
      clear slab lev h7 h6 hg hw hq hk
      show (if t.val = u.val then (1 : EReal) else 0) = _
      by_cases h : t.val = u.val
      · rw [if_pos h, if_pos h, EReal.coe_one]
      · rw [if_neg h, if_neg h, EReal.coe_zero]
    rw [h, ← EReal.coe_mul]
    clear slab lev h7 h6 hg hw hq hk h
    unfold score
    rw [Fin.sum_univ_seven]
    simp only [EReal.coe_add, ← add_assoc]
    rfl
  all_goals first
    | (intro t u; exact (slab _ (by decide) _ t u).trans rfl)
    | (intro t a; pointwise)

theorem read_eq (h6 : IsStack x6) (h7 : IsMask x7) (hg : ∀ t a : Fin 128, zg (ix2 t a) ≠ (⊤ : EReal))
    (hw : ∀ t a : Fin 128, wt (zg (ix2 t a)) = w (T + t) a)
    (hq : ∀ t a : Fin 128, zq (ix2 t a) = ((q (T + t) a : ℝ) : EReal))
    (hk : ∀ t a : Fin 128, zk (ix2 t a) = ((k (T + t) a : ℝ) : EReal))
    (hv : ∀ t a : Fin 128, zv (ix2 t a) = ((v (T + t) a : ℝ) : EReal))
    (hs : ∀ a d : Fin 128, s (ix2 a d) = ((st w k v T a d : ℝ) : EReal)) (t d : Fin 128) :
    read x6 x7 zq zk zg zv s (ix2 t d) = ((rd w k v q (T + t) d : ℝ) : EReal) := by
  unfold read dotNN
  pointwise
  rw [← out_block, EReal.coe_add, coe_sum, coe_sum]
  refine congrArg₂ _ (Finset.sum_congr rfl fun j _ => ?_) (Finset.sum_congr rfl fun a _ => ?_)
  · rw [scores_eq w k q T x6 x7 zq zk zg h6 h7 hg hw hq hk, hv, EReal.coe_mul]
  · rw [exp_sums x6 h6 zg hg _ a 0 t (by simp) t.2, hq, hs, EReal.coe_mul, EReal.coe_mul]
    simp only [hw]
    rfl
end

end Cert.KernelIdeal.Chunk
-- ==== Proof.Blocks.lean ====
/-
  What a grid point leaves: the four blocks of its 512 rows one after the other, over the state the point before left,
  or over zeros at the first point of a head.
-/
module

public import proofs.«01_k».proof.Proof.Gen.KernelIdeal.Frame
public import proofs.«01_k».proof.Proof.Chunk
public import Idealize.ShloMosaic.Lib.Pipeline.ValueKit
public import Idealize.ShloMosaic.Lib.Pipeline.ReadBack

@[expose] public section

set_option maxRecDepth 16384

noncomputable section

namespace Cert.KernelIdeal.Chunk

open Idealize.ShloMosaic Idealize.ShloMosaic.TcCoe Idealize.SL.Sem
open Cert.KernelIdeal Cert.KernelIdeal.Gen

variable {F : FTy → Type} [FloatOps F]

/-- The zeros that the first point of a head stores into the state. -/
def zeros : Vec F S128x128 .f32 := k0_pay2 (F := F)

/-- The result's 512 rows of a grid point, over the state before it. -/
def blockOut (x0 x1 x2 x3 : Vec F S512x128 .f32) (x4 : Vec F S3x128 .f32) (x5 : Vec F S1x128 .f32)
    (x6 : Vec F S1152x256 .bf16) (x7 : Vec F S8x128x128 .f32) (s : Vec F S128x128 .f32) : Vec F S512x128 .bf16 :=
  View.canon [
    ⟨Rect.unit (s := S512x128) ![384, 0] S128x128.size inb_S512x128_S128x128_384_0, stepOut x4 x5 x6 x7 (rows3 x0) (rows3 x1) (rows3 x2) (rows3 x3) (before3 x1 x2 x4 x6 s)⟩,
    ⟨Rect.unit (s := S512x128) ![256, 0] S128x128.size inb_S512x128_S128x128_256_0, stepOut x4 x5 x6 x7 (rows2 x0) (rows2 x1) (rows2 x2) (rows2 x3) (before2 x1 x2 x4 x6 s)⟩,
    ⟨Rect.unit (s := S512x128) ![128, 0] S128x128.size inb_S512x128_S128x128_128_0, stepOut x4 x5 x6 x7 (rows1 x0) (rows1 x1) (rows1 x2) (rows1 x3) (before1 x1 x2 x4 x6 s)⟩,
    ⟨Rect.unit (s := S512x128) ![0, 0] S128x128.size inb_S512x128_S128x128_0_0, stepOut x4 x5 x6 x7 (rows0 x0) (rows0 x1) (rows0 x2) (rows0 x3) s⟩]

theorem stateA (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S3x128 .f32) (harg6 : arg6.IsWhole) (arg7 : Memref sig .tc .vmem S1x128 .f32) (harg7 : arg7.IsWhole) (arg8 : Memref sig .tc .vmem S1152x256 .bf16) (harg8 : arg8.IsWhole) (arg9 : Memref sig .tc .vmem S8x128x128 .f32) (harg9 : arg9.IsWhole) (arg10 : Memref sig .tc .vmem S512x128 .bf16) (harg10 : arg10.IsWhole) (hc0)
    (x0 x1 x2 x3 : Vec F S512x128 .f32) (x4 : Vec F S3x128 .f32) (x5 : Vec F S1x128 .f32)
    (x6 : Vec F S1152x256 .bf16) (x7 : Vec F S8x128x128 .f32) :
    sout0_A_0 c i arg2 harg2 arg3 harg3 arg4 harg4 arg5 harg5 arg6 harg6 arg7 harg7 arg8 harg8 arg9 harg9 arg10 harg10 scM0_0 (Memref.isWhole_whole _) hc0 x0 x1 x2 x3 x4 x5 x6 x7 = before4 x1 x2 x4 x6 zeros := by
  frame_open
  simp (disch := decide) only [↓ View.readCov_skip, ↓ View.readCov_cons_toLoadRect, ↓ View.readCov_fill]
  frame_out
  try simp only [read_unread_whole]
  rfl

theorem outA (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S3x128 .f32) (harg6 : arg6.IsWhole) (arg7 : Memref sig .tc .vmem S1x128 .f32) (harg7 : arg7.IsWhole) (arg8 : Memref sig .tc .vmem S1152x256 .bf16) (harg8 : arg8.IsWhole) (arg9 : Memref sig .tc .vmem S8x128x128 .f32) (harg9 : arg9.IsWhole) (arg10 : Memref sig .tc .vmem S512x128 .bf16) (harg10 : arg10.IsWhole) (hc0)
    (x0 x1 x2 x3 : Vec F S512x128 .f32) (x4 : Vec F S3x128 .f32) (x5 : Vec F S1x128 .f32)
    (x6 : Vec F S1152x256 .bf16) (x7 : Vec F S8x128x128 .f32) :
    out0_A_8 c i arg2 harg2 arg3 harg3 arg4 harg4 arg5 harg5 arg6 harg6 arg7 harg7 arg8 harg8 arg9 harg9 arg10 harg10 scM0_0 (Memref.isWhole_whole _) hc0 x0 x1 x2 x3 x4 x5 x6 x7 = blockOut x0 x1 x2 x3 x4 x5 x6 x7 zeros := by
  frame_open
  simp (disch := decide) only [↓ View.readCov_skip, ↓ View.readCov_cons_toLoadRect, ↓ View.readCov_fill]
  frame_out
  try simp only [read_unread_whole]
  rfl

theorem stateB (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S3x128 .f32) (harg6 : arg6.IsWhole) (arg7 : Memref sig .tc .vmem S1x128 .f32) (harg7 : arg7.IsWhole) (arg8 : Memref sig .tc .vmem S1152x256 .bf16) (harg8 : arg8.IsWhole) (arg9 : Memref sig .tc .vmem S8x128x128 .f32) (harg9 : arg9.IsWhole) (arg10 : Memref sig .tc .vmem S512x128 .bf16) (harg10 : arg10.IsWhole) (hc0 : ¬_)
    (x0 x1 x2 x3 : Vec F S512x128 .f32) (x4 : Vec F S3x128 .f32) (x5 : Vec F S1x128 .f32)
    (x6 : Vec F S1152x256 .bf16) (x7 : Vec F S8x128x128 .f32) (xs : Vec F S128x128 .f32) :
    sout0_B_0 c i arg2 harg2 arg3 harg3 arg4 harg4 arg5 harg5 arg6 harg6 arg7 harg7 arg8 harg8 arg9 harg9 arg10 harg10 scM0_0 (Memref.isWhole_whole _) hc0 x0 x1 x2 x3 x4 x5 x6 x7 xs = before4 x1 x2 x4 x6 xs := by
  frame_open
  simp (disch := decide) only [↓ View.readCov_skip, ↓ View.readCov_cons_toLoadRect, ↓ View.readCov_fill]
  frame_out
  try simp only [read_unread_whole]
  rfl

theorem outB (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S3x128 .f32) (harg6 : arg6.IsWhole) (arg7 : Memref sig .tc .vmem S1x128 .f32) (harg7 : arg7.IsWhole) (arg8 : Memref sig .tc .vmem S1152x256 .bf16) (harg8 : arg8.IsWhole) (arg9 : Memref sig .tc .vmem S8x128x128 .f32) (harg9 : arg9.IsWhole) (arg10 : Memref sig .tc .vmem S512x128 .bf16) (harg10 : arg10.IsWhole) (hc0 : ¬_)
    (x0 x1 x2 x3 : Vec F S512x128 .f32) (x4 : Vec F S3x128 .f32) (x5 : Vec F S1x128 .f32)
    (x6 : Vec F S1152x256 .bf16) (x7 : Vec F S8x128x128 .f32) (xs : Vec F S128x128 .f32) :
    out0_B_8 c i arg2 harg2 arg3 harg3 arg4 harg4 arg5 harg5 arg6 harg6 arg7 harg7 arg8 harg8 arg9 harg9 arg10 harg10 scM0_0 (Memref.isWhole_whole _) hc0 x0 x1 x2 x3 x4 x5 x6 x7 xs = blockOut x0 x1 x2 x3 x4 x5 x6 x7 xs := by
  frame_open
  simp (disch := decide) only [↓ View.readCov_skip, ↓ View.readCov_cons_toLoadRect, ↓ View.readCov_fill]
  frame_out
  try simp only [read_unread_whole]
  rfl

end Cert.KernelIdeal.Chunk

end
-- ==== Proof.Point.lean ====
/-
  A grid point's state and rows: the recurrence over its 512 rows.
-/
module

public import proofs.«01_k».proof.Proof.Scalars
public import proofs.«01_k».proof.Proof.Step
public import proofs.«01_k».proof.Proof.Blocks

@[expose] public section

set_option maxRecDepth 16384

noncomputable section

namespace Cert.KernelIdeal.Chunk

open Idealize.ShloMosaic Idealize.ShloMosaic.TcCoe Idealize.SL.Sem
open Cert.KernelIdeal Cert.KernelIdeal.Gen
open Cert.Hg (wt st rd lam kap sil fin spl corr lam_ne_top)

/-- The lower bound's rows of a head. -/
def IsBound (l : Fin 128 → ℝ) (x4 : Vec Ideal S3x128 .f32) : Prop :=
  ∀ a, x4 (ix2 0 a) = Ideal.log (l a : EReal) ∧ x4 (ix2 1 a) = Ideal.log1p (-(l a : EReal)) ∧ x4 (ix2 2 a) = 1 - (l a : EReal)

variable (w k v q : ℕ → Fin 128 → ℝ) (l : Fin 128 → ℝ)

/-- The queries, forget values and values of `n` rows are those of the steps from `T` on. -/
structure IsRows (n T : ℕ) (zq zf zv : Fin n → Fin 128 → EReal) : Prop where
  q : ∀ t a, sil (zq t a) = ((q (T + t) a : ℝ) : EReal)
  k : ∀ t a, kap (l a : EReal) (zf t a) = ((k (T + t) a : ℝ) : EReal)
  w : ∀ t a, wt (lam (l a : EReal) (zf t a)) = w (T + t) a
  v : ∀ t a, zv t a = ((v (T + t) a : ℝ) : EReal)

variable (x4 : Vec Ideal S3x128 .f32) (x5 : Vec Ideal S1x128 .f32) (x6 : Vec Ideal S1152x256 .bf16)
  (x7 : Vec Ideal S8x128x128 .f32) (T : ℕ)

section
variable (zq zf zv zg s : Vec Ideal S128x128 .f32)

theorem decay_at (h4 : IsBound l x4) (t a : Fin 128) :
    decay (lb0 x4) (lb1 x4) zf (ix2 t a) = lam (l a : EReal) (zf (ix2 t a)) := by
  have h0 : lb0 x4 (ix2 0 a) = Ideal.log (l a : EReal) := by
    rw [← (h4 a).1]; unfold lb0; pointwise
  have h1 : lb1 x4 (ix2 0 a) = Ideal.log1p (-(l a : EReal)) := by
    rw [← (h4 a).2.1]; unfold lb1; pointwise
  generalize lb0 x4 = l0 at h0 ⊢
  generalize lb1 x4 = l1 at h1 ⊢
  unfold decay logLb logTerm log1pexpNeg const
  pointwise
  rw [h0, h1]
  unfold lam spl corr
  simp only [Ideal.absf_def, zero_sub]

theorem key_at (h4 : IsBound l x4) (t a : Fin 128) :
    key (lb2 x4) zf (ix2 t a) = kap (l a : EReal) (zf (ix2 t a)) := by
  have h0 : lb2 x4 (ix2 0 a) = 1 - (l a : EReal) := by
    rw [← (h4 a).2.2]; unfold lb2; pointwise
  generalize lb2 x4 = l0 at h0 ⊢
  unfold key const
  pointwise
  rw [h0]
  unfold kap
  simp only [zero_sub]

theorem gate_at (t a : Fin 128) : gate zq (ix2 t a) = sil (zq (ix2 t a)) := by
  unfold gate
  pointwise
  rfl

theorem stepSt_eq (h4 : IsBound l x4) (h6 : IsStack x6)
    (h : IsRows w k v q l 128 T (fun t a => zq (ix2 t a)) (fun t a => zf (ix2 t a)) (fun t a => zv (ix2 t a)))
    (hs : ∀ a d : Fin 128, s (ix2 a d) = ((st w k v T a d : ℝ) : EReal)) (a d : Fin 128) :
    stepSt x4 x6 zf zv s (ix2 a d) = ((st w k v (T + 128) a d : ℝ) : EReal) := by
  unfold stepSt
  refine next_eq w k v T x6 _ _ zv s h6 ?_ ?_ ?_ h.v hs a d
  · intro t a; rw [decay_at l x4 zf h4]; exact lam_ne_top _ _
  · intro t a; rw [decay_at l x4 zf h4]; exact h.w t a
  · intro t a; rw [key_at l x4 zf h4]; exact h.k t a

theorem stepOut_eq (h4 : IsBound l x4) (h6 : IsStack x6) (h7 : IsMask x7)
    (h : IsRows w k v q l 128 T (fun t a => zq (ix2 t a)) (fun t a => zf (ix2 t a)) (fun t a => zv (ix2 t a)))
    (hs : ∀ a d : Fin 128, s (ix2 a d) = ((st w k v T a d : ℝ) : EReal)) (t d : Fin 128) :
    stepOut x4 x5 x6 x7 zq zf zv zg s (ix2 t d)
      = fin (fun x => ((rd w k v q (T + t) x : ℝ) : EReal)) d (x5 (ix2 0 d)) (zg (ix2 t d)) := by
  have e : ∀ d, read x6 x7 (gate zq) (key (lb2 x4) zf) (decay (lb0 x4) (lb1 x4) zf) zv s (ix2 t d)
      = ((rd w k v q (T + t) d : ℝ) : EReal) := by
    intro d
    refine read_eq w k v q T x6 x7 _ _ _ zv s h6 h7 ?_ ?_ ?_ ?_ h.v hs t d
    · intro t a; rw [decay_at l x4 zf h4]; exact lam_ne_top _ _
    · intro t a; rw [decay_at l x4 zf h4]; exact h.w t a
    · intro t a; rw [gate_at]; exact h.q t a
    · intro t a; rw [key_at l x4 zf h4]; exact h.k t a
  unfold stepOut
  generalize read x6 x7 (gate zq) (key (lb2 x4) zf) (decay (lb0 x4) (lb1 x4) zf) zv s = o at e ⊢
  unfold close
  pointwise
  simp only [e]
  rfl
end

theorem rows0_at (x : Vec Ideal S512x128 .f32) (t a : Fin 128) : rows0 x (ix2 t a) = x (ix2 ⟨0 + t.val, by omega⟩ a) := by
  unfold rows0; rw [View.ld_unit_apply_of x _ _ _ _ (ix2 (⟨0 + t.val, by omega⟩ : Fin 512) a) (by intro b; fin_cases b <;> simp)]
theorem rows1_at (x : Vec Ideal S512x128 .f32) (t a : Fin 128) : rows1 x (ix2 t a) = x (ix2 ⟨128 + t.val, by omega⟩ a) := by
  unfold rows1; rw [View.ld_unit_apply_of x _ _ _ _ (ix2 (⟨128 + t.val, by omega⟩ : Fin 512) a) (by intro b; fin_cases b <;> simp)]
theorem rows2_at (x : Vec Ideal S512x128 .f32) (t a : Fin 128) : rows2 x (ix2 t a) = x (ix2 ⟨256 + t.val, by omega⟩ a) := by
  unfold rows2; rw [View.ld_unit_apply_of x _ _ _ _ (ix2 (⟨256 + t.val, by omega⟩ : Fin 512) a) (by intro b; fin_cases b <;> simp)]
theorem rows3_at (x : Vec Ideal S512x128 .f32) (t a : Fin 128) : rows3 x (ix2 t a) = x (ix2 ⟨384 + t.val, by omega⟩ a) := by
  unfold rows3; rw [View.ld_unit_apply_of x _ _ _ _ (ix2 (⟨384 + t.val, by omega⟩ : Fin 512) a) (by intro b; fin_cases b <;> simp)]

variable (x0 x1 x2 x3 : Vec Ideal S512x128 .f32) (s : Vec Ideal S128x128 .f32)

/-- A block's 128 rows of a grid point's 512. -/
theorem isRows_sub (h : IsRows w k v q l 512 T (fun t a => x0 (ix2 t a)) (fun t a => x1 (ix2 t a)) (fun t a => x2 (ix2 t a)))
    (o : ℕ) (ho : o + 128 ≤ 512) (y0 y1 y2 : Vec Ideal S128x128 .f32)
    (h0 : ∀ t a : Fin 128, y0 (ix2 t a) = x0 (ix2 ⟨o + t.val, by omega⟩ a))
    (h1 : ∀ t a : Fin 128, y1 (ix2 t a) = x1 (ix2 ⟨o + t.val, by omega⟩ a))
    (h2 : ∀ t a : Fin 128, y2 (ix2 t a) = x2 (ix2 ⟨o + t.val, by omega⟩ a)) :
    IsRows w k v q l 128 (T + o) (fun t a => y0 (ix2 t a)) (fun t a => y1 (ix2 t a)) (fun t a => y2 (ix2 t a)) where
  q t a := by rw [h0, h.q, Nat.add_assoc]
  k t a := by rw [h1, h.k, Nat.add_assoc]
  w t a := by rw [h1, h.w, Nat.add_assoc]
  v t a := by rw [h2, h.v, Nat.add_assoc]

section
variable (h4 : IsBound l x4) (h6 : IsStack x6) (h7 : IsMask x7)
    (h : IsRows w k v q l 512 T (fun t a => x0 (ix2 t a)) (fun t a => x1 (ix2 t a)) (fun t a => x2 (ix2 t a)))
    (hs : ∀ a d : Fin 128, s (ix2 a d) = ((st w k v T a d : ℝ) : EReal))
include h4 h6 h hs

theorem before1_eq (a d : Fin 128) : before1 x1 x2 x4 x6 s (ix2 a d) = ((st w k v (T + 128) a d : ℝ) : EReal) :=
  stepSt_eq w k v q l x4 x6 (T + 0) (rows0 x0) _ _ _ h4 h6
    (isRows_sub w k v q l T x0 x1 x2 h 0 (by decide) _ _ _ (rows0_at x0) (rows0_at x1) (rows0_at x2)) hs a d

theorem before2_eq (a d : Fin 128) : before2 x1 x2 x4 x6 s (ix2 a d) = ((st w k v (T + 256) a d : ℝ) : EReal) :=
  stepSt_eq w k v q l x4 x6 (T + 128) (rows1 x0) _ _ _ h4 h6
    (isRows_sub w k v q l T x0 x1 x2 h 128 (by decide) _ _ _ (rows1_at x0) (rows1_at x1) (rows1_at x2))
    (before1_eq w k v q l x4 x6 T x0 x1 x2 s h4 h6 h hs) a d

theorem before3_eq (a d : Fin 128) : before3 x1 x2 x4 x6 s (ix2 a d) = ((st w k v (T + 384) a d : ℝ) : EReal) :=
  stepSt_eq w k v q l x4 x6 (T + 256) (rows2 x0) _ _ _ h4 h6
    (isRows_sub w k v q l T x0 x1 x2 h 256 (by decide) _ _ _ (rows2_at x0) (rows2_at x1) (rows2_at x2))
    (before2_eq w k v q l x4 x6 T x0 x1 x2 s h4 h6 h hs) a d

/-- The state that a grid point leaves. -/
theorem before4_eq (a d : Fin 128) : before4 x1 x2 x4 x6 s (ix2 a d) = ((st w k v (T + 512) a d : ℝ) : EReal) :=
  stepSt_eq w k v q l x4 x6 (T + 384) (rows3 x0) _ _ _ h4 h6
    (isRows_sub w k v q l T x0 x1 x2 h 384 (by decide) _ _ _ (rows3_at x0) (rows3_at x1) (rows3_at x2))
    (before3_eq w k v q l x4 x6 T x0 x1 x2 s h4 h6 h hs) a d

include h7

/-- The rows that a grid point leaves. -/
theorem blockOut_eq (r : Fin 512) (d : Fin 128) : blockOut x0 x1 x2 x3 x4 x5 x6 x7 s (ix2 r d)
    = fin (fun x => ((rd w k v q (T + r) x : ℝ) : EReal)) d (x5 (ix2 0 d)) (x3 (ix2 r d)) := by
  have piece : ∀ (o : ℕ) (ho : o + 128 ≤ 512) (y0 y1 y2 y3 : Vec Ideal S128x128 .f32) (s' : Vec Ideal S128x128 .f32)
      (h0 : ∀ t a : Fin 128, y0 (ix2 t a) = x0 (ix2 ⟨o + t.val, by omega⟩ a))
      (h1 : ∀ t a : Fin 128, y1 (ix2 t a) = x1 (ix2 ⟨o + t.val, by omega⟩ a))
      (h2 : ∀ t a : Fin 128, y2 (ix2 t a) = x2 (ix2 ⟨o + t.val, by omega⟩ a))
      (h3 : ∀ t a : Fin 128, y3 (ix2 t a) = x3 (ix2 ⟨o + t.val, by omega⟩ a))
      (hs' : ∀ a d : Fin 128, s' (ix2 a d) = ((st w k v (T + o) a d : ℝ) : EReal)) (t : Fin 128) (hr : r.val = o + t.val),
      stepOut x4 x5 x6 x7 y0 y1 y2 y3 s' (ix2 t d)
        = fin (fun x => ((rd w k v q (T + r) x : ℝ) : EReal)) d (x5 (ix2 0 d)) (x3 (ix2 r d)) := by
    intro o ho y0 y1 y2 y3 s' h0 h1 h2 h3 hs' t hr
    rw [stepOut_eq w k v q l x4 x5 x6 x7 (T + o) y0 y1 y2 y3 s' h4 h6 h7
      (isRows_sub w k v q l T x0 x1 x2 h o ho _ _ _ h0 h1 h2) hs' t d, h3]
    have hr' : r = ⟨o + t.val, by omega⟩ := Fin.ext hr
    rw [hr', Nat.add_assoc]
  have p0 := piece 0 (by decide) _ _ _ _ s (rows0_at x0) (rows0_at x1) (rows0_at x2) (rows0_at x3) hs
  have p1 := piece 128 (by decide) _ _ _ _ _ (rows1_at x0) (rows1_at x1) (rows1_at x2) (rows1_at x3)
    (before1_eq w k v q l x4 x6 T x0 x1 x2 s h4 h6 h hs)
  have p2 := piece 256 (by decide) _ _ _ _ _ (rows2_at x0) (rows2_at x1) (rows2_at x2) (rows2_at x3)
    (before2_eq w k v q l x4 x6 T x0 x1 x2 s h4 h6 h hs)
  have p3 := piece 384 (by decide) _ _ _ _ _ (rows3_at x0) (rows3_at x1) (rows3_at x2) (rows3_at x3)
    (before3_eq w k v q l x4 x6 T x0 x1 x2 s h4 h6 h hs)
  clear piece
  unfold blockOut
  canon_tiles y hy
  · rw [← p3 (y 0) hy0, show d = y 1 from Fin.ext hy1, ← eq_ix2 y]
  · rw [← p2 (y 0) hy0, show d = y 1 from Fin.ext hy1, ← eq_ix2 y]
  · rw [← p1 (y 0) hy0, show d = y 1 from Fin.ext hy1, ← eq_ix2 y]
  · rw [← p0 (y 0) (by rw [Nat.zero_add]; exact hy0), show d = y 1 from Fin.ext hy1, ← eq_ix2 y]
end

end Cert.KernelIdeal.Chunk

end
-- ==== Proof.Tables.lean ====
/-
  What the two tables that the host builds hold at an index: the rows of the first one are the sets of steps whose
  logarithms a row sums, the slabs of the second the pairs of rows that a level takes.
-/
module

public import proofs.«01_k».proof.Proof.Gen.KernelIdeal.Frame
public import proofs.«01_k».proof.Proof.Recur
public import Idealize.ShloMosaic.Lib.StableHlo.ReadAt
public import Idealize.ShloMosaic.Lib.Pipeline.ValueKit

@[expose] public section

set_option maxRecDepth 16384

noncomputable section

namespace Cert.KernelIdeal.Chunk

open Idealize.ShloMosaic Idealize.ShloMosaic.TcCoe Idealize.SL.Sem
open Cert.KernelIdeal Cert.KernelIdeal.Gen

/-! ## Words of small numbers -/

theorem ref_word : ∀ (l : Fin 7) (a : Fin 128),
    IntOp.subi (IntOp.addi (IntOp.muli (IntOp.divsi .host (BitVec.ofNat 32 a) (BitVec.ofNat 32 (2 * Hg.half l)))
      (BitVec.ofNat 32 (2 * Hg.half l))) (BitVec.ofNat 32 (Hg.half l))) 1#32 = BitVec.ofNat 32 (Hg.mid l a) := by
  decide +kernel

theorem div_word : ∀ (l : Fin 7) (a : Fin 128),
    IntOp.divsi .host (BitVec.ofNat 32 a) (BitVec.ofNat 32 (2 * Hg.half l))
      = BitVec.ofNat 32 (a / (2 * Hg.half l)) := by
  decide +kernel

theorem sgt_word : ∀ a b : Fin 128,
    IntOp.cmpi .sgt (BitVec.ofNat 32 a) (BitVec.ofNat 32 b) = BitVec.ofBool (decide (b.val < a.val)) := by
  decide +kernel

theorem sle_word : ∀ a b : Fin 128,
    IntOp.cmpi .sle (BitVec.ofNat 32 a) (BitVec.ofNat 32 b) = BitVec.ofBool (decide (a.val ≤ b.val)) := by
  decide +kernel

theorem eq_word : ∀ a b : Fin 128,
    IntOp.cmpi .eq (BitVec.ofNat 32 a) (BitVec.ofNat 32 b) = BitVec.ofBool (decide (a.val = b.val)) := by
  decide +kernel

theorem mid_lt : ∀ (l : Fin 7) (a : Fin 128), Hg.mid l a < 128 := by decide +kernel

/-- The word of the set of level `l` at row `a`, step `b`. -/
theorem set_word (l : Fin 7) (a b : Fin 128) (d h : BitVec 32) (hd : d = BitVec.ofNat 32 (2 * Hg.half l))
    (hh : h = BitVec.ofNat 32 (Hg.half l)) :
    Scalar.select
      (IntOp.cmpi .sgt (BitVec.ofNat 32 a)
        (IntOp.subi (IntOp.addi (IntOp.muli (IntOp.divsi .host (BitVec.ofNat 32 a) d) d) h) 1#32))
      (IntOp.andi
        (IntOp.cmpi .sgt (BitVec.ofNat 32 b)
          (IntOp.subi (IntOp.addi (IntOp.muli (IntOp.divsi .host (BitVec.ofNat 32 a) d) d) h) 1#32))
        (IntOp.cmpi .sle (BitVec.ofNat 32 b) (BitVec.ofNat 32 a)))
      (IntOp.andi (IntOp.cmpi .sgt (BitVec.ofNat 32 b) (BitVec.ofNat 32 a))
        (IntOp.cmpi .sle (BitVec.ofNat 32 b)
          (IntOp.subi (IntOp.addi (IntOp.muli (IntOp.divsi .host (BitVec.ofNat 32 a) d) d) h) 1#32)))
      = BitVec.ofBool (decide (Hg.inSet l a b)) := by
  subst hd hh
  have hs := sgt_word a ⟨_, mid_lt l a⟩
  have ht := sgt_word b ⟨_, mid_lt l a⟩
  have hu := sle_word b ⟨_, mid_lt l a⟩
  rw [ref_word]
  rw [show ((⟨_, mid_lt l a⟩ : Fin 128) : ℕ) = Hg.mid l a from rfl] at hs ht hu
  rw [hs, ht, hu, sgt_word, sle_word]
  unfold Hg.inSet
  by_cases h1 : Hg.mid l a < a.val <;> by_cases h2 : Hg.mid l a < b.val <;> by_cases h3 : b.val ≤ a.val <;>
    by_cases h4 : b.val ≤ Hg.mid l a <;> by_cases h5 : a.val < b.val <;>
    simp [h1, h2, h3, h4, h5, Scalar.select, IntOp.andi]

/-- The word of the mask of level `l` at rows `a` and `b`. -/
theorem mask_word (l : Fin 7) (a b : Fin 128) (d h : BitVec 32) (hd : d = BitVec.ofNat 32 (2 * Hg.half l))
    (hh : h = BitVec.ofNat 32 (Hg.half l)) :
    IntOp.andi
      (IntOp.andi
        (IntOp.cmpi .eq (IntOp.divsi .host (BitVec.ofNat 32 a) d) (IntOp.divsi .host (BitVec.ofNat 32 b) d))
        (IntOp.cmpi .sgt (BitVec.ofNat 32 a)
          (IntOp.subi (IntOp.addi (IntOp.muli (IntOp.divsi .host (BitVec.ofNat 32 a) d) d) h) 1#32)))
      (IntOp.cmpi .sle (BitVec.ofNat 32 b)
        (IntOp.subi (IntOp.addi (IntOp.muli (IntOp.divsi .host (BitVec.ofNat 32 b) d) d) h) 1#32))
      = BitVec.ofBool (decide (Hg.inMask l a b)) := by
  subst hd hh
  have hs := sgt_word a ⟨_, mid_lt l a⟩
  have hu := sle_word b ⟨_, mid_lt l b⟩
  have he := eq_word ⟨a / (2 * Hg.half l), lt_of_le_of_lt (Nat.div_le_self _ _) a.2⟩
    ⟨b / (2 * Hg.half l), lt_of_le_of_lt (Nat.div_le_self _ _) b.2⟩
  rw [ref_word, ref_word, div_word, div_word]
  simp only at hs hu he
  rw [hs, hu, he]
  unfold Hg.inMask
  by_cases h1 : Hg.mid l a < a.val <;> by_cases h2 : b.val ≤ Hg.mid l b <;>
    by_cases h3 : a.val / (2 * Hg.half l) = b.val / (2 * Hg.half l) <;>
    simp [h1, h2, h3, IntOp.andi]

/-! ## The tables' pieces -/

section
variable {F : FTy → Type} [FloatOps F] (m : (ℓ : Loc nD τ sig) → Buf (Elt F) ℓ) (c : Dev nD) (i : S128x128.Idx)

theorem le_at : V m c main_v15 i = BitVec.ofBool (decide ((i 1).val ≤ (i 0).val)) := by
  unfold V
  after_reads_at
  exact sle_word (i 1) (i 0)

theorem gt_at : V m c main_v18 i = BitVec.ofBool (decide ((i 0).val < (i 1).val)) := by
  unfold V
  after_reads_at
  exact sgt_word (i 1) (i 0)

theorem diag_at : V m c main_v329 i = BitVec.ofBool (decide ((i 0).val = (i 1).val)) := by
  unfold V
  after_reads_at
  exact eq_word (i 0) (i 1)

theorem set0_at : V m c main_v42 i = BitVec.ofBool (decide (Hg.inSet 0 (i 0).val (i 1).val)) := by
  unfold V
  after_reads_at
  exact set_word 0 (i 0) (i 1) _ _ (by decide) (by decide)

theorem mask0_at : V m c main_v62 i = BitVec.ofBool (decide (Hg.inMask 0 (i 0).val (i 1).val)) := by
  unfold V
  after_reads_at
  exact mask_word 0 (i 0) (i 1) _ _ (by decide) (by decide)

theorem set1_at : V m c main_v86 i = BitVec.ofBool (decide (Hg.inSet 1 (i 0).val (i 1).val)) := by
  unfold V
  after_reads_at
  exact set_word 1 (i 0) (i 1) _ _ (by decide) (by decide)

theorem mask1_at : V m c main_v106 i = BitVec.ofBool (decide (Hg.inMask 1 (i 0).val (i 1).val)) := by
  unfold V
  after_reads_at
  exact mask_word 1 (i 0) (i 1) _ _ (by decide) (by decide)

theorem set2_at : V m c main_v130 i = BitVec.ofBool (decide (Hg.inSet 2 (i 0).val (i 1).val)) := by
  unfold V
  after_reads_at
  exact set_word 2 (i 0) (i 1) _ _ (by decide) (by decide)

theorem mask2_at : V m c main_v150 i = BitVec.ofBool (decide (Hg.inMask 2 (i 0).val (i 1).val)) := by
  unfold V
  after_reads_at
  exact mask_word 2 (i 0) (i 1) _ _ (by decide) (by decide)

theorem set3_at : V m c main_v174 i = BitVec.ofBool (decide (Hg.inSet 3 (i 0).val (i 1).val)) := by
  unfold V
  after_reads_at
  exact set_word 3 (i 0) (i 1) _ _ (by decide) (by decide)

theorem mask3_at : V m c main_v194 i = BitVec.ofBool (decide (Hg.inMask 3 (i 0).val (i 1).val)) := by
  unfold V
  after_reads_at
  exact mask_word 3 (i 0) (i 1) _ _ (by decide) (by decide)

theorem set4_at : V m c main_v218 i = BitVec.ofBool (decide (Hg.inSet 4 (i 0).val (i 1).val)) := by
  unfold V
  after_reads_at
  exact set_word 4 (i 0) (i 1) _ _ (by decide) (by decide)

theorem mask4_at : V m c main_v238 i = BitVec.ofBool (decide (Hg.inMask 4 (i 0).val (i 1).val)) := by
  unfold V
  after_reads_at
  exact mask_word 4 (i 0) (i 1) _ _ (by decide) (by decide)

theorem set5_at : V m c main_v262 i = BitVec.ofBool (decide (Hg.inSet 5 (i 0).val (i 1).val)) := by
  unfold V
  after_reads_at
  exact set_word 5 (i 0) (i 1) _ _ (by decide) (by decide)

theorem mask5_at : V m c main_v282 i = BitVec.ofBool (decide (Hg.inMask 5 (i 0).val (i 1).val)) := by
  unfold V
  after_reads_at
  exact mask_word 5 (i 0) (i 1) _ _ (by decide) (by decide)

theorem set6_at : V m c main_v306 i = BitVec.ofBool (decide (Hg.inSet 6 (i 0).val (i 1).val)) := by
  unfold V
  after_reads_at
  exact set_word 6 (i 0) (i 1) _ _ (by decide) (by decide)

theorem mask6_at : V m c main_v326 i = BitVec.ofBool (decide (Hg.inMask 6 (i 0).val (i 1).val)) := by
  unfold V
  after_reads_at
  exact mask_word 6 (i 0) (i 1) _ _ (by decide) (by decide)

end

end Cert.KernelIdeal.Chunk
-- ==== Proof.Operands.lean ====
/-
  The tables and the small operands as whole arrays at an index, as real numbers.
-/
module

public import proofs.«01_k».proof.Proof.Tables
public import proofs.«01_k».proof.Proof.Step

@[expose] public section

set_option maxRecDepth 16384

noncomputable section

namespace Cert.KernelIdeal.Chunk

open Idealize.ShloMosaic Idealize.ShloMosaic.TcCoe Idealize.SL.Sem
open Idealize.ShloMosaic.StableHlo
open Cert.KernelIdeal Cert.KernelIdeal.Gen

section
variable {F : FTy → Type} [FloatOps F] (m : (ℓ : Loc nD τ sig) → Buf (Elt F) ℓ) (c : Dev nD)

/-- The last operations before the kernel's call: the tables put together from their pieces. -/
abbrev tailOps : List (HloOp τ sig (Elt F)) :=
  [ StableHlo.nary ![main_v15, main_v18, main_v42, main_v86, main_v130, main_v174, main_v218, main_v262, main_v306] main_v330 (fun u => (concatenate S1152x128 0 [⟨S128x128, (u 0 : (⟨S128x128, .i1⟩ : BufTy).Contents (Elt F))⟩, ⟨S128x128, (u 1 : (⟨S128x128, .i1⟩ : BufTy).Contents (Elt F))⟩, ⟨S128x128, (u 2 : (⟨S128x128, .i1⟩ : BufTy).Contents (Elt F))⟩, ⟨S128x128, (u 3 : (⟨S128x128, .i1⟩ : BufTy).Contents (Elt F))⟩, ⟨S128x128, (u 4 : (⟨S128x128, .i1⟩ : BufTy).Contents (Elt F))⟩, ⟨S128x128, (u 5 : (⟨S128x128, .i1⟩ : BufTy).Contents (Elt F))⟩, ⟨S128x128, (u 6 : (⟨S128x128, .i1⟩ : BufTy).Contents (Elt F))⟩, ⟨S128x128, (u 7 : (⟨S128x128, .i1⟩ : BufTy).Contents (Elt F))⟩, ⟨S128x128, (u 8 : (⟨S128x128, .i1⟩ : BufTy).Contents (Elt F))⟩] concatenates_S128x128_S128x128_S128x128_S128x128_S128x128_S128x128_S128x128_S128x128_S128x128_S1152x128_d0 : (⟨S1152x128, .i1⟩ : BufTy).Contents (Elt F))),
    StableHlo.unary main_v330 main_v331 (uitofp .f32 : (⟨S1152x128, .i1⟩ : BufTy).Contents (Elt F) → (⟨S1152x128, .f32⟩ : BufTy).Contents (Elt F)),
    StableHlo.binary main_v331 main_v331 main_v332 ((fun a b => concatenate S1152x256 1 [⟨S1152x128, a⟩, ⟨S1152x128, b⟩] concatenates_S1152x128_S1152x128_S1152x256_d1) : (⟨S1152x128, .f32⟩ : BufTy).Contents (Elt F) → (⟨S1152x128, .f32⟩ : BufTy).Contents (Elt F) → (⟨S1152x256, .f32⟩ : BufTy).Contents (Elt F)),
    StableHlo.unary main_v332 main_v333 ((truncf .bf16 · bitsLt_bf16_f32) : (⟨S1152x256, .f32⟩ : BufTy).Contents (Elt F) → (⟨S1152x256, .bf16⟩ : BufTy).Contents (Elt F)),
    StableHlo.unary main_v62 main_v334 (broadcastInDim S1x128x128 ![1, 2] bcast_S128x128_S1x128x128_1_2 : (⟨S128x128, .i1⟩ : BufTy).Contents (Elt F) → (⟨S1x128x128, .i1⟩ : BufTy).Contents (Elt F)),
    StableHlo.unary main_v106 main_v335 (broadcastInDim S1x128x128 ![1, 2] bcast_S128x128_S1x128x128_1_2 : (⟨S128x128, .i1⟩ : BufTy).Contents (Elt F) → (⟨S1x128x128, .i1⟩ : BufTy).Contents (Elt F)),
    StableHlo.unary main_v150 main_v336 (broadcastInDim S1x128x128 ![1, 2] bcast_S128x128_S1x128x128_1_2 : (⟨S128x128, .i1⟩ : BufTy).Contents (Elt F) → (⟨S1x128x128, .i1⟩ : BufTy).Contents (Elt F)),
    StableHlo.unary main_v194 main_v337 (broadcastInDim S1x128x128 ![1, 2] bcast_S128x128_S1x128x128_1_2 : (⟨S128x128, .i1⟩ : BufTy).Contents (Elt F) → (⟨S1x128x128, .i1⟩ : BufTy).Contents (Elt F)),
    StableHlo.unary main_v238 main_v338 (broadcastInDim S1x128x128 ![1, 2] bcast_S128x128_S1x128x128_1_2 : (⟨S128x128, .i1⟩ : BufTy).Contents (Elt F) → (⟨S1x128x128, .i1⟩ : BufTy).Contents (Elt F)),
    StableHlo.unary main_v282 main_v339 (broadcastInDim S1x128x128 ![1, 2] bcast_S128x128_S1x128x128_1_2 : (⟨S128x128, .i1⟩ : BufTy).Contents (Elt F) → (⟨S1x128x128, .i1⟩ : BufTy).Contents (Elt F)),
    StableHlo.unary main_v326 main_v340 (broadcastInDim S1x128x128 ![1, 2] bcast_S128x128_S1x128x128_1_2 : (⟨S128x128, .i1⟩ : BufTy).Contents (Elt F) → (⟨S1x128x128, .i1⟩ : BufTy).Contents (Elt F)),
    StableHlo.unary main_v329 main_v341 (broadcastInDim S1x128x128 ![1, 2] bcast_S128x128_S1x128x128_1_2 : (⟨S128x128, .i1⟩ : BufTy).Contents (Elt F) → (⟨S1x128x128, .i1⟩ : BufTy).Contents (Elt F)),
    StableHlo.nary ![main_v334, main_v335, main_v336, main_v337, main_v338, main_v339, main_v340, main_v341] main_v342 (fun u => (concatenate S8x128x128 0 [⟨S1x128x128, (u 0 : (⟨S1x128x128, .i1⟩ : BufTy).Contents (Elt F))⟩, ⟨S1x128x128, (u 1 : (⟨S1x128x128, .i1⟩ : BufTy).Contents (Elt F))⟩, ⟨S1x128x128, (u 2 : (⟨S1x128x128, .i1⟩ : BufTy).Contents (Elt F))⟩, ⟨S1x128x128, (u 3 : (⟨S1x128x128, .i1⟩ : BufTy).Contents (Elt F))⟩, ⟨S1x128x128, (u 4 : (⟨S1x128x128, .i1⟩ : BufTy).Contents (Elt F))⟩, ⟨S1x128x128, (u 5 : (⟨S1x128x128, .i1⟩ : BufTy).Contents (Elt F))⟩, ⟨S1x128x128, (u 6 : (⟨S1x128x128, .i1⟩ : BufTy).Contents (Elt F))⟩, ⟨S1x128x128, (u 7 : (⟨S1x128x128, .i1⟩ : BufTy).Contents (Elt F))⟩] concatenates_S1x128x128_S1x128x128_S1x128x128_S1x128x128_S1x128x128_S1x128x128_S1x128x128_S1x128x128_S8x128x128_d0 : (⟨S8x128x128, .i1⟩ : BufTy).Contents (Elt F))),
    StableHlo.unary main_v342 main_v343 (uitofp .f32 : (⟨S8x128x128, .i1⟩ : BufTy).Contents (Elt F) → (⟨S8x128x128, .f32⟩ : BufTy).Contents (Elt F)),
    StableHlo.reshape main_arg2 main_v344 (rfl : (.f32 : EltTy) = .f32) shapeCasts_S2048_S1x2048 ]

/-- The arrays at the call are those operations' over contents that hold the pieces. -/
theorem tail_of : ∃ W : Valuation τ sig (Elt F), (∀ b : Ref sig .tc, V m c b = after tailOps W b) ∧
    W main_v15 = V m c main_v15 ∧
    W main_v18 = V m c main_v18 ∧
    W main_v42 = V m c main_v42 ∧
    W main_v86 = V m c main_v86 ∧
    W main_v130 = V m c main_v130 ∧
    W main_v174 = V m c main_v174 ∧
    W main_v218 = V m c main_v218 ∧
    W main_v262 = V m c main_v262 ∧
    W main_v306 = V m c main_v306 ∧
    W main_v62 = V m c main_v62 ∧
    W main_v106 = V m c main_v106 ∧
    W main_v150 = V m c main_v150 ∧
    W main_v194 = V m c main_v194 ∧
    W main_v238 = V m c main_v238 ∧
    W main_v282 = V m c main_v282 ∧
    W main_v326 = V m c main_v326 ∧
    W main_v329 = V m c main_v329 := by
  have h : ∃ W : Valuation τ sig (Elt F), ∀ b : Ref sig .tc, V m c b = after tailOps W b := by
    refine ⟨after (List.flatten [hostOps0, hostOps0_1, hostOps0_2, hostOps0_3, hostOps0_4, hostOps0_5, hostOps0_6,
      hostOps0_7, hostOps0_8, hostOps0_9, hostOps0_10, hostOps0_11, hostOps0_12, hostOps0_13, hostOps0_14.take 29])
      (fun b => m (c, b)), fun b => ?_⟩
    rw [← after_append]
    rfl
  obtain ⟨W, hW⟩ := h
  refine ⟨W, hW, ?_⟩
  refine ⟨?_, ?_, ?_, ?_, ?_, ?_, ?_, ?_, ?_, ?_, ?_, ?_, ?_, ?_, ?_, ?_, ?_⟩ <;> (rw [hW]; after_reads_simp)
end

/-- A truth value as a number. -/
theorem word_ideal (φ : FTy) (P : Prop) [Decidable P] :
    (FloatOps.uitofp φ (BitVec.ofBool (decide P)) : Ideal φ) = if P then (1 : EReal) else 0 := by
  show (((BitVec.ofBool (decide P)).toNat : ℝ) : EReal) = _
  by_cases h : P <;> simp [h]

variable (m : (ℓ : Loc nD τ sig) → Buf (Elt Ideal) ℓ) (c : Dev nD)

theorem word_of (φ : FTy) {P Q : Prop} [Decidable P] [Decidable Q] {x : BitVec 1} (h : x = BitVec.ofBool (decide P))
    (hPQ : P ↔ Q) : (FloatOps.uitofp φ x : Ideal φ) = if Q then (1 : EReal) else 0 := by
  rw [h, word_ideal]
  exact if_congr hPQ rfl rfl

theorem word_congr {P Q : Prop} [Decidable P] [Decidable Q] {x : BitVec 1} (h : x = BitVec.ofBool (decide P)) (hPQ : P ↔ Q) :
    x = BitVec.ofBool (decide Q) := h.trans (congrArg _ (decide_eq_decide.mpr hPQ))

/-- The nine tables one under the other, read from the contents that hold them. -/
theorem rows_of (W : Valuation τ sig (Elt Ideal)) (i : S1152x128.Idx) (R : BitVec 1)
    (e0 : ∀ r : Fin 128, (i 0).val = 0 + r.val → (W main_v15 : IVec S128x128 1) (ix2 r (i 1)) = R)
    (e1 : ∀ r : Fin 128, (i 0).val = 128 + r.val → (W main_v18 : IVec S128x128 1) (ix2 r (i 1)) = R)
    (e2 : ∀ r : Fin 128, (i 0).val = 256 + r.val → (W main_v42 : IVec S128x128 1) (ix2 r (i 1)) = R)
    (e3 : ∀ r : Fin 128, (i 0).val = 384 + r.val → (W main_v86 : IVec S128x128 1) (ix2 r (i 1)) = R)
    (e4 : ∀ r : Fin 128, (i 0).val = 512 + r.val → (W main_v130 : IVec S128x128 1) (ix2 r (i 1)) = R)
    (e5 : ∀ r : Fin 128, (i 0).val = 640 + r.val → (W main_v174 : IVec S128x128 1) (ix2 r (i 1)) = R)
    (e6 : ∀ r : Fin 128, (i 0).val = 768 + r.val → (W main_v218 : IVec S128x128 1) (ix2 r (i 1)) = R)
    (e7 : ∀ r : Fin 128, (i 0).val = 896 + r.val → (W main_v262 : IVec S128x128 1) (ix2 r (i 1)) = R)
    (e8 : ∀ r : Fin 128, (i 0).val = 1024 + r.val → (W main_v306 : IVec S128x128 1) (ix2 r (i 1)) = R) :
    (after tailOps W main_v330 : IVec S1152x128 1) i = R := by
  have b0 : (i 0).val < 1152 := (i 0).2
  after_reads_at
  by_cases c0 : (i 0).val < 128
  · rw [dif_pos c0]
    exact e0 _ (by show (i 0).val = 0 + ((i 0).val); omega)
  rw [dif_neg c0]
  by_cases c1 : (i 0).val - 128 < 128
  · rw [dif_pos c1]
    exact e1 _ (by show (i 0).val = 128 + ((i 0).val - 128); omega)
  rw [dif_neg c1]
  by_cases c2 : (i 0).val - 128 - 128 < 128
  · rw [dif_pos c2]
    exact e2 _ (by show (i 0).val = 256 + ((i 0).val - 128 - 128); omega)
  rw [dif_neg c2]
  by_cases c3 : (i 0).val - 128 - 128 - 128 < 128
  · rw [dif_pos c3]
    exact e3 _ (by show (i 0).val = 384 + ((i 0).val - 128 - 128 - 128); omega)
  rw [dif_neg c3]
  by_cases c4 : (i 0).val - 128 - 128 - 128 - 128 < 128
  · rw [dif_pos c4]
    exact e4 _ (by show (i 0).val = 512 + ((i 0).val - 128 - 128 - 128 - 128); omega)
  rw [dif_neg c4]
  by_cases c5 : (i 0).val - 128 - 128 - 128 - 128 - 128 < 128
  · rw [dif_pos c5]
    exact e5 _ (by show (i 0).val = 640 + ((i 0).val - 128 - 128 - 128 - 128 - 128); omega)
  rw [dif_neg c5]
  by_cases c6 : (i 0).val - 128 - 128 - 128 - 128 - 128 - 128 < 128
  · rw [dif_pos c6]
    exact e6 _ (by show (i 0).val = 768 + ((i 0).val - 128 - 128 - 128 - 128 - 128 - 128); omega)
  rw [dif_neg c6]
  by_cases c7 : (i 0).val - 128 - 128 - 128 - 128 - 128 - 128 - 128 < 128
  · rw [dif_pos c7]
    exact e7 _ (by show (i 0).val = 896 + ((i 0).val - 128 - 128 - 128 - 128 - 128 - 128 - 128); omega)
  rw [dif_neg c7]
  exact e8 _ (by show (i 0).val = 1024 + ((i 0).val - 128 - 128 - 128 - 128 - 128 - 128 - 128 - 128); omega)

theorem rows_at330 (i : S1152x128.Idx) : (V m c main_v330 : IVec S1152x128 1) i
    = BitVec.ofBool (decide (tbl ((i 0).val / 128) ((i 0).val % 128) (i 1).val)) := by
  obtain ⟨W, hW, h15, h18, h42, h86, h130, h174, h218, h262, h306, -, -, -, -, -, -, -, -⟩ := tail_of m c
  rw [hW]
  clear hW
  refine rows_of W i _ ?_ ?_ ?_ ?_ ?_ ?_ ?_ ?_ ?_ <;> intro r hr
  · refine word_congr ((congrFun h15 _).trans (le_at m c _)) (Iff.of_eq ?_)
    rw [show (i 0).val / 128 = 0 by omega, show (i 0).val % 128 = r.val by omega]
    rfl
  · refine word_congr ((congrFun h18 _).trans (gt_at m c _)) (Iff.of_eq ?_)
    rw [show (i 0).val / 128 = 1 by omega, show (i 0).val % 128 = r.val by omega]
    rfl
  · refine word_congr ((congrFun h42 _).trans (set0_at m c _)) (Iff.of_eq ?_)
    rw [show (i 0).val / 128 = 2 by omega, show (i 0).val % 128 = r.val by omega]
    rfl
  · refine word_congr ((congrFun h86 _).trans (set1_at m c _)) (Iff.of_eq ?_)
    rw [show (i 0).val / 128 = 3 by omega, show (i 0).val % 128 = r.val by omega]
    rfl
  · refine word_congr ((congrFun h130 _).trans (set2_at m c _)) (Iff.of_eq ?_)
    rw [show (i 0).val / 128 = 4 by omega, show (i 0).val % 128 = r.val by omega]
    rfl
  · refine word_congr ((congrFun h174 _).trans (set3_at m c _)) (Iff.of_eq ?_)
    rw [show (i 0).val / 128 = 5 by omega, show (i 0).val % 128 = r.val by omega]
    rfl
  · refine word_congr ((congrFun h218 _).trans (set4_at m c _)) (Iff.of_eq ?_)
    rw [show (i 0).val / 128 = 6 by omega, show (i 0).val % 128 = r.val by omega]
    rfl
  · refine word_congr ((congrFun h262 _).trans (set5_at m c _)) (Iff.of_eq ?_)
    rw [show (i 0).val / 128 = 7 by omega, show (i 0).val % 128 = r.val by omega]
    rfl
  · refine word_congr ((congrFun h306 _).trans (set6_at m c _)) (Iff.of_eq ?_)
    rw [show (i 0).val / 128 = 8 by omega, show (i 0).val % 128 = r.val by omega]
    rfl

/-- The stacked sum tables are one exactly where the table holds. -/
theorem stack_at (i : S1152x256.Idx) : (V m c main_v333 : FVec Ideal S1152x256 .bf16) i
    = if tbl ((i 0).val / 128) ((i 0).val % 128) ((i 1).val % 128) then (1 : EReal) else 0 := by
  have b1 : (i 1).val < 256 := (i 1).2
  have half : ∀ j : Fin 128, j.val = (i 1).val % 128 → (FloatOps.uitofp .f32 ((V m c main_v330 : IVec S1152x128 1) (ix2 (i 0) j)) : Ideal .f32)
      = if tbl ((i 0).val / 128) ((i 0).val % 128) ((i 1).val % 128) then (1 : EReal) else 0 := by
    intro j hj
    rw [rows_at330, word_ideal, ← hj]
    rfl
  obtain ⟨W, hW, -⟩ := tail_of m c
  have h331 : ∀ j : S1152x128.Idx, (upto tailOps W 2 main_v331 : FVec Ideal S1152x128 .f32) j
      = (FloatOps.uitofp .f32 ((V m c main_v330 : IVec S1152x128 1) j) : Ideal .f32) := by
    intro j
    rw [hW]
    after_reads_simp
    rfl
  rw [hW]
  after_reads_at
  by_cases c0 : (i 1).val < 128
  · rw [dif_pos c0]
    exact (h331 _).trans (half _ (Nat.mod_eq_of_lt c0).symm)
  · rw [dif_neg c0]
    exact (h331 _).trans (half _ (by show (i 1).val - 128 = _; omega))

set_option maxHeartbeats 2000000 in
/-- The masks are one exactly where the mask holds. -/
theorem mask_at (i : S8x128x128.Idx) : (V m c main_v343 : FVec Ideal S8x128x128 .f32) i
    = if msk (i 0).val (i 1).val (i 2).val then (1 : EReal) else 0 := by
  obtain ⟨W, hW, -, -, -, -, -, -, -, -, -, h62, h106, h150, h194, h238, h282, h326, h329⟩ := tail_of m c
  obtain ⟨R, hR⟩ : ∃ R : EReal, R = if msk (i 0).val (i 1).val (i 2).val then (1 : EReal) else 0 := ⟨_, rfl⟩
  rw [hW, ← hR]
  clear hW
  have b0 : (i 0).val < 8 := (i 0).2
  after_reads_at
  after_reads_at
  split_ifs <;> rw [hR] <;> clear hR
  · refine word_of _ ((congrFun h62 _).trans (mask0_at m c _)) (Iff.of_eq ?_)
    rw [show (i 0).val = 0 by omega]
    unfold msk
    simp only [Nat.reduceLT, if_true, if_false]
    rfl
  · refine word_of _ ((congrFun h106 _).trans (mask1_at m c _)) (Iff.of_eq ?_)
    rw [show (i 0).val = 1 by omega]
    unfold msk
    simp only [Nat.reduceLT, if_true, if_false]
    rfl
  · refine word_of _ ((congrFun h150 _).trans (mask2_at m c _)) (Iff.of_eq ?_)
    rw [show (i 0).val = 2 by omega]
    unfold msk
    simp only [Nat.reduceLT, if_true, if_false]
    rfl
  · refine word_of _ ((congrFun h194 _).trans (mask3_at m c _)) (Iff.of_eq ?_)
    rw [show (i 0).val = 3 by omega]
    unfold msk
    simp only [Nat.reduceLT, if_true, if_false]
    rfl
  · refine word_of _ ((congrFun h238 _).trans (mask4_at m c _)) (Iff.of_eq ?_)
    rw [show (i 0).val = 4 by omega]
    unfold msk
    simp only [Nat.reduceLT, if_true, if_false]
    rfl
  · refine word_of _ ((congrFun h282 _).trans (mask5_at m c _)) (Iff.of_eq ?_)
    rw [show (i 0).val = 5 by omega]
    unfold msk
    simp only [Nat.reduceLT, if_true, if_false]
    rfl
  · refine word_of _ ((congrFun h326 _).trans (mask6_at m c _)) (Iff.of_eq ?_)
    rw [show (i 0).val = 6 by omega]
    unfold msk
    simp only [Nat.reduceLT, if_true, if_false]
    rfl
  · refine word_of _ ((congrFun h329 _).trans (diag_at m c _)) (Iff.of_eq ?_)
    rw [show (i 0).val = 7 by omega]
    unfold msk
    simp only [Nat.reduceLT, if_true, if_false]
    rfl

/-- The norm's weights as the kernel takes them. -/
theorem norm_at (i : S1x2048.Idx) : (V m c main_v344 : FVec Ideal S1x2048 .f32) i
    = (m (c, main_arg2) : FVec Ideal S2048 .f32) (ix1 (i 1)) := by
  unfold V
  after_reads_at

/-- The three rows made from the lower bound. -/
theorem bound_at (i : S3x2048.Idx) (l : Ideal .f32)
    (hl : (m (c, main_arg1) : FVec Ideal S2048 .f32) (ix1 (i 1)) = l) : (V m c main_v8 : FVec Ideal S3x2048 .f32) i
    = if (i 0).val = 0 then Ideal.log l else if (i 0).val = 1 then Ideal.log1p (-l) else 1 - l := by
  have b0 : (i 0).val < 3 := (i 0).2
  unfold V
  after_reads_at
  after_reads_at
  subst hl
  split_ifs <;> first | rfl | omega | trace_state

end Cert.KernelIdeal.Chunk
-- ==== Proof.Sweep.lean ====
/-
  The grid points one after the other: the state that each leaves is the recurrence's, and the array that the kernel
  leaves is the result at every index.
-/
module

public import proofs.«01_k».proof.Proof.Gen.KernelIdeal.Value
public import proofs.«01_k».proof.Proof.Layer
public import proofs.«01_k».proof.Proof.Point
public import proofs.«01_k».proof.Proof.Operands

@[expose] public section

set_option maxRecDepth 16384

noncomputable section

namespace Cert.KernelIdeal.Chunk

open Idealize.ShloMosaic Idealize.ShloMosaic.TcCoe Idealize.SL.Sem
open Cert.KernelIdeal Cert.KernelIdeal.Gen
open Cert.Hg (st rd lam kap sil fin row lane col dW dK dQ dV dSt dRd res IsFinite headOf laneOf)

variable (m : (ℓ : Loc nD τ sig) → Buf (Elt Ideal) ℓ) (c : Dev nD)

/-- The projections, by row and column. -/
def argP : Fin 8192 → Fin 8192 → EReal := fun t j => (m (c, main_arg0) : FVec Ideal S8192x8192 .f32) (ix2 t j)
/-- The lower bounds. -/
def argL : Fin 2048 → EReal := fun j => (m (c, main_arg1) : FVec Ideal S2048 .f32) (ix1 j)
/-- The norm's weights. -/
def argN : Fin 2048 → EReal := fun j => (m (c, main_arg2) : FVec Ideal S2048 .f32) (ix1 j)

/-- Which block of each operand a grid point takes. -/
theorem index_at (t : Fin grid0.N) :
    win0_0.index t = ![t.val % 16, t.val / 16] ∧ win0_1.index t = ![t.val % 16, 16 + t.val / 16]
    ∧ win0_2.index t = ![t.val % 16, 32 + t.val / 16] ∧ win0_3.index t = ![t.val % 16, 48 + t.val / 16]
    ∧ win0_4.index t = ![0, t.val / 16] ∧ win0_5.index t = ![0, t.val / 16]
    ∧ win0_6.index t = ![0, 0] ∧ win0_7.index t = ![0, 0, 0] :=
  (by decide +kernel : ∀ t : Fin grid0.N,
    win0_0.index t = ![t.val % 16, t.val / 16] ∧ win0_1.index t = ![t.val % 16, 16 + t.val / 16]
    ∧ win0_2.index t = ![t.val % 16, 32 + t.val / 16] ∧ win0_3.index t = ![t.val % 16, 48 + t.val / 16]
    ∧ win0_4.index t = ![0, t.val / 16] ∧ win0_5.index t = ![0, t.val / 16]
    ∧ win0_6.index t = ![0, 0] ∧ win0_7.index t = ![0, 0, 0]) t

section
variable (t : Fin cfg0.N) (h : Fin 16) (b : ℕ) (hh : h.val = t.val / 16) (hb : b = t.val % 16)
include hh hb

theorem blk0_at (r : Fin 512) (a : Fin 128) : (iblk m c 0 t : Vec Ideal S512x128 .f32) (ix2 r a)
    = argP m c (row (512 * b + r.val)) (col 0 (lane h a)) := by
  unfold argP
  rw [← V_main_arg0 m c, Hg.row_of _ (by omega)]
  unfold col lane
  blk_ext [iblk, (index_at t).1]

theorem blk1_at (r : Fin 512) (a : Fin 128) : (iblk m c 1 t : Vec Ideal S512x128 .f32) (ix2 r a)
    = argP m c (row (512 * b + r.val)) (col 1 (lane h a)) := by
  unfold argP
  rw [← V_main_arg0 m c, Hg.row_of _ (by omega)]
  unfold col lane
  blk_ext [iblk, (index_at t).2.1]

theorem blk2_at (r : Fin 512) (a : Fin 128) : (iblk m c 2 t : Vec Ideal S512x128 .f32) (ix2 r a)
    = argP m c (row (512 * b + r.val)) (col 2 (lane h a)) := by
  unfold argP
  rw [← V_main_arg0 m c, Hg.row_of _ (by omega)]
  unfold col lane
  blk_ext [iblk, (index_at t).2.2.1]

theorem blk3_at (r : Fin 512) (a : Fin 128) : (iblk m c 3 t : Vec Ideal S512x128 .f32) (ix2 r a)
    = argP m c (row (512 * b + r.val)) (col 3 (lane h a)) := by
  unfold argP
  rw [← V_main_arg0 m c, Hg.row_of _ (by omega)]
  unfold col lane
  blk_ext [iblk, (index_at t).2.2.2.1]

omit hb
theorem blk4_row (r : Fin 3) (a : Fin 128) : (iblk m c 4 t : Vec Ideal S3x128 .f32) (ix2 r a)
    = (V m c main_v8 : FVec Ideal S3x2048 .f32) (ix2 r (lane h a)) := by
  unfold lane
  blk_ext [iblk, (index_at t).2.2.2.2.1]

theorem blk5_at (a : Fin 128) : (iblk m c 5 t : Vec Ideal S1x128 .f32) (ix2 0 a) = argN m c (lane h a) := by
  unfold argN
  refine Eq.trans ?_ (norm_at m c (ix2 0 (lane h a)))
  unfold lane
  blk_ext [iblk, (index_at t).2.2.2.2.2.1]

theorem blk4_at (f : IsFinite (argP m c) (argL m c)) :
    IsBound (fun a => (argL m c (lane h a)).toReal) (iblk m c 4 t) := by
  intro a
  have e := fun r => bound_at m c (ix2 r (lane h a)) (argL m c (lane h a)) rfl
  rw [blk4_row m c t h hh, blk4_row m c t h hh, blk4_row m c t h hh, e, e, e, ← f.l]
  exact ⟨rfl, rfl, rfl⟩
end

theorem blk6_at (t : Fin cfg0.N) : IsStack (iblk m c 6 t) := by
  intro i
  rw [← stack_at m c i]
  blk_ext [iblk, (index_at t).2.2.2.2.2.2.1]

theorem blk7_at (t : Fin cfg0.N) : IsMask (iblk m c 7 t) := by
  intro i
  rw [← mask_at m c i]
  blk_ext [iblk, (index_at t).2.2.2.2.2.2.2]

/-- A grid point's rows are the steps of its head from 512 times its place in the head on. -/
theorem rows_at (f : IsFinite (argP m c) (argL m c)) (t : Fin cfg0.N) (h : Fin 16) (b : ℕ) (hh : h.val = t.val / 16)
    (hb : b = t.val % 16) :
    IsRows (dW (argP m c) (argL m c) h) (dK (argP m c) (argL m c) h) (dV (argP m c) h) (dQ (argP m c) h)
      (fun a => (argL m c (lane h a)).toReal) 512 (512 * b)
      (fun r a => (iblk m c 0 t : Vec Ideal S512x128 .f32) (ix2 r a)) (fun r a => (iblk m c 1 t : Vec Ideal S512x128 .f32) (ix2 r a))
      (fun r a => (iblk m c 2 t : Vec Ideal S512x128 .f32) (ix2 r a)) where
  q r a := by rw [blk0_at m c t h b hh hb]; exact f.query h _ a
  k r a := by rw [blk1_at m c t h b hh hb, ← f.l]; exact f.key h _ a
  w r a := by rw [blk1_at m c t h b hh hb, ← f.l]; rfl
  v r a := by rw [blk2_at m c t h b hh hb]; exact f.value h _ a

theorem zeros_at (a d : Fin 128) : (zeros (F := Ideal)) (ix2 a d) = ((0 : ℝ) : EReal) := by
  unfold zeros k0_pay2
  pointwise
  exact EReal.coe_zero.symm

/-- The state after a grid point is its head's after the point's rows. -/
theorem state_at (f : IsFinite (argP m c) (argL m c)) (n : ℕ) : ∀ (hn : n < cfg0.N) (h : Fin 16) (b : ℕ)
    (hh : h.val = n / 16) (hb : b = n % 16) (a d : Fin 128),
    (outsAt0 m c n hn).2 (ix2 a d) = ((dSt (argP m c) (argL m c) h (512 * b + 512) a d : ℝ) : EReal) := by
  induction n with
  | zero =>
    intro hn h b hh hb a d
    rw [outsAt0_A m c ⟨0, hn⟩ rfl]
    dsimp only
    rw [stateA]
    refine before4_eq _ _ _ (dQ (argP m c) h) _ _ _ _ (iblk m c 0 ⟨0, hn⟩) _ _ _ (blk4_at m c ⟨0, hn⟩ h hh f) (blk6_at m c ⟨0, hn⟩)
      (rows_at m c f ⟨0, hn⟩ h b hh hb) ?_ a d
    intro a d
    rw [zeros_at, hb]
    rfl
  | succ n ih =>
    intro hn h b hh hb a d
    by_cases h0 : (n + 1) % 16 = 0
    · rw [outsAt0_A m c ⟨n + 1, hn⟩ h0]
      dsimp only
      rw [stateA]
      refine before4_eq _ _ _ (dQ (argP m c) h) _ _ _ _ (iblk m c 0 ⟨n + 1, hn⟩) _ _ _ (blk4_at m c ⟨n + 1, hn⟩ h hh f) (blk6_at m c ⟨n + 1, hn⟩)
        (rows_at m c f ⟨n + 1, hn⟩ h b hh hb) ?_ a d
      intro a d
      rw [zeros_at, hb, h0]
      rfl
    · rw [outsAt0_B m c ⟨n + 1, hn⟩ h0]
      dsimp only
      rw [stateB]
      refine before4_eq _ _ _ (dQ (argP m c) h) _ _ _ _ (iblk m c 0 ⟨n + 1, hn⟩) _ _ _ (blk4_at m c ⟨n + 1, hn⟩ h hh f) (blk6_at m c ⟨n + 1, hn⟩)
        (rows_at m c f ⟨n + 1, hn⟩ h b hh hb) ?_ a d
      intro a d
      have e := ih (by omega) h (n % 16) (by omega) rfl a d
      rw [show 512 * (n % 16) + 512 = 512 * b by omega] at e
      exact e

/-- The rows that a grid point writes are the result's. -/
theorem rows_out (f : IsFinite (argP m c) (argL m c)) (t : Fin cfg0.N) (h : Fin 16) (b : ℕ) (hh : h.val = t.val / 16)
    (hb : b = t.val % 16) (r : Fin 512) (d : Fin 128) (hr : 512 * b + r.val < 8192) :
    (outsAt0 m c t.val t.isLt).1 (ix2 r d)
      = res (argP m c) (argL m c) (argN m c) ⟨512 * b + r.val, hr⟩ (lane h d) := by
  have key : ∀ s : Vec Ideal S128x128 .f32,
      (∀ a d : Fin 128, s (ix2 a d) = ((dSt (argP m c) (argL m c) h (512 * b) a d : ℝ) : EReal)) →
      blockOut (iblk m c 0 t) (iblk m c 1 t) (iblk m c 2 t) (iblk m c 3 t) (iblk m c 4 t) (iblk m c 5 t) (iblk m c 6 t)
        (iblk m c 7 t) s (ix2 r d) = res (argP m c) (argL m c) (argN m c) ⟨512 * b + r.val, hr⟩ (lane h d) := by
    intro s hs
    rw [blockOut_eq _ _ _ _ _ _ _ _ _ _ _ _ _ _ _ (blk4_at m c t h hh f) (blk6_at m c t) (blk7_at m c t)
      (rows_at m c f t h b hh hb) hs r d, blk5_at m c t h hh, blk3_at m c t h b hh hb, Hg.row_of _ hr]
    have e1 : headOf (lane h d) = h := Fin.ext (by show (h.val * 128 + d.val) / 128 = h.val; omega)
    have e2 : laneOf (lane h d) = d := Fin.ext (by show (h.val * 128 + d.val) % 128 = d.val; omega)
    unfold res
    rw [e1, e2]
    rfl
  by_cases h0 : t.val % 16 = 0
  · rw [outsAt0_A m c t h0]
    dsimp only
    rw [outA]
    refine key _ fun a d => ?_
    rw [zeros_at, hb, h0]
    rfl
  · rw [outsAt0_B m c t h0]
    dsimp only
    rw [outB]
    refine key _ fun a d => ?_
    have e := state_at m c f (t.val - 1) (by omega) h ((t.val - 1) % 16) (by omega) rfl a d
    rw [show 512 * ((t.val - 1) % 16) + 512 = 512 * b by omega] at e
    exact e

/-- The array that the kernel leaves is the result. -/
theorem array_eq (f : IsFinite (argP m c) (argL m c)) (i : S8192x2048.Idx) :
    (Value.G8 m c : FVec Ideal S8192x2048 .bf16) i = res (argP m c) (argL m c) (argN m c) (i 0) (i 1) := by
  have b0 : (i 0).val < 8192 := (i 0).isLt
  have b1 : (i 1).val < 2048 := (i 1).isLt
  have hp : Value.pt8Of i = (i 0).val / 512 + 16 * ((i 1).val / 128) := by unfold Value.pt8Of Value.run8Of; omega
  have ht : Value.pt8Of i < cfg0.N := by
    rw [hp]; show _ < 256; omega
  have e := rows_out m c f ⟨Value.pt8Of i, ht⟩ (headOf (i 1)) ((i 0).val / 512)
    (by show (i 1).val / 128 = Value.pt8Of i / 16; omega) (by show (i 0).val / 512 = Value.pt8Of i % 16; omega)
    ⟨(i 0).val % 512, by omega⟩ (laneOf (i 1)) (by show 512 * ((i 0).val / 512) + (i 0).val % 512 < 8192; omega)
  have h1 : lane (headOf (i 1)) (laneOf (i 1)) = i 1 :=
    Fin.ext (by show (i 1).val / 128 * 128 + (i 1).val % 128 = (i 1).val; omega)
  rw [h1] at e
  refine Eq.trans ?_ (e.trans (congrArg (fun t => res (argP m c) (argL m c) (argN m c) t (i 1))
    (Fin.ext (by show 512 * ((i 0).val / 512) + (i 0).val % 512 = (i 0).val; omega))))
  rw [Value.outsAt0_sweep m c (Value.pt8Of i) ht]
  unfold Value.G8
  rw [dif_pos ht]
  refine congrArg _ (funext fun a => Fin.ext ?_)
  fin_cases a <;> rfl

end Cert.KernelIdeal.Chunk

end
-- ==== Proof.Finite.lean ====
/-
  What the precondition states: every query, every value and every lower bound is a real number.
-/
module

public import proofs.«01_k».proof.Defs
public import proofs.«01_k».proof.Proof.Gen.Pre_finite_inputs
public import proofs.«01_k».proof.Proof.Sweep
public import Idealize.ShloMosaic.Lib.ReduceAll
public import Idealize.ShloMosaic.Lib.Pointwise

@[expose] public section

noncomputable section

namespace Cert.Hg

open Idealize.ShloMosaic Idealize.ShloMosaic.TcCoe Idealize.SL.Sem

instance : Subsingleton Cert.Pre_finite_inputs.S_.Idx := ⟨fun _ _ => funext fun a => a.elim0⟩

/-- The pattern the magnitudes are compared with is infinity. -/
theorem inf_eq : Ideal.ofBits .f32 0x7F800000#32 = (⊤ : EReal) := by
  simp [Ideal.ofBits, Ideal.ieee]

/-- A magnitude below infinity is a real number's. -/
theorem real_of_lt {x : EReal} (h : max x (-x) < ⊤) : x = ((x.toReal : ℝ) : EReal) := by
  refine (EReal.coe_toReal ?_ ?_).symm
  · rintro rfl
    simp at h
  · rintro rfl
    simp at h

/-- An element of a comparison of magnitudes with infinity that is one is a real number's. -/
theorem real_of_cmp {s : Shape} (x : FVec Ideal s .f32) (y : FVec Ideal s .f32) (i : s.Idx) (hy : y i = (⊤ : EReal))
    (h : cmpf .olt (Host.absf x) y i = 1#1) : (x i : EReal) = (((x i : EReal).toReal : ℝ) : EReal) := by
  refine real_of_lt ?_
  have e : BitVec.ofBool (decide ((max (x i) (-(x i)) : EReal) < y i)) = 1#1 := h
  rw [hy] at e
  by_contra hn
  rw [decide_eq_false hn] at e
  exact absurd e (by decide)

open Cert.Pre_finite_inputs Cert.Pre_finite_inputs.Gen in
/-- The precondition, read element by element. -/
theorem real_of_fn (p : FVec Ideal S8192x8192 .f32) (l : FVec Ideal S2048 .f32) (n : FVec Ideal S2048 .f32)
    (h : fn p l n = fun _ => 1#1) :
    (∀ (t : Fin 8192) (j : Fin 2048), (p (ix2 t (col 0 j)) : EReal) = (((p (ix2 t (col 0 j)) : EReal).toReal : ℝ) : EReal))
    ∧ (∀ (t : Fin 8192) (j : Fin 2048), (p (ix2 t (col 2 j)) : EReal) = (((p (ix2 t (col 2 j)) : EReal).toReal : ℝ) : EReal))
    ∧ (∀ j : Fin 2048, (l (ix1 j) : EReal) = (((l (ix1 j) : EReal).toReal : ℝ) : EReal)) := by
  have e := congrFun h ix0
  obtain ⟨e1, e2⟩ := IntOp.andi_eq_one.1 e
  obtain ⟨e3, e4⟩ := IntOp.andi_eq_one.1 e1
  refine ⟨fun t j => ?_, fun t j => ?_, fun j => ?_⟩
  · have q := real_of_cmp _ _ (ix2 t j) inf_eq (Host.reduce_andi_all _ _ _ _ _ e3 (ix2 t j))
    have r : (extractStridedSlice S8192x2048 ![0, 0] p slices_S8192x8192_S8192x2048_0_0) (ix2 t j) = p (ix2 t (col 0 j)) := by
      refine congrArg p (funext fun a => Fin.ext ?_)
      fin_cases a <;> simp [col, ix2]
    beta_reduce at q
    rw [r] at q
    exact q
  · have q := real_of_cmp _ _ (ix2 t j) inf_eq (Host.reduce_andi_all _ _ _ _ _ e4 (ix2 t j))
    have r : (extractStridedSlice S8192x2048 ![0, 4096] p slices_S8192x8192_S8192x2048_0_4096) (ix2 t j) = p (ix2 t (col 2 j)) := by
      refine congrArg p (funext fun a => Fin.ext ?_)
      fin_cases a <;> simp [col, ix2]
    beta_reduce at q
    rw [r] at q
    exact q
  · exact real_of_cmp _ _ (ix1 j) inf_eq (Host.reduce_andi_all _ _ _ _ _ e2 (ix1 j))

/-- Where the precondition holds, the inputs that the proof takes as real numbers are. -/
theorem finite_of (m : (ℓ : Loc Cert.KernelIdeal.nD Cert.KernelIdeal.τ Cert.KernelIdeal.sig) → Buf (Elt Ideal) ℓ)
    (h : Cert.Pre_KernelIdeal_finite_inputs m) (c : Dev Cert.KernelIdeal.nD) :
    IsFinite (Cert.KernelIdeal.Chunk.argP m c) (Cert.KernelIdeal.Chunk.argL m c) := by
  obtain ⟨hq, hv, hl⟩ := real_of_fn _ _ _ (h c)
  exact ⟨hq, hv, hl⟩

end Cert.Hg

end
-- ==== Proof.StickIdealOperands.lean ====
/-
  What `StickIdeal`'s grid points take: the queries of 512 rows, the keys and the values of one head, and the masks that
  the host builds.
-/
module

public import proofs.«01_k».proof.Proof.StickIdealSteps
public import proofs.«01_k».proof.Proof.StickIdealWindows
public import proofs.«01_k».proof.Proof.Finite
public import proofs.«01_k».proof.Proof.Gen.Pre_finite_heads
public import Idealize.ShloMosaic.Lib.Pipeline.ValueKit
public import Idealize.ShloMosaic.Lib.Pipeline.ReadBack
public import proofs.«01_k».proof.Defs

@[expose] public section

set_option maxRecDepth 16384

noncomputable section

namespace Cert.StickIdeal.Val

open Idealize.ShloMosaic Idealize.ShloMosaic.TcCoe Idealize.SL.Sem
open Idealize.ShloMosaic.StableHlo
open Cert.Sb Cert.StickIdeal Cert.StickIdeal.Gen

variable (m : (ℓ : Loc nD τ sig) → Buf (Elt Ideal) ℓ) (c : Dev nD)

/-- The projections and the norm's weights. -/
def argX : FVec Ideal S8192x6144 .bf16 := m (c, main_arg0)
@[inherit_doc argX]
def argW : FVec Ideal S2048 .f32 := m (c, main_arg1)

/-- The projections as real numbers. -/
def real (x : FVec Ideal S8192x6144 .bf16) (t e : ℕ) : ℝ :=
  if h : t < 8192 ∧ e < 6144 then (x (ix2 ⟨t, h.1⟩ ⟨e, h.2⟩) : EReal).toReal else 0

/-- The projections are real numbers. -/
def IsReal (x : FVec Ideal S8192x6144 .bf16) : Prop := ∀ (t : Fin 8192) (e : Fin 6144), (x (ix2 t e) : EReal) = (((x (ix2 t e) : EReal).toReal : ℝ) : EReal)

theorem real_at {x : FVec Ideal S8192x6144 .bf16} (hx : IsReal x) (t : Fin 8192) (e : Fin 6144) : (x (ix2 t e) : EReal) = ((real x t.val e.val : ℝ) : EReal) := by
  unfold real
  rw [dif_pos ⟨t.isLt, e.isLt⟩]
  exact hx t e

instance : Subsingleton Cert.Pre_finite_heads.S_.Idx := ⟨fun _ _ => funext fun a => a.elim0⟩

/-- Where the precondition holds they are. -/
theorem real_of_pre (hm : Cert.Pre_StickIdeal_finite_heads m) : IsReal (argX m c) := fun t e =>
  Cert.Hg.real_of_cmp _ _ (ix2 t e) Cert.Hg.inf_eq (Host.reduce_andi_all _ _ _ _ _ (congrFun (hm c) ix0) (ix2 t e))

/-- Which block of each operand a grid point takes. -/
theorem index_at (t : Fin grid0.N) :
    win0_0.index t = ![t.val % 16, t.val / 16] ∧ win0_1.index t = ![0, 16 + t.val / 16] ∧ win0_2.index t = ![0, 32 + t.val / 16]
      ∧ win0_3.index t = ![0, 0] ∧ win0_4.index t = ![0, t.val / 16] ∧ win0_5.index t = ![t.val % 16, t.val / 16] ∧ win0_5.flush t = true
      ∧ (grid0.coords t 1).val = t.val % 16 :=
  (by decide +kernel : ∀ t : Fin grid0.N,
    win0_0.index t = ![t.val % 16, t.val / 16] ∧ win0_1.index t = ![0, 16 + t.val / 16] ∧ win0_2.index t = ![0, 32 + t.val / 16]
      ∧ win0_3.index t = ![0, 0] ∧ win0_4.index t = ![0, t.val / 16] ∧ win0_5.index t = ![t.val % 16, t.val / 16] ∧ win0_5.flush t = true
      ∧ (grid0.coords t 1).val = t.val % 16) t

theorem blk0_at (t : Fin (cfg0 (F := Ideal)).N) (r : Fin 512) (e : Fin 128) (h0 : 512 * (t.val % 16) + r.val < 8192) (h1 : 128 * (t.val / 16) + e.val < 6144) :
    (iblk m c 0 t : Vec Ideal S512x128 .bf16) (ix2 r e) = argX m c (ix2 ⟨512 * (t.val % 16) + r.val, h0⟩ ⟨128 * (t.val / 16) + e.val, h1⟩) := by
  unfold argX
  rw [← V_main_arg0 m c]
  blk_ext [iblk, (index_at t).1]

theorem blk1_at (t : Fin (cfg0 (F := Ideal)).N) (r : Fin 8192) (e : Fin 128) (h1 : 2048 + 128 * (t.val / 16) + e.val < 6144) :
    (iblk m c 1 t : Vec Ideal S8192x128 .bf16) (ix2 r e) = argX m c (ix2 r ⟨2048 + 128 * (t.val / 16) + e.val, h1⟩) := by
  unfold argX
  rw [← V_main_arg0 m c]
  blk_ext [iblk, (index_at t).2.1]

theorem blk2_at (t : Fin (cfg0 (F := Ideal)).N) (r : Fin 8192) (e : Fin 128) (h1 : 4096 + 128 * (t.val / 16) + e.val < 6144) :
    (iblk m c 2 t : Vec Ideal S8192x128 .bf16) (ix2 r e) = argX m c (ix2 r ⟨4096 + 128 * (t.val / 16) + e.val, h1⟩) := by
  unfold argX
  rw [← V_main_arg0 m c]
  blk_ext [iblk, (index_at t).2.2.1]

theorem blk3_at (t : Fin (cfg0 (F := Ideal)).N) (r : Fin 256) (e : Fin 256) :
    (iblk m c 3 t : Vec Ideal S256x256 .bf16) (ix2 r e) = (V m c main_v10 : FVec Ideal S256x256 .bf16) (ix2 r e) := by
  blk_ext [iblk, (index_at t).2.2.2.1]

theorem weights_at (j : Fin 2048) : (V m c main_v11 : FVec Ideal S1x2048 .f32) (ix2 0 j) = argW m c (ix1 j) := by
  have e : (V m c main_v11 : FVec Ideal S1x2048 .f32) = shapeCast _ (argW m c) shapeCasts_S2048_S1x2048 := by
    after_reads_simp
    rfl
  rw [e]
  pointwise

theorem blk4_at (t : Fin (cfg0 (F := Ideal)).N) (j : Fin 128) (h1 : 128 * (t.val / 16) + j.val < 2048) :
    (iblk m c 4 t : Vec Ideal S1x128 .f32) (ix2 0 j) = argW m c (ix1 ⟨128 * (t.val / 16) + j.val, h1⟩) := by
  rw [← weights_at m c]
  blk_ext [iblk, (index_at t).2.2.2.2.1]

theorem below_at (r e : Fin 128) : (V m c main_v7 : FVec Ideal S128x128 .bf16) (ix2 r e) = if e.val < r.val then (1 : EReal) else 0 := by
  after_reads_simp
  pointwise
  have e1 : IntOp.cmpi .sgt (BitVec.ofNat 32 r.val) (BitVec.ofNat 32 e.val) = BitVec.ofBool (decide (e.val < r.val)) := slt_word e.val r.val (by omega) (by omega)
  rw [e1]
  by_cases h : e.val < r.val
  · rw [decide_eq_true h, if_pos h]
    show (((1 : ℕ) : ℝ) : EReal) = 1
    simp
  · rw [decide_eq_false h, if_neg h]
    show (((0 : ℕ) : ℝ) : EReal) = 0
    simp

theorem ones_at (r e : Fin 128) : (V m c main_v8 : FVec Ideal S128x128 .bf16) (ix2 r e) = (1 : EReal) := by
  after_reads_simp
  pointwise

/-- The masks that the host builds. -/
theorem masks (t : Fin (cfg0 (F := Ideal)).N) : IsCum (iblk m c 3 t : Vec Ideal S256x256 .bf16) := by
  intro ix
  obtain ⟨r, e, rfl⟩ : ∃ (r : Fin 256) (e : Fin 256), ix = ix2 r e := ⟨ix 0, ix 1, eq_ix2 ix⟩
  have e0 : (V m c main_v10 : FVec Ideal S256x256 .bf16) = concatenate S256x256 0
      [⟨S128x256, concatenate S128x256 1 [⟨S128x128, V m c main_v7⟩, ⟨S128x128, V m c main_v8⟩] concatenates_S128x128_S128x128_S128x256_d1⟩,
        ⟨S128x256, concatenate S128x256 1 [⟨S128x128, V m c main_v7⟩, ⟨S128x128, V m c main_v8⟩] concatenates_S128x128_S128x128_S128x256_d1⟩]
      concatenates_S128x256_S128x256_S256x256_d0 := by
    after_reads_simp
    rfl
  rw [blk3_at, e0]
  pointwise
  have hr := r.isLt
  have he := e.isLt
  by_cases h0 : r.val < 128 <;> by_cases h1 : e.val < 128 <;> simp only [h0, h1, dite_true, dite_false]
  · refine (below_at m c _ _).trans ?_
    show (if e.val < r.val then (1 : EReal) else 0) = if 128 ≤ e.val ∨ e.val < r.val % 128 then 1 else 0
    exact if_congr (by constructor <;> omega) rfl rfl
  · refine (ones_at m c _ _).trans ?_
    show (1 : EReal) = if 128 ≤ e.val ∨ e.val < r.val % 128 then 1 else 0
    exact (if_pos (by omega)).symm
  · refine (below_at m c _ _).trans ?_
    show (if e.val < r.val - 128 then (1 : EReal) else 0) = if 128 ≤ e.val ∨ e.val < r.val % 128 then 1 else 0
    exact if_congr (by constructor <;> omega) rfl rfl
  · refine (ones_at m c _ _).trans ?_
    show (1 : EReal) = if 128 ≤ e.val ∨ e.val < r.val % 128 then 1 else 0
    exact (if_pos (by omega)).symm

/-- What a grid point takes, as real numbers. -/
theorem blocks (hx : IsReal (argX m c)) (t : Fin (cfg0 (F := Ideal)).N) :
    Blocks (real (argX m c)) (t.val / 16) (grid0.coords t 1).val (iblk m c 0 t) (iblk m c 1 t) (iblk m c 2 t) (iblk m c 3 t) := by
  have ht : t.val < 256 := t.isLt
  rw [(index_at t).2.2.2.2.2.2.2]
  refine ⟨fun ix => ?_, fun ix => ?_, fun ix => ?_, masks m c t⟩
  · obtain ⟨r, e, rfl⟩ : ∃ (r : Fin 512) (e : Fin 128), ix = ix2 r e := ⟨ix 0, ix 1, eq_ix2 ix⟩
    exact (blk0_at m c t r e (by omega) (by omega)).trans (real_at hx _ _)
  · obtain ⟨r, e, rfl⟩ : ∃ (r : Fin 8192) (e : Fin 128), ix = ix2 r e := ⟨ix 0, ix 1, eq_ix2 ix⟩
    exact (blk1_at m c t r e (by omega)).trans (real_at hx _ _)
  · obtain ⟨r, e, rfl⟩ : ∃ (r : Fin 8192) (e : Fin 128), ix = ix2 r e := ⟨ix 0, ix 1, eq_ix2 ix⟩
    exact (blk2_at m c t r e (by omega)).trans (real_at hx _ _)

end Cert.StickIdeal.Val

end
-- ==== Proof.StickIdealRun.lean ====
/-
  `StickIdeal`'s run by values: each grid point writes 512 rows of one head's lanes, and the blocks tile the array.
-/
module

public import proofs.«01_k».proof.Proof.StickIdealValuePoint
public import proofs.«01_k».proof.Proof.StickIdealOperands
public import Idealize.ShloMosaic.Lib.Claim

@[expose] public section

-- membership in a rectangle of production extents (`View.cover_of_tiled`): the elaborator's structural look
-- recurses once per coordinate of the long axes
set_option maxRecDepth 16384

noncomputable section

namespace Cert.StickIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Sb Cert.StickIdeal.Gen

variable (m : (ℓ : Loc nD τ sig) → Buf (Elt Ideal) ℓ) (ρ : Dev nD → PrngReg)
/-! ## The pipeline's proof data -/

/-- The proof data of the one pipeline on core `c`: the arrays as the region finds them (`V`); after the body at
    point `t` each input's buffer at its block and the output's at its block of the result; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt Ideal) Unit ℕ (UR sig nD τ) ℕ (cfg0 (F := Ideal)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv (real (argX m c)) (t.val / 16) (grid0.coords t 1).val (iblk m c 4 t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin (cfg0 (F := Ideal)).W) : (dats m 0 c).A w = V m c (Pipeline.arrRef spec0 w) := by
  dsimp only [dats]

/-- What the body leaves, window by window (the proof data's `match` reduced by `dsimp`). -/
theorem after0_0 (c : Dev nD) (t : Fin (cfg0 (F := Ideal)).N) : (dats m 0 c).after 0 t = iblk m c 0 t := by (dsimp only [dats]; try rfl)
theorem after0_1 (c : Dev nD) (t : Fin (cfg0 (F := Ideal)).N) : (dats m 0 c).after 1 t = iblk m c 1 t := by (dsimp only [dats]; try rfl)
theorem after0_2 (c : Dev nD) (t : Fin (cfg0 (F := Ideal)).N) : (dats m 0 c).after 2 t = iblk m c 2 t := by (dsimp only [dats]; try rfl)
theorem after0_3 (c : Dev nD) (t : Fin (cfg0 (F := Ideal)).N) : (dats m 0 c).after 3 t = iblk m c 3 t := by (dsimp only [dats]; try rfl)
theorem after0_4 (c : Dev nD) (t : Fin (cfg0 (F := Ideal)).N) : (dats m 0 c).after 4 t = iblk m c 4 t := by (dsimp only [dats]; try rfl)

theorem after0_5 (c : Dev nD) (t : Fin (cfg0 (F := Ideal)).N) : (dats m 0 c).after 5 t = outv (real (argX m c)) (t.val / 16) (grid0.coords t 1).val (iblk m c 4 t) := by (dsimp only [dats]; try rfl)

/-- Each input's current staging buffer holds its block at every point, fetched there or not (`beforeK_W_of`). -/
theorem before0_0 (c : Dev nD) (t : Fin (cfg0 (F := Ideal)).N) (d) : (dats m 0 c).before 0 t d = iblk m c 0 t :=
  before0_0_of m (dats m 0 c) (A_eq m c 0) (after0_0 m c) t d
theorem before0_1 (c : Dev nD) (t : Fin (cfg0 (F := Ideal)).N) (d) : (dats m 0 c).before 1 t d = iblk m c 1 t :=
  before0_1_of m (dats m 0 c) (A_eq m c 1) (after0_1 m c) t d
theorem before0_2 (c : Dev nD) (t : Fin (cfg0 (F := Ideal)).N) (d) : (dats m 0 c).before 2 t d = iblk m c 2 t :=
  before0_2_of m (dats m 0 c) (A_eq m c 2) (after0_2 m c) t d
theorem before0_3 (c : Dev nD) (t : Fin (cfg0 (F := Ideal)).N) (d) : (dats m 0 c).before 3 t d = iblk m c 3 t :=
  before0_3_of m (dats m 0 c) (A_eq m c 3) (after0_3 m c) t d
theorem before0_4 (c : Dev nD) (t : Fin (cfg0 (F := Ideal)).N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin (cfg0 (F := Ideal)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin (cfg0 (F := Ideal)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (hx : IsReal (argX m c)) (t : Fin (cfg0 (F := Ideal)).N) :
    bodyPre m c t ⊢ wp frame (wpE (defs₀ (F := Ideal)) Variants.nat c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (kernelRun0_V (real (argX m c)) (t.val / 16) c (grid0.coords t) _ _ _ _ _ _ _ _ _ _ _ _ _ _ _ _ (iblk m c 0 t) (iblk m c 1 t) (iblk m c 2 t) (iblk m c 3 t) (iblk m c 4 t) (blocks m c hx t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin (cfg0 (F := Ideal)).N) :
    defs₀ (F := Ideal) .tc (cfg0 (F := Ideal)).body ((cfg0 (F := Ideal)).bodyArgs t ((cfg0 (F := Ideal)).slots t)) = bodyAt0 t := by
  unfold defs₀; rw [Defs.onTc_tc]

/-- The library's body obligation, at every point: the body's triple restated (Lib/Pipeline/FrameBody.lean `triple_restated`). -/
theorem body_obligation (c : Dev nD) (hx : IsReal (argX m c)) : BodyObligation (dats m 0 c) (defs₀ (F := Ideal)) Variants.nat () Set.univ := fun t => by
  rw [bigSep_W0, bigSep_W0, defs₀_row]
  exact triple_restated (sound_body m c hx t) rfl .rfl fun _ => .rfl

/-! ## The run -/

-- `θ_run_frame_shared`'s implicit arguments are found by unifying its conclusion with this one, which takes unfolding plain
-- definitions in a metavariable's type
set_option backward.isDefEq.respectTransparency.types false in
theorem run_main_quiescent (hx : ∀ c, IsReal (argX m c)) : θ_run defs (onTc (τ := τ) (main (F := Ideal))) (s₀ m ρ) (fun r => (Pipeline.FramePost (cfgs (F := Ideal)) (dats m) 0 (V m)) r ∧ r.2.sem = fun _ => 0) :=
  Pipeline.θ_run_frame_shared (Q' := _) (cfgs (F := Ideal)) (dats m) (0 : Fin 1) launch₀0 defs₀ Variants.nat m ρ main
    (hbody := fun c => (body_obligation m c (hx c)).loose) (hq := fun _ _ _ => rfl)
    (howed := fun _ _ => rfl) (V := V m) (hmain := hmain m Variants.nat) (hA := A_eq m) (hΦ := fun _ _ => rfl)

/-- Where the projections are real numbers the run ends with the pipeline's output array at what the grid points leave in it, and the
    arguments as they were. -/
theorem run_blocks (hx : ∀ c, IsReal (argX m c)) : θ_run defs (onTc (τ := τ) (main (F := Ideal))) ⟨m, fun _ => 0, ρ⟩ (fun r => ∀ c : Dev nD,
      r.2.mem ((c.tc : Thread nD τ).loc main_v12) = (dats m 0 c).arrAt 5 (cfg0 (F := Ideal)).N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 5,
    ((h.1 c).1 0).trans (((dats m 0 c).arrAt_in 0 rfl _).trans ((A_eq m c 0).trans (V_main_arg0 m c))),
    ((h.1 c).2 main_arg1 (Pipeline.mem_restRefs_of main_arg1 (by decide) (by intro w; revert w; exact (by decide : ∀ w : Fin 6, (spec0 w).arr.view.ref ≠ main_arg1)))).trans (V_main_arg1 m c)⟩)
    (run_main_quiescent m ρ hx)

variable (c : Dev nD)

/-- The result at a row, a head and a lane, over the operands. -/
def attn (x : FVec Ideal S8192x6144 .bf16) (w : FVec Ideal S2048 .f32) (r : Fin 8192) (h : Fin 16) (d : Fin 128) : EReal :=
  normed (fun d => ((ac (real x) h.val r.val 0 d.val : ℝ) : EReal)) (w (ix1 ⟨128 * h.val + d.val, by omega⟩)) d

/-- The result as the array's contents. -/
def out : Buf (Elt Ideal) ((c : Thread nD τ).loc main_v12) :=
  fun i : S8192x2048.Idx => attn (argX m c) (argW m c) (i 0) ⟨(i 1).val / 128, by have h : (i 1).val < 2048 := (i 1).isLt; omega⟩ ⟨(i 1).val % 128, Nat.mod_lt _ (by decide)⟩

theorem rows_out (t : Fin (cfg0 (F := Ideal)).N) (r : Fin 512) (j : Fin 128) (hr : 512 * (t.val % 16) + r.val < 8192) (hh : t.val / 16 < 16) :
    outv (real (argX m c)) (t.val / 16) (grid0.coords t 1).val (iblk m c 4 t) (ix2 r j)
      = attn (argX m c) (argW m c) ⟨512 * (t.val % 16) + r.val, hr⟩ ⟨t.val / 16, hh⟩ j := by
  unfold outv
  rw [pay37_at, blk4_at m c t j (by omega), (index_at t).2.2.2.2.2.2.2]
  rfl

/-- What a grid point writes back is its block of the result. -/
theorem flushed_eq (t : Fin (cfg0 (F := Ideal)).N) : (dats m 0 c).flushed 5 t = (((cfg0 (F := Ideal)).win 5).blk t).view.read (Elt Ideal) (out m c) := by
  show ((cfg0 (F := Ideal)).win 5).cut (grid0.coords t) ((dats m 0 c).after 5 t) = _
  rw [after0_5]
  have ht : t.val < 256 := t.isLt
  have e := (index_at t).2.2.2.2.2.1
  funext y
  have hy0 : (y 0).val < 512 := (y 0).isLt
  have hy1 : (y 1).val < 128 := (y 1).isLt
  have hb0 : ((((cfg0 (F := Ideal)).win 5).blk t).view.emb y 0).val = win0_5.index t (0 : Fin 2) * 512 + 1 * (y 0).val := rfl
  have hb1 : ((((cfg0 (F := Ideal)).win 5).blk t).view.emb y 1).val = win0_5.index t (1 : Fin 2) * 128 + 1 * (y 1).val := rfl
  have e0 : win0_5.index t (0 : Fin 2) = t.val % 16 := congrFun e 0
  have e1 : win0_5.index t (1 : Fin 2) = t.val / 16 := congrFun e 1
  rw [e0] at hb0
  rw [e1] at hb1
  have key := rows_out m c t ⟨(y 0).val, hy0⟩ ⟨(y 1).val, hy1⟩ (by show 512 * (t.val % 16) + (y 0).val < 8192; omega) (by omega)
  refine Eq.trans (congrArg (outv (real (argX m c)) (t.val / 16) (grid0.coords t 1).val (iblk m c 4 t)) (funext fun a => ?_)) (key.trans ?_)
  · fin_cases a <;> rfl
  · show _ = attn (argX m c) (argW m c) ((((cfg0 (F := Ideal)).win 5).blk t).view.emb y 0) ⟨((((cfg0 (F := Ideal)).win 5).blk t).view.emb y 1).val / 128, _⟩ ⟨((((cfg0 (F := Ideal)).win 5).blk t).view.emb y 1).val % 128, _⟩
    congr 1
    · refine Fin.ext (Eq.trans ?_ hb0.symm)
      show 512 * (t.val % 16) + (y 0).val = _
      omega
    · refine Fin.ext ?_
      show t.val / 16 = _ / 128
      omega
    · refine Fin.ext ?_
      show (y 1).val = _ % 128
      omega

/-- Every index of the array is in some grid point's block. -/
theorem covered (i : S8192x2048.Idx) : ∃ t : Fin (cfg0 (F := Ideal)).N, ((cfg0 (F := Ideal)).win 5).flush t = true ∧ i ∈ (((cfg0 (F := Ideal)).win 5).blk t).view.set := by
  have b0 : (i 0).val < 8192 := (i 0).isLt
  have b1 : (i 1).val < 2048 := (i 1).isLt
  have ht : (i 1).val / 128 * 16 + (i 0).val / 512 < (cfg0 (F := Ideal)).N := by show _ < 256; omega
  refine ⟨⟨_, ht⟩, (index_at _).2.2.2.2.2.2.1, ?_⟩
  show i ∈ ((View.whole main_v12).slice (win0_5.rect ⟨_, ht⟩)).set
  rw [View.set_slice_whole, Rect.mem_set_unit]
  have e := (index_at ⟨_, ht⟩).2.2.2.2.2.1
  have e0 : win0_5.index ⟨_, ht⟩ (0 : Fin 2) = ((i 1).val / 128 * 16 + (i 0).val / 512) % 16 := congrFun e 0
  have e1 : win0_5.index ⟨_, ht⟩ (1 : Fin 2) = ((i 1).val / 128 * 16 + (i 0).val / 512) / 16 := congrFun e 1
  intro a
  match a with
  | ⟨0, _⟩ =>
    show win0_5.index _ (0 : Fin 2) * 512 ≤ (i 0).val ∧ (i 0).val < win0_5.index _ (0 : Fin 2) * 512 + 512
    omega
  | ⟨1, _⟩ =>
    show win0_5.index _ (1 : Fin 2) * 128 ≤ (i 1).val ∧ (i 1).val < win0_5.index _ (1 : Fin 2) * 128 + 128
    omega

/-- The array that the kernel leaves is the result. -/
theorem array_eq : (dats m 0 c).arrAt 5 (cfg0 (F := Ideal)).N = out m c :=
  (dats m 0 c).arrAt_eq_of_cover 5 _ (fun t _ => flushed_eq m c t) covered

end Cert.StickIdeal.Val

end
-- ==== Proof.StickReference.lean ====
/-
  The stick-breaking reference over the real numbers.
-/
module

public import proofs.«01_k».proof.Proof.StickIdealOperands
public import proofs.«01_k».proof.Proof.Gen.StickReferenceIdeal.Run
public import proofs.«01_k».proof.Proof.Gen.StickReferenceIdeal

@[expose] public section

set_option maxRecDepth 16384

noncomputable section

namespace Cert.StickReferenceIdeal.Sb

open Idealize.ShloMosaic Idealize.ShloMosaic.TcCoe Idealize.SL.Sem
open Cert.StickReferenceIdeal Cert.StickReferenceIdeal.Gen
open Cert.Sb
open Cert.StickIdeal.Val (real IsReal real_at)
open Cert.StickIdeal.Gen (normed)

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A running sum from each place on, as it prints: a window of the axis's whole length, padded high by one less. -/
theorem window_sum {A B N M : ℕ} (x : FVec Ideal ⟨3, ![A, B, N]⟩ .f32) (init : FVec Ideal ⟨0, ![]⟩ .f32)
    (h : (⟨3, ![A, B, N]⟩ : Shape).ReduceWindows (![1, 1, N] : Fin 3 → ℕ) ![1, 1, 1] ![0, 0, 0] ![0, 0, M] ⟨3, ![A, B, N]⟩) (hu : 0 < (⟨0, ![]⟩ : Shape).numel)
    (hi : init (Shape.Idx.first hu) = (0 : EReal)) (a : Fin A) (b : Fin B) (s : Fin N) :
    (Host.reduceWindowAdd (F := Ideal) (s := ⟨3, ![A, B, N]⟩) (t := ⟨3, ![A, B, N]⟩) ![1, 1, N] ![1, 1, 1] ![0, 0, 0] ![0, 0, M] x init h hu (ix3 a b s) : EReal)
      = ∑ n : Fin N, if hn : s.val + n.val < N then (x (ix3 a b ⟨s.val + n.val, hn⟩) : EReal) else 0 := by
  have ha := a.isLt
  have hb := b.isLt
  unfold Host.reduceWindowAdd
  rw [Ideal.hostReduceWindowAdd_def, hi]
  unfold Ideal.hostReduceWindowAdd Host.reduceWindow
  dsimp only
  refine (foldl_add _ _ _).trans ?_
  rw [zero_add, ← Fin.sum_univ_def]
  refine Fintype.sum_equiv ((⟨3, ![1, 1, N]⟩ : Shape).rowMajor.symm.trans ⟨fun w => w 2, fun k => ix3 0 0 k, fun w => ?_, fun k => rfl⟩) _ _ (fun n => ?_)
  · refine Eq.trans ?_ (eq_ix3 w).symm
    exact congrArg₂ (fun p q => ix3 p q (w 2)) (Subsingleton.elim (α := Fin 1) _ _) (Subsingleton.elim (α := Fin 1) _ _)
  have w0 : ((⟨3, ![1, 1, N]⟩ : Shape).rowMajor.symm n 0).val = 0 := Nat.lt_one_iff.mp ((⟨3, ![1, 1, N]⟩ : Shape).rowMajor.symm n 0).isLt
  have w1 : ((⟨3, ![1, 1, N]⟩ : Shape).rowMajor.symm n 1).val = 0 := Nat.lt_one_iff.mp ((⟨3, ![1, 1, N]⟩ : Shape).rowMajor.symm n 1).isLt
  show _ = if hn : s.val + ((⟨3, ![1, 1, N]⟩ : Shape).rowMajor.symm n 2).val < N then x (ix3 a b ⟨s.val + ((⟨3, ![1, 1, N]⟩ : Shape).rowMajor.symm n 2).val, hn⟩) else 0
  by_cases hn : s.val + ((⟨3, ![1, 1, N]⟩ : Shape).rowMajor.symm n 2).val < N
  · rw [dif_pos hn]
    refine (dif_pos (fun d => ?_)).trans (congrArg x (funext fun d => Fin.ext ?_))
    · match d with
      | ⟨0, _⟩ => show 0 ≤ a.val * 1 + ((⟨3, ![1, 1, N]⟩ : Shape).rowMajor.symm n 0).val ∧ a.val * 1 + ((⟨3, ![1, 1, N]⟩ : Shape).rowMajor.symm n 0).val - 0 < A; omega
      | ⟨1, _⟩ => show 0 ≤ b.val * 1 + ((⟨3, ![1, 1, N]⟩ : Shape).rowMajor.symm n 1).val ∧ b.val * 1 + ((⟨3, ![1, 1, N]⟩ : Shape).rowMajor.symm n 1).val - 0 < B; omega
      | ⟨2, _⟩ => show 0 ≤ s.val * 1 + ((⟨3, ![1, 1, N]⟩ : Shape).rowMajor.symm n 2).val ∧ s.val * 1 + ((⟨3, ![1, 1, N]⟩ : Shape).rowMajor.symm n 2).val - 0 < N; omega
    · match d with
      | ⟨0, _⟩ => show a.val * 1 + ((⟨3, ![1, 1, N]⟩ : Shape).rowMajor.symm n 0).val - 0 = a.val; omega
      | ⟨1, _⟩ => show b.val * 1 + ((⟨3, ![1, 1, N]⟩ : Shape).rowMajor.symm n 1).val - 0 = b.val; omega
      | ⟨2, _⟩ => show s.val * 1 + ((⟨3, ![1, 1, N]⟩ : Shape).rowMajor.symm n 2).val - 0 = s.val + ((⟨3, ![1, 1, N]⟩ : Shape).rowMajor.symm n 2).val; omega
  · rw [dif_neg hn]
    refine dif_neg (fun hin => hn ?_)
    have h2 : 0 ≤ s.val * 1 + ((⟨3, ![1, 1, N]⟩ : Shape).rowMajor.symm n 2).val ∧ s.val * 1 + ((⟨3, ![1, 1, N]⟩ : Shape).rowMajor.symm n 2).val - 0 < N := hin 2
    omega

variable (x : FVec Ideal S8192x6144 .bf16) (w : FVec Ideal S2048 .f32)

/-- The queries, the keys and the values by heads. -/
def qf : FVec Ideal S8192x16x128 .f32 := extf .f32 (shapeCast _ (extractStridedSlice S8192x2048 ![0, 0] x slices_S8192x6144_S8192x2048_0_0) shapeCasts_S8192x2048_S8192x16x128) bitsLt_bf16_f32
@[inherit_doc qf]
def kf : FVec Ideal S8192x16x128 .f32 := extf .f32 (shapeCast _ (extractStridedSlice S8192x2048 ![0, 2048] x slices_S8192x6144_S8192x2048_0_2048) shapeCasts_S8192x2048_S8192x16x128) bitsLt_bf16_f32
@[inherit_doc qf]
def vf : FVec Ideal S8192x16x128 .f32 := extf .f32 (shapeCast _ (extractStridedSlice S8192x2048 ![0, 4096] x slices_S8192x6144_S8192x2048_0_4096) shapeCasts_S8192x2048_S8192x16x128) bitsLt_bf16_f32

/-- Zero everywhere. -/
def zeros : FVec Ideal S16x8192x8192 .f32 := broadcastInDim S16x8192x8192 ![] bcast_S_S16x8192x8192 (constant S_ .f32 0x00000000#32)

/-- The scores. -/
def zf : FVec Ideal S16x8192x8192 .f32 := mulf (Host.dotGeneral dot_S8192x16x128_S8192x16x128_S16x8192x8192_2_2_0_0_1_1 none (qf x) (kf x)) (broadcastInDim S16x8192x8192 ![] bcast_S_S16x8192x8192 (constant S_ .f32 0x3DB504F3#32))

/-- The keys before each query. -/
def maskf : IVec S16x8192x8192 1 := broadcastInDim S16x8192x8192 ![1, 2] bcast_S8192x8192_S16x8192x8192_1_2 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The logarithm of the logistic function. -/
def logsig (y : FVec Ideal S16x8192x8192 .f32) : FVec Ideal S16x8192x8192 .f32 := Host.negf (select (cmpf .une (subf (Host.negf y) zeros) (subf (Host.negf y) zeros)) (addf (Host.negf y) zeros) (addf (maximumf (Host.negf y) zeros) (Host.log1p (Host.exp (Host.negf (Host.absf (subf (Host.negf y) zeros)))))))

/-- What each key leaves, -/
def lf : FVec Ideal S16x8192x8192 .f32 := select maskf (logsig (Host.negf (zf x))) (broadcastInDim S16x8192x8192 ![] bcast_S_S16x8192x8192 (id (constant S_ .f32 0x00000000#32)))

/-- what the keys from each on leave, -/
def cf : FVec Ideal S16x8192x8192 .f32 := Host.reduceWindowAdd ![1, 1, 8192] ![1, 1, 1] ![0, 0, 0] ![0, 0, 8191] (lf x) (broadcastInDim S_ ![] bcast_S_S_ (constant S_ .f32 0x00000000#32)) reduceWindows_S16x8192x8192_S16x8192x8192_w1s1p0_0_w1s1p0_0_w8192s1p0_8191 h_S_

/-- the weights, -/
def pf : FVec Ideal S16x8192x8192 .f32 := Host.exp (select maskf (addf (logsig (zf x)) (subf (cf x) (lf x))) (broadcastInDim S16x8192x8192 ![] bcast_S_S16x8192x8192 (id (constant S_ .f32 0xFF800000#32))))

/-- and the weighted values. -/
def of : FVec Ideal S8192x16x128 .f32 := transpose S8192x16x128 [2, 0, 1] (Host.dotGeneral dot_S8192x16x128_S16x8192x8192_S16x128x8192_0_2_2_1_1_0 none (vf x) (pf x)) transposes_S16x128x8192_S8192x16x128_2_0_1

/-- The result. -/
def resf : FVec Ideal S8192x2048 .bf16 := truncf .bf16 (shapeCast _ (mulf (mulf (of x) (broadcastInDim S8192x16x128 ![0, 1, 2] bcast_S8192x16x1_S8192x16x128_0_1_2 (Host.rsqrt (addf (Host.divf (broadcastInDim S8192x16x1 ![0, 1] bcast_S8192x16_S8192x16x1_0_1 (Host.reduceAdd (mulf (of x) (of x)) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x358637BD#32)))))) (broadcastInDim S8192x16x128 ![0, 1, 2] bcast_S1x16x128_S8192x16x128_0_1_2 (broadcastInDim S1x16x128 ![1, 2] bcast_S16x128_S1x16x128_1_2 (shapeCast _ w shapeCasts_S2048_S16x128)))) shapeCasts_S8192x16x128_S8192x2048) bitsLt_bf16_f32

theorem res_eq (m : (ℓ : Loc nD τ sig) → Buf (Elt Ideal) ℓ) (c : Dev nD) :
    Value.res_main_v45 m c = resf (m ((c.tc : Thread nD τ).loc main_arg0)) (m ((c.tc : Thread nD τ).loc main_arg1)) := rfl

theorem qf_at (t : Fin 8192) (h : Fin 16) (e : Fin 128) : qf x (ix3 t h e) = x (ix2 t ⟨128 * h.val + e.val, by omega⟩) := by
  unfold qf
  pointwise
  exact congrArg (fun k => x (ix2 t k)) (Fin.ext (show h.val * 128 + e.val = 128 * h.val + e.val by omega))

theorem kf_at (t : Fin 8192) (h : Fin 16) (e : Fin 128) : kf x (ix3 t h e) = x (ix2 t ⟨2048 + 128 * h.val + e.val, by omega⟩) := by
  unfold kf
  pointwise
  exact congrArg (fun k => x (ix2 t k)) (Fin.ext (show 2048 + (h.val * 128 + e.val) = 2048 + 128 * h.val + e.val by omega))

theorem vf_at (t : Fin 8192) (h : Fin 16) (e : Fin 128) : vf x (ix3 t h e) = x (ix2 t ⟨4096 + 128 * h.val + e.val, by omega⟩) := by
  unfold vf
  pointwise
  exact congrArg (fun k => x (ix2 t k)) (Fin.ext (show 4096 + (h.val * 128 + e.val) = 4096 + 128 * h.val + e.val by omega))

theorem maskf_at (h : Fin 16) (t s : Fin 8192) : maskf (ix3 h t s) = BitVec.ofBool (decide (s.val < t.val)) := by
  rw [← slt_word s.val t.val s.isLt t.isLt]
  unfold maskf
  pointwise

theorem zf_at (hx : IsReal x) (h : Fin 16) (t s : Fin 8192) : zf x (ix3 h t s) = ((zz (real x) h.val t.val s.val : ℝ) : EReal) := by
  unfold zf zz
  pointwise
  rw [sc_eq, EReal.coe_mul, coe_sum]
  congr 1
  refine Finset.sum_congr rfl fun e _ => ?_
  rw [qf_at, kf_at, real_at hx, real_at hx, ← EReal.coe_mul]

theorem logsig_at (y : FVec Ideal S16x8192x8192 .f32) (h : Fin 16) (t s : Fin 8192) (r : ℝ) (hy : y (ix3 h t s) = ((r : ℝ) : EReal)) :
    logsig y (ix3 h t s) = ((-(sp (-r)) : ℝ) : EReal) := by
  unfold logsig zeros
  pointwise
  rw [hy, if_neg (not_not.mpr rfl), ← EReal.coe_neg, EReal.coe_neg (sp (-r)), ← soft (-r), zero_sub]
  rfl

theorem neg_at (y : FVec Ideal S16x8192x8192 .f32) (h : Fin 16) (t s : Fin 8192) (r : ℝ) (hy : y (ix3 h t s) = ((r : ℝ) : EReal)) :
    Host.negf y (ix3 h t s) = ((-r : ℝ) : EReal) := by
  rw [EReal.coe_neg, ← hy]
  rfl

theorem lf_at (hx : IsReal x) (h : Fin 16) (t s : Fin 8192) : lf x (ix3 h t s) = ((lk (real x) h.val t.val s.val : ℝ) : EReal) := by
  unfold lf lk
  pointwise
  rw [maskf_at, select_if, logsig_at _ h t s _ (neg_at _ h t s _ (zf_at x hx h t s)), neg_neg]
  split_ifs
  · rfl
  · refine Eq.trans ?_ EReal.coe_zero.symm
    show Ideal.ofBits .f32 0x00000000#32 = 0
    pointwise

theorem from_at (f : ℕ → ℝ) (s : Fin 8192) :
    (∑ n : Fin 8192, if s.val + n.val < 8192 then ((f (s.val + n.val) : ℝ) : EReal) else 0) = ((∑ j ∈ Finset.Ico s.val 8192, f j : ℝ) : EReal) := by
  have hs := s.isLt
  have e : ∀ n : Fin 8192, (if s.val + n.val < 8192 then ((f (s.val + n.val) : ℝ) : EReal) else 0)
      = ((if s.val + n.val < 8192 then f (s.val + n.val) else 0 : ℝ) : EReal) := fun n => by split_ifs <;> simp
  rw [Finset.sum_congr rfl fun n _ => e n, ← coe_sum]
  congr 1
  rw [← Finset.sum_range (fun n => if s.val + n < 8192 then f (s.val + n) else 0), ← Finset.sum_filter, Finset.sum_Ico_eq_sum_range]
  refine Finset.sum_congr (Finset.ext fun y => ?_) fun _ _ => rfl
  simp only [Finset.mem_filter, Finset.mem_range]
  omega

theorem zero_at : (broadcastInDim S_ ![] bcast_S_S_ (constant (F := Ideal) S_ .f32 0x00000000#32) : FVec Ideal S_ .f32) (Shape.Idx.first h_S_) = (0 : EReal) := by
  show Ideal.ofBits .f32 0x00000000#32 = 0
  pointwise

theorem cf_at (hx : IsReal x) (h : Fin 16) (t s : Fin 8192) : cf x (ix3 h t s) = ((rem (real x) h.val t.val s.val : ℝ) : EReal) := by
  unfold cf rem
  rw [← from_at]
  refine (window_sum (lf x) _ _ _ zero_at h t s).trans ?_
  refine Finset.sum_congr rfl fun n _ => ?_
  split_ifs with hn
  · exact lf_at x hx h t ⟨s.val + n.val, hn⟩
  · rfl

theorem pf_at (hx : IsReal x) (h : Fin 16) (t s : Fin 8192) : pf x (ix3 h t s) = ((pp (real x) h.val t.val s.val : ℝ) : EReal) := by
  unfold pf pp
  pointwise
  rw [maskf_at, select_if, logsig_at _ h t s _ (zf_at x hx h t s), cf_at x hx, lf_at x hx, ← EReal.coe_sub, ← EReal.coe_add]
  split_ifs with hs
  · rw [Ideal.exp_coe, sp_neg]
    refine congrArg (fun a : ℝ => ((Real.exp a : ℝ) : EReal)) ?_
    have e : rem (real x) h.val t.val s.val = lk (real x) h.val t.val s.val + rem (real x) h.val t.val (s.val + 1) := Finset.sum_eq_sum_Ico_succ_bot s.isLt _
    rw [e]
    ring
  · have e : (id (constant (F := Ideal) S_ .f32 0xFF800000#32) : FVec Ideal S_ .f32) ix0 = (⊥ : EReal) := by
      show Ideal.ofBits .f32 0xFF800000#32 = ⊥
      simp [Ideal.ofBits, Ideal.ieee]
    exact ((congrArg Ideal.exp e).trans Ideal.exp_bot).trans EReal.coe_zero.symm

theorem of_at (hx : IsReal x) (t : Fin 8192) (h : Fin 16) (d : Fin 128) : of x (ix3 t h d) = ((ac (real x) h.val t.val 0 d.val : ℝ) : EReal) := by
  unfold of ac
  pointwise
  rw [← Finset.range_eq_Ico, Finset.sum_range, coe_sum]
  refine Finset.sum_congr rfl fun s _ => ?_
  rw [vf_at, pf_at x hx, real_at hx, mul_comm, ← EReal.coe_mul]

theorem res_at (t : Fin 8192) (j : Fin 2048) : resf x w (ix2 t j)
    = normed (fun d => of x (ix3 t ⟨j.val / 128, by omega⟩ d)) (w (ix1 j)) ⟨j.val % 128, by omega⟩ := by
  unfold resf normed
  pointwise

end Cert.StickReferenceIdeal.Sb

end
-- ==== Proof.StickBreaking.lean ====
/-
  The stick-breaking kernel's result is the reference's, for real heads.
-/
module

public import proofs.«01_k».proof.Proof.StickIdealRun
public import proofs.«01_k».proof.Proof.StickReference
public import proofs.«01_k».proof.Proof.Gen.StickIdeal
public import proofs.«01_k».proof.Proof.Gen.Pre_finite_heads
public import Idealize.ShloMosaic.Lib.Claim

@[expose] public section

set_option maxRecDepth 16384

noncomputable section

namespace Cert.StickReferenceIdeal.Sb

open Idealize.ShloMosaic Idealize.ShloMosaic.TcCoe Idealize.SL.Sem
open Cert.StickReferenceIdeal Cert.StickReferenceIdeal.Gen
open Cert.Sb
open Cert.StickIdeal.Val (argX argW attn real IsReal out real_of_pre array_eq run_blocks)
open Cert.StickIdeal.Gen (normed)

/-- The reference at one place, once the heads are real. -/
theorem attn_at (x : FVec Ideal S8192x6144 .bf16) (w : FVec Ideal S2048 .f32) (hx : IsReal x) (t : Fin 8192) (j : Fin 2048) :
    resf x w (ix2 t j) = attn x w t ⟨j.val / 128, by omega⟩ ⟨j.val % 128, by omega⟩ := by
  refine (res_at x w t j).trans ?_
  unfold attn
  refine congrArg₂ (fun f v => normed f v ⟨j.val % 128, by omega⟩) (funext fun d => of_at x hx t _ d) ?_
  exact congrArg (fun k => w (ix1 k)) (Fin.ext (show j.val = 128 * (j.val / 128) + j.val % 128 by omega))

theorem frame : Cert.quiescent_StickReferenceIdeal := fun m g _ =>
  (θ_run defs _ _).mono (fun _ h => ⟨fun c => (h c).2, sem_eq_zero_of_no_sems rfl _⟩) (Value.run (F := Ideal) m g)

theorem algebraic : Cert.algebraic_StickIdeal_StickReferenceIdeal_pre_finite_heads := by
  intro m g m' g' hm hagree
  refine ⟨fun c => out m c, (θ_run Cert.StickIdeal.defs _ _).mono (fun _ h c => ⟨(h c).1.trans (array_eq m c), (h c).2⟩)
    (run_blocks m g (fun c => real_of_pre m c hm)), ?_⟩
  refine (θ_run defs _ _).mono (fun _ h c => ⟨(h c).1.trans ?_, (h c).2⟩) (Value.run (F := Ideal) m' g')
  obtain ⟨h0, h1⟩ := hagree c
  rw [res_eq]
  funext i
  rw [h0, h1]
  have hi : i = ix2 (i 0) (i 1) := funext fun a => by fin_cases a <;> rfl
  exact (congrArg _ hi).trans (attn_at (argX m c) (argW m c) (real_of_pre m c hm) (i 0) (i 1))

end Cert.StickReferenceIdeal.Sb

end
-- ==== Proof.Loop.lean ====
/-
  The reference's loop: one trip advances the state and writes one row, so that after all trips the rows are the
  recurrence's.
-/
module

public import proofs.«01_k».proof.Proof.Gen.ReferenceIdeal.Run
public import proofs.«01_k».proof.Proof.Layer
public import Idealize.ShloMosaic.Lib.StableHlo.ReadAt
public import Idealize.ShloMosaic.Lib.Pipeline.ValueKit

@[expose] public section

set_option maxRecDepth 16384

noncomputable section

namespace Cert.ReferenceIdeal.Loop

open Idealize.ShloMosaic Idealize.ShloMosaic.TcCoe Idealize.SL.Sem
open Idealize.ShloMosaic.StableHlo
open Cert.ReferenceIdeal Cert.ReferenceIdeal.Gen Cert.ReferenceIdeal.Value
open Cert.Hg (st rd lam kap sil fin row lane col dW dK dQ dV dSt dRd res IsFinite headOf laneOf spl corr)

/-- A slice that begins at row `t` is that row. -/
theorem slice_at (x : FVec Ideal S8192x16x128 .f32) (start : Fin S8192x16x128.rank → ℤ) (t : Fin 8192)
    (h0 : start 0 = t.val) (h1 : start 1 = 0) (h2 : start 2 = 0) (h : S8192x16x128.Slices (fun _ => 0) S1x16x128) :
    Host.dynamicSlice S1x16x128 x start h = fun j => x (ix3 t (j 1) (j 2)) := by
  have e0 : Host.clampedStart S8192x16x128 S1x16x128 h.1 start 0 = t.val :=
    Host.clampedStart_of_le _ _ _ _ h0 (by show t.val + 1 ≤ 8192; omega)
  have e1 : Host.clampedStart S8192x16x128 S1x16x128 h.1 start 1 = 0 :=
    Host.clampedStart_of_le _ _ _ 0 h1 (by show 0 + 16 ≤ 16; omega)
  have e2 : Host.clampedStart S8192x16x128 S1x16x128 h.1 start 2 = 0 :=
    Host.clampedStart_of_le _ _ _ 0 h2 (by show 0 + 128 ≤ 128; omega)
  funext j
  have j0 : (j 0).val < 1 := (j 0).isLt
  rw [Host.dynamicSlice_apply]
  refine congrArg x (funext fun a => Fin.ext ?_)
  fin_cases a
  · show Host.clampedStart S8192x16x128 S1x16x128 h.1 start 0 + (j 0).val = t.val
    omega
  · show Host.clampedStart S8192x16x128 S1x16x128 h.1 start 1 + (j 1).val = (j 1).val
    omega
  · show Host.clampedStart S8192x16x128 S1x16x128 h.1 start 2 + (j 2).val = (j 2).val
    omega

/-- An update at row `t` writes that row. -/
theorem update_at (x : FVec Ideal S8192x16x128 .f32) (u : FVec Ideal S1x16x128 .f32) (start : Fin S8192x16x128.rank → ℤ) (t : Fin 8192)
    (h0 : start 0 = t.val) (h1 : start 1 = 0) (h2 : start 2 = 0) (h : S8192x16x128.Slices (fun _ => 0) S1x16x128)
    (i : S8192x16x128.Idx) :
    Host.dynamicUpdateSlice x u start h i = if (i 0).val = t.val then u (ix3 0 (i 1) (i 2)) else x i := by
  have e0 : Host.clampedStart S8192x16x128 S1x16x128 h.1 start 0 = t.val :=
    Host.clampedStart_of_le _ _ _ _ h0 (by show t.val + 1 ≤ 8192; omega)
  have e1 : Host.clampedStart S8192x16x128 S1x16x128 h.1 start 1 = 0 :=
    Host.clampedStart_of_le _ _ _ 0 h1 (by show 0 + 16 ≤ 16; omega)
  have e2 : Host.clampedStart S8192x16x128 S1x16x128 h.1 start 2 = 0 :=
    Host.clampedStart_of_le _ _ _ 0 h2 (by show 0 + 128 ≤ 128; omega)
  have i1 : (i 1).val < 16 := (i 1).isLt
  have i2 : (i 2).val < 128 := (i 2).isLt
  rw [Host.dynamicUpdateSlice_apply]
  by_cases hi : (i 0).val = t.val
  · rw [if_pos hi, dif_pos]
    · refine congrArg u (funext fun a => Fin.ext ?_)
      fin_cases a
      · show (i 0).val - Host.clampedStart S8192x16x128 S1x16x128 h.1 start 0 = 0
        omega
      · show (i 1).val - Host.clampedStart S8192x16x128 S1x16x128 h.1 start 1 = (i 1).val
        omega
      · show (i 2).val - Host.clampedStart S8192x16x128 S1x16x128 h.1 start 2 = (i 2).val
        omega
    · intro a
      fin_cases a
      · show Host.clampedStart S8192x16x128 S1x16x128 h.1 start 0 ≤ (i 0).val ∧ (i 0).val < Host.clampedStart S8192x16x128 S1x16x128 h.1 start 0 + 1
        omega
      · show Host.clampedStart S8192x16x128 S1x16x128 h.1 start 1 ≤ (i 1).val ∧ (i 1).val < Host.clampedStart S8192x16x128 S1x16x128 h.1 start 1 + 16
        omega
      · show Host.clampedStart S8192x16x128 S1x16x128 h.1 start 2 ≤ (i 2).val ∧ (i 2).val < Host.clampedStart S8192x16x128 S1x16x128 h.1 start 2 + 128
        omega
  · rw [if_neg hi, dif_neg]
    intro hin
    have := hin 0
    have hlt : Host.clampedStart S8192x16x128 S1x16x128 h.1 start 0 ≤ (i 0).val ∧ (i 0).val < Host.clampedStart S8192x16x128 S1x16x128 h.1 start 0 + 1 := this
    exact hi (by omega)

theorem word_int (t : ℕ) (ht : t < 8192) : (BitVec.ofNat 32 t).toInt = t := by
  rw [BitVec.toInt_eq_toNat_of_lt (by simp; omega), BitVec.toNat_ofNat, Nat.mod_eq_of_lt (by omega)]

section
variable (V0 : Valuation τ sig (Elt Ideal)) (t : Fin 8192)
  (h : V0 (Proc.devRef .tc main_v43_4) = fun _ => BitVec.ofNat 32 t.val)
include h

/-- The state after a trip. -/
theorem state_trip (g k v : FVec Ideal S8192x16x128 .f32) (S : FVec Ideal S16x128x128 .f32)
    (hg : V0 (Proc.devRef .tc main_v43_2) = g) (hk : V0 (Proc.devRef .tc main_v43_1) = k)
    (hv : V0 (Proc.devRef .tc main_v43_3) = v) (hS : V0 (Proc.devRef .tc main_v43_5) = S) (i : Fin 16) (a d : Fin 128) :
    (res_main_while0b_v76 V0 : FVec Ideal S16x128x128 .f32) (ix3 i a d)
    = Ideal.exp (g (ix3 t i a)) * S (ix3 i a d) + k (ix3 t i a) * v (ix3 t i d) := by
  unfold res_main_while0b_v76
  rw [h, hg, hk, hv, hS]
  clean_types
  rw [slice_at _ _ t (word_int t.val t.isLt) rfl rfl, slice_at _ _ t (word_int t.val t.isLt) rfl rfl,
    slice_at _ _ t (word_int t.val t.isLt) rfl rfl]
  pointwise

/-- The rows after a trip. -/
theorem rows_trip (q o : FVec Ideal S8192x16x128 .f32) (S : FVec Ideal S16x128x128 .f32)
    (hq : V0 (Proc.devRef .tc main_v43_0) = q) (ho : V0 (Proc.devRef .tc main_v43_6) = o)
    (hS : res_main_while0b_v76 V0 = S) (u : Fin 8192) (i : Fin 16) (d : Fin 128) :
    (step_main_v43_6 V0 : FVec Ideal S8192x16x128 .f32) (ix3 u i d)
    = if u.val = t.val then ∑ a, q (ix3 t i a) * S (ix3 i a d) else o (ix3 u i d) := by
  unfold step_main_v43_6
  rw [h, hq, ho, hS]
  clean_types
  simp only [id]
  refine (update_at _ _ _ t (word_int t.val t.isLt) rfl rfl _ _).trans ?_
  refine if_congr Iff.rfl ?_ rfl
  rw [slice_at _ _ t (word_int t.val t.isLt) rfl rfl]
  pointwise
end

variable (m : (ℓ : Loc nD τ sig) → Buf (Elt Ideal) ℓ) (c : Dev nD)

/-- The projections, by row and column. -/
def argP : Fin 8192 → Fin 8192 → EReal := fun t j => (m (c, main_arg0) : FVec Ideal S8192x8192 .f32) (ix2 t j)
/-- The lower bounds. -/
def argL : Fin 2048 → EReal := fun j => (m (c, main_arg1) : FVec Ideal S2048 .f32) (ix1 j)
/-- The norm's weights. -/
def argN : Fin 2048 → EReal := fun j => (m (c, main_arg2) : FVec Ideal S2048 .f32) (ix1 j)

theorem entry_query (t : Fin 8192) (i : Fin 16) (a : Fin 128) :
    (entryContents preI m c (Proc.devRef .tc main_v43_0) : FVec Ideal S8192x16x128 .f32) (ix3 t i a)
      = sil (argP m c t (col 0 (lane i a))) := by
  simp only [entryContents, afterL_cons, afterL_nil]
  after_reads_at
  unfold sil argP
  rw [show col 0 (lane i a) = ⟨i.val * 128 + a.val, by omega⟩ from Fin.ext (by show 0 * 2048 + (i.val * 128 + a.val) = i.val * 128 + a.val; omega)]
  rfl

theorem entry_key (t : Fin 8192) (i : Fin 16) (a : Fin 128) :
    (entryContents preI m c (Proc.devRef .tc main_v43_1) : FVec Ideal S8192x16x128 .f32) (ix3 t i a)
      = kap (argL m c (lane i a)) (argP m c t (col 1 (lane i a))) := by
  simp only [entryContents, afterL_cons, afterL_nil]
  after_reads_at
  rfl

theorem entry_decay (t : Fin 8192) (i : Fin 16) (a : Fin 128) :
    (entryContents preI m c (Proc.devRef .tc main_v43_2) : FVec Ideal S8192x16x128 .f32) (ix3 t i a)
      = lam (argL m c (lane i a)) (argP m c t (col 1 (lane i a))) := by
  simp only [entryContents, afterL_cons, afterL_nil]
  after_reads_at
  simp only [ne_eq, not_true_eq_false, if_false, id]
  unfold lam spl corr argL argP lane col
  simp only [Ideal.absf_def, sub_eq_add_neg]
  rfl

theorem entry_value (t : Fin 8192) (i : Fin 16) (a : Fin 128) :
    (entryContents preI m c (Proc.devRef .tc main_v43_3) : FVec Ideal S8192x16x128 .f32) (ix3 t i a)
      = argP m c t (col 2 (lane i a)) := by
  simp only [entryContents, afterL_cons, afterL_nil]
  after_reads_at
  rfl

theorem entry_state (i : Fin 16) (a d : Fin 128) :
    (entryContents preI m c (Proc.devRef .tc main_v43_5) : FVec Ideal S16x128x128 .f32) (ix3 i a d) = ((0 : ℝ) : EReal) := by
  simp only [entryContents, afterL_cons, afterL_nil]
  after_reads_at
  simp only [id]
  pointwise
  exact EReal.coe_zero.symm

/-- The loop's contents before a trip. -/
abbrev atTripK (k : ℕ) : Valuation τ sig (Elt Ideal) := STEP^[k] (entryContents preI m c)

/-- What the loop has made before trip `k`. -/
theorem loop_at (f : IsFinite (argP m c) (argL m c)) (k : ℕ) (hk : k ≤ 8192) :
    (atTripK m c k (Proc.devRef .tc main_v43_4) = fun _ => BitVec.ofNat 32 k)
    ∧ atTripK m c k (Proc.devRef .tc main_v43_0) = entryContents preI m c (Proc.devRef .tc main_v43_0)
    ∧ atTripK m c k (Proc.devRef .tc main_v43_1) = entryContents preI m c (Proc.devRef .tc main_v43_1)
    ∧ atTripK m c k (Proc.devRef .tc main_v43_2) = entryContents preI m c (Proc.devRef .tc main_v43_2)
    ∧ atTripK m c k (Proc.devRef .tc main_v43_3) = entryContents preI m c (Proc.devRef .tc main_v43_3)
    ∧ (∀ (i : Fin 16) (a d : Fin 128), (atTripK m c k (Proc.devRef .tc main_v43_5) : FVec Ideal S16x128x128 .f32) (ix3 i a d)
        = ((dSt (argP m c) (argL m c) i k a d : ℝ) : EReal))
    ∧ (∀ (u : Fin 8192) (i : Fin 16) (d : Fin 128), u.val < k →
        (atTripK m c k (Proc.devRef .tc main_v43_6) : FVec Ideal S8192x16x128 .f32) (ix3 u i d)
        = ((dRd (argP m c) (argL m c) i u d : ℝ) : EReal)) := by
  induction k with
  | zero =>
    refine ⟨ctr_entry m c, rfl, rfl, rfl, rfl, fun i a d => entry_state m c i a d, fun u i d hu => absurd hu (Nat.not_lt_zero _)⟩
  | succ k ih =>
    obtain ⟨h4, h0, h1, h2, h3, h5, h6⟩ := ih (by omega)
    have hs : atTripK m c (k + 1) = STEP (atTripK m c k) := Function.iterate_succ_apply' _ _ _
    have hr : row k = ⟨k, by omega⟩ := Hg.row_of k (by omega)
    have state : ∀ (i : Fin 16) (a d : Fin 128), (res_main_while0b_v76 (atTripK m c k) : FVec Ideal S16x128x128 .f32) (ix3 i a d)
        = ((dSt (argP m c) (argL m c) i (k + 1) a d : ℝ) : EReal) := by
      intro i a d
      rw [state_trip (atTripK m c k) ⟨k, by omega⟩ h4 _ _ _ _ h2 h1 h3 rfl, h5, entry_decay, entry_key, entry_value, ← hr,
        f.key, f.value, Hg.exp_eq_wt (f.lam_top i _ a), ← EReal.coe_mul, ← EReal.coe_mul, ← EReal.coe_add]
      rfl
    rw [hs]
    refine ⟨?_, ?_, ?_, ?_, ?_, ?_, ?_⟩
    · rw [STEP_main_v43_4]
      unfold step_main_v43_4
      rw [h4]
      funext x
      show BitVec.ofNat 32 k + 1#32 = BitVec.ofNat 32 (k + 1)
      rw [BitVec.ofNat_add]
    · rw [STEP_main_v43_0, h0]
    · rw [STEP_main_v43_1, h1]
    · rw [STEP_main_v43_2, h2]
    · rw [STEP_main_v43_3, h3]
    · intro i a d
      rw [STEP_main_v43_5]
      exact state i a d
    · intro u i d hu
      rw [STEP_main_v43_6, rows_trip (atTripK m c k) ⟨k, by omega⟩ h4 _ _ _ h0 rfl rfl]
      by_cases hk : u.val = k
      · rw [if_pos hk, hk]
        have e : ((dRd (argP m c) (argL m c) i k d : ℝ) : EReal)
            = ∑ a, ((dQ (argP m c) i k a * dSt (argP m c) (argL m c) i (k + 1) a d : ℝ) : EReal) := by
          unfold dRd rd
          exact Hg.coe_sum _ _
        refine Eq.trans (b := (∑ a, ((dQ (argP m c) i k a * dSt (argP m c) (argL m c) i (k + 1) a d : ℝ) : EReal) : EReal)) ?_ e.symm
        refine Finset.sum_congr rfl fun a _ => ?_
        rw [state, entry_query, ← hr, f.query, ← EReal.coe_mul]
      · rw [if_neg hk]
        exact h6 u i d (by omega)

/-- The array that the reference leaves is the result. -/
theorem array_eq (f : IsFinite (argP m c) (argL m c)) (i : S8192x2048.Idx) :
    (out_main_v62 (atTripK m c 8192) : FVec Ideal S8192x2048 .bf16) i = res (argP m c) (argL m c) (argN m c) (i 0) (i 1) := by
  obtain ⟨t, j, rfl⟩ : ∃ (t : Fin 8192) (j : Fin 2048), i = ix2 t j := ⟨i 0, i 1, eq_ix2 i⟩
  obtain ⟨-, -, -, -, -, -, h6⟩ := loop_at m c f 8192 le_rfl
  have e0 : atTripK m c 8192 (Proc.devRef .tc main_arg0) = m (c, main_arg0) := iter_main_arg0 m c 8192
  have e2 : atTripK m c 8192 (Proc.devRef .tc main_arg2) = m (c, main_arg2) := iter_main_arg2 m c 8192
  have h := fun x => h6 t (headOf j) x t.isLt
  generalize atTripK m c 8192 = X at h e0 e2 ⊢
  clear h6
  unfold out_main_v62
  clean_types
  pointwise
  rw [e0, e2]
  have h' : ∀ x : Fin 128, (X (Proc.devRef .tc main_v43_6) : FVec Ideal S8192x16x128 .f32) (ix3 t ⟨j.val / 128, by omega⟩ x)
      = ((dRd (argP m c) (argL m c) (headOf j) t.val x : ℝ) : EReal) := h
  simp only [h']
  rfl

end Cert.ReferenceIdeal.Loop

end
-- ==== Proof.UpCases.lean ====
/-
  The up projection's kernel, one grid point at a time: what the point writes and what it leaves for the next, as
  values of its operands and of what the point before left.
-/
module

public import proofs.«01_k».proof.Proof.Gen.UpConvIdeal.Frame
public import Idealize.ShloMosaic.Lib.Pipeline.ReadBack
public import Idealize.ShloMosaic.Lib.Pipeline.ValueKit

@[expose] public section

set_option maxRecDepth 16384

noncomputable section

namespace Cert.UpConvIdeal.Gate

open Idealize.ShloMosaic Idealize.ShloMosaic.TcCoe Idealize.SL.Sem
open Cert.UpConvIdeal Cert.UpConvIdeal.Gen

section
variable {F : FTy → Type} [FloatOps F]

/-- Row `r` of the three rows of convolution weights. -/
def tap0 (v : Vec F S1x3x256 .f32) : Vec F S1x1x256 .f32 := View.ld v (Rect.unit (s := S1x3x256) ![0, 0, 0] S1x1x256.size inb_S1x3x256_S1x1x256_0_0_0)
@[inherit_doc tap0]
def tap1 (v : Vec F S1x3x256 .f32) : Vec F S1x1x256 .f32 := View.ld v (Rect.unit (s := S1x3x256) ![0, 1, 0] S1x1x256.size inb_S1x3x256_S1x1x256_0_1_0)
@[inherit_doc tap0]
def tap2 (v : Vec F S1x3x256 .f32) : Vec F S1x1x256 .f32 := View.ld v (Rect.unit (s := S1x3x256) ![0, 2, 0] S1x1x256.size inb_S1x3x256_S1x1x256_0_2_0)

/-- The product's rows convolved: each row with the two before it, the first two rows taking theirs from the tail. -/
def conv (x : Vec F S1024x4096 .bf16) (w : Vec F S4096x256 .bf16) (tl : Vec F S8x256 .f32) (cw : Vec F S1x3x256 .f32)
    (cb : Vec F S1x1x256 .f32) : FVec F S1024x256 .f32 :=
  k0_pay12 (k0_pay7 x w) (k0_pay9 x w tl) (k0_pay10 x w tl) cb (tap0 cw) (tap1 cw) (tap2 cw)

/-- The gate and the linear branch multiplied, rounded. -/
def gated (g u : FVec F S1024x256 .f32) : FVec F S1024x256 .bf16 := truncf .bf16 (mulf (mulf g (logistic g)) u) bitsLt_bf16_f32

/-- The last payload is the gate times the other half's convolution. -/
theorem pay2_eq (g : FVec F S1024x256 .f32) (x : Vec F S1024x4096 .bf16) (w : Vec F S4096x256 .bf16) (tl : Vec F S8x256 .f32)
    (cw : Vec F S1x3x256 .f32) (cb : Vec F S1x1x256 .f32) :
    k0_pay2 g (k0_pay13 x w) (k0_pay15 tl) (k0_pay16 x (iota .tc S1024x1 32 [0] iota_S1024x1_d0_w32) w tl)
      (k0_pay17 (iota .tc S1024x1 32 [0] iota_S1024x1_d0_w32)) (k0_pay18 x (iota .tc S1024x1 32 [0] iota_S1024x1_d0_w32) w tl)
      cb (tap0 cw) (tap1 cw) (tap2 cw) = gated g (conv x w tl cw cb) := rfl

variable (c : Dev nD) (i : grid0.Coords) (arg2 : Memref sig .tc .vmem S1024x4096 .bf16) (harg2 : arg2.IsWhole)
  (arg3 : Memref sig .tc .vmem S1x4096x256 .f32) (harg3 : arg3.IsWhole) (arg4 : Memref sig .tc .vmem S1x4096x256 .f32) (harg4 : arg4.IsWhole)
  (arg5 : Memref sig .tc .vmem S1x3x256 .f32) (harg5 : arg5.IsWhole) (arg6 : Memref sig .tc .vmem S1x3x256 .f32) (harg6 : arg6.IsWhole)
  (arg7 : Memref sig .tc .vmem S1x1x256 .f32) (harg7 : arg7.IsWhole) (arg8 : Memref sig .tc .vmem S1x1x256 .f32) (harg8 : arg8.IsWhole)
  (arg9 : Memref sig .tc .vmem S1024x256 .bf16) (harg9 : arg9.IsWhole)
  (x0 : Vec F S1024x4096 .bf16) (x1 x2 : Vec F S1x4096x256 .f32) (x3 x4 : Vec F S1x3x256 .f32) (x5 x6 : Vec F S1x1x256 .f32)
  (xs0 xs1 : Vec F S4096x256 .bf16) (xs2 xs3 : Vec F S8x256 .f32)

theorem outB (hc0 : ¬cond0_0 i) :
    out0_B_7 c i arg2 harg2 arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) hc0 x0 x1 x2 x3 x4 x5 x6 xs0 xs1 xs2 xs3
      = gated (conv x0 xs0 xs2 x3 x5) (conv x0 xs1 xs3 x4 x6) := by
  frame_open
  simp (disch := decide) only [↓ View.readCov_skip, ↓ View.readCov_cons_toLoadRect, ↓ View.readCov_fill]
  frame_out
  try simp only [read_unread_whole]
  try rfl

theorem tailB2 (hc0 : ¬cond0_0 i) :
    sout0_B_2 c i arg2 harg2 arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) hc0 x0 x1 x2 x3 x4 x5 x6 xs0 xs1 xs2 xs3
      = k0_pay11 x0 xs0 := by
  frame_open
  simp (disch := decide) only [↓ View.readCov_skip, ↓ View.readCov_cons_toLoadRect, ↓ View.readCov_fill]
  frame_out
  try simp only [read_unread_whole]
  try rfl

theorem tailB3 (hc0 : ¬cond0_0 i) :
    sout0_B_3 c i arg2 harg2 arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) hc0 x0 x1 x2 x3 x4 x5 x6 xs0 xs1 xs2 xs3
      = k0_pay11 x0 xs1 := by
  frame_open
  simp (disch := decide) only [↓ View.readCov_skip, ↓ View.readCov_cons_toLoadRect, ↓ View.readCov_fill]
  frame_out
  try simp only [read_unread_whole]
  try rfl

theorem outA (hc0 : cond0_0 i) :
    out0_A_7 c i arg2 harg2 arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) hc0 x0 x1 x2 x3 x4 x5 x6
      = gated (conv x0 (k0_pay3 x1) k0_pay5 x3 x5) (conv x0 (k0_pay3 x2) k0_pay5 x4 x6) := by
  frame_open
  simp (disch := decide) only [↓ View.readCov_skip, ↓ View.readCov_cons_toLoadRect, ↓ View.readCov_fill]
  frame_out
  try simp only [read_unread_whole]
  try rfl

theorem keepA0 (hc0 : cond0_0 i) :
    sout0_A_0 c i arg2 harg2 arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) hc0 x0 x1 x2 x3 x4 x5 x6
      = k0_pay3 x1 := by
  frame_open
  simp (disch := decide) only [↓ View.readCov_skip, ↓ View.readCov_cons_toLoadRect, ↓ View.readCov_fill]
  frame_out
  try simp only [read_unread_whole]
  try rfl

theorem keepA1 (hc0 : cond0_0 i) :
    sout0_A_1 c i arg2 harg2 arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) hc0 x0 x1 x2 x3 x4 x5 x6
      = k0_pay3 x2 := by
  frame_open
  simp (disch := decide) only [↓ View.readCov_skip, ↓ View.readCov_cons_toLoadRect, ↓ View.readCov_fill]
  frame_out
  try simp only [read_unread_whole]
  try rfl

theorem tailA2 (hc0 : cond0_0 i) :
    sout0_A_2 c i arg2 harg2 arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) hc0 x0 x1 x2 x3 x4 x5 x6
      = k0_pay11 x0 (k0_pay3 x1) := by
  frame_open
  simp (disch := decide) only [↓ View.readCov_skip, ↓ View.readCov_cons_toLoadRect, ↓ View.readCov_fill]
  frame_out
  try simp only [read_unread_whole]
  try rfl

theorem tailA3 (hc0 : cond0_0 i) :
    sout0_A_3 c i arg2 harg2 arg3 harg3 arg4 harg4 arg5 harg5 arg6 harg6 arg7 harg7 arg8 harg8 arg9 harg9 scM0_0 (Memref.isWhole_whole _) scM0_1 (Memref.isWhole_whole _) scM0_2 (Memref.isWhole_whole _) scM0_3 (Memref.isWhole_whole _) hc0 x0 x1 x2 x3 x4 x5 x6
      = k0_pay11 x0 (k0_pay3 x2) := by
  frame_open
  simp (disch := decide) only [↓ View.readCov_skip, ↓ View.readCov_cons_toLoadRect, ↓ View.readCov_fill]
  frame_out
  try simp only [read_unread_whole]
  try rfl

end

/-! ## The values at an index -/

theorem pay3_at (w : Vec Ideal S1x4096x256 .f32) (k : Fin 4096) (j : Fin 256) : k0_pay3 w (ix2 k j) = w (ix3 0 k j) := by
  unfold k0_pay3
  pointwise

theorem pay5_at (q : Fin 8) (j : Fin 256) : (k0_pay5 : FVec Ideal S8x256 .f32) (ix2 q j) = 0 := by
  unfold k0_pay5
  pointwise

theorem pay7_at (x : Vec Ideal S1024x4096 .bf16) (w : Vec Ideal S4096x256 .bf16) (r : Fin 1024) (j : Fin 256) :
    k0_pay7 x w (ix2 r j) = ∑ k : Fin 4096, x (ix2 r k) * w (ix2 k j) := by
  unfold k0_pay7
  pointwise

theorem pay11_at (x : Vec Ideal S1024x4096 .bf16) (w : Vec Ideal S4096x256 .bf16) (q : Fin 8) (j : Fin 256) :
    k0_pay11 x w (ix2 q j) = k0_pay7 x w (ix2 ⟨1016 + q.val, by omega⟩ j) := by
  unfold k0_pay11
  generalize k0_pay7 x w = p
  pointwise

/-- A choice by whether a row's number is a constant. -/
theorem select_row (r : Fin 1024) (k : ℕ) (hk : k < 1024) (a b : EReal) :
    Scalar.select (IntOp.cmpi CmpIPredicate.eq (BitVec.ofNat 32 r.val) (BitVec.ofNat 32 k)) a b = if r.val = k then a else b := by
  have hr := r.isLt
  have e : (BitVec.ofNat 32 r.val == BitVec.ofNat 32 k) = decide (r.val = k) := by
    rw [Bool.eq_iff_iff, beq_iff_eq, decide_eq_true_eq, ← BitVec.toNat_inj, BitVec.toNat_ofNat, BitVec.toNat_ofNat,
      Nat.mod_eq_of_lt (by omega), Nat.mod_eq_of_lt (by omega)]
  by_cases h : r.val = k
  · subst h
    simp [Scalar.select, IntOp.cmpi]
  · rw [if_neg h]
    simp [Scalar.select, IntOp.cmpi, e, h]

/-- The product's rows one down, the first from the tail's last row. -/
theorem pay9_at (x : Vec Ideal S1024x4096 .bf16) (w : Vec Ideal S4096x256 .bf16) (tl : Vec Ideal S8x256 .f32) (r : Fin 1024) (j : Fin 256) :
    k0_pay9 x w tl (ix2 r j)
      = if r.val = 0 then tl (ix2 7 j) else k0_pay7 x w (ix2 ⟨r.val - 1, by omega⟩ j) := by
  unfold k0_pay9 k0_pay8
  generalize k0_pay7 x w = p
  pointwise
  rw [select_row r 0 (by omega)]
  split
  · rfl
  · exact congrArg (fun q => p (ix2 q j)) (Fin.ext (by show (r.val + 1024 - 1) % 1024 = r.val - 1; omega))

/-- The product's rows two down, the first two from the tail's last two. -/
theorem pay10_at (x : Vec Ideal S1024x4096 .bf16) (w : Vec Ideal S4096x256 .bf16) (tl : Vec Ideal S8x256 .f32) (r : Fin 1024) (j : Fin 256) :
    k0_pay10 x w tl (ix2 r j)
      = if r.val = 0 then tl (ix2 6 j) else if r.val = 1 then tl (ix2 7 j) else k0_pay7 x w (ix2 ⟨r.val - 2, by omega⟩ j) := by
  unfold k0_pay10 k0_pay8
  generalize k0_pay7 x w = p
  pointwise
  rw [select_row r 0 (by omega), select_row r 1 (by omega)]
  split
  · rfl
  · split
    · rfl
    · exact congrArg (fun q => p (ix2 q j)) (Fin.ext (by show (r.val + 1024 - 2) % 1024 = r.val - 2; omega))

theorem tap0_at (v : Vec Ideal S1x3x256 .f32) (j : Fin 256) : tap0 v (ix3 0 0 j) = v (ix3 0 0 j) := by
  unfold tap0
  exact View.ld_unit_apply_of v _ _ _ _ (ix3 0 0 j) (by intro b; fin_cases b <;> simp [Nat.add_comm])

theorem tap1_at (v : Vec Ideal S1x3x256 .f32) (j : Fin 256) : tap1 v (ix3 0 0 j) = v (ix3 0 1 j) := by
  unfold tap1
  exact View.ld_unit_apply_of v _ _ _ _ (ix3 0 1 j) (by intro b; fin_cases b <;> simp [Nat.add_comm])

theorem tap2_at (v : Vec Ideal S1x3x256 .f32) (j : Fin 256) : tap2 v (ix3 0 0 j) = v (ix3 0 2 j) := by
  unfold tap2
  exact View.ld_unit_apply_of v _ _ _ _ (ix3 0 2 j) (by intro b; fin_cases b <;> simp [Nat.add_comm])

theorem pay12_at (p p1 p2 : FVec Ideal S1024x256 .f32) (b w0 w1 w2 : Vec Ideal S1x1x256 .f32) (r : Fin 1024) (j : Fin 256) :
    k0_pay12 p p1 p2 b w0 w1 w2 (ix2 r j)
      = b (ix3 0 0 j) + w0 (ix3 0 0 j) * p2 (ix2 r j) + w1 (ix3 0 0 j) * p1 (ix2 r j) + w2 (ix3 0 0 j) * p (ix2 r j) := by
  unfold k0_pay12
  pointwise

theorem gated_at (g u : FVec Ideal S1024x256 .f32) (i : S1024x256.Idx) : gated g u i = g i * Ideal.logistic (g i) * u i := by
  unfold gated
  pointwise

end Cert.UpConvIdeal.Gate

end
-- ==== Proof.UpGate.lean ====
/-
  The up projection with its convolution and gate. A column block is swept by eight grid points, a thousand and
  twenty-four rows each; a point finds the weights of its columns and the last eight rows of the product before it,
  and leaves the same for the next. So each point writes its block of the gated convolution over the whole length.
-/
module

public import proofs.«01_k».proof.Proof.UpCases
public import proofs.«01_k».proof.Proof.Gen.UpConvReferenceIdeal.Run
public import proofs.«01_k».proof.Defs
public import proofs.«01_k».proof.Proof.Gen.UpConvReferenceIdeal
public import Idealize.ShloMosaic.Lib.Quiescent

@[expose] public section

set_option maxRecDepth 16384

noncomputable section

namespace Cert.UpConvIdeal.Gate

open Idealize.ShloMosaic Idealize.ShloMosaic.TcCoe Idealize.SL.Sem
open Idealize.ShloMosaic.StableHlo
open Cert.UpConvIdeal Cert.UpConvIdeal.Gen

/-! ## The result over the operands -/

section
variable (x : FVec Ideal S8192x4096 .bf16) (w : FVec Ideal S4x4096x22016 .f32) (cw : FVec Ideal S4x3x22016 .f32) (cb : FVec Ideal S4x22016 .f32)

/-- The product at a row and a column. -/
def prod (r : Fin 8192) (j : Fin 22016) : EReal := ∑ k : Fin 4096, x (ix2 r k) * w (ix3 0 k j)

/-- The product `d` rows back; zero before the first row. -/
def back (d : ℕ) (r : Fin 8192) (j : Fin 22016) : EReal := if h : d ≤ r.val then prod x w ⟨r.val - d, by omega⟩ j else 0

/-- The convolution over a row and the two before it. -/
def mix (r : Fin 8192) (j : Fin 22016) : EReal :=
  cb (ix2 0 j) + cw (ix3 0 0 j) * back x w 2 r j + cw (ix3 0 1 j) * back x w 1 r j + cw (ix3 0 2 j) * prod x w r j

/-- The result: the gate of a column times the linear branch of the same column in the second half. -/
def spec (r : Fin 8192) (j : Fin 11008) : EReal :=
  mix x w cw cb r ⟨j.val, by omega⟩ * Ideal.logistic (mix x w cw cb r ⟨j.val, by omega⟩) * mix x w cw cb r ⟨11008 + j.val, by omega⟩

/-- Eight rows hold the product's last eight before block `i`; zero before the first. -/
def IsTail (i : ℕ) (hi : i ≤ 8) (cl : Fin 256 → Fin 22016) (tl : Vec Ideal S8x256 .f32) : Prop :=
  ∀ (q : Fin 8) (j : Fin 256), tl (ix2 q j) = if h : 8 ≤ 1024 * i + q.val then prod x w ⟨1024 * i + q.val - 8, by omega⟩ (cl j) else 0

/-- A block of the weights' columns. -/
def IsCols (cl : Fin 256 → Fin 22016) (v : Vec Ideal S4096x256 .bf16) : Prop := ∀ k j, v (ix2 k j) = w (ix3 0 k (cl j))

/-- A block of the rows. -/
def IsRows (i : ℕ) (hi : i < 8) (v : Vec Ideal S1024x4096 .bf16) : Prop :=
  ∀ (r : Fin 1024) k, v (ix2 r k) = x (ix2 ⟨1024 * i + r.val, by omega⟩ k)

variable {x w cw cb} {i : ℕ} {hi : i < 8} {cl : Fin 256 → Fin 22016} {xv : Vec Ideal S1024x4096 .bf16} {wv : Vec Ideal S4096x256 .bf16}
  {tl : Vec Ideal S8x256 .f32} {cwv : Vec Ideal S1x3x256 .f32} {cbv : Vec Ideal S1x1x256 .f32}

theorem prod_block (hx : IsRows x i hi xv) (hw : IsCols w cl wv) (r : Fin 1024) (j : Fin 256) :
    k0_pay7 xv wv (ix2 r j) = prod x w ⟨1024 * i + r.val, by omega⟩ (cl j) := by
  rw [pay7_at]
  exact Finset.sum_congr rfl fun k _ => by rw [hx r k, hw k j]

/-- The block's last eight rows are the next block's tail. -/
theorem tail_next (hx : IsRows x i hi xv) (hw : IsCols w cl wv) : IsTail x w (i + 1) hi cl (k0_pay11 xv wv) := by
  intro q j
  rw [pay11_at, prod_block hx hw, dif_pos (by omega)]
  exact congrArg (fun r => prod x w r (cl j)) (Fin.ext (by show 1024 * i + (1016 + q.val) = 1024 * (i + 1) + q.val - 8; omega))

theorem tail_first (h0 : i = 0) : IsTail x w i (le_of_lt hi) cl (k0_pay5 (F := Ideal)) := by
  intro q j
  rw [pay5_at, dif_neg (by omega)]

theorem IsTail.of_eq {i i' : ℕ} (e : i = i') {hi : i ≤ 8} {hi' : i' ≤ 8} {cl cl' : Fin 256 → Fin 22016} (ec : cl = cl')
    (h : IsTail x w i hi cl tl) : IsTail x w i' hi' cl' tl := by
  subst e ec
  exact h

/-- One row back, within the block or from the tail. -/
theorem back_one (hx : IsRows x i hi xv) (hw : IsCols w cl wv) (ht : IsTail x w i (le_of_lt hi) cl tl) (r : Fin 1024) (j : Fin 256) :
    k0_pay9 xv wv tl (ix2 r j) = back x w 1 ⟨1024 * i + r.val, by omega⟩ (cl j) := by
  rw [pay9_at]
  unfold back
  by_cases h : r.val = 0
  · rw [if_pos h, ht 7 j]
    by_cases h1 : i = 0
    · rw [dif_neg (by show ¬ 8 ≤ 1024 * i + 7; omega), dif_neg (by show ¬ 1 ≤ 1024 * i + r.val; omega)]
    · rw [dif_pos (by show 8 ≤ 1024 * i + 7; omega), dif_pos (by show 1 ≤ 1024 * i + r.val; omega)]
      exact congrArg (fun r => prod x w r (cl j)) (Fin.ext (by show 1024 * i + 7 - 8 = 1024 * i + r.val - 1; omega))
  · rw [if_neg h, prod_block hx hw, dif_pos (by show 1 ≤ 1024 * i + r.val; omega)]
    exact congrArg (fun r => prod x w r (cl j)) (Fin.ext (by show 1024 * i + (r.val - 1) = 1024 * i + r.val - 1; omega))

/-- Two rows back, within the block or from the tail. -/
theorem back_two (hx : IsRows x i hi xv) (hw : IsCols w cl wv) (ht : IsTail x w i (le_of_lt hi) cl tl) (r : Fin 1024) (j : Fin 256) :
    k0_pay10 xv wv tl (ix2 r j) = back x w 2 ⟨1024 * i + r.val, by omega⟩ (cl j) := by
  rw [pay10_at]
  unfold back
  have tail : ∀ q : Fin 8, q.val = r.val + 6 → tl (ix2 q j) = if h : 2 ≤ 1024 * i + r.val then prod x w ⟨1024 * i + r.val - 2, by omega⟩ (cl j) else 0 := by
    intro q hq
    rw [ht q j]
    by_cases h1 : i = 0
    · rw [dif_neg (by omega), dif_neg (by omega)]
    · rw [dif_pos (by omega), dif_pos (by omega)]
      exact congrArg (fun r => prod x w r (cl j)) (Fin.ext (by show 1024 * i + q.val - 8 = 1024 * i + r.val - 2; omega))
  by_cases h : r.val = 0
  · rw [if_pos h]
    exact tail 6 (by show 6 = r.val + 6; omega)
  · rw [if_neg h]
    by_cases h' : r.val = 1
    · rw [if_pos h']
      exact tail 7 (by show 7 = r.val + 6; omega)
    · rw [if_neg h', prod_block hx hw, dif_pos (by show 2 ≤ 1024 * i + r.val; omega)]
      exact congrArg (fun r => prod x w r (cl j)) (Fin.ext (by show 1024 * i + (r.val - 2) = 1024 * i + r.val - 2; omega))

/-- A block of the convolution. -/
theorem conv_block (hx : IsRows x i hi xv) (hw : IsCols w cl wv) (ht : IsTail x w i (le_of_lt hi) cl tl)
    (hcw : ∀ (d : Fin 3) j, cwv (ix3 0 d j) = cw (ix3 0 d (cl j))) (hcb : ∀ j, cbv (ix3 0 0 j) = cb (ix2 0 (cl j))) (r : Fin 1024) (j : Fin 256) :
    conv xv wv tl cwv cbv (ix2 r j) = mix x w cw cb ⟨1024 * i + r.val, by omega⟩ (cl j) := by
  unfold conv mix
  rw [pay12_at, tap0_at, tap1_at, tap2_at, back_one hx hw ht, back_two hx hw ht, prod_block hx hw, hcb, hcw, hcw, hcw]

end

/-! ## The operands' blocks -/

variable (m : (ℓ : Loc nD τ sig) → Buf (Elt Ideal) ℓ) (c : Dev nD)

/-- The rows, the stacked weights, the convolution's weights and its offsets. -/
def argX : FVec Ideal S8192x4096 .bf16 := m (c, main_arg0)
@[inherit_doc argX]
def argW : FVec Ideal S4x4096x22016 .f32 := m (c, main_arg1)
@[inherit_doc argX]
def argC : FVec Ideal S4x3x22016 .f32 := m (c, main_arg2)
@[inherit_doc argX]
def argB : FVec Ideal S4x22016 .f32 := m (c, main_arg3)

/-- Which block of each operand a grid point takes. -/
theorem index_at (t : Fin grid0.N) :
    win0_0.index t = ![t.val % 8, 0] ∧ win0_1.index t = ![0, 0, t.val / 8] ∧ win0_2.index t = ![0, 0, t.val / 8 + 43]
    ∧ win0_3.index t = ![0, 0, t.val / 8] ∧ win0_4.index t = ![0, 0, t.val / 8 + 43] ∧ win0_5.index t = ![0, 0, t.val / 8]
    ∧ win0_6.index t = ![0, 0, t.val / 8 + 43] ∧ win0_7.index t = ![t.val % 8, t.val / 8] ∧ win0_7.flush t = true :=
  (by decide +kernel : ∀ t : Fin grid0.N,
    win0_0.index t = ![t.val % 8, 0] ∧ win0_1.index t = ![0, 0, t.val / 8] ∧ win0_2.index t = ![0, 0, t.val / 8 + 43]
    ∧ win0_3.index t = ![0, 0, t.val / 8] ∧ win0_4.index t = ![0, 0, t.val / 8 + 43] ∧ win0_5.index t = ![0, 0, t.val / 8]
    ∧ win0_6.index t = ![0, 0, t.val / 8 + 43] ∧ win0_7.index t = ![t.val % 8, t.val / 8] ∧ win0_7.flush t = true) t

/-- The columns of a sweep in the gate's half. -/
def gcol (b : ℕ) (hb : b < 43) (j : Fin 256) : Fin 22016 := ⟨256 * b + j.val, by omega⟩
/-- The columns of a sweep in the second half. -/
def ucol (b : ℕ) (hb : b < 43) (j : Fin 256) : Fin 22016 := ⟨256 * (b + 43) + j.val, by omega⟩

theorem sweep_lt (t : Fin cfg0.N) : t.val / 8 < 43 := by
  have h : t.val < 344 := t.isLt
  omega

theorem block_lt (t : Fin cfg0.N) : t.val % 8 < 8 := Nat.mod_lt _ (by decide)

/-- The offsets that the kernel takes are the operand's. -/
theorem offsets_at (j : Fin 22016) : (V m c main_v0 : FVec Ideal S4x1x22016 .f32) (ix3 0 0 j) = argB m c (ix2 0 j) := by
  have e : (V m c main_v0 : FVec Ideal S4x1x22016 .f32) = shapeCast _ (argB m c) shapeCasts_S4x22016_S4x1x22016 := by
    after_reads_simp
    rfl
  rw [e]
  pointwise

theorem blk0_at (t : Fin cfg0.N) : IsRows (argX m c) (t.val % 8) (block_lt t) (iblk m c 0 t) := by
  intro r k
  unfold argX
  rw [← V_main_arg0 m c]
  blk_ext [iblk, (index_at t).1]

theorem blk1_at (t : Fin cfg0.N) (k : Fin 4096) (j : Fin 256) :
    (iblk m c 1 t : Vec Ideal S1x4096x256 .f32) (ix3 0 k j) = argW m c (ix3 0 k (gcol (t.val / 8) (sweep_lt t) j)) := by
  unfold argW gcol
  rw [← V_main_arg1 m c]
  blk_ext [iblk, (index_at t).2.1]

theorem blk2_at (t : Fin cfg0.N) (k : Fin 4096) (j : Fin 256) :
    (iblk m c 2 t : Vec Ideal S1x4096x256 .f32) (ix3 0 k j) = argW m c (ix3 0 k (ucol (t.val / 8) (sweep_lt t) j)) := by
  unfold argW ucol
  rw [← V_main_arg1 m c]
  blk_ext [iblk, (index_at t).2.2.1]

theorem blk3_at (t : Fin cfg0.N) (d : Fin 3) (j : Fin 256) :
    (iblk m c 3 t : Vec Ideal S1x3x256 .f32) (ix3 0 d j) = argC m c (ix3 0 d (gcol (t.val / 8) (sweep_lt t) j)) := by
  unfold argC gcol
  rw [← V_main_arg2 m c]
  blk_ext [iblk, (index_at t).2.2.2.1]

theorem blk4_at (t : Fin cfg0.N) (d : Fin 3) (j : Fin 256) :
    (iblk m c 4 t : Vec Ideal S1x3x256 .f32) (ix3 0 d j) = argC m c (ix3 0 d (ucol (t.val / 8) (sweep_lt t) j)) := by
  unfold argC ucol
  rw [← V_main_arg2 m c]
  blk_ext [iblk, (index_at t).2.2.2.2.1]

theorem blk5_at (t : Fin cfg0.N) (j : Fin 256) :
    (iblk m c 5 t : Vec Ideal S1x1x256 .f32) (ix3 0 0 j) = argB m c (ix2 0 (gcol (t.val / 8) (sweep_lt t) j)) := by
  rw [← offsets_at m c]
  unfold gcol
  blk_ext [iblk, (index_at t).2.2.2.2.2.1]

theorem blk6_at (t : Fin cfg0.N) (j : Fin 256) :
    (iblk m c 6 t : Vec Ideal S1x1x256 .f32) (ix3 0 0 j) = argB m c (ix2 0 (ucol (t.val / 8) (sweep_lt t) j)) := by
  rw [← offsets_at m c]
  unfold ucol
  blk_ext [iblk, (index_at t).2.2.2.2.2.2.1]

/-! ## What a grid point writes and leaves -/

/-- What a point leaves for the next: both halves' weights, and both products' last rows. -/
structure Left (n : ℕ) (hb : n / 8 < 43) (o : Vec Ideal S1024x256 .bf16 × Vec Ideal S4096x256 .bf16 × Vec Ideal S4096x256 .bf16 × Vec Ideal S8x256 .f32 × Vec Ideal S8x256 .f32) : Prop where
  gw : IsCols (argW m c) (gcol (n / 8) hb) o.2.1
  uw : IsCols (argW m c) (ucol (n / 8) hb) o.2.2.1
  gt : IsTail (argX m c) (argW m c) (n % 8 + 1) (Nat.mod_lt _ (by decide)) (gcol (n / 8) hb) o.2.2.2.1
  ut : IsTail (argX m c) (argW m c) (n % 8 + 1) (Nat.mod_lt _ (by decide)) (ucol (n / 8) hb) o.2.2.2.2

/-- What a point writes: its block of the result. -/
def Wrote (t : Fin cfg0.N) (o : Vec Ideal S1024x256 .bf16) : Prop :=
  ∀ (r : Fin 1024) (j : Fin 256), o (ix2 r j) = spec (argX m c) (argW m c) (argC m c) (argB m c)
    ⟨1024 * (t.val % 8) + r.val, by have := block_lt t; omega⟩ ⟨256 * (t.val / 8) + j.val, by have := sweep_lt t; omega⟩

/-- The two halves' convolved blocks, gated, are the result's block. -/
theorem gated_block (t : Fin cfg0.N) {gw uw : Vec Ideal S4096x256 .bf16} {gt ut : Vec Ideal S8x256 .f32}
    (hgw : IsCols (argW m c) (gcol (t.val / 8) (sweep_lt t)) gw) (huw : IsCols (argW m c) (ucol (t.val / 8) (sweep_lt t)) uw)
    (hgt : IsTail (argX m c) (argW m c) (t.val % 8) (le_of_lt (block_lt t)) (gcol (t.val / 8) (sweep_lt t)) gt)
    (hut : IsTail (argX m c) (argW m c) (t.val % 8) (le_of_lt (block_lt t)) (ucol (t.val / 8) (sweep_lt t)) ut) :
    Wrote m c t (gated (conv (iblk m c 0 t) gw gt (iblk m c 3 t) (iblk m c 5 t)) (conv (iblk m c 0 t) uw ut (iblk m c 4 t) (iblk m c 6 t))) := by
  intro r j
  rw [gated_at, conv_block (blk0_at m c t) hgw hgt (blk3_at m c t) (blk5_at m c t),
    conv_block (blk0_at m c t) huw hut (blk4_at m c t) (blk6_at m c t)]
  unfold spec
  refine congrArg₂ (· * ·) rfl (congrArg _ (Fin.ext ?_))
  show 256 * (t.val / 8 + 43) + j.val = 11008 + (256 * (t.val / 8) + j.val)
  omega

/-- A sweep's first point. -/
theorem at_first (t : Fin cfg0.N) (h0 : t.val % 8 = 0) :
    Wrote m c t (outsAt0 m c t.val t.isLt).1 ∧ Left m c t.val (sweep_lt t) (outsAt0 m c t.val t.isLt) := by
  have hg : IsCols (argW m c) (gcol (t.val / 8) (sweep_lt t)) (k0_pay3 (iblk m c 1 t)) := fun k j => by rw [pay3_at, blk1_at m c t k j]
  have hu : IsCols (argW m c) (ucol (t.val / 8) (sweep_lt t)) (k0_pay3 (iblk m c 2 t)) := fun k j => by rw [pay3_at, blk2_at m c t k j]
  rw [outsAt0_A m c t h0]
  refine ⟨?_, ⟨?_, ?_, ?_, ?_⟩⟩ <;> dsimp only
  · rw [outA]
    exact gated_block m c t hg hu (tail_first (hi := block_lt t) (cl := gcol (t.val / 8) (sweep_lt t)) h0) (tail_first (hi := block_lt t) (cl := ucol (t.val / 8) (sweep_lt t)) h0)
  · rw [keepA0]
    exact hg
  · rw [keepA1]
    exact hu
  · rw [tailA2]
    exact tail_next (blk0_at m c t) hg
  · rw [tailA3]
    exact tail_next (blk0_at m c t) hu

/-- A sweep's later points, from what the point before left. -/
theorem at_later (n : ℕ) (hn : n + 1 < cfg0.N) (h0 : ¬(n + 1) % 8 = 0)
    (ih : Left m c n (sweep_lt ⟨n, Nat.lt_of_succ_lt hn⟩) (outsAt0 m c n (Nat.lt_of_succ_lt hn))) :
    Wrote m c ⟨n + 1, hn⟩ (outsAt0 m c (n + 1) hn).1 ∧ Left m c (n + 1) (sweep_lt ⟨n + 1, hn⟩) (outsAt0 m c (n + 1) hn) := by
  obtain ⟨gw, uw, gt, ut⟩ := ih
  have hd : n / 8 = (n + 1) / 8 := by omega
  have hm : n % 8 + 1 = (n + 1) % 8 := by omega
  have hg : gcol (n / 8) (sweep_lt ⟨n, Nat.lt_of_succ_lt hn⟩) = gcol ((n + 1) / 8) (sweep_lt ⟨n + 1, hn⟩) :=
    funext fun j => Fin.ext (by show 256 * (n / 8) + j.val = 256 * ((n + 1) / 8) + j.val; omega)
  have hu : ucol (n / 8) (sweep_lt ⟨n, Nat.lt_of_succ_lt hn⟩) = ucol ((n + 1) / 8) (sweep_lt ⟨n + 1, hn⟩) :=
    funext fun j => Fin.ext (by show 256 * (n / 8 + 43) + j.val = 256 * ((n + 1) / 8 + 43) + j.val; omega)
  rw [hg] at gw
  rw [hu] at uw
  replace gt := gt.of_eq hm hg (hi' := le_of_lt (block_lt ⟨n + 1, hn⟩))
  replace ut := ut.of_eq hm hu (hi' := le_of_lt (block_lt ⟨n + 1, hn⟩))
  rw [outsAt0_B m c ⟨n + 1, hn⟩ h0]
  refine ⟨?_, ⟨?_, ?_, ?_, ?_⟩⟩ <;> dsimp only
  · rw [outB]
    exact gated_block m c ⟨n + 1, hn⟩ gw uw gt ut
  · exact gw
  · exact uw
  · rw [tailB2]
    exact tail_next (blk0_at m c ⟨n + 1, hn⟩) gw
  · rw [tailB3]
    exact tail_next (blk0_at m c ⟨n + 1, hn⟩) uw

/-- Every point writes its block of the result. -/
theorem at_point (n : ℕ) : ∀ hn : n < cfg0.N,
    Wrote m c ⟨n, hn⟩ (outsAt0 m c n hn).1 ∧ Left m c n (sweep_lt ⟨n, hn⟩) (outsAt0 m c n hn) := by
  induction n with
  | zero => exact fun hn => at_first m c ⟨0, hn⟩ rfl
  | succ n ih =>
    intro hn
    by_cases h0 : (n + 1) % 8 = 0
    · exact at_first m c ⟨n + 1, hn⟩ h0
    · exact at_later m c n hn h0 (ih (Nat.lt_of_succ_lt hn)).2

/-! ## The array -/

/-- The result as the array's contents. -/
def out : Buf (Elt Ideal) ((c : Thread nD τ).loc main_v1) :=
  fun i : S8192x11008.Idx => spec (argX m c) (argW m c) (argC m c) (argB m c) (i 0) (i 1)

/-- What a grid point writes back is its block of the result. -/
theorem flushed_eq (t : Fin cfg0.N) : (dats m 0 c).flushed 7 t = ((cfg0.win 7).blk t).view.read (Elt Ideal) (out m c) := by
  have e := (index_at t).2.2.2.2.2.2.2.1
  have hw := (at_point m c t.val t.isLt).1
  show (cfg0.win 7).cut (grid0.coords t) ((dats m 0 c).after 7 t) = _
  rw [after0_7]
  generalize (outsAt0 m c t.val t.isLt).1 = o at hw
  funext y
  have hy0 : (y 0).val < 1024 := (y 0).isLt
  have hy1 : (y 1).val < 256 := (y 1).isLt
  have hb0 : (((cfg0.win 7).blk t).view.emb y 0).val = win0_7.index t (0 : Fin 2) * 1024 + 1 * (y 0).val := rfl
  have hb1 : (((cfg0.win 7).blk t).view.emb y 1).val = win0_7.index t (1 : Fin 2) * 256 + 1 * (y 1).val := rfl
  have e0 : win0_7.index t (0 : Fin 2) = t.val % 8 := congrFun e 0
  have e1 : win0_7.index t (1 : Fin 2) = t.val / 8 := congrFun e 1
  refine Eq.trans (congrArg o (funext fun a => ?_)) ((hw ⟨(y 0).val, hy0⟩ ⟨(y 1).val, hy1⟩).trans
    (congrArg₂ (spec (argX m c) (argW m c) (argC m c) (argB m c)) (Fin.ext ?_) (Fin.ext ?_)))
  · fin_cases a <;> rfl
  · refine Eq.trans ?_ hb0.symm
    show 1024 * (t.val % 8) + (y 0).val = _
    omega
  · refine Eq.trans ?_ hb1.symm
    show 256 * (t.val / 8) + (y 1).val = _
    omega

/-- Every index of the array is in some grid point's block. -/
theorem covered (i : S8192x11008.Idx) : ∃ t : Fin cfg0.N, (cfg0.win 7).flush t = true ∧ i ∈ ((cfg0.win 7).blk t).view.set := by
  have b0 : (i 0).val < 8192 := (i 0).isLt
  have b1 : (i 1).val < 11008 := (i 1).isLt
  have ht : 8 * ((i 1).val / 256) + (i 0).val / 1024 < cfg0.N := by show _ < 344; omega
  refine ⟨⟨8 * ((i 1).val / 256) + (i 0).val / 1024, ht⟩, (index_at _).2.2.2.2.2.2.2.2, ?_⟩
  show i ∈ ((View.whole main_v1).slice (win0_7.rect ⟨8 * ((i 1).val / 256) + (i 0).val / 1024, ht⟩)).set
  rw [View.set_slice_whole, Rect.mem_set_unit]
  have e := (index_at ⟨8 * ((i 1).val / 256) + (i 0).val / 1024, ht⟩).2.2.2.2.2.2.2.1
  have e0 : win0_7.index ⟨8 * ((i 1).val / 256) + (i 0).val / 1024, ht⟩ (0 : Fin 2) = (8 * ((i 1).val / 256) + (i 0).val / 1024) % 8 := congrFun e 0
  have e1 : win0_7.index ⟨8 * ((i 1).val / 256) + (i 0).val / 1024, ht⟩ (1 : Fin 2) = (8 * ((i 1).val / 256) + (i 0).val / 1024) / 8 := congrFun e 1
  intro a
  match a with
  | ⟨0, _⟩ =>
    show win0_7.index _ (0 : Fin 2) * 1024 ≤ (i 0).val ∧ (i 0).val < win0_7.index _ (0 : Fin 2) * 1024 + 1024
    omega
  | ⟨1, _⟩ =>
    show win0_7.index _ (1 : Fin 2) * 256 ≤ (i 1).val ∧ (i 1).val < win0_7.index _ (1 : Fin 2) * 256 + 256
    omega

/-- The array that the kernel leaves is the result. -/
theorem array_eq : (dats m 0 c).arrAt 7 cfg0.N = out m c :=
  (dats m 0 c).arrAt_eq_of_cover 7 _ (fun t _ => flushed_eq m c t) covered

/-- The kernel's run leaves the result and keeps its arguments. -/
theorem run (ρ : Dev nD → PrngReg) : θ_run defs (onTc (τ := τ) (main (F := Ideal))) ⟨m, fun _ => 0, ρ⟩ fun r => ∀ c : Dev nD,
    r.2.mem ((c : Thread nD τ).loc main_v1) = out m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  have kept (w : Fin cfg0.W) (hw) (c) : (dats m 0 c).arrAt w cfg0.N = V m c (Pipeline.arrRef spec0 w) :=
    ((dats m 0 c).arrAt_in w hw _).trans (A_eq m c w)
  refine (θ_run defs _ _).mono (fun r h c => ⟨((h c).1 7).trans (array_eq m c), ?_, ?_, ?_, ?_⟩) (run_main m ρ)
  · exact ((h c).1 0).trans ((kept 0 rfl c).trans (V_main_arg0 m c))
  · exact ((h c).1 1).trans ((kept 1 rfl c).trans (V_main_arg1 m c))
  · exact ((h c).1 3).trans ((kept 3 rfl c).trans (V_main_arg2 m c))
  · exact ((h c).2 main_arg3 (Pipeline.mem_restRefs_of main_arg3 (by decide) (by decide))).trans (V_main_arg3 m c)

end Cert.UpConvIdeal.Gate

namespace Cert.UpConvReferenceIdeal.Gate

open Idealize.ShloMosaic Idealize.ShloMosaic.TcCoe Idealize.SL.Sem
open Cert.UpConvReferenceIdeal Cert.UpConvReferenceIdeal.Gen
open Cert.UpConvIdeal.Gate (prod back mix spec argX argW argC argB)

section
variable {F : FTy → Type} [FloatOps F]
variable (x : FVec F S8192x4096 .bf16) (w : FVec F S4x4096x22016 .f32) (cw : FVec F S4x3x22016 .f32) (cb : FVec F S4x22016 .f32)

/-- The reference's product. -/
def product : FVec F S8192x22016 .f32 :=
  Host.dotGeneral dot_S8192x4096_S4096x22016_S8192x22016_1_0_0_1_n_n none (extf .f32 x bitsLt_bf16_f32)
    (shapeCast _ (extractStridedSlice S1x4096x22016 ![0, 0, 0] w slices_S4x4096x22016_S1x4096x22016_0_0_0) shapeCasts_S1x4096x22016_S4096x22016)

/-- The product behind two rows of zeros. -/
def padded (u : FVec F S8192x22016 .f32) : FVec F S8194x22016 .f32 :=
  pad S8194x22016 ![2, 0] ![0, 0] ![0, 0] u (sitofp .f32 (constantI S_ 32 0#32)) pads_S8192x22016_S8194x22016_200_000 h_S_

/-- One row over all rows. -/
def spread (v : FVec F S22016 .f32) : FVec F S8192x22016 .f32 :=
  broadcastInDim S8192x22016 ![0, 1] bcast_S1x22016_S8192x22016_0_1 (broadcastInDim S1x22016 ![1] bcast_S22016_S1x22016_1 v)

/-- The reference's convolution. -/
def convolved (u : FVec F S8192x22016 .f32) : FVec F S8192x22016 .f32 :=
  addf (addf (addf
    (spread (shapeCast _ (extractStridedSlice S1x22016 ![0, 0] cb slices_S4x22016_S1x22016_0_0) shapeCasts_S1x22016_S22016))
    (mulf (spread (shapeCast _ (extractStridedSlice S1x1x22016 ![0, 0, 0] cw slices_S4x3x22016_S1x1x22016_0_0_0) shapeCasts_S1x1x22016_S22016))
      (extractStridedSlice S8192x22016 ![0, 0] (padded u) slices_S8194x22016_S8192x22016_0_0)))
    (mulf (spread (shapeCast _ (extractStridedSlice S1x1x22016 ![0, 1, 0] cw slices_S4x3x22016_S1x1x22016_0_1_0) shapeCasts_S1x1x22016_S22016))
      (extractStridedSlice S8192x22016 ![1, 0] (padded u) slices_S8194x22016_S8192x22016_1_0)))
    (mulf (spread (shapeCast _ (extractStridedSlice S1x1x22016 ![0, 2, 0] cw slices_S4x3x22016_S1x1x22016_0_2_0) shapeCasts_S1x1x22016_S22016))
      (extractStridedSlice S8192x22016 ![2, 0] (padded u) slices_S8194x22016_S8192x22016_2_0))

/-- The reference's gate. -/
def result (y : FVec F S8192x22016 .f32) : FVec F S8192x11008 .bf16 :=
  truncf .bf16 (mulf (mulf (extractStridedSlice S8192x11008 ![0, 0] y slices_S8192x22016_S8192x11008_0_0)
    (Host.divf (broadcastInDim S8192x11008 ![] bcast_S_S8192x11008 (constant S_ .f32 0x3F800000#32))
      (addf (broadcastInDim S8192x11008 ![] bcast_S_S8192x11008 (constant S_ .f32 0x3F800000#32))
        (Host.exp (Host.negf (extractStridedSlice S8192x11008 ![0, 0] y slices_S8192x22016_S8192x11008_0_0))))))
    (extractStridedSlice S8192x11008 ![0, 11008] y slices_S8192x22016_S8192x11008_0_11008)) bitsLt_bf16_f32
end

theorem product_at (x : FVec Ideal S8192x4096 .bf16) (w : FVec Ideal S4x4096x22016 .f32) (r : Fin 8192) (j : Fin 22016) :
    product x w (ix2 r j) = prod x w r j := by
  unfold product prod
  pointwise

theorem spread_at (v : FVec Ideal S22016 .f32) (r : Fin 8192) (j : Fin 22016) : spread v (ix2 r j) = v (ix1 j) := by
  unfold spread
  pointwise

theorem padded_at (u : FVec Ideal S8192x22016 .f32) (q : Fin 8194) (j : Fin 22016) :
    padded u (ix2 q j) = if h : 2 ≤ q.val then u (ix2 ⟨q.val - 2, by omega⟩ j) else 0 := by
  unfold padded
  pointwise
  have hq := q.isLt
  by_cases h : 2 ≤ q.val
  · rw [dif_pos ⟨h, by omega⟩, dif_pos h]
  · rw [dif_neg (fun h' => h h'.1), dif_neg h]
    show (((0#32 : BitVec 32).toInt : ℝ) : EReal) = 0
    simp

theorem convolved_at (x : FVec Ideal S8192x4096 .bf16) (w : FVec Ideal S4x4096x22016 .f32) (cw : FVec Ideal S4x3x22016 .f32)
    (cb : FVec Ideal S4x22016 .f32) (r : Fin 8192) (j : Fin 22016) :
    convolved cw cb (product x w) (ix2 r j) = mix x w cw cb r j := by
  unfold convolved mix
  have h0 : padded (product x w) (ix2 ⟨r.val, by omega⟩ j) = back x w 2 r j := by
    rw [padded_at]
    unfold back
    simp only [product_at]
  have h1 : padded (product x w) (ix2 ⟨r.val + 1, by omega⟩ j) = back x w 1 r j := by
    rw [padded_at]
    unfold back
    by_cases h : r.val = 0
    · rw [dif_neg (by show ¬ 2 ≤ r.val + 1; omega), dif_neg (by omega)]
    · rw [dif_pos (by show 2 ≤ r.val + 1; omega), dif_pos (by omega), product_at]
      exact congrArg (fun q => prod x w q j) (Fin.ext (by show r.val + 1 - 2 = r.val - 1; omega))
  have h2 : padded (product x w) (ix2 ⟨r.val + 2, by omega⟩ j) = prod x w r j := by
    rw [padded_at, dif_pos (by show 2 ≤ r.val + 2; omega), product_at]
    exact congrArg (fun q => prod x w q j) (Fin.ext (by show r.val + 2 - 2 = r.val; omega))
  rw [← h0, ← h1, ← h2]
  generalize padded (product x w) = u
  pointwise [spread_at]
  simp only [Nat.add_comm]

theorem result_at (y : FVec Ideal S8192x22016 .f32) (r : Fin 8192) (j : Fin 11008) :
    result y (ix2 r j) = y (ix2 r ⟨j.val, by omega⟩) * Ideal.logistic (y (ix2 r ⟨j.val, by omega⟩)) * y (ix2 r ⟨11008 + j.val, by omega⟩) := by
  unfold result Ideal.logistic
  pointwise

theorem whole_at (x : FVec Ideal S8192x4096 .bf16) (w : FVec Ideal S4x4096x22016 .f32) (cw : FVec Ideal S4x3x22016 .f32)
    (cb : FVec Ideal S4x22016 .f32) (i : S8192x11008.Idx) :
    result (convolved cw cb (product x w)) i = spec x w cw cb (i 0) (i 1) := by
  have at_ix (r : Fin 8192) (j : Fin 11008) : result (convolved cw cb (product x w)) (ix2 r j) = spec x w cw cb r j := by
    rw [result_at, convolved_at, convolved_at]
    rfl
  have e : i = (ix2 (i 0) (i 1) : S8192x11008.Idx) := funext fun a => by fin_cases a <;> rfl
  exact (congrArg (result (convolved cw cb (product x w))) e).trans (at_ix (i 0) (i 1))

/-- The reference's term, its parts named. -/
theorem term_eq (m : (ℓ : Loc nD τ sig) → Buf (Elt Ideal) ℓ) (c : Dev nD) :
    (Value.res_main_v34 (F := Ideal) m c : FVec Ideal S8192x11008 .bf16)
      = result (F := Ideal) (convolved (F := Ideal) (m ((c.tc : Thread nD τ).loc main_arg2)) (m ((c.tc : Thread nD τ).loc main_arg3)) (product (F := Ideal) (m ((c.tc : Thread nD τ).loc main_arg0)) (m ((c.tc : Thread nD τ).loc main_arg1)))) := rfl

/-- The reference's run keeps its arguments, and it declares no counter. -/
theorem frame : Cert.quiescent_UpConvReferenceIdeal := fun m g _ =>
  (θ_run defs _ _).mono (fun _ h => ⟨fun c => (h c).2, sem_eq_zero_of_no_sems rfl _⟩) (Value.run (F := Ideal) m g)

/-- The kernel's blocks and the reference's one convolution leave the same array. -/
theorem algebraic : Cert.algebraic_UpConvIdeal_UpConvReferenceIdeal := by
  intro m g m' g' _ hagree
  refine ⟨fun c => Cert.UpConvIdeal.Gate.out m c, Cert.UpConvIdeal.Gate.run m g, ?_⟩
  refine (θ_run defs _ _).mono (fun _ h c => ⟨(h c).1.trans ?_, (h c).2⟩) (Value.run (F := Ideal) m' g')
  obtain ⟨h0, h1, h2, h3⟩ := hagree c
  refine (term_eq m' c).trans ?_
  funext i
  rw [h0, h1, h2, h3]
  exact whole_at (argX m c) (argW m c) (argC m c) (argB m c) i

end Cert.UpConvReferenceIdeal.Gate

end
-- ==== Proof.DownProduct.lean ====
/-
  The down projection: each grid point multiplies 512 rows by 256 weight columns and adds the residual's block; the
  blocks tile the array, which is the reference's one product with the residual added.
-/
module

public import proofs.«01_k».proof.Proof.Gen.DownProjIdeal.Value
public import proofs.«01_k».proof.Proof.Gen.DownProjReferenceIdeal.Run
public import Idealize.ShloMosaic.Lib.Pipeline.ValueKit
public import proofs.«01_k».proof.Defs
public import proofs.«01_k».proof.Proof.Gen.DownProjReferenceIdeal
public import Idealize.ShloMosaic.Lib.Pipeline.ReadBack
public import Idealize.ShloMosaic.Lib.Quiescent

@[expose] public section

set_option maxRecDepth 16384

noncomputable section

namespace Cert.DownProjIdeal.Product

open Idealize.ShloMosaic Idealize.ShloMosaic.TcCoe Idealize.SL.Sem
open Idealize.ShloMosaic.StableHlo
open Cert.DownProjIdeal Cert.DownProjIdeal.Gen

theorem out_eq {F : FTy → Type} [FloatOps F] (x0 : Vec F S512x11008 .bf16) (x1 : Vec F S11008x256 .bf16) (x2 : Vec F S512x256 .f32) :
    out0_3 x0 x1 x2 = k0_pay1 x2 x0 x1 := by
  frame_open
  frame_out

variable (m : (ℓ : Loc nD τ sig) → Buf (Elt Ideal) ℓ) (c : Dev nD)

/-- The rows, the stacked weights and the residual. -/
def argX : FVec Ideal S8192x11008 .bf16 := m (c, main_arg0)
@[inherit_doc argX]
def argW : FVec Ideal S4x11008x4096 .f32 := m (c, main_arg1)
@[inherit_doc argX]
def argR : FVec Ideal S8192x4096 .f32 := m (c, main_arg2)

/-- The result at a row and a column, over the operands. -/
def spec (x : FVec Ideal S8192x11008 .bf16) (w : FVec Ideal S4x11008x4096 .f32) (h : FVec Ideal S8192x4096 .f32) (r : Fin 8192) (j : Fin 4096) : EReal :=
  h (ix2 r j) + ∑ k : Fin 11008, x (ix2 r k) * w (ix3 0 k j)

/-- Which block of each operand a grid point takes. -/
theorem index_at (t : Fin grid0.N) :
    win0_0.index t = ![t.val / 16, 0] ∧ win0_1.index t = ![0, t.val % 16] ∧ win0_2.index t = ![t.val / 16, t.val % 16]
    ∧ win0_3.index t = ![t.val / 16, t.val % 16] ∧ win0_3.flush t = true :=
  (by decide +kernel : ∀ t : Fin grid0.N,
    win0_0.index t = ![t.val / 16, 0] ∧ win0_1.index t = ![0, t.val % 16] ∧ win0_2.index t = ![t.val / 16, t.val % 16]
    ∧ win0_3.index t = ![t.val / 16, t.val % 16] ∧ win0_3.flush t = true) t

/-- The weights that the kernel takes are the stack's first, rounded. -/
theorem weights_at (k : Fin 11008) (j : Fin 4096) : (V m c main_v2 : FVec Ideal S11008x4096 .bf16) (ix2 k j) = argW m c (ix3 0 k j) := by
  have e : (V m c main_v2 : FVec Ideal S11008x4096 .bf16)
      = truncf .bf16 (shapeCast _ (extractStridedSlice S1x11008x4096 ![0, 0, 0] (argW m c) slices_S4x11008x4096_S1x11008x4096_0_0_0)
          shapeCasts_S1x11008x4096_S11008x4096) bitsLt_bf16_f32 := by
    after_reads_simp
    rfl
  rw [e]
  pointwise

theorem blk0_at (t : Fin cfg0.N) (r : Fin 512) (k : Fin 11008) (hr : 512 * (t.val / 16) + r.val < 8192) :
    (iblk m c 0 t : Vec Ideal S512x11008 .bf16) (ix2 r k) = argX m c (ix2 ⟨512 * (t.val / 16) + r.val, hr⟩ k) := by
  unfold argX
  rw [← V_main_arg0 m c]
  blk_ext [iblk, (index_at t).1]

theorem blk1_at (t : Fin cfg0.N) (k : Fin 11008) (j : Fin 256) (hj : 256 * (t.val % 16) + j.val < 4096) :
    (iblk m c 1 t : Vec Ideal S11008x256 .bf16) (ix2 k j) = argW m c (ix3 0 k ⟨256 * (t.val % 16) + j.val, hj⟩) := by
  rw [← weights_at m c]
  blk_ext [iblk, (index_at t).2.1]

theorem blk2_at (t : Fin cfg0.N) (r : Fin 512) (j : Fin 256) (hr : 512 * (t.val / 16) + r.val < 8192)
    (hj : 256 * (t.val % 16) + j.val < 4096) : (iblk m c 2 t : Vec Ideal S512x256 .f32) (ix2 r j)
      = argR m c (ix2 ⟨512 * (t.val / 16) + r.val, hr⟩ ⟨256 * (t.val % 16) + j.val, hj⟩) := by
  unfold argR
  rw [← V_main_arg2 m c]
  blk_ext [iblk, (index_at t).2.2.1]

theorem pay1_at (h : Vec Ideal S512x256 .f32) (x : Vec Ideal S512x11008 .bf16) (w : Vec Ideal S11008x256 .bf16) (r : Fin 512) (j : Fin 256) :
    k0_pay1 h x w (ix2 r j) = h (ix2 r j) + ∑ k : Fin 11008, x (ix2 r k) * w (ix2 k j) := by
  unfold k0_pay1
  pointwise

/-- The rows that a grid point writes are the result's. -/
theorem rows_out (t : Fin cfg0.N) (r : Fin 512) (j : Fin 256) (hr : 512 * (t.val / 16) + r.val < 8192)
    (hj : 256 * (t.val % 16) + j.val < 4096) :
    k0_pay1 (iblk m c 2 t) (iblk m c 0 t) (iblk m c 1 t) (ix2 r j)
      = spec (argX m c) (argW m c) (argR m c) ⟨512 * (t.val / 16) + r.val, hr⟩ ⟨256 * (t.val % 16) + j.val, hj⟩ := by
  rw [pay1_at, blk2_at m c t r j hr hj]
  unfold spec
  refine congrArg _ (Finset.sum_congr rfl fun k _ => ?_)
  rw [blk0_at m c t r k hr, blk1_at m c t k j hj]

/-- The result as the array's contents. -/
def out : Buf (Elt Ideal) ((c : Thread nD τ).loc main_v3) :=
  fun i : S8192x4096.Idx => spec (argX m c) (argW m c) (argR m c) (i 0) (i 1)

/-- What a grid point writes back is its block of the result. -/
theorem flushed_eq (t : Fin cfg0.N) : (dats m 0 c).flushed 3 t = ((cfg0.win 3).blk t).view.read (Elt Ideal) (out m c) := by
  rw [Value.flushed3, out_eq]
  have ht : t.val < 256 := t.isLt
  have e := (index_at t).2.2.2.1
  funext y
  have hy0 : (y 0).val < 512 := (y 0).isLt
  have hy1 : (y 1).val < 256 := (y 1).isLt
  have hb0 : (((cfg0.win 3).blk t).view.emb y 0).val = win0_3.index t (0 : Fin 2) * 512 + 1 * (y 0).val := rfl
  have hb1 : (((cfg0.win 3).blk t).view.emb y 1).val = win0_3.index t (1 : Fin 2) * 256 + 1 * (y 1).val := rfl
  have e0 : win0_3.index t (0 : Fin 2) = t.val / 16 := congrFun e 0
  have e1 : win0_3.index t (1 : Fin 2) = t.val % 16 := congrFun e 1
  have key := rows_out m c t ⟨(y 0).val, hy0⟩ ⟨(y 1).val, hy1⟩ (by show 512 * (t.val / 16) + (y 0).val < 8192; omega)
    (by show 256 * (t.val % 16) + (y 1).val < 4096; omega)
  refine Eq.trans (congrArg (k0_pay1 (iblk m c 2 t) (iblk m c 0 t) (iblk m c 1 t)) (funext fun a => ?_)) (key.trans
    (congrArg₂ (spec (argX m c) (argW m c) (argR m c)) (Fin.ext ?_) (Fin.ext ?_)))
  · fin_cases a <;> rfl
  · refine Eq.trans ?_ hb0.symm
    show 512 * (t.val / 16) + (y 0).val = _
    omega
  · refine Eq.trans ?_ hb1.symm
    show 256 * (t.val % 16) + (y 1).val = _
    omega

/-- Every index of the array is in some grid point's block. -/
theorem covered (i : S8192x4096.Idx) : ∃ t : Fin cfg0.N, (cfg0.win 3).flush t = true ∧ i ∈ ((cfg0.win 3).blk t).view.set := by
  have b0 : (i 0).val < 8192 := (i 0).isLt
  have b1 : (i 1).val < 4096 := (i 1).isLt
  have ht : 16 * ((i 0).val / 512) + (i 1).val / 256 < cfg0.N := by show _ < 256; omega
  refine ⟨⟨16 * ((i 0).val / 512) + (i 1).val / 256, ht⟩, (index_at _).2.2.2.2, ?_⟩
  show i ∈ ((View.whole main_v3).slice (win0_3.rect ⟨16 * ((i 0).val / 512) + (i 1).val / 256, ht⟩)).set
  rw [View.set_slice_whole, Rect.mem_set_unit]
  have e := (index_at ⟨16 * ((i 0).val / 512) + (i 1).val / 256, ht⟩).2.2.2.1
  have e0 : win0_3.index ⟨16 * ((i 0).val / 512) + (i 1).val / 256, ht⟩ (0 : Fin 2) = (16 * ((i 0).val / 512) + (i 1).val / 256) / 16 := congrFun e 0
  have e1 : win0_3.index ⟨16 * ((i 0).val / 512) + (i 1).val / 256, ht⟩ (1 : Fin 2) = (16 * ((i 0).val / 512) + (i 1).val / 256) % 16 := congrFun e 1
  intro a
  match a with
  | ⟨0, _⟩ =>
    show win0_3.index _ (0 : Fin 2) * 512 ≤ (i 0).val ∧ (i 0).val < win0_3.index _ (0 : Fin 2) * 512 + 512
    omega
  | ⟨1, _⟩ =>
    show win0_3.index _ (1 : Fin 2) * 256 ≤ (i 1).val ∧ (i 1).val < win0_3.index _ (1 : Fin 2) * 256 + 256
    omega

/-- The array that the kernel leaves is the result. -/
theorem array_eq : (dats m 0 c).arrAt 3 cfg0.N = out m c :=
  (dats m 0 c).arrAt_eq_of_cover 3 _ (fun t _ => flushed_eq m c t) covered

end Cert.DownProjIdeal.Product

namespace Cert.DownProjReferenceIdeal.Product

open Idealize.ShloMosaic Idealize.ShloMosaic.TcCoe Idealize.SL.Sem
open Cert.DownProjReferenceIdeal Cert.DownProjReferenceIdeal.Gen
open Cert.DownProjIdeal.Product (spec argX argW argR)

/-- The reference's result is the product with the residual added. -/
theorem product_at (x : FVec Ideal S8192x11008 .bf16) (w : FVec Ideal S4x11008x4096 .f32) (h : FVec Ideal S8192x4096 .f32) (i : S8192x4096.Idx) :
    (addf h (Host.dotGeneral dot_S8192x11008_S11008x4096_S8192x4096_1_0_0_1_n_n none (extf .f32 x bitsLt_bf16_f32)
      (shapeCast _ (extractStridedSlice S1x11008x4096 ![0, 0, 0] w slices_S4x11008x4096_S1x11008x4096_0_0_0)
        shapeCasts_S1x11008x4096_S11008x4096)) : FVec Ideal S8192x4096 .f32) i
      = h i + ∑ k : Fin 11008, x (ix2 (i 0) k) * w (ix3 0 k (i 1)) := by
  pointwise

/-- The reference's run keeps its arguments, and it declares no counter. -/
theorem frame : Cert.quiescent_DownProjReferenceIdeal := fun m g _ =>
  (θ_run defs _ _).mono (fun _ h => ⟨fun c => (h c).2, sem_eq_zero_of_no_sems rfl _⟩) (Value.run (F := Ideal) m g)

/-- The kernel's blocks and the reference's one product leave the same array. -/
theorem algebraic : Cert.algebraic_DownProjIdeal_DownProjReferenceIdeal := by
  intro m g m' g' _ hagree
  refine ⟨fun c => Cert.DownProjIdeal.Product.out m c, (θ_run Cert.DownProjIdeal.defs _ _).mono
    (fun _ h c => ⟨(h c).1.trans (Cert.DownProjIdeal.Product.array_eq m c), (h c).2⟩)
    (Cert.DownProjIdeal.Value.run_blocks (F := Ideal) m g), ?_⟩
  refine (θ_run defs _ _).mono (fun _ h c => ⟨(h c).1.trans ?_, (h c).2⟩) (Value.run (F := Ideal) m' g')
  obtain ⟨h0, h1, h2⟩ := hagree c
  funext i
  rw [h0, h1, h2]
  refine (product_at (argX m c) (argW m c) (argR m c) i).trans ?_
  show _ = spec (argX m c) (argW m c) (argR m c) (i 0) (i 1)
  unfold spec
  exact congrArg₂ (· + ·) (congrArg (argR m c) (funext fun a => by fin_cases a <;> rfl)) rfl

end Cert.DownProjReferenceIdeal.Product

end
-- ==== Proof.QkvProduct.lean ====
/-
  The input projection's first 6144 columns: each grid point multiplies 512 rows by the 1024 weight columns that the
  first point of the column's sweep rounded and kept, and the array that the points leave is the reference's product.
-/
module

public import proofs.«01_k».proof.Proof.Gen.QkvProjIdeal.Value
public import proofs.«01_k».proof.Proof.Gen.QkvProjReferenceIdeal.Run
public import Idealize.ShloMosaic.Lib.Pipeline.ValueKit
public import proofs.«01_k».proof.Defs
public import proofs.«01_k».proof.Proof.Gen.QkvProjReferenceIdeal
public import Idealize.ShloMosaic.Lib.Pipeline.ReadBack
public import Idealize.ShloMosaic.Lib.Quiescent

@[expose] public section

set_option maxRecDepth 16384

noncomputable section

namespace Cert.QkvProjIdeal.Product

open Idealize.ShloMosaic Idealize.ShloMosaic.TcCoe Idealize.SL.Sem
open Cert.QkvProjIdeal Cert.QkvProjIdeal.Gen

section
variable {F : FTy → Type} [FloatOps F]

theorem keepA (c : Dev nD) (i : grid0.Coords) (arg2 : Memref sig .tc .vmem S512x4096 .bf16) (harg2 : arg2.IsWhole) (arg3 : Memref sig .tc .vmem S1x4096x1024 .f32) (harg3 : arg3.IsWhole) (arg4 : Memref sig .tc .vmem S512x1024 .bf16) (harg4 : arg4.IsWhole) (hc0 : cond0_0 i)
    (x0 : Vec F S512x4096 .bf16) (x1 : Vec F S1x4096x1024 .f32) :
    sout0_A_0 c i arg2 harg2 arg3 harg3 arg4 harg4 scM0_0 (Memref.isWhole_whole _) hc0 x0 x1 = k0_pay1 x1 := by
  frame_open
  simp (disch := decide) only [↓ View.readCov_skip, ↓ View.readCov_cons_toLoadRect, ↓ View.readCov_fill]
  frame_out
  try simp only [read_unread_whole]
  try rfl

theorem outA (c : Dev nD) (i : grid0.Coords) (arg2 : Memref sig .tc .vmem S512x4096 .bf16) (harg2 : arg2.IsWhole) (arg3 : Memref sig .tc .vmem S1x4096x1024 .f32) (harg3 : arg3.IsWhole) (arg4 : Memref sig .tc .vmem S512x1024 .bf16) (harg4 : arg4.IsWhole) (hc0 : cond0_0 i)
    (x0 : Vec F S512x4096 .bf16) (x1 : Vec F S1x4096x1024 .f32) :
    out0_A_2 c i arg2 harg2 arg3 harg3 arg4 harg4 scM0_0 (Memref.isWhole_whole _) hc0 x0 x1 = k0_pay2 x0 (k0_pay1 x1) := by
  frame_open
  simp (disch := decide) only [↓ View.readCov_skip, ↓ View.readCov_cons_toLoadRect, ↓ View.readCov_fill]
  frame_out
  try simp only [read_unread_whole]
  try rfl

theorem outB (c : Dev nD) (i : grid0.Coords) (arg2 : Memref sig .tc .vmem S512x4096 .bf16) (harg2 : arg2.IsWhole) (arg3 : Memref sig .tc .vmem S1x4096x1024 .f32) (harg3 : arg3.IsWhole) (arg4 : Memref sig .tc .vmem S512x1024 .bf16) (harg4 : arg4.IsWhole) (hc0 : ¬cond0_0 i)
    (x0 : Vec F S512x4096 .bf16) (x1 : Vec F S1x4096x1024 .f32) (xs : Vec F S4096x1024 .bf16) :
    out0_B_2 c i arg2 harg2 arg3 harg3 arg4 harg4 scM0_0 (Memref.isWhole_whole _) hc0 x0 x1 xs = k0_pay2 x0 xs := by
  frame_open
  simp (disch := decide) only [↓ View.readCov_skip, ↓ View.readCov_cons_toLoadRect, ↓ View.readCov_fill]
  frame_out
  try simp only [read_unread_whole]
  try rfl
end

variable (m : (ℓ : Loc nD τ sig) → Buf (Elt Ideal) ℓ) (c : Dev nD)

/-- The rows. -/
def argX : FVec Ideal S8192x4096 .bf16 := m (c, main_arg0)
/-- The stacked weights. -/
def argW : FVec Ideal S4x4096x14336 .f32 := m (c, main_arg1)

/-- Which block of each operand a grid point takes. -/
theorem index_at (t : Fin grid0.N) :
    win0_0.index t = ![t.val % 16, 0] ∧ win0_1.index t = ![0, 0, t.val / 16] :=
  (by decide +kernel : ∀ t : Fin grid0.N,
    win0_0.index t = ![t.val % 16, 0] ∧ win0_1.index t = ![0, 0, t.val / 16]) t

theorem blk0_at (t : Fin cfg0.N) (r : Fin 512) (k : Fin 4096) (hr : 512 * (t.val % 16) + r.val < 8192) :
    (iblk m c 0 t : Vec Ideal S512x4096 .bf16) (ix2 r k) = argX m c (ix2 ⟨512 * (t.val % 16) + r.val, hr⟩ k) := by
  unfold argX
  rw [← V_main_arg0 m c]
  blk_ext [iblk, (index_at t).1]

theorem blk1_at (t : Fin cfg0.N) (k : Fin 4096) (j : Fin 1024) (hj : 1024 * (t.val / 16) + j.val < 14336) :
    (iblk m c 1 t : Vec Ideal S1x4096x1024 .f32) (ix3 0 k j) = argW m c (ix3 0 k ⟨1024 * (t.val / 16) + j.val, hj⟩) := by
  unfold argW
  rw [← V_main_arg1 m c]
  blk_ext [iblk, (index_at t).2]

theorem pay1_at (x : Vec Ideal S1x4096x1024 .f32) (k : Fin 4096) (j : Fin 1024) : k0_pay1 x (ix2 k j) = x (ix3 0 k j) := by
  unfold k0_pay1
  pointwise

theorem pay2_at (x : Vec Ideal S512x4096 .bf16) (w : Vec Ideal S4096x1024 .bf16) (r : Fin 512) (j : Fin 1024) :
    k0_pay2 x w (ix2 r j) = ∑ k : Fin 4096, x (ix2 r k) * w (ix2 k j) := by
  unfold k0_pay2
  pointwise

/-- The weights that a grid point keeps are its columns'. -/
theorem kept_at (n : ℕ) : ∀ (hn : n < cfg0.N) (k : Fin 4096) (j : Fin 1024) (hj : 1024 * (n / 16) + j.val < 14336),
    (outsAt0 m c n hn).2 (ix2 k j) = argW m c (ix3 0 k ⟨1024 * (n / 16) + j.val, hj⟩) := by
  have first : ∀ (t : Fin cfg0.N) (h0 : t.val % 16 = 0) (k : Fin 4096) (j : Fin 1024) (hj : 1024 * (t.val / 16) + j.val < 14336),
      (outsAt0 m c t.val t.isLt).2 (ix2 k j) = argW m c (ix3 0 k ⟨1024 * (t.val / 16) + j.val, hj⟩) := by
    intro t h0 k j hj
    rw [outsAt0_A m c t h0]
    dsimp only
    rw [keepA, pay1_at, blk1_at m c t k j hj]
  induction n with
  | zero => exact fun hn => first ⟨0, hn⟩ rfl
  | succ n ih =>
    intro hn k j hj
    by_cases h0 : (n + 1) % 16 = 0
    · exact first ⟨n + 1, hn⟩ h0 k j hj
    · rw [outsAt0_B m c ⟨n + 1, hn⟩ h0]
      dsimp only
      have hd : (n + 1) / 16 = n / 16 := by omega
      have e := ih (by omega) k j (by omega)
      simp only [hd]
      exact e

/-- The rows that a grid point writes are the product's. -/
theorem rows_out (t : Fin cfg0.N) (r : Fin 512) (j : Fin 1024) (hr : 512 * (t.val % 16) + r.val < 8192)
    (hj : 1024 * (t.val / 16) + j.val < 14336) :
    (outsAt0 m c t.val t.isLt).1 (ix2 r j)
      = ∑ k : Fin 4096, argX m c (ix2 ⟨512 * (t.val % 16) + r.val, hr⟩ k) * argW m c (ix3 0 k ⟨1024 * (t.val / 16) + j.val, hj⟩) := by
  by_cases h0 : t.val % 16 = 0
  · rw [outsAt0_A m c t h0]
    dsimp only
    rw [outA, pay2_at]
    refine Finset.sum_congr rfl fun k _ => ?_
    rw [blk0_at m c t r k hr, pay1_at, blk1_at m c t k j hj]
  · rw [outsAt0_B m c t h0]
    dsimp only
    rw [outB, pay2_at]
    refine Finset.sum_congr rfl fun k _ => ?_
    have hd : (t.val - 1) / 16 = t.val / 16 := by omega
    rw [blk0_at m c t r k hr, kept_at m c (t.val - 1) _ k j (by omega)]
    simp only [hd]

/-- The array that the kernel leaves is the product. -/
theorem array_eq (i : S8192x6144.Idx) :
    (Value.G2 m c : FVec Ideal S8192x6144 .bf16) i
      = ∑ k : Fin 4096, argX m c (ix2 (i 0) k) * argW m c (ix3 0 k ⟨(i 1).val, Nat.lt_trans (i 1).isLt (by decide)⟩) := by
  have b0 : (i 0).val < 8192 := (i 0).isLt
  have b1 : (i 1).val < 6144 := (i 1).isLt
  have hp : Value.pt2Of i = (i 0).val / 512 + 16 * ((i 1).val / 1024) := by unfold Value.pt2Of Value.run2Of; omega
  have ht : Value.pt2Of i < cfg0.N := by
    rw [hp]; show _ < 96; omega
  have hr : 512 * (Value.pt2Of i % 16) + (i 0).val % 512 = (i 0).val := by omega
  have hj : 1024 * (Value.pt2Of i / 16) + (i 1).val % 1024 = (i 1).val := by omega
  have e := rows_out m c ⟨Value.pt2Of i, ht⟩ ⟨(i 0).val % 512, by omega⟩ ⟨(i 1).val % 1024, by omega⟩
    (lt_of_eq_of_lt hr b0) (lt_of_eq_of_lt hj (by omega))
  refine Eq.trans ?_ (e.trans (Finset.sum_congr rfl fun k _ => congrArg₂ (· * ·)
    (congrArg (fun r => argX m c (ix2 r k)) (Fin.ext hr)) (congrArg (fun j => argW m c (ix3 0 k j)) (Fin.ext hj))))
  rw [Value.outsAt0_sweep m c (Value.pt2Of i) ht]
  unfold Value.G2
  rw [dif_pos ht]
  refine congrArg _ (funext fun a => Fin.ext ?_)
  fin_cases a <;> rfl

end Cert.QkvProjIdeal.Product

namespace Cert.QkvProjReferenceIdeal.Product

open Idealize.ShloMosaic Idealize.ShloMosaic.TcCoe Idealize.SL.Sem
open Cert.QkvProjReferenceIdeal Cert.QkvProjReferenceIdeal.Gen

/-- The reference's result is the product. -/
theorem product_at (x : FVec Ideal S8192x4096 .bf16) (w : FVec Ideal S4x4096x14336 .f32) (i : S8192x6144.Idx) :
    (truncf .bf16 (extractStridedSlice S8192x6144 ![0, 0] (Host.dotGeneral dot_S8192x4096_S4096x14336_S8192x14336_1_0_0_1_n_n none
      (extf .f32 x bitsLt_bf16_f32) (shapeCast _ (extractStridedSlice S1x4096x14336 ![0, 0, 0] w
        slices_S4x4096x14336_S1x4096x14336_0_0_0) shapeCasts_S1x4096x14336_S4096x14336)) slices_S8192x14336_S8192x6144_0_0)
      bitsLt_bf16_f32 : FVec Ideal S8192x6144 .bf16) i
      = ∑ k : Fin 4096, x (ix2 (i 0) k) * w (ix3 0 k ⟨(i 1).val, Nat.lt_trans (i 1).isLt (by decide)⟩) := by
  pointwise

/-- The reference's run keeps its arguments, and it declares no counter. -/
theorem frame : Cert.quiescent_QkvProjReferenceIdeal := fun m g _ =>
  (θ_run defs _ _).mono (fun _ h => ⟨fun c => (h c).2, sem_eq_zero_of_no_sems rfl _⟩) (Value.run (F := Ideal) m g)

/-- The kernel's blocks and the reference's one product leave the same array. -/
theorem algebraic : Cert.algebraic_QkvProjIdeal_QkvProjReferenceIdeal := by
  intro m g m' g' _ hagree
  refine ⟨fun c => Cert.QkvProjIdeal.Value.G2 (F := Ideal) m c, Cert.QkvProjIdeal.Value.run (F := Ideal) m g, ?_⟩
  refine (θ_run defs _ _).mono (fun _ h c => ⟨(h c).1.trans ?_, (h c).2⟩) (Value.run (F := Ideal) m' g')
  obtain ⟨h0, h1⟩ := hagree c
  funext i
  rw [h0, h1]
  exact (product_at (Cert.QkvProjIdeal.Product.argX m c) (Cert.QkvProjIdeal.Product.argW m c) i).trans
    (Cert.QkvProjIdeal.Product.array_eq m c i).symm

end Cert.QkvProjReferenceIdeal.Product

end
-- ==== Proof.HgProduct.lean ====
/-
  The input projection's last 8192 columns: each grid point multiplies 512 rows by the 1024 weight columns that the
  first point of the column's sweep rounded and kept, and the array that the points leave is the reference's product.
-/
module

public import proofs.«01_k».proof.Proof.Gen.HgProjIdeal.Value
public import proofs.«01_k».proof.Proof.Gen.HgProjReferenceIdeal.Run
public import Idealize.ShloMosaic.Lib.Pipeline.ValueKit
public import proofs.«01_k».proof.Defs
public import proofs.«01_k».proof.Proof.Gen.HgProjReferenceIdeal
public import Idealize.ShloMosaic.Lib.Pipeline.ReadBack
public import Idealize.ShloMosaic.Lib.Quiescent

@[expose] public section

set_option maxRecDepth 16384

noncomputable section

namespace Cert.HgProjIdeal.Product

open Idealize.ShloMosaic Idealize.ShloMosaic.TcCoe Idealize.SL.Sem
open Cert.HgProjIdeal Cert.HgProjIdeal.Gen

section
variable {F : FTy → Type} [FloatOps F]

theorem keepA (c : Dev nD) (i : grid0.Coords) (arg2 : Memref sig .tc .vmem S512x4096 .bf16) (harg2 : arg2.IsWhole) (arg3 : Memref sig .tc .vmem S1x4096x1024 .f32) (harg3 : arg3.IsWhole) (arg4 : Memref sig .tc .vmem S512x1024 .f32) (harg4 : arg4.IsWhole) (hc0 : cond0_0 i)
    (x0 : Vec F S512x4096 .bf16) (x1 : Vec F S1x4096x1024 .f32) :
    sout0_A_0 c i arg2 harg2 arg3 harg3 arg4 harg4 scM0_0 (Memref.isWhole_whole _) hc0 x0 x1 = k0_pay1 x1 := by
  frame_open
  simp (disch := decide) only [↓ View.readCov_skip, ↓ View.readCov_cons_toLoadRect, ↓ View.readCov_fill]
  frame_out
  try simp only [read_unread_whole]
  try rfl

theorem outA (c : Dev nD) (i : grid0.Coords) (arg2 : Memref sig .tc .vmem S512x4096 .bf16) (harg2 : arg2.IsWhole) (arg3 : Memref sig .tc .vmem S1x4096x1024 .f32) (harg3 : arg3.IsWhole) (arg4 : Memref sig .tc .vmem S512x1024 .f32) (harg4 : arg4.IsWhole) (hc0 : cond0_0 i)
    (x0 : Vec F S512x4096 .bf16) (x1 : Vec F S1x4096x1024 .f32) :
    out0_A_2 c i arg2 harg2 arg3 harg3 arg4 harg4 scM0_0 (Memref.isWhole_whole _) hc0 x0 x1 = k0_pay2 x0 (k0_pay1 x1) := by
  frame_open
  simp (disch := decide) only [↓ View.readCov_skip, ↓ View.readCov_cons_toLoadRect, ↓ View.readCov_fill]
  frame_out
  try simp only [read_unread_whole]
  try rfl

theorem outB (c : Dev nD) (i : grid0.Coords) (arg2 : Memref sig .tc .vmem S512x4096 .bf16) (harg2 : arg2.IsWhole) (arg3 : Memref sig .tc .vmem S1x4096x1024 .f32) (harg3 : arg3.IsWhole) (arg4 : Memref sig .tc .vmem S512x1024 .f32) (harg4 : arg4.IsWhole) (hc0 : ¬cond0_0 i)
    (x0 : Vec F S512x4096 .bf16) (x1 : Vec F S1x4096x1024 .f32) (xs : Vec F S4096x1024 .bf16) :
    out0_B_2 c i arg2 harg2 arg3 harg3 arg4 harg4 scM0_0 (Memref.isWhole_whole _) hc0 x0 x1 xs = k0_pay2 x0 xs := by
  frame_open
  simp (disch := decide) only [↓ View.readCov_skip, ↓ View.readCov_cons_toLoadRect, ↓ View.readCov_fill]
  frame_out
  try simp only [read_unread_whole]
  try rfl
end

variable (m : (ℓ : Loc nD τ sig) → Buf (Elt Ideal) ℓ) (c : Dev nD)

/-- The rows. -/
def argX : FVec Ideal S8192x4096 .bf16 := m (c, main_arg0)
/-- The stacked weights. -/
def argW : FVec Ideal S4x4096x14336 .f32 := m (c, main_arg1)

/-- Which block of each operand a grid point takes. -/
theorem index_at (t : Fin grid0.N) :
    win0_0.index t = ![t.val % 16, 0] ∧ win0_1.index t = ![0, 0, 6 + t.val / 16] :=
  (by decide +kernel : ∀ t : Fin grid0.N,
    win0_0.index t = ![t.val % 16, 0] ∧ win0_1.index t = ![0, 0, 6 + t.val / 16]) t

theorem blk0_at (t : Fin cfg0.N) (r : Fin 512) (k : Fin 4096) (hr : 512 * (t.val % 16) + r.val < 8192) :
    (iblk m c 0 t : Vec Ideal S512x4096 .bf16) (ix2 r k) = argX m c (ix2 ⟨512 * (t.val % 16) + r.val, hr⟩ k) := by
  unfold argX
  rw [← V_main_arg0 m c]
  blk_ext [iblk, (index_at t).1]

theorem blk1_at (t : Fin cfg0.N) (k : Fin 4096) (j : Fin 1024) (hj : 6144 + 1024 * (t.val / 16) + j.val < 14336) :
    (iblk m c 1 t : Vec Ideal S1x4096x1024 .f32) (ix3 0 k j) = argW m c (ix3 0 k ⟨6144 + 1024 * (t.val / 16) + j.val, hj⟩) := by
  unfold argW
  rw [← V_main_arg1 m c]
  blk_ext [iblk, (index_at t).2]

theorem pay1_at (x : Vec Ideal S1x4096x1024 .f32) (k : Fin 4096) (j : Fin 1024) : k0_pay1 x (ix2 k j) = x (ix3 0 k j) := by
  unfold k0_pay1
  pointwise

theorem pay2_at (x : Vec Ideal S512x4096 .bf16) (w : Vec Ideal S4096x1024 .bf16) (r : Fin 512) (j : Fin 1024) :
    k0_pay2 x w (ix2 r j) = ∑ k : Fin 4096, x (ix2 r k) * w (ix2 k j) := by
  unfold k0_pay2
  pointwise

/-- The weights that a grid point keeps are its columns'. -/
theorem kept_at (n : ℕ) : ∀ (hn : n < cfg0.N) (k : Fin 4096) (j : Fin 1024) (hj : 6144 + 1024 * (n / 16) + j.val < 14336),
    (outsAt0 m c n hn).2 (ix2 k j) = argW m c (ix3 0 k ⟨6144 + 1024 * (n / 16) + j.val, hj⟩) := by
  have first : ∀ (t : Fin cfg0.N) (h0 : t.val % 16 = 0) (k : Fin 4096) (j : Fin 1024) (hj : 6144 + 1024 * (t.val / 16) + j.val < 14336),
      (outsAt0 m c t.val t.isLt).2 (ix2 k j) = argW m c (ix3 0 k ⟨6144 + 1024 * (t.val / 16) + j.val, hj⟩) := by
    intro t h0 k j hj
    rw [outsAt0_A m c t h0]
    dsimp only
    rw [keepA, pay1_at, blk1_at m c t k j hj]
  induction n with
  | zero => exact fun hn => first ⟨0, hn⟩ rfl
  | succ n ih =>
    intro hn k j hj
    by_cases h0 : (n + 1) % 16 = 0
    · exact first ⟨n + 1, hn⟩ h0 k j hj
    · rw [outsAt0_B m c ⟨n + 1, hn⟩ h0]
      dsimp only
      have hd : (n + 1) / 16 = n / 16 := by omega
      have e := ih (by omega) k j (by omega)
      simp only [hd]
      exact e

/-- The rows that a grid point writes are the product's. -/
theorem rows_out (t : Fin cfg0.N) (r : Fin 512) (j : Fin 1024) (hr : 512 * (t.val % 16) + r.val < 8192)
    (hj : 6144 + 1024 * (t.val / 16) + j.val < 14336) :
    (outsAt0 m c t.val t.isLt).1 (ix2 r j)
      = ∑ k : Fin 4096, argX m c (ix2 ⟨512 * (t.val % 16) + r.val, hr⟩ k) * argW m c (ix3 0 k ⟨6144 + 1024 * (t.val / 16) + j.val, hj⟩) := by
  by_cases h0 : t.val % 16 = 0
  · rw [outsAt0_A m c t h0]
    dsimp only
    rw [outA, pay2_at]
    refine Finset.sum_congr rfl fun k _ => ?_
    rw [blk0_at m c t r k hr, pay1_at, blk1_at m c t k j hj]
  · rw [outsAt0_B m c t h0]
    dsimp only
    rw [outB, pay2_at]
    refine Finset.sum_congr rfl fun k _ => ?_
    have hd : (t.val - 1) / 16 = t.val / 16 := by omega
    rw [blk0_at m c t r k hr, kept_at m c (t.val - 1) _ k j (by omega)]
    simp only [hd]

/-- The array that the kernel leaves is the product. -/
theorem array_eq (i : S8192x8192.Idx) :
    (Value.G2 m c : FVec Ideal S8192x8192 .f32) i
      = ∑ k : Fin 4096, argX m c (ix2 (i 0) k) * argW m c (ix3 0 k ⟨6144 + (i 1).val, Nat.add_lt_add_left (i 1).isLt 6144⟩) := by
  have b0 : (i 0).val < 8192 := (i 0).isLt
  have b1 : (i 1).val < 8192 := (i 1).isLt
  have hp : Value.pt2Of i = (i 0).val / 512 + 16 * ((i 1).val / 1024) := by unfold Value.pt2Of Value.run2Of; omega
  have ht : Value.pt2Of i < cfg0.N := by
    rw [hp]; show _ < 128; omega
  have hr : 512 * (Value.pt2Of i % 16) + (i 0).val % 512 = (i 0).val := by omega
  have hj : 6144 + 1024 * (Value.pt2Of i / 16) + (i 1).val % 1024 = 6144 + (i 1).val := by omega
  have e := rows_out m c ⟨Value.pt2Of i, ht⟩ ⟨(i 0).val % 512, by omega⟩ ⟨(i 1).val % 1024, by omega⟩
    (lt_of_eq_of_lt hr b0) (lt_of_eq_of_lt hj (by omega))
  refine Eq.trans ?_ (e.trans (Finset.sum_congr rfl fun k _ => congrArg₂ (· * ·)
    (congrArg (fun r => argX m c (ix2 r k)) (Fin.ext hr)) (congrArg (fun j => argW m c (ix3 0 k j)) (Fin.ext hj))))
  rw [Value.outsAt0_sweep m c (Value.pt2Of i) ht]
  unfold Value.G2
  rw [dif_pos ht]
  refine congrArg _ (funext fun a => Fin.ext ?_)
  fin_cases a <;> rfl

end Cert.HgProjIdeal.Product

namespace Cert.HgProjReferenceIdeal.Product

open Idealize.ShloMosaic Idealize.ShloMosaic.TcCoe Idealize.SL.Sem
open Cert.HgProjReferenceIdeal Cert.HgProjReferenceIdeal.Gen

/-- The reference's result is the product. -/
theorem product_at (x : FVec Ideal S8192x4096 .bf16) (w : FVec Ideal S4x4096x14336 .f32) (i : S8192x8192.Idx) :
    (extractStridedSlice S8192x8192 ![0, 6144] (Host.dotGeneral dot_S8192x4096_S4096x14336_S8192x14336_1_0_0_1_n_n none
      (extf .f32 x bitsLt_bf16_f32) (shapeCast _ (extractStridedSlice S1x4096x14336 ![0, 0, 0] w
        slices_S4x4096x14336_S1x4096x14336_0_0_0) shapeCasts_S1x4096x14336_S4096x14336)) slices_S8192x14336_S8192x8192_0_6144
      : FVec Ideal S8192x8192 .f32) i
      = ∑ k : Fin 4096, x (ix2 (i 0) k) * w (ix3 0 k ⟨6144 + (i 1).val, Nat.add_lt_add_left (i 1).isLt 6144⟩) := by
  pointwise

/-- The reference's run keeps its arguments, and it declares no counter. -/
theorem frame : Cert.quiescent_HgProjReferenceIdeal := fun m g _ =>
  (θ_run defs _ _).mono (fun _ h => ⟨fun c => (h c).2, sem_eq_zero_of_no_sems rfl _⟩) (Value.run (F := Ideal) m g)

/-- The kernel's blocks and the reference's one product leave the same array. -/
theorem algebraic : Cert.algebraic_HgProjIdeal_HgProjReferenceIdeal := by
  intro m g m' g' _ hagree
  refine ⟨fun c => Cert.HgProjIdeal.Value.G2 (F := Ideal) m c, Cert.HgProjIdeal.Value.run (F := Ideal) m g, ?_⟩
  refine (θ_run defs _ _).mono (fun _ h c => ⟨(h c).1.trans ?_, (h c).2⟩) (Value.run (F := Ideal) m' g')
  obtain ⟨h0, h1⟩ := hagree c
  funext i
  rw [h0, h1]
  exact (product_at (Cert.HgProjIdeal.Product.argX m c) (Cert.HgProjIdeal.Product.argW m c) i).trans
    (Cert.HgProjIdeal.Product.array_eq m c i).symm

end Cert.HgProjReferenceIdeal.Product

end
-- ==== Proof.OutProduct.lean ====
/-
  The output projection: each grid point multiplies 512 rows of the two halves by the 1024 weight columns that the first
  point of the column's sweep rounded and kept, adds the two products and then the residual; the array that the points
  leave is the reference's one product of the halves side by side, with the residual added.
-/
module

public import proofs.«01_k».proof.Proof.Gen.OutProjIdeal.Value
public import proofs.«01_k».proof.Proof.Gen.OutProjReferenceIdeal.Run
public import Idealize.ShloMosaic.Lib.Pipeline.ValueKit
public import proofs.«01_k».proof.Defs
public import proofs.«01_k».proof.Proof.Gen.OutProjReferenceIdeal
public import Idealize.ShloMosaic.Lib.Pipeline.ReadBack
public import Idealize.ShloMosaic.Lib.Quiescent

@[expose] public section

set_option maxRecDepth 16384

noncomputable section

namespace Cert.OutProjIdeal.Product

open Idealize.ShloMosaic Idealize.ShloMosaic.TcCoe Idealize.SL.Sem
open Cert.OutProjIdeal Cert.OutProjIdeal.Gen

section
variable {F : FTy → Type} [FloatOps F]

/-- The first 2048 rows of the kept weights. -/
def upper (w : Vec F S4096x1024 .bf16) : Vec F S2048x1024 .bf16 :=
  View.ld w (Rect.unit (s := S4096x1024) ![0, 0] S2048x1024.size inb_S4096x1024_S2048x1024_0_0)
/-- The last 2048 rows of the kept weights. -/
def lower (w : Vec F S4096x1024 .bf16) : Vec F S2048x1024 .bf16 :=
  View.ld w (Rect.unit (s := S4096x1024) ![2048, 0] S2048x1024.size inb_S4096x1024_S2048x1024_2048_0)

theorem keepA (c : Dev nD) (i : grid0.Coords) (arg2 : Memref sig .tc .vmem S1x4096x1024 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x1024 .f32) (harg5 : arg5.IsWhole) (arg6 : Memref sig .tc .vmem S512x1024 .f32) (harg6 : arg6.IsWhole) (hc0 : cond0_0 i)
    (x0 : Vec F S1x4096x1024 .f32) (x1 x2 : Vec F S512x2048 .bf16) (x3 : Vec F S512x1024 .f32) :
    sout0_A_0 c i arg2 harg2 arg3 harg3 arg4 harg4 arg5 harg5 arg6 harg6 scM0_0 (Memref.isWhole_whole _) hc0 x0 x1 x2 x3 = k0_pay1 x0 := by
  frame_open
  simp (disch := decide) only [↓ View.readCov_skip, ↓ View.readCov_cons_toLoadRect, ↓ View.readCov_fill]
  frame_out
  try simp only [read_unread_whole]
  try rfl

theorem outA (c : Dev nD) (i : grid0.Coords) (arg2 : Memref sig .tc .vmem S1x4096x1024 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x1024 .f32) (harg5 : arg5.IsWhole) (arg6 : Memref sig .tc .vmem S512x1024 .f32) (harg6 : arg6.IsWhole) (hc0 : cond0_0 i)
    (x0 : Vec F S1x4096x1024 .f32) (x1 x2 : Vec F S512x2048 .bf16) (x3 : Vec F S512x1024 .f32) :
    out0_A_4 c i arg2 harg2 arg3 harg3 arg4 harg4 arg5 harg5 arg6 harg6 scM0_0 (Memref.isWhole_whole _) hc0 x0 x1 x2 x3
      = k0_pay2 x1 (upper (k0_pay1 x0)) x2 (lower (k0_pay1 x0)) x3 := by
  frame_open
  simp (disch := decide) only [↓ View.readCov_skip, ↓ View.readCov_cons_toLoadRect, ↓ View.readCov_fill]
  frame_out
  try simp only [read_unread_whole]
  try rfl

theorem outB (c : Dev nD) (i : grid0.Coords) (arg2 : Memref sig .tc .vmem S1x4096x1024 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x1024 .f32) (harg5 : arg5.IsWhole) (arg6 : Memref sig .tc .vmem S512x1024 .f32) (harg6 : arg6.IsWhole) (hc0 : ¬cond0_0 i)
    (x0 : Vec F S1x4096x1024 .f32) (x1 x2 : Vec F S512x2048 .bf16) (x3 : Vec F S512x1024 .f32) (xs : Vec F S4096x1024 .bf16) :
    out0_B_4 c i arg2 harg2 arg3 harg3 arg4 harg4 arg5 harg5 arg6 harg6 scM0_0 (Memref.isWhole_whole _) hc0 x0 x1 x2 x3 xs
      = k0_pay2 x1 (upper xs) x2 (lower xs) x3 := by
  frame_open
  simp (disch := decide) only [↓ View.readCov_skip, ↓ View.readCov_cons_toLoadRect, ↓ View.readCov_fill]
  frame_out
  try simp only [read_unread_whole]
  try rfl
end

variable (m : (ℓ : Loc nD τ sig) → Buf (Elt Ideal) ℓ) (c : Dev nD)

/-- The two halves' rows, the stacked weights and the residual. -/
def argA : FVec Ideal S8192x2048 .bf16 := m (c, main_arg0)
@[inherit_doc argA]
def argB : FVec Ideal S8192x2048 .bf16 := m (c, main_arg1)
@[inherit_doc argA]
def argW : FVec Ideal S4x4096x4096 .f32 := m (c, main_arg2)
@[inherit_doc argA]
def argR : FVec Ideal S8192x4096 .f32 := m (c, main_arg3)

/-- The result at a row and a column, over the operands. -/
def spec (a b : FVec Ideal S8192x2048 .bf16) (w : FVec Ideal S4x4096x4096 .f32) (h : FVec Ideal S8192x4096 .f32) (r : Fin 8192) (j : Fin 4096) : EReal :=
  h (ix2 r j) + (∑ k : Fin 2048, a (ix2 r k) * w (ix3 0 (Fin.castAdd 2048 k) j) + ∑ k : Fin 2048, b (ix2 r k) * w (ix3 0 (Fin.natAdd 2048 k) j))

/-- Which block of each operand a grid point takes. -/
theorem index_at (t : Fin grid0.N) :
    win0_0.index t = ![0, 0, t.val / 16] ∧ win0_1.index t = ![t.val % 16, 0] ∧ win0_2.index t = ![t.val % 16, 0]
    ∧ win0_3.index t = ![t.val % 16, t.val / 16] :=
  (by decide +kernel : ∀ t : Fin grid0.N,
    win0_0.index t = ![0, 0, t.val / 16] ∧ win0_1.index t = ![t.val % 16, 0] ∧ win0_2.index t = ![t.val % 16, 0]
    ∧ win0_3.index t = ![t.val % 16, t.val / 16]) t

theorem blk0_at (t : Fin cfg0.N) (k : Fin 4096) (j : Fin 1024) (hj : 1024 * (t.val / 16) + j.val < 4096) :
    (iblk m c 0 t : Vec Ideal S1x4096x1024 .f32) (ix3 0 k j) = argW m c (ix3 0 k ⟨1024 * (t.val / 16) + j.val, hj⟩) := by
  unfold argW
  rw [← V_main_arg2 m c]
  blk_ext [iblk, (index_at t).1]

theorem blk1_at (t : Fin cfg0.N) (r : Fin 512) (k : Fin 2048) (hr : 512 * (t.val % 16) + r.val < 8192) :
    (iblk m c 1 t : Vec Ideal S512x2048 .bf16) (ix2 r k) = argA m c (ix2 ⟨512 * (t.val % 16) + r.val, hr⟩ k) := by
  unfold argA
  rw [← V_main_arg0 m c]
  blk_ext [iblk, (index_at t).2.1]

theorem blk2_at (t : Fin cfg0.N) (r : Fin 512) (k : Fin 2048) (hr : 512 * (t.val % 16) + r.val < 8192) :
    (iblk m c 2 t : Vec Ideal S512x2048 .bf16) (ix2 r k) = argB m c (ix2 ⟨512 * (t.val % 16) + r.val, hr⟩ k) := by
  unfold argB
  rw [← V_main_arg1 m c]
  blk_ext [iblk, (index_at t).2.2.1]

theorem blk3_at (t : Fin cfg0.N) (r : Fin 512) (j : Fin 1024) (hr : 512 * (t.val % 16) + r.val < 8192)
    (hj : 1024 * (t.val / 16) + j.val < 4096) : (iblk m c 3 t : Vec Ideal S512x1024 .f32) (ix2 r j)
      = argR m c (ix2 ⟨512 * (t.val % 16) + r.val, hr⟩ ⟨1024 * (t.val / 16) + j.val, hj⟩) := by
  unfold argR
  rw [← V_main_arg3 m c]
  blk_ext [iblk, (index_at t).2.2.2]

theorem upper_at (w : Vec Ideal S4096x1024 .bf16) (k : Fin 2048) (j : Fin 1024) : upper w (ix2 k j) = w (ix2 (Fin.castAdd 2048 k) j) := by
  unfold upper
  rw [View.ld_unit_apply_of w _ _ _ _ (ix2 (Fin.castAdd 2048 k) j : S4096x1024.Idx) (by intro b; fin_cases b <;> simp)]

theorem lower_at (w : Vec Ideal S4096x1024 .bf16) (k : Fin 2048) (j : Fin 1024) : lower w (ix2 k j) = w (ix2 (Fin.natAdd 2048 k) j) := by
  unfold lower
  rw [View.ld_unit_apply_of w _ _ _ _ (ix2 (Fin.natAdd 2048 k) j : S4096x1024.Idx) (by intro b; fin_cases b <;> simp [Nat.add_comm])]

theorem pay1_at (x : Vec Ideal S1x4096x1024 .f32) (k : Fin 4096) (j : Fin 1024) : k0_pay1 x (ix2 k j) = x (ix3 0 k j) := by
  unfold k0_pay1
  pointwise

theorem pay2_at (a b : Vec Ideal S512x2048 .bf16) (u v : Vec Ideal S2048x1024 .bf16) (h : Vec Ideal S512x1024 .f32) (r : Fin 512) (j : Fin 1024) :
    k0_pay2 a u b v h (ix2 r j)
      = h (ix2 r j) + (∑ k : Fin 2048, a (ix2 r k) * u (ix2 k j) + ∑ k : Fin 2048, b (ix2 r k) * v (ix2 k j)) := by
  unfold k0_pay2
  pointwise

/-- The weights that a grid point keeps are its columns'. -/
theorem kept_at (n : ℕ) : ∀ (hn : n < cfg0.N) (k : Fin 4096) (j : Fin 1024) (hj : 1024 * (n / 16) + j.val < 4096),
    (outsAt0 m c n hn).2 (ix2 k j) = argW m c (ix3 0 k ⟨1024 * (n / 16) + j.val, hj⟩) := by
  have first : ∀ (t : Fin cfg0.N) (h0 : t.val % 16 = 0) (k : Fin 4096) (j : Fin 1024) (hj : 1024 * (t.val / 16) + j.val < 4096),
      (outsAt0 m c t.val t.isLt).2 (ix2 k j) = argW m c (ix3 0 k ⟨1024 * (t.val / 16) + j.val, hj⟩) := by
    intro t h0 k j hj
    rw [outsAt0_A m c t h0]
    dsimp only
    rw [keepA, pay1_at, blk0_at m c t k j hj]
  induction n with
  | zero => exact fun hn => first ⟨0, hn⟩ rfl
  | succ n ih =>
    intro hn k j hj
    by_cases h0 : (n + 1) % 16 = 0
    · exact first ⟨n + 1, hn⟩ h0 k j hj
    · rw [outsAt0_B m c ⟨n + 1, hn⟩ h0]
      dsimp only
      have hd : (n + 1) / 16 = n / 16 := by omega
      have e := ih (by omega) k j (by omega)
      simp only [hd]
      exact e

/-- The rows that a grid point writes are the result's. -/
theorem rows_out (t : Fin cfg0.N) (r : Fin 512) (j : Fin 1024) (hr : 512 * (t.val % 16) + r.val < 8192)
    (hj : 1024 * (t.val / 16) + j.val < 4096) :
    (outsAt0 m c t.val t.isLt).1 (ix2 r j)
      = spec (argA m c) (argB m c) (argW m c) (argR m c) ⟨512 * (t.val % 16) + r.val, hr⟩ ⟨1024 * (t.val / 16) + j.val, hj⟩ := by
  have key : ∀ w : Vec Ideal S4096x1024 .bf16, (∀ (k : Fin 4096), w (ix2 k j) = argW m c (ix3 0 k ⟨1024 * (t.val / 16) + j.val, hj⟩)) →
      k0_pay2 (iblk m c 1 t) (upper w) (iblk m c 2 t) (lower w) (iblk m c 3 t) (ix2 r j)
        = spec (argA m c) (argB m c) (argW m c) (argR m c) ⟨512 * (t.val % 16) + r.val, hr⟩ ⟨1024 * (t.val / 16) + j.val, hj⟩ := by
    intro w hw
    rw [pay2_at, blk3_at m c t r j hr hj]
    unfold spec
    refine congrArg _ (congrArg₂ _ (Finset.sum_congr rfl fun k _ => ?_) (Finset.sum_congr rfl fun k _ => ?_))
    · rw [blk1_at m c t r k hr, upper_at, hw]
    · rw [blk2_at m c t r k hr, lower_at, hw]
  by_cases h0 : t.val % 16 = 0
  · rw [outsAt0_A m c t h0]
    dsimp only
    rw [outA]
    refine key _ fun k => ?_
    rw [pay1_at, blk0_at m c t k j hj]
  · rw [outsAt0_B m c t h0]
    dsimp only
    rw [outB]
    refine key _ fun k => ?_
    have hd : (t.val - 1) / 16 = t.val / 16 := by omega
    rw [kept_at m c (t.val - 1) _ k j (by omega)]
    simp only [hd]

/-- The array that the kernel leaves is the result. -/
theorem array_eq (i : S8192x4096.Idx) :
    (Value.G4 m c : FVec Ideal S8192x4096 .f32) i = spec (argA m c) (argB m c) (argW m c) (argR m c) (i 0) (i 1) := by
  have b0 : (i 0).val < 8192 := (i 0).isLt
  have b1 : (i 1).val < 4096 := (i 1).isLt
  have hp : Value.pt4Of i = (i 0).val / 512 + 16 * ((i 1).val / 1024) := by unfold Value.pt4Of Value.run4Of; omega
  have ht : Value.pt4Of i < cfg0.N := by
    rw [hp]; show _ < 64; omega
  have hr : 512 * (Value.pt4Of i % 16) + (i 0).val % 512 = (i 0).val := by omega
  have hj : 1024 * (Value.pt4Of i / 16) + (i 1).val % 1024 = (i 1).val := by omega
  have e := rows_out m c ⟨Value.pt4Of i, ht⟩ ⟨(i 0).val % 512, by omega⟩ ⟨(i 1).val % 1024, by omega⟩
    (lt_of_eq_of_lt hr b0) (lt_of_eq_of_lt hj b1)
  refine Eq.trans ?_ (e.trans (congrArg₂ (spec (argA m c) (argB m c) (argW m c) (argR m c)) (Fin.ext hr) (Fin.ext hj)))
  rw [Value.outsAt0_sweep m c (Value.pt4Of i) ht]
  unfold Value.G4
  rw [dif_pos ht]
  refine congrArg _ (funext fun a => Fin.ext ?_)
  fin_cases a <;> rfl

end Cert.OutProjIdeal.Product

namespace Cert.OutProjReferenceIdeal.Product

open Idealize.ShloMosaic Idealize.ShloMosaic.TcCoe Idealize.SL.Sem
open Cert.OutProjReferenceIdeal Cert.OutProjReferenceIdeal.Gen
open Cert.OutProjIdeal.Product (spec argA argB argW argR)

/-- The halves side by side, at a row and a column of either half. -/
theorem left_at (a b : FVec Ideal S8192x2048 .f32) (r : Fin 8192) (k : Fin 2048) :
    (concatenate S8192x4096 1 [⟨S8192x2048, a⟩, ⟨S8192x2048, b⟩] concatenates_S8192x2048_S8192x2048_S8192x4096_d1 : FVec Ideal S8192x4096 .f32)
      (ix2 r (Fin.castAdd 2048 k)) = a (ix2 r k) := by
  pointwise
  exact dif_pos k.isLt
@[inherit_doc left_at]
theorem right_at (a b : FVec Ideal S8192x2048 .f32) (r : Fin 8192) (k : Fin 2048) :
    (concatenate S8192x4096 1 [⟨S8192x2048, a⟩, ⟨S8192x2048, b⟩] concatenates_S8192x2048_S8192x2048_S8192x4096_d1 : FVec Ideal S8192x4096 .f32)
      (ix2 r (Fin.natAdd 2048 k)) = b (ix2 r k) := by
  pointwise
  refine (dif_neg (Nat.not_lt.mpr (Nat.le_add_right 2048 k.val))).trans (congrArg (fun k => b (ix2 r k)) (Fin.ext ?_))
  exact Nat.add_sub_cancel_left 2048 k.val

/-- One product with the residual added, at an index. -/
theorem product_at (x : FVec Ideal S8192x4096 .f32) (w : FVec Ideal S4x4096x4096 .f32) (h : FVec Ideal S8192x4096 .f32) (i : S8192x4096.Idx) :
    (addf h (Host.dotGeneral dot_S8192x4096_S4096x4096_S8192x4096_1_0_0_1_n_n none x (shapeCast _ (extractStridedSlice S1x4096x4096 ![0, 0, 0] w
      slices_S4x4096x4096_S1x4096x4096_0_0_0) shapeCasts_S1x4096x4096_S4096x4096)) : FVec Ideal S8192x4096 .f32) i
      = h i + ∑ k : Fin 4096, x (ix2 (i 0) k) * w (ix3 0 k (i 1)) := by
  pointwise

/-- The reference's run keeps its arguments, and it declares no counter. -/
theorem frame : Cert.quiescent_OutProjReferenceIdeal := fun m g _ =>
  (θ_run defs _ _).mono (fun _ h => ⟨fun c => (h c).2, sem_eq_zero_of_no_sems rfl _⟩) (Value.run (F := Ideal) m g)

/-- The kernel's blocks and the reference's one product leave the same array. -/
theorem algebraic : Cert.algebraic_OutProjIdeal_OutProjReferenceIdeal := by
  intro m g m' g' _ hagree
  refine ⟨fun c => Cert.OutProjIdeal.Value.G4 (F := Ideal) m c, Cert.OutProjIdeal.Value.run (F := Ideal) m g, ?_⟩
  refine (θ_run defs _ _).mono (fun _ h c => ⟨(h c).1.trans ?_, (h c).2⟩) (Value.run (F := Ideal) m' g')
  obtain ⟨h0, h1, h2, h3⟩ := hagree c
  funext i
  rw [h0, h1, h2, h3]
  refine (product_at _ (argW m c) (argR m c) i).trans (Eq.trans ?_ (Cert.OutProjIdeal.Product.array_eq m c i).symm)
  unfold spec
  refine congrArg₂ (· + ·) (congrArg (argR m c) (funext fun a => by fin_cases a <;> rfl)) ?_
  refine (Fin.sum_univ_add (a := 2048) (b := 2048) _).trans ?_
  refine congrArg₂ (· + ·) (Finset.sum_congr rfl fun k _ => ?_) (Finset.sum_congr rfl fun k _ => ?_)
  · exact congrArg (· * _) (left_at (extf .f32 (argA m c) bitsLt_bf16_f32) (extf .f32 (argB m c) bitsLt_bf16_f32) (i 0) k)
  · exact congrArg (· * _) (right_at (extf .f32 (argA m c) bitsLt_bf16_f32) (extf .f32 (argB m c) bitsLt_bf16_f32) (i 0) k)

end Cert.OutProjReferenceIdeal.Product

end
-- ==== Proof.FinalNormed.lean ====
/-
  The last RMS norm: each grid point norms 256 rows, whose blocks tile the array.
-/
module

public import proofs.«01_k».proof.Proof.Gen.FinalNormIdeal.Value
public import proofs.«01_k».proof.Proof.Gen.FinalNormReferenceIdeal.Run
public import Idealize.ShloMosaic.Lib.Pipeline.ValueKit
public import proofs.«01_k».proof.Defs
public import proofs.«01_k».proof.Proof.Gen.FinalNormReferenceIdeal
public import Idealize.ShloMosaic.Lib.Pipeline.ReadBack
public import Idealize.ShloMosaic.Lib.Quiescent

@[expose] public section

set_option maxRecDepth 16384

noncomputable section

namespace Cert.FinalNormIdeal.Norm

open Idealize.ShloMosaic Idealize.ShloMosaic.TcCoe Idealize.SL.Sem
open Idealize.ShloMosaic.StableHlo
open Cert.FinalNormIdeal Cert.FinalNormIdeal.Gen

/-- A row's entry times the reciprocal root of the row's mean square, times the column's weight. -/
def normed (x : Fin 4096 → EReal) (w : EReal) (j : Fin 4096) : EReal :=
  x j * Ideal.rsqrt (Ideal.div (∑ k, x k * x k) (Ideal.ofBits .f32 1166016512#32) + Ideal.ofBits .f32 897988541#32) * w

theorem out_eq {F : FTy → Type} [FloatOps F] (x0 : Vec F S256x4096 .f32) (x1 : Vec F S1x4096 .f32) : out0_2 x0 x1 = k0_pay1 x0 x1 := by
  frame_open
  frame_out

variable (m : (ℓ : Loc nD τ sig) → Buf (Elt Ideal) ℓ) (c : Dev nD)

/-- The residual stream and the weights. -/
def argX : FVec Ideal S1x8192x4096 .f32 := m (c, main_arg0)
@[inherit_doc argX]
def argW : FVec Ideal S4096 .f32 := m (c, main_arg1)

/-- The result at a row and a column, over the operands. -/
def spec (x : FVec Ideal S1x8192x4096 .f32) (w : FVec Ideal S4096 .f32) (r : Fin 8192) (j : Fin 4096) : EReal :=
  normed (fun k => x (ix3 0 r k)) (w (ix1 j)) j

/-- Which block of each operand a grid point takes. -/
theorem index_at (t : Fin grid0.N) :
    win0_0.index t = ![t.val, 0] ∧ win0_1.index t = ![0, 0] ∧ win0_2.index t = ![t.val, 0] ∧ win0_2.flush t = true :=
  (by decide +kernel : ∀ t : Fin grid0.N,
    win0_0.index t = ![t.val, 0] ∧ win0_1.index t = ![0, 0] ∧ win0_2.index t = ![t.val, 0] ∧ win0_2.flush t = true) t

theorem stream_at (r : Fin 8192) (k : Fin 4096) : (V m c main_v0 : FVec Ideal S8192x4096 .f32) (ix2 r k) = argX m c (ix3 0 r k) := by
  have e : (V m c main_v0 : FVec Ideal S8192x4096 .f32) = shapeCast _ (argX m c) shapeCasts_S1x8192x4096_S8192x4096 := by
    after_reads_simp
    rfl
  rw [e]
  pointwise

theorem weights_at (j : Fin 4096) : (V m c main_v1 : FVec Ideal S1x4096 .f32) (ix2 0 j) = argW m c (ix1 j) := by
  have e : (V m c main_v1 : FVec Ideal S1x4096 .f32) = shapeCast _ (argW m c) shapeCasts_S4096_S1x4096 := by
    after_reads_simp
    rfl
  rw [e]
  pointwise

theorem blk0_at (t : Fin cfg0.N) (r : Fin 256) (k : Fin 4096) (hr : 256 * t.val + r.val < 8192) :
    (iblk m c 0 t : Vec Ideal S256x4096 .f32) (ix2 r k) = argX m c (ix3 0 ⟨256 * t.val + r.val, hr⟩ k) := by
  rw [← stream_at m c]
  blk_ext [iblk, (index_at t).1]

theorem blk1_at (t : Fin cfg0.N) (j : Fin 4096) : (iblk m c 1 t : Vec Ideal S1x4096 .f32) (ix2 0 j) = argW m c (ix1 j) := by
  rw [← weights_at m c]
  blk_ext [iblk, (index_at t).2.1]

theorem pay1_at (x : Vec Ideal S256x4096 .f32) (w : Vec Ideal S1x4096 .f32) (r : Fin 256) (j : Fin 4096) :
    k0_pay1 x w (ix2 r j) = normed (fun k => x (ix2 r k)) (w (ix2 0 j)) j := by
  unfold k0_pay1 normed
  pointwise

/-- The rows that a grid point writes are the result's. -/
theorem rows_out (t : Fin cfg0.N) (r : Fin 256) (j : Fin 4096) (hr : 256 * t.val + r.val < 8192) :
    k0_pay1 (iblk m c 0 t) (iblk m c 1 t) (ix2 r j) = spec (argX m c) (argW m c) ⟨256 * t.val + r.val, hr⟩ j := by
  rw [pay1_at, blk1_at m c t j]
  unfold spec
  exact congrArg (fun f => normed f _ j) (funext fun k => blk0_at m c t r k hr)

/-- The result as the array's contents. -/
def out : Buf (Elt Ideal) ((c : Thread nD τ).loc main_v2) :=
  fun i : S8192x4096.Idx => spec (argX m c) (argW m c) (i 0) (i 1)

/-- What a grid point writes back is its block of the result. -/
theorem flushed_eq (t : Fin cfg0.N) : (dats m 0 c).flushed 2 t = ((cfg0.win 2).blk t).view.read (Elt Ideal) (out m c) := by
  rw [Value.flushed2, out_eq]
  have ht : t.val < 32 := t.isLt
  have e := (index_at t).2.2.1
  funext y
  have hy0 : (y 0).val < 256 := (y 0).isLt
  have hy1 : (y 1).val < 4096 := (y 1).isLt
  have hb0 : (((cfg0.win 2).blk t).view.emb y 0).val = win0_2.index t (0 : Fin 2) * 256 + 1 * (y 0).val := rfl
  have hb1 : (((cfg0.win 2).blk t).view.emb y 1).val = win0_2.index t (1 : Fin 2) * 4096 + 1 * (y 1).val := rfl
  have e0 : win0_2.index t (0 : Fin 2) = t.val := congrFun e 0
  have e1 : win0_2.index t (1 : Fin 2) = 0 := congrFun e 1
  have key := rows_out m c t ⟨(y 0).val, hy0⟩ ⟨(y 1).val, hy1⟩ (by show 256 * t.val + (y 0).val < 8192; omega)
  refine Eq.trans (congrArg (k0_pay1 (iblk m c 0 t) (iblk m c 1 t)) (funext fun a => ?_)) (key.trans
    (congrArg₂ (spec (argX m c) (argW m c)) (Fin.ext ?_) (Fin.ext ?_)))
  · fin_cases a <;> rfl
  · refine Eq.trans ?_ hb0.symm
    show 256 * t.val + (y 0).val = _
    omega
  · refine Eq.trans ?_ hb1.symm
    show (y 1).val = _
    omega

/-- Every index of the array is in some grid point's block. -/
theorem covered (i : S8192x4096.Idx) : ∃ t : Fin cfg0.N, (cfg0.win 2).flush t = true ∧ i ∈ ((cfg0.win 2).blk t).view.set := by
  have b0 : (i 0).val < 8192 := (i 0).isLt
  have b1 : (i 1).val < 4096 := (i 1).isLt
  have ht : (i 0).val / 256 < cfg0.N := by show _ < 32; omega
  refine ⟨⟨(i 0).val / 256, ht⟩, (index_at _).2.2.2, ?_⟩
  show i ∈ ((View.whole main_v2).slice (win0_2.rect ⟨(i 0).val / 256, ht⟩)).set
  rw [View.set_slice_whole, Rect.mem_set_unit]
  have e := (index_at ⟨(i 0).val / 256, ht⟩).2.2.1
  have e0 : win0_2.index ⟨(i 0).val / 256, ht⟩ (0 : Fin 2) = (i 0).val / 256 := congrFun e 0
  have e1 : win0_2.index ⟨(i 0).val / 256, ht⟩ (1 : Fin 2) = 0 := congrFun e 1
  intro a
  match a with
  | ⟨0, _⟩ =>
    show win0_2.index _ (0 : Fin 2) * 256 ≤ (i 0).val ∧ (i 0).val < win0_2.index _ (0 : Fin 2) * 256 + 256
    omega
  | ⟨1, _⟩ =>
    show win0_2.index _ (1 : Fin 2) * 4096 ≤ (i 1).val ∧ (i 1).val < win0_2.index _ (1 : Fin 2) * 4096 + 4096
    omega

/-- The array that the kernel leaves is the result. -/
theorem array_eq : (dats m 0 c).arrAt 2 cfg0.N = out m c :=
  (dats m 0 c).arrAt_eq_of_cover 2 _ (fun t _ => flushed_eq m c t) covered

end Cert.FinalNormIdeal.Norm

namespace Cert.FinalNormReferenceIdeal.Norm

open Idealize.ShloMosaic Idealize.ShloMosaic.TcCoe Idealize.SL.Sem
open Cert.FinalNormReferenceIdeal Cert.FinalNormReferenceIdeal.Gen
open Cert.FinalNormIdeal.Norm (spec argX argW normed)

/-- The reference's result at a row and a column. -/
theorem norm_at (x : FVec Ideal S1x8192x4096 .f32) (w : FVec Ideal S4096 .f32) (r : Fin 8192) (j : Fin 4096) :
    (shapeCast _ (mulf (mulf x (broadcastInDim S1x8192x4096 ![0, 1, 2] bcast_S1x8192x1_S1x8192x4096_0_1_2 (Host.rsqrt (addf (Host.divf (broadcastInDim S1x8192x1 ![0, 1] bcast_S1x8192_S1x8192x1_0_1 (Host.reduceAdd (mulf x x) (constant S_ .f32 0x00000000#32) reducesTo_S1x8192x4096_S1x8192_d2 h_S_)) (broadcastInDim S1x8192x1 ![] bcast_S_S1x8192x1 (constant S_ .f32 0x45800000#32))) (broadcastInDim S1x8192x1 ![] bcast_S_S1x8192x1 (constant S_ .f32 0x358637BD#32)))))) (broadcastInDim S1x8192x4096 ![0, 1, 2] bcast_S1x1x4096_S1x8192x4096_0_1_2 (broadcastInDim S1x1x4096 ![2] bcast_S4096_S1x1x4096_2 w))) shapeCasts_S1x8192x4096_S8192x4096 : FVec Ideal S8192x4096 .f32) (ix2 r j)
      = spec x w r j := by
  unfold spec normed
  pointwise

/-- The reference's run keeps its arguments, and it declares no counter. -/
theorem frame : Cert.quiescent_FinalNormReferenceIdeal := fun m g _ =>
  (θ_run defs _ _).mono (fun _ h => ⟨fun c => (h c).2, sem_eq_zero_of_no_sems rfl _⟩) (Value.run (F := Ideal) m g)

/-- The kernel's blocks of rows and the reference's one expression leave the same array. -/
theorem algebraic : Cert.algebraic_FinalNormIdeal_FinalNormReferenceIdeal := by
  intro m g m' g' _ hagree
  refine ⟨fun c => Cert.FinalNormIdeal.Norm.out m c, (θ_run Cert.FinalNormIdeal.defs _ _).mono
    (fun _ h c => ⟨(h c).1.trans (Cert.FinalNormIdeal.Norm.array_eq m c), (h c).2⟩)
    (Cert.FinalNormIdeal.Value.run_blocks (F := Ideal) m g), ?_⟩
  refine (θ_run defs _ _).mono (fun _ h c => ⟨(h c).1.trans ?_, (h c).2⟩) (Value.run (F := Ideal) m' g')
  obtain ⟨h0, h1⟩ := hagree c
  funext i
  rw [h0, h1]
  have hi : i = ix2 (i 0) (i 1) := funext fun a => by fin_cases a <;> rfl
  exact (congrArg _ hi).trans (norm_at (argX m c) (argW m c) (i 0) (i 1))

end Cert.FinalNormReferenceIdeal.Norm

end
-- ==== Proof.LayerNormed.lean ====
/-
  The RMS norm before a projection: each grid point norms 256 rows, whose blocks tile the array.
-/
module

public import proofs.«01_k».proof.Proof.Gen.LayerNormIdeal.Value
public import proofs.«01_k».proof.Proof.Gen.LayerNormReferenceIdeal.Run
public import Idealize.ShloMosaic.Lib.Pipeline.ValueKit
public import proofs.«01_k».proof.Defs
public import proofs.«01_k».proof.Proof.Gen.LayerNormReferenceIdeal
public import Idealize.ShloMosaic.Lib.Pipeline.ReadBack
public import Idealize.ShloMosaic.Lib.Quiescent

@[expose] public section

set_option maxRecDepth 16384

noncomputable section

namespace Cert.LayerNormIdeal.Norm

open Idealize.ShloMosaic Idealize.ShloMosaic.TcCoe Idealize.SL.Sem
open Idealize.ShloMosaic.StableHlo
open Cert.LayerNormIdeal Cert.LayerNormIdeal.Gen

/-- A row's entry times the reciprocal root of the row's mean square, times the column's weight. -/
def normed (x : Fin 4096 → EReal) (w : EReal) (j : Fin 4096) : EReal :=
  x j * Ideal.rsqrt (Ideal.div (∑ k, x k * x k) (Ideal.ofBits .f32 1166016512#32) + Ideal.ofBits .f32 897988541#32) * w

theorem out_eq {F : FTy → Type} [FloatOps F] (x0 : Vec F S256x4096 .f32) (x1 : Vec F S1x4096 .f32) : out0_2 x0 x1 = k0_pay1 x0 x1 := by
  frame_open
  frame_out

variable (m : (ℓ : Loc nD τ sig) → Buf (Elt Ideal) ℓ) (c : Dev nD)

/-- The residual stream and the weights. -/
def argX : FVec Ideal S8192x4096 .f32 := m (c, main_arg0)
@[inherit_doc argX]
def argW : FVec Ideal S4x4096 .f32 := m (c, main_arg1)

/-- The result at a row and a column, over the operands. -/
def spec (x : FVec Ideal S8192x4096 .f32) (w : FVec Ideal S4x4096 .f32) (r : Fin 8192) (j : Fin 4096) : EReal :=
  normed (fun k => x (ix2 r k)) (w (ix2 0 j)) j

/-- Which block of each operand a grid point takes. -/
theorem index_at (t : Fin grid0.N) :
    win0_0.index t = ![t.val, 0] ∧ win0_1.index t = ![0, 0] ∧ win0_2.index t = ![t.val, 0] ∧ win0_2.flush t = true :=
  (by decide +kernel : ∀ t : Fin grid0.N,
    win0_0.index t = ![t.val, 0] ∧ win0_1.index t = ![0, 0] ∧ win0_2.index t = ![t.val, 0] ∧ win0_2.flush t = true) t

/-- The weights that the kernel takes are the stack's first. -/
theorem weights_at (j : Fin 4096) : (V m c main_v2 : FVec Ideal S1x4096 .f32) (ix2 0 j) = argW m c (ix2 0 j) := by
  have e : (V m c main_v2 : FVec Ideal S1x4096 .f32) = shapeCast _ (shapeCast S4096 (extractStridedSlice S1x4096 ![0, 0] (argW m c)
      slices_S4x4096_S1x4096_0_0) shapeCasts_S1x4096_S4096) shapeCasts_S4096_S1x4096 := by
    after_reads_simp
    rfl
  rw [e]
  pointwise

theorem blk0_at (t : Fin cfg0.N) (r : Fin 256) (k : Fin 4096) (hr : 256 * t.val + r.val < 8192) :
    (iblk m c 0 t : Vec Ideal S256x4096 .f32) (ix2 r k) = argX m c (ix2 ⟨256 * t.val + r.val, hr⟩ k) := by
  unfold argX
  rw [← V_main_arg0 m c]
  blk_ext [iblk, (index_at t).1]

theorem blk1_at (t : Fin cfg0.N) (j : Fin 4096) : (iblk m c 1 t : Vec Ideal S1x4096 .f32) (ix2 0 j) = argW m c (ix2 0 j) := by
  rw [← weights_at m c]
  blk_ext [iblk, (index_at t).2.1]

theorem pay1_at (x : Vec Ideal S256x4096 .f32) (w : Vec Ideal S1x4096 .f32) (r : Fin 256) (j : Fin 4096) :
    k0_pay1 x w (ix2 r j) = normed (fun k => x (ix2 r k)) (w (ix2 0 j)) j := by
  unfold k0_pay1 normed
  pointwise

/-- The rows that a grid point writes are the result's. -/
theorem rows_out (t : Fin cfg0.N) (r : Fin 256) (j : Fin 4096) (hr : 256 * t.val + r.val < 8192) :
    k0_pay1 (iblk m c 0 t) (iblk m c 1 t) (ix2 r j) = spec (argX m c) (argW m c) ⟨256 * t.val + r.val, hr⟩ j := by
  rw [pay1_at, blk1_at m c t j]
  unfold spec
  exact congrArg (fun f => normed f _ j) (funext fun k => blk0_at m c t r k hr)

/-- The result as the array's contents. -/
def out : Buf (Elt Ideal) ((c : Thread nD τ).loc main_v3) :=
  fun i : S8192x4096.Idx => spec (argX m c) (argW m c) (i 0) (i 1)

/-- What a grid point writes back is its block of the result. -/
theorem flushed_eq (t : Fin cfg0.N) : (dats m 0 c).flushed 2 t = ((cfg0.win 2).blk t).view.read (Elt Ideal) (out m c) := by
  rw [Value.flushed2, out_eq]
  have ht : t.val < 32 := t.isLt
  have e := (index_at t).2.2.1
  funext y
  have hy0 : (y 0).val < 256 := (y 0).isLt
  have hy1 : (y 1).val < 4096 := (y 1).isLt
  have hb0 : (((cfg0.win 2).blk t).view.emb y 0).val = win0_2.index t (0 : Fin 2) * 256 + 1 * (y 0).val := rfl
  have hb1 : (((cfg0.win 2).blk t).view.emb y 1).val = win0_2.index t (1 : Fin 2) * 4096 + 1 * (y 1).val := rfl
  have e0 : win0_2.index t (0 : Fin 2) = t.val := congrFun e 0
  have e1 : win0_2.index t (1 : Fin 2) = 0 := congrFun e 1
  have key := rows_out m c t ⟨(y 0).val, hy0⟩ ⟨(y 1).val, hy1⟩ (by show 256 * t.val + (y 0).val < 8192; omega)
  refine Eq.trans (congrArg (k0_pay1 (iblk m c 0 t) (iblk m c 1 t)) (funext fun a => ?_)) (key.trans
    (congrArg₂ (spec (argX m c) (argW m c)) (Fin.ext ?_) (Fin.ext ?_)))
  · fin_cases a <;> rfl
  · refine Eq.trans ?_ hb0.symm
    show 256 * t.val + (y 0).val = _
    omega
  · refine Eq.trans ?_ hb1.symm
    show (y 1).val = _
    omega

/-- Every index of the array is in some grid point's block. -/
theorem covered (i : S8192x4096.Idx) : ∃ t : Fin cfg0.N, (cfg0.win 2).flush t = true ∧ i ∈ ((cfg0.win 2).blk t).view.set := by
  have b0 : (i 0).val < 8192 := (i 0).isLt
  have b1 : (i 1).val < 4096 := (i 1).isLt
  have ht : (i 0).val / 256 < cfg0.N := by show _ < 32; omega
  refine ⟨⟨(i 0).val / 256, ht⟩, (index_at _).2.2.2, ?_⟩
  show i ∈ ((View.whole main_v3).slice (win0_2.rect ⟨(i 0).val / 256, ht⟩)).set
  rw [View.set_slice_whole, Rect.mem_set_unit]
  have e := (index_at ⟨(i 0).val / 256, ht⟩).2.2.1
  have e0 : win0_2.index ⟨(i 0).val / 256, ht⟩ (0 : Fin 2) = (i 0).val / 256 := congrFun e 0
  have e1 : win0_2.index ⟨(i 0).val / 256, ht⟩ (1 : Fin 2) = 0 := congrFun e 1
  intro a
  match a with
  | ⟨0, _⟩ =>
    show win0_2.index _ (0 : Fin 2) * 256 ≤ (i 0).val ∧ (i 0).val < win0_2.index _ (0 : Fin 2) * 256 + 256
    omega
  | ⟨1, _⟩ =>
    show win0_2.index _ (1 : Fin 2) * 4096 ≤ (i 1).val ∧ (i 1).val < win0_2.index _ (1 : Fin 2) * 4096 + 4096
    omega

/-- The array that the kernel leaves is the result. -/
theorem array_eq : (dats m 0 c).arrAt 2 cfg0.N = out m c :=
  (dats m 0 c).arrAt_eq_of_cover 2 _ (fun t _ => flushed_eq m c t) covered

end Cert.LayerNormIdeal.Norm

namespace Cert.LayerNormReferenceIdeal.Norm

open Idealize.ShloMosaic Idealize.ShloMosaic.TcCoe Idealize.SL.Sem
open Cert.LayerNormReferenceIdeal Cert.LayerNormReferenceIdeal.Gen
open Cert.LayerNormIdeal.Norm (spec argX argW normed)

/-- The reference's result at a row and a column. -/
theorem norm_at (x : FVec Ideal S8192x4096 .f32) (w : FVec Ideal S4x4096 .f32) (r : Fin 8192) (j : Fin 4096) :
    (truncf .bf16 (mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 (shapeCast _ (extractStridedSlice S1x4096 ![0, 0] w slices_S4x4096_S1x4096_0_0) shapeCasts_S1x4096_S4096)))) bitsLt_bf16_f32 : FVec Ideal S8192x4096 .bf16) (ix2 r j)
      = spec x w r j := by
  unfold spec normed
  pointwise

/-- The reference's run keeps its arguments, and it declares no counter. -/
theorem frame : Cert.quiescent_LayerNormReferenceIdeal := fun m g _ =>
  (θ_run defs _ _).mono (fun _ h => ⟨fun c => (h c).2, sem_eq_zero_of_no_sems rfl _⟩) (Value.run (F := Ideal) m g)

/-- The kernel's blocks of rows and the reference's one expression leave the same array. -/
theorem algebraic : Cert.algebraic_LayerNormIdeal_LayerNormReferenceIdeal := by
  intro m g m' g' _ hagree
  refine ⟨fun c => Cert.LayerNormIdeal.Norm.out m c, (θ_run Cert.LayerNormIdeal.defs _ _).mono
    (fun _ h c => ⟨(h c).1.trans (Cert.LayerNormIdeal.Norm.array_eq m c), (h c).2⟩)
    (Cert.LayerNormIdeal.Value.run_blocks (F := Ideal) m g), ?_⟩
  refine (θ_run defs _ _).mono (fun _ h c => ⟨(h c).1.trans ?_, (h c).2⟩) (Value.run (F := Ideal) m' g')
  obtain ⟨h0, h1⟩ := hagree c
  funext i
  rw [h0, h1]
  have hi : i = ix2 (i 0) (i 1) := funext fun a => by fin_cases a <;> rfl
  exact (congrArg _ hi).trans (norm_at (argX m c) (argW m c) (i 0) (i 1))

end Cert.LayerNormReferenceIdeal.Norm

end
-- ==== Proof.lean ====
module

public import proofs.«01_k».proof.Proof.Gen.Stick
public import proofs.«01_k».proof.Proof.Gen.StickIdeal
public import proofs.«01_k».proof.Proof.Gen.StickReferenceIdeal
public import proofs.«01_k».proof.Proof.StickFrame
public import proofs.«01_k».proof.Proof.StickIdealFrame
public import proofs.«01_k».proof.Proof.StickBreaking
public import proofs.«01_k».proof.Proof.Gen.Pre_finite_heads
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.KernelIdeal.Value
public import proofs.«01_k».proof.Proof.Gen.ReferenceIdeal.Run
public import proofs.«01_k».proof.Proof.Gen.UpConv
public import proofs.«01_k».proof.Proof.Gen.UpConv.Skeleton
public import proofs.«01_k».proof.Proof.Gen.UpConv.Launch
public import proofs.«01_k».proof.Proof.Gen.UpConv.Points
public import proofs.«01_k».proof.Proof.Gen.UpConv.Frame
public import proofs.«01_k».proof.Proof.Gen.UpConvIdeal
public import proofs.«01_k».proof.Proof.Gen.UpConvIdeal.Skeleton
public import proofs.«01_k».proof.Proof.Gen.UpConvIdeal.Launch
public import proofs.«01_k».proof.Proof.Gen.UpConvIdeal.Points
public import proofs.«01_k».proof.Proof.Gen.UpConvIdeal.Frame
public import proofs.«01_k».proof.Proof.Gen.UpConvReferenceIdeal
public import proofs.«01_k».proof.Proof.Gen.UpConvReferenceIdeal.Run
public import proofs.«01_k».proof.Proof.Gen.DownProj
public import proofs.«01_k».proof.Proof.Gen.DownProj.Skeleton
public import proofs.«01_k».proof.Proof.Gen.DownProj.Launch
public import proofs.«01_k».proof.Proof.Gen.DownProj.Points
public import proofs.«01_k».proof.Proof.Gen.DownProj.Frame
public import proofs.«01_k».proof.Proof.Gen.DownProjIdeal
public import proofs.«01_k».proof.Proof.Gen.DownProjIdeal.Skeleton
public import proofs.«01_k».proof.Proof.Gen.DownProjIdeal.Launch
public import proofs.«01_k».proof.Proof.Gen.DownProjIdeal.Points
public import proofs.«01_k».proof.Proof.Gen.DownProjIdeal.Frame
public import proofs.«01_k».proof.Proof.Gen.DownProjIdeal.Value
public import proofs.«01_k».proof.Proof.Gen.DownProjReferenceIdeal
public import proofs.«01_k».proof.Proof.Gen.DownProjReferenceIdeal.Run
public import proofs.«01_k».proof.Proof.Gen.QkvProj
public import proofs.«01_k».proof.Proof.Gen.QkvProj.Skeleton
public import proofs.«01_k».proof.Proof.Gen.QkvProj.Launch
public import proofs.«01_k».proof.Proof.Gen.QkvProj.Points
public import proofs.«01_k».proof.Proof.Gen.QkvProj.Frame
public import proofs.«01_k».proof.Proof.Gen.QkvProjIdeal
public import proofs.«01_k».proof.Proof.Gen.QkvProjIdeal.Skeleton
public import proofs.«01_k».proof.Proof.Gen.QkvProjIdeal.Launch
public import proofs.«01_k».proof.Proof.Gen.QkvProjIdeal.Points
public import proofs.«01_k».proof.Proof.Gen.QkvProjIdeal.Frame
public import proofs.«01_k».proof.Proof.Gen.QkvProjIdeal.Value
public import proofs.«01_k».proof.Proof.Gen.QkvProjReferenceIdeal
public import proofs.«01_k».proof.Proof.Gen.QkvProjReferenceIdeal.Run
public import proofs.«01_k».proof.Proof.Gen.HgProj
public import proofs.«01_k».proof.Proof.Gen.HgProj.Skeleton
public import proofs.«01_k».proof.Proof.Gen.HgProj.Launch
public import proofs.«01_k».proof.Proof.Gen.HgProj.Points
public import proofs.«01_k».proof.Proof.Gen.HgProj.Frame
public import proofs.«01_k».proof.Proof.Gen.HgProjIdeal
public import proofs.«01_k».proof.Proof.Gen.HgProjIdeal.Skeleton
public import proofs.«01_k».proof.Proof.Gen.HgProjIdeal.Launch
public import proofs.«01_k».proof.Proof.Gen.HgProjIdeal.Points
public import proofs.«01_k».proof.Proof.Gen.HgProjIdeal.Frame
public import proofs.«01_k».proof.Proof.Gen.HgProjIdeal.Value
public import proofs.«01_k».proof.Proof.Gen.HgProjReferenceIdeal
public import proofs.«01_k».proof.Proof.Gen.HgProjReferenceIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.FinalNorm
public import proofs.«01_k».proof.Proof.Gen.FinalNorm.Skeleton
public import proofs.«01_k».proof.Proof.Gen.FinalNorm.Launch
public import proofs.«01_k».proof.Proof.Gen.FinalNorm.Points
public import proofs.«01_k».proof.Proof.Gen.FinalNorm.Frame
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Points
public import proofs.«01_k».proof.Proof.Gen.FinalNormIdeal.Frame
public import proofs.«01_k».proof.Proof.Gen.FinalNormIdeal.Value
public import proofs.«01_k».proof.Proof.Gen.FinalNormReferenceIdeal
public import proofs.«01_k».proof.Proof.Gen.FinalNormReferenceIdeal.Run
public import proofs.«01_k».proof.Proof.Gen.LayerNorm
public import proofs.«01_k».proof.Proof.Gen.LayerNorm.Skeleton
public import proofs.«01_k».proof.Proof.Gen.LayerNorm.Launch
public import proofs.«01_k».proof.Proof.Gen.LayerNorm.Points
public import proofs.«01_k».proof.Proof.Gen.LayerNorm.Frame
public import proofs.«01_k».proof.Proof.Gen.LayerNormIdeal
public import proofs.«01_k».proof.Proof.Gen.LayerNormIdeal.Skeleton
public import proofs.«01_k».proof.Proof.Gen.LayerNormIdeal.Launch
public import proofs.«01_k».proof.Proof.Gen.LayerNormIdeal.Points
public import proofs.«01_k».proof.Proof.Gen.LayerNormIdeal.Frame
public import proofs.«01_k».proof.Proof.Gen.LayerNormIdeal.Value
public import proofs.«01_k».proof.Proof.Gen.LayerNormReferenceIdeal
public import proofs.«01_k».proof.Proof.Gen.LayerNormReferenceIdeal.Run
public import proofs.«01_k».proof.Proof.Loop
public import proofs.«01_k».proof.Proof.Sweep
public import proofs.«01_k».proof.Proof.Finite
public import proofs.«01_k».proof.Proof.UpGate
public import proofs.«01_k».proof.Proof.DownProduct
public import proofs.«01_k».proof.Proof.QkvProduct
public import proofs.«01_k».proof.Proof.HgProduct
public import proofs.«01_k».proof.Proof.OutProduct
public import proofs.«01_k».proof.Proof.FinalNormed
public import proofs.«01_k».proof.Proof.LayerNormed
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run keeps its arguments, and it declares no counter. -/
theorem frame_reference : Cert.quiescent_ReferenceIdeal := fun m g _ =>
  (θ_run Cert.ReferenceIdeal.defs _ _).mono (fun _ h => ⟨fun c => (h c).2, sem_eq_zero_of_no_sems rfl _⟩)
    (Cert.ReferenceIdeal.Value.run (F := Ideal) m g)

/-- Where the queries, the values and the lower bounds are real numbers, the kernel's chunks and the reference's steps
    leave the same array: the result, read off the projections at every index. -/
theorem algebraic : Cert.algebraic_KernelIdeal_ReferenceIdeal_pre_finite_inputs := by
  intro m g m' g' hpre hagree
  refine ⟨fun c => Cert.KernelIdeal.Value.G8 (F := Ideal) m c, Cert.KernelIdeal.Value.run (F := Ideal) m g, ?_⟩
  refine (θ_run Cert.ReferenceIdeal.defs _ _).mono (fun _ h c => ⟨(h c).1.trans ?_, (h c).2⟩)
    (Cert.ReferenceIdeal.Value.run (F := Ideal) m' g')
  obtain ⟨h0, h1, h2⟩ := hagree c
  have eP : Cert.ReferenceIdeal.Loop.argP m' c = Cert.KernelIdeal.Chunk.argP m c :=
    funext fun t => funext fun j => congrFun h0 (ix2 t j)
  have eL : Cert.ReferenceIdeal.Loop.argL m' c = Cert.KernelIdeal.Chunk.argL m c := funext fun j => congrFun h1 (ix1 j)
  have eN : Cert.ReferenceIdeal.Loop.argN m' c = Cert.KernelIdeal.Chunk.argN m c := funext fun j => congrFun h2 (ix1 j)
  have f := Cert.Hg.finite_of m hpre c
  funext i
  refine (Cert.ReferenceIdeal.Loop.array_eq m' c (by rw [eP, eL]; exact f) i).trans ?_
  rw [eP, eL, eN]
  exact (Cert.KernelIdeal.Chunk.array_eq m c f i).symm

theorem claim : Cert.Claim := ⟨Cert.Kernel.Gen.facts, Cert.KernelIdeal.Gen.facts, Cert.ReferenceIdeal.Gen.facts,
  Cert.UpConv.Gen.facts, Cert.UpConvIdeal.Gen.facts, Cert.UpConvReferenceIdeal.Gen.facts,
  Cert.DownProj.Gen.facts, Cert.DownProjIdeal.Gen.facts, Cert.DownProjReferenceIdeal.Gen.facts,
  Cert.QkvProj.Gen.facts, Cert.QkvProjIdeal.Gen.facts, Cert.QkvProjReferenceIdeal.Gen.facts,
  Cert.HgProj.Gen.facts, Cert.HgProjIdeal.Gen.facts, Cert.HgProjReferenceIdeal.Gen.facts,
  Cert.OutProj.Gen.facts, Cert.OutProjIdeal.Gen.facts, Cert.OutProjReferenceIdeal.Gen.facts,
  Cert.FinalNorm.Gen.facts, Cert.FinalNormIdeal.Gen.facts, Cert.FinalNormReferenceIdeal.Gen.facts,
  Cert.LayerNorm.Gen.facts, Cert.LayerNormIdeal.Gen.facts, Cert.LayerNormReferenceIdeal.Gen.facts,
  Cert.Stick.Gen.facts, Cert.StickIdeal.Gen.facts, Cert.StickReferenceIdeal.Gen.facts,
  Cert.Pre_finite_inputs.Gen.facts, Cert.Pre_finite_heads.Gen.facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.UpConv.Gen.frame m g, fun m g _ => Cert.UpConvIdeal.Gen.frame m g, Cert.UpConvReferenceIdeal.Gate.frame,
  fun m g _ => Cert.DownProj.Gen.frame m g, fun m g _ => Cert.DownProjIdeal.Gen.frame m g, Cert.DownProjReferenceIdeal.Product.frame,
  fun m g _ => Cert.QkvProj.Gen.frame m g, fun m g _ => Cert.QkvProjIdeal.Gen.frame m g, Cert.QkvProjReferenceIdeal.Product.frame,
  fun m g _ => Cert.HgProj.Gen.frame m g, fun m g _ => Cert.HgProjIdeal.Gen.frame m g, Cert.HgProjReferenceIdeal.Product.frame,
  fun m g _ => Cert.OutProj.Gen.frame m g, fun m g _ => Cert.OutProjIdeal.Gen.frame m g, Cert.OutProjReferenceIdeal.Product.frame,
  fun m g _ => Cert.FinalNorm.Gen.frame m g, fun m g _ => Cert.FinalNormIdeal.Gen.frame m g, Cert.FinalNormReferenceIdeal.Norm.frame,
  fun m g _ => Cert.LayerNorm.Gen.frame m g, fun m g _ => Cert.LayerNormIdeal.Gen.frame m g, Cert.LayerNormReferenceIdeal.Norm.frame,
  fun m g _ => Cert.Stick.Gen.frame m g, fun m g _ => Cert.StickIdeal.Gen.frame m g, fun m g _ => Cert.StickIdeal.Gen.frame m g,
  Cert.StickReferenceIdeal.Sb.frame, fun m g _ => Cert.StickReferenceIdeal.Sb.frame m g trivial,
  trivial, algebraic,
  trivial, Cert.UpConvReferenceIdeal.Gate.algebraic,
  trivial, Cert.DownProjReferenceIdeal.Product.algebraic,
  trivial, Cert.QkvProjReferenceIdeal.Product.algebraic,
  trivial, Cert.HgProjReferenceIdeal.Product.algebraic,
  trivial, Cert.OutProjReferenceIdeal.Product.algebraic,
  trivial, Cert.FinalNormReferenceIdeal.Norm.algebraic,
  trivial, Cert.LayerNormReferenceIdeal.Norm.algebraic,
  IdealRules.named_const.statement Cert.StickIdeal.κ "exit" .f32 0xC2D00000#32 ⊥ rfl, Cert.StickReferenceIdeal.Sb.algebraic⟩

end Cert.Proof

end
